-- ==== Defs.lean ====
def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvIdeal_finite [hPre_finite : Cert.Pre_finite.Facts] (m : (ℓ : Loc Cert.RwkvIdeal.nD Cert.RwkvIdeal.τ Cert.RwkvIdeal.sig) → Buf (Elt Ideal) ℓ) : Prop :=
  ∀ c : Dev Cert.RwkvIdeal.nD,
    (Cert.Pre_finite.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11))) = (fun _ => 1#1)

def Pre_RwkvRefIdeal (m : (ℓ : Loc Cert.RwkvRefIdeal.nD Cert.RwkvRefIdeal.τ Cert.RwkvRefIdeal.sig) → Buf (Elt Ideal) ℓ) : Prop :=
  True

def Pre_RwkvRefIdeal_finite [hPre_finite : Cert.Pre_finite.Facts] (m : (ℓ : Loc Cert.RwkvRefIdeal.nD Cert.RwkvRefIdeal.τ Cert.RwkvRefIdeal.sig) → Buf (Elt Ideal) ℓ) : Prop :=
  ∀ c : Dev Cert.RwkvRefIdeal.nD,
    (Cert.Pre_finite.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvIdeal_pre_finite [hRwkvIdeal : Cert.RwkvIdeal.Facts] [hPre_finite : Cert.Pre_finite.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal_finite m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11))
      ∧ r.2.sem = fun _ => 0)

def quiescent_RwkvRefIdeal_pre_finite [hRwkvRefIdeal : Cert.RwkvRefIdeal.Facts] [hPre_finite : Cert.Pre_finite.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal_finite m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def preserves_Rwkv_RwkvIdeal : Prop :=
  True

def algebraic_RwkvIdeal_RwkvRefIdeal_pre_finite [hRwkvIdeal : Cert.RwkvIdeal.Facts] [hRwkvRefIdeal : Cert.RwkvRefIdeal.Facts] [hPre_finite : Cert.Pre_finite.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal_finite m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)
      ∧ m' ((c.tc : Thread Cert.RwkvRefIdeal.nD Cert.RwkvRefIdeal.τ).loc Cert.RwkvRefIdeal.main_arg11) = m ((c.tc : Thread Cert.RwkvIdeal.nD Cert.RwkvIdeal.τ).loc Cert.RwkvIdeal.main_arg11)) →
    ∃ (v0 : (c : Dev Cert.RwkvIdeal.nD) → Buf (Elt Ideal) ((c.tc : Thread Cert.RwkvIdeal.nD Cert.RwkvIdeal.τ).loc Cert.RwkvIdeal.main_v52)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v52) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v127) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v15)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def Claim : Prop :=
  ∃ (hRwkv : Cert.Rwkv.Facts) (hRwkvIdeal : Cert.RwkvIdeal.Facts) (hRwkvRefIdeal : Cert.RwkvRefIdeal.Facts) (hFfn : Cert.Ffn.Facts) (hFfnIdeal : Cert.FfnIdeal.Facts) (hFfnRefIdeal : Cert.FfnRefIdeal.Facts) (hPre_finite : Cert.Pre_finite.Facts),
    quiescent_Rwkv (hRwkv := hRwkv)
    ∧ quiescent_RwkvIdeal (hRwkvIdeal := hRwkvIdeal)
    ∧ quiescent_RwkvIdeal_pre_finite (hRwkvIdeal := hRwkvIdeal) (hPre_finite := hPre_finite)
    ∧ quiescent_RwkvRefIdeal (hRwkvRefIdeal := hRwkvRefIdeal)
    ∧ quiescent_RwkvRefIdeal_pre_finite (hRwkvRefIdeal := hRwkvRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ preserves_Rwkv_RwkvIdeal
    ∧ algebraic_RwkvIdeal_RwkvRefIdeal_pre_finite (hRwkvIdeal := hRwkvIdeal) (hRwkvRefIdeal := hRwkvRefIdeal) (hPre_finite := hPre_finite)
    ∧ preserves_Ffn_FfnIdeal
    ∧ algebraic_FfnIdeal_FfnRefIdeal (hFfnIdeal := hFfnIdeal) (hFfnRefIdeal := hFfnRefIdeal)
-- ==== Pre_finite.lean ====
abbrev S2x16384x1824 : Shape := ⟨3, ![2, 16384, 1824]⟩
abbrev S1x1824 : Shape := ⟨2, ![1, 1824]⟩
abbrev S1x512 : Shape := ⟨2, ![1, 512]⟩
abbrev S1x64x512 : Shape := ⟨3, ![1, 64, 512]⟩
abbrev S1x160x512 : Shape := ⟨3, ![1, 160, 512]⟩
abbrev S1x8x64 : Shape := ⟨3, ![1, 8, 64]⟩
abbrev S_ : Shape := ⟨0, ![]⟩

class Facts : Prop where
  bcast_S_S2x16384x1824 : S_.BroadcastsInDim S2x16384x1824 (![] : Fin 0 → Fin S2x16384x1824.rank)
  reducesTo_S2x16384x1824_S_d0_1_2 : S2x16384x1824.ReducesTo [0, 1, 2] S_
  h_S_ : 0 < S_.numel
  bcast_S_S1x1824 : S_.BroadcastsInDim S1x1824 (![] : Fin 0 → Fin S1x1824.rank)
  reducesTo_S1x1824_S_d0_1 : S1x1824.ReducesTo [0, 1] S_
  bcast_S_S1x512 : S_.BroadcastsInDim S1x512 (![] : Fin 0 → Fin S1x512.rank)
  reducesTo_S1x512_S_d0_1 : S1x512.ReducesTo [0, 1] S_
  bcast_S_S1x64x512 : S_.BroadcastsInDim S1x64x512 (![] : Fin 0 → Fin S1x64x512.rank)
  reducesTo_S1x64x512_S_d0_1_2 : S1x64x512.ReducesTo [0, 1, 2] S_
  bcast_S_S1x160x512 : S_.BroadcastsInDim S1x160x512 (![] : Fin 0 → Fin S1x160x512.rank)
  reducesTo_S1x160x512_S_d0_1_2 : S1x160x512.ReducesTo [0, 1, 2] S_
  bcast_S_S1x8x64 : S_.BroadcastsInDim S1x8x64 (![] : Fin 0 → Fin S1x8x64.rank)
  reducesTo_S1x8x64_S_d0_1_2 : S1x8x64.ReducesTo [0, 1, 2] S_

variable [Facts]

def fn_part3 {F : FTy → Type} [FloatOps F] (main_arg11 : FVec F S1x512 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1x512 .f32 := Host.absf main_arg11
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  main_v58

def fn_part2 {F : FTy → Type} [FloatOps F] (main_arg7 : FVec F S1x512 .f32) (main_arg8 : FVec F S1x512 .f32) (main_arg9 : FVec F S1x8x64 .f32) (main_arg10 : FVec F S1x512 .f32) (main_arg11 : FVec F S1x512 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S1x8x64 .f32 := Host.absf main_arg9
  let main_cst_16 : FVec F S_ .f32 := constant S_ .f32 0x7F800000#32
  let main_v45 : FVec F S1x8x64 .f32 := broadcastInDim S1x8x64 ![] bcast_S_S1x8x64 main_cst_16
  let main_v46 : IVec S1x8x64 1 := cmpf .olt main_v44 main_v45
  let main_c_17 : IVec S_ 1 := constantI S_ 1 1#1
  let main_v47 : IVec S_ 1 := (fun x v => Host.reduce IntOp.andi x v reducesTo_S1x8x64_S_d0_1_2 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_v48 main_v49 main_v50

def fn_part1 {F : FTy → Type} [FloatOps F] (main_arg4 : FVec F S1x512 .f32) (main_arg5 : FVec F S1x64x512 .f32) (main_arg6 : FVec F S1x160x512 .f32) (main_arg7 : FVec F S1x512 .f32) (main_arg8 : FVec F S1x512 .f32) (main_arg9 : FVec F S1x8x64 .f32) (main_arg10 : FVec F S1x512 .f32) (main_arg11 : FVec F S1x512 .f32) (main_v13 : IVec S_ 1) (main_v16 : IVec S1x64x512 1) : IVec S_ 1 :=
  let main_c_5 : IVec S_ 1 := constantI S_ 1 1#1
  let main_v17 : IVec S_ 1 := (fun x v => Host.reduce IntOp.andi x v reducesTo_S1x64x512_S_d0_1_2 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x64x512 .f32 := Host.absf main_arg5
  let main_cst_8 : FVec F S_ .f32 := constant S_ .f32 0x7F800000#32
  let main_v25 : FVec F S1x64x512 .f32 := broadcastInDim S1x64x512 ![] bcast_S_S1x64x512 main_cst_8
  let main_v26 : IVec S1x64x512 1 := cmpf .olt main_v24 main_v25
  let main_c_9 : IVec S_ 1 := constantI S_ 1 1#1
  let main_v27 : IVec S_ 1 := (fun x v => Host.reduce IntOp.andi x v reducesTo_S1x64x512_S_d0_1_2 h_S_) main_v26 main_c_9
  let main_v28 : IVec S_ 1 := andi main_v23 main_v27
  let main_v29 : FVec F S1x160x512 .f32 := Host.absf main_arg6
  let main_cst_10 : FVec F S_ .f32 := constant S_ .f32 0x7F800000#32
  let main_v30 : FVec F S1x160x512 .f32 := broadcastInDim S1x160x512 ![] bcast_S_S1x160x512 main_cst_10
  let main_v31 : IVec S1x160x512 1 := cmpf .olt main_v29 main_v30
  let main_c_11 : IVec S_ 1 := constantI S_ 1 1#1
  let main_v32 : IVec S_ 1 := (fun x v => Host.reduce IntOp.andi x v reducesTo_S1x160x512_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x16384x1824 .f32) (main_arg1 : FVec F S1x1824 .f32) (main_arg2 : FVec F S1x512 .f32) (main_arg3 : FVec F S1x64x512 .f32) (main_arg4 : FVec F S1x512 .f32) (main_arg5 : FVec F S1x64x512 .f32) (main_arg6 : FVec F S1x160x512 .f32) (main_arg7 : FVec F S1x512 .f32) (main_arg8 : FVec F S1x512 .f32) (main_arg9 : FVec F S1x8x64 .f32) (main_arg10 : FVec F S1x512 .f32) (main_arg11 : FVec F S1x512 .f32) : IVec S_ 1 :=
  let main_v0 : FVec F S2x16384x1824 .f32 := Host.absf main_arg0
  let main_cst : FVec F S_ .f32 := constant S_ .f32 0x7F800000#32
  let main_v1 : FVec F S2x16384x1824 .f32 := broadcastInDim S2x16384x1824 ![] bcast_S_S2x16384x1824 main_cst
  let main_v2 : IVec S2x16384x1824 1 := cmpf .olt main_v0 main_v1
  let main_c : IVec S_ 1 := constantI S_ 1 1#1
  let main_v3 : IVec S_ 1 := (fun x v => Host.reduce IntOp.andi x v reducesTo_S2x16384x1824_S_d0_1_2 h_S_) main_v2 main_c
  let main_v4 : FVec F S1x1824 .f32 := Host.absf main_arg1
  let main_cst_0 : FVec F S_ .f32 := constant S_ .f32 0x7F800000#32
  let main_v5 : FVec F S1x1824 .f32 := broadcastInDim S1x1824 ![] bcast_S_S1x1824 main_cst_0
  let main_v6 : IVec S1x1824 1 := cmpf .olt main_v4 main_v5
  let main_c_1 : IVec S_ 1 := constantI S_ 1 1#1
  let main_v7 : IVec S_ 1 := (fun x v => Host.reduce IntOp.andi x v reducesTo_S1x1824_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x64x512 .f32 := Host.absf main_arg3
  let main_cst_4 : FVec F S_ .f32 := constant S_ .f32 0x7F800000#32
  let main_v15 : FVec F S1x64x512 .f32 := broadcastInDim S1x64x512 ![] bcast_S_S1x64x512 main_cst_4
  let main_v16 : IVec S1x64x512 1 := cmpf .olt main_v14 main_v15
  fn_part1 (F := F) main_arg4 main_arg5 main_arg6 main_arg7 main_arg8 main_arg9 main_arg10 main_arg11 main_v13 main_v16
-- ==== Rwkv.lean ====
abbrev S2x16384x1824 : Shape := ⟨3, ![2, 16384, 1824]⟩
abbrev S1x1824 : Shape := ⟨2, ![1, 1824]⟩
abbrev S1x512 : Shape := ⟨2, ![1, 512]⟩
abbrev S1x64x512 : Shape := ⟨3, ![1, 64, 512]⟩
abbrev S1x160x512 : Shape := ⟨3, ![1, 160, 512]⟩
abbrev S1x8x64 : Shape := ⟨3, ![1, 8, 64]⟩
abbrev S512 : Shape := ⟨1, ![512]⟩
abbrev S_ : Shape := ⟨0, ![]⟩
abbrev S512x1 : Shape := ⟨2, ![512, 1]⟩
abbrev S512x512 : Shape := ⟨2, ![512, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S64x512 : Shape := ⟨2, ![64, 512]⟩
abbrev S128x512 : Shape := ⟨2, ![128, 512]⟩
abbrev S160x512 : Shape := ⟨2, ![160, 512]⟩
abbrev S256x512 : Shape := ⟨2, ![256, 512]⟩
abbrev S2x16384x1920 : Shape := ⟨3, ![2, 16384, 1920]⟩
abbrev S1824 : Shape := ⟨1, ![1824]⟩
abbrev S1920 : Shape := ⟨1, ![1920]⟩
abbrev S1x1920 : Shape := ⟨2, ![1, 1920]⟩
abbrev S8x64 : Shape := ⟨2, ![8, 64]⟩
abbrev S2x16384x512 : Shape := ⟨3, ![2, 16384, 512]⟩
abbrev S2x256x1920 : Shape := ⟨3, ![2, 256, 1920]⟩
abbrev S2x256x512 : Shape := ⟨3, ![2, 256, 512]⟩
abbrev S4x64x256 : Shape := ⟨3, ![4, 64, 256]⟩
abbrev S2x8x1920 : Shape := ⟨3, ![2, 8, 1920]⟩
abbrev S1x256x1920 : Shape := ⟨3, ![1, 256, 1920]⟩
abbrev S256x1920 : Shape := ⟨2, ![256, 1920]⟩
abbrev S1x1x1920 : Shape := ⟨3, ![1, 1, 1920]⟩
abbrev S256x128 : Shape := ⟨2, ![256, 128]⟩
abbrev S64x256 : Shape := ⟨2, ![64, 256]⟩
abbrev S1x64x256 : Shape := ⟨3, ![1, 64, 256]⟩
abbrev S128x256 : Shape := ⟨2, ![128, 256]⟩
abbrev S1x256x512 : Shape := ⟨3, ![1, 256, 512]⟩

abbrev nBuf : Space → Nat
  | .hbm => 125
  | .vmem => 28
  | .smem => 0
  | _ => 0

abbrev bufTy : (tb : Table) → Fin (tcTables nBuf tb) → BufTy
  | .hbm, ⟨0, _⟩ => ⟨S2x16384x1824, .f32⟩
  | .hbm, ⟨1, _⟩ => ⟨S1x1824, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x160x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S1x512, .f32⟩
  | .hbm, ⟨11, _⟩ => ⟨S1x512, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .bf16⟩
  | .hbm, ⟨37, _⟩ => ⟨S256, .i32⟩
  | .hbm, ⟨38, _⟩ => ⟨S256x1, .i32⟩
  | .hbm, ⟨39, _⟩ => ⟨S_, .i32⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S256x1, .i32⟩
  | .hbm, ⟨46, _⟩ => ⟨S256x1, .i1⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S256x1, .i1⟩
  | .hbm, ⟨53, _⟩ => ⟨S_, .i32⟩
  | .hbm, ⟨54, _⟩ => ⟨S256x1, .i32⟩
  | .hbm, ⟨55, _⟩ => ⟨S256x1, .i32⟩
  | .hbm, ⟨56, _⟩ => ⟨S256x1, .i32⟩
  | .hbm, ⟨57, _⟩ => ⟨S1x256, .i32⟩
  | .hbm, ⟨58, _⟩ => ⟨S_, .i32⟩
  | .hbm, ⟨59, _⟩ => ⟨S_, .i32⟩
  | .hbm, ⟨60, _⟩ => ⟨S1x256, .i32⟩
  | .hbm, ⟨61, _⟩ => ⟨S1x256, .i32⟩
  | .hbm, ⟨62, _⟩ => ⟨S1x256, .i32⟩
  | .hbm, ⟨63, _⟩ => ⟨S_, .i32⟩
  | .hbm, ⟨64, _⟩ => ⟨S1x256, .i32⟩
  | .hbm, ⟨65, _⟩ => ⟨S1x256, .i1⟩
  | .hbm, ⟨66, _⟩ => ⟨S1x256, .i32⟩
  | .hbm, ⟨67, _⟩ => ⟨S1x256, .i32⟩
  | .hbm, ⟨68, _⟩ => ⟨S_, .i32⟩
  | .hbm, ⟨69, _⟩ => ⟨S1x256, .i32⟩
  | .hbm, ⟨70, _⟩ => ⟨S1x256, .i1⟩
  | .hbm, ⟨71, _⟩ => ⟨S1x256, .i1⟩
  | .hbm, ⟨72, _⟩ => ⟨S_, .i32⟩
  | .hbm, ⟨73, _⟩ => ⟨S1x256, .i32⟩
  | .hbm, ⟨74, _⟩ => ⟨S1x256, .i32⟩
  | .hbm, ⟨75, _⟩ => ⟨S1x256, .i32⟩
  | .hbm, ⟨76, _⟩ => ⟨S256x256, .i32⟩
  | .hbm, ⟨77, _⟩ => ⟨S256x256, .i32⟩
  | .hbm, ⟨78, _⟩ => ⟨S256x256, .i1⟩
  | .hbm, ⟨79, _⟩ => ⟨S256x1, .i32⟩
  | .hbm, ⟨80, _⟩ => ⟨S1x256, .i32⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S256x256, .i1⟩
  | .hbm, ⟨85, _⟩ => ⟨S256x256, .bf16⟩
  | .hbm, ⟨86, _⟩ => ⟨S64x512, .f32⟩
  | .hbm, ⟨87, _⟩ => ⟨S_, .i32⟩
  | .hbm, ⟨88, _⟩ => ⟨S_, .f32⟩
  | .hbm, ⟨89, _⟩ => ⟨S128x512, .f32⟩
  | .hbm, ⟨90, _⟩ => ⟨S128x512, .bf16⟩
  | .hbm, ⟨91, _⟩ => ⟨S_, .f32⟩
  | .hbm, ⟨92, _⟩ => ⟨S64x512, .f32⟩
  | .hbm, ⟨93, _⟩ => ⟨S64x512, .f32⟩
  | .hbm, ⟨94, _⟩ => ⟨S128x512, .f32⟩
  | .hbm, ⟨95, _⟩ => ⟨S128x512, .bf16⟩
  | .hbm, ⟨96, _⟩ => ⟨S160x512, .f32⟩
  | .hbm, ⟨97, _⟩ => ⟨S_, .i32⟩
  | .hbm, ⟨98, _⟩ => ⟨S_, .f32⟩
  | .hbm, ⟨99, _⟩ => ⟨S256x512, .f32⟩
  | .hbm, ⟨100, _⟩ => ⟨S256x512, .bf16⟩
  | .hbm, ⟨101, _⟩ => ⟨S_, .i32⟩
  | .hbm, ⟨102, _⟩ => ⟨S_, .f32⟩
  | .hbm, ⟨103, _⟩ => ⟨S2x16384x1920, .f32⟩
  | .hbm, ⟨104, _⟩ => ⟨S1824, .f32⟩
  | .hbm, ⟨105, _⟩ => ⟨S_, .i32⟩
  | .hbm, ⟨106, _⟩ => ⟨S_, .f32⟩
  | .hbm, ⟨107, _⟩ => ⟨S1920, .f32⟩
  | .hbm, ⟨108, _⟩ => ⟨S1x1920, .f32⟩
  | .hbm, ⟨109, _⟩ => ⟨S512, .f32⟩
  | .hbm, ⟨110, _⟩ => ⟨S1x512, .f32⟩
  | .hbm, ⟨111, _⟩ => ⟨S512, .f32⟩
  | .hbm, ⟨112, _⟩ => ⟨S1x512, .f32⟩
  | .hbm, ⟨113, _⟩ => ⟨S512, .f32⟩
  | .hbm, ⟨114, _⟩ => ⟨S1x512, .f32⟩
  | .hbm, ⟨115, _⟩ => ⟨S512, .f32⟩
  | .hbm, ⟨116, _⟩ => ⟨S1x512, .f32⟩
  | .hbm, ⟨117, _⟩ => ⟨S8x64, .f32⟩
  | .hbm, ⟨118, _⟩ => ⟨S512, .f32⟩
  | .hbm, ⟨119, _⟩ => ⟨S1x512, .f32⟩
  | .hbm, ⟨120, _⟩ => ⟨S512, .f32⟩
  | .hbm, ⟨121, _⟩ => ⟨S1x512, .f32⟩
  | .hbm, ⟨122, _⟩ => ⟨S512, .f32⟩
  | .hbm, ⟨123, _⟩ => ⟨S1x512, .f32⟩
  | .hbm, ⟨124, _⟩ => ⟨S2x16384x512, .bf16⟩
  | .local _ .vmem, ⟨0, _⟩ => ⟨S2x256x1920, .f32⟩
  | .local _ .vmem, ⟨1, _⟩ => ⟨S2x256x1920, .f32⟩
  | .local _ .vmem, ⟨2, _⟩ => ⟨S1x1920, .f32⟩
  | .local _ .vmem, ⟨3, _⟩ => ⟨S1x512, .f32⟩
  | .local _ .vmem, ⟨4, _⟩ => ⟨S128x512, .bf16⟩
  | .local _ .vmem, ⟨5, _⟩ => ⟨S1x512, .f32⟩
  | .local _ .vmem, ⟨6, _⟩ => ⟨S128x512, .bf16⟩
  | .local _ .vmem, ⟨7, _⟩ => ⟨S256x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S256x256, .bf16⟩
  | .local _ .vmem, ⟨15, _⟩ => ⟨S2x256x512, .bf16⟩
  | .local _ .vmem, ⟨16, _⟩ => ⟨S2x256x512, .bf16⟩
  | .local _ .vmem, ⟨17, _⟩ => ⟨S4x64x256, .f32⟩
  | .local _ .vmem, ⟨18, _⟩ => ⟨S2x8x1920, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | _, _ => ⟨S2x16384x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v10 : Ref sig .tc := ⟨.hbm, 56, rfl⟩
abbrev main_v11 : Ref sig .tc := ⟨.hbm, 57, rfl⟩
abbrev main_c_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_c_2 : Ref sig .tc := ⟨.hbm, 87, rfl⟩
abbrev main_call3_v0 : Ref sig .tc := ⟨.hbm, 88, rfl⟩
abbrev main_v24 : Ref sig .tc := ⟨.hbm, 89, rfl⟩
abbrev main_v25 : Ref sig .tc := ⟨.hbm, 90, rfl⟩
abbrev main_cst : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_c_3 : Ref sig .tc := ⟨.hbm, 97, rfl⟩
abbrev main_call4_v0 : Ref sig .tc := ⟨.hbm, 98, rfl⟩
abbrev main_v31 : Ref sig .tc := ⟨.hbm, 99, rfl⟩
abbrev main_v32 : Ref sig .tc := ⟨.hbm, 100, rfl⟩
abbrev main_c_4 : Ref sig .tc := ⟨.hbm, 101, rfl⟩
abbrev main_call5_v0 : Ref sig .tc := ⟨.hbm, 102, rfl⟩
abbrev main_v33 : Ref sig .tc := ⟨.hbm, 103, rfl⟩
abbrev main_v34 : Ref sig .tc := ⟨.hbm, 104, rfl⟩
abbrev main_c_5 : Ref sig .tc := ⟨.hbm, 105, rfl⟩
abbrev main_call6_v0 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RwkvRefIdeal.lean ====
abbrev S2x16384x1824 : Shape := ⟨3, ![2, 16384, 1824]⟩
abbrev S1x1824 : Shape := ⟨2, ![1, 1824]⟩
abbrev S1x512 : Shape := ⟨2, ![1, 512]⟩
abbrev S1x64x512 : Shape := ⟨3, ![1, 64, 512]⟩
abbrev S1x160x512 : Shape := ⟨3, ![1, 160, 512]⟩
abbrev S1x8x64 : Shape := ⟨3, ![1, 8, 64]⟩
abbrev S1824 : Shape := ⟨1, ![1824]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S_ : Shape := ⟨0, ![]⟩
abbrev S2x16385x1824 : Shape := ⟨3, ![2, 16385, 1824]⟩
abbrev S1x1x1824 : Shape := ⟨3, ![1, 1, 1824]⟩
abbrev S2x16384x512 : Shape := ⟨3, ![2, 16384, 512]⟩
abbrev S2x16384x64 : Shape := ⟨3, ![2, 16384, 64]⟩
abbrev S2x16384x160 : Shape := ⟨3, ![2, 16384, 160]⟩
abbrev S1x1x512 : Shape := ⟨3, ![1, 1, 512]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S2x8x64x64 : Shape := ⟨4, ![2, 8, 64, 64]⟩
abbrev S16384x2x8x64 : Shape := ⟨4, ![16384, 2, 8, 64]⟩
abbrev S1x2x8x64 : Shape := ⟨4, ![1, 2, 8, 64]⟩
abbrev S2x8x64 : Shape := ⟨3, ![2, 8, 64]⟩
abbrev S2x8x1x64 : Shape := ⟨4, ![2, 8, 1, 64]⟩
abbrev S2x8x64x1 : Shape := ⟨4, ![2, 8, 64, 1]⟩
abbrev S1x1x8x64 : Shape := ⟨4, ![1, 1, 8, 64]⟩

abbrev nBuf : Space → Nat
  | .hbm => 237
  | .vmem => 0
  | .smem => 0
  | _ => 0

abbrev hbmTy0_0 (i : Nat) : BufTy := match i % 128 with
  | 0 => ⟨S2x16384x1824, .f32⟩
  | 1 => ⟨S1x1824, .f32⟩
  | 2 => ⟨S1x512, .f32⟩
  | 3 => ⟨S1x64x512, .f32⟩
  | 4 => ⟨S1x512, .f32⟩
  | 5 => ⟨S1x64x512, .f32⟩
  | 6 => ⟨S1x160x512, .f32⟩
  | 7 => ⟨S1x512, .f32⟩
  | 8 => ⟨S1x512, .f32⟩
  | 9 => ⟨S1x8x64, .f32⟩
  | 10 => ⟨S1x512, .f32⟩
  | 11 => ⟨S1x512, .f32⟩
  | 12 => ⟨S1824, .f32⟩
  | 13 => ⟨S512, .f32⟩
  | 14 => ⟨S64x512, .f32⟩
  | 15 => ⟨S512, .f32⟩
  | 16 => ⟨S64x512, .f32⟩
  | 17 => ⟨S160x512, .f32⟩
  | 18 => ⟨S512, .f32⟩
  | 19 => ⟨S512, .f32⟩
  | 20 => ⟨S8x64, .f32⟩
  | 21 => ⟨S512, .f32⟩
  | 22 => ⟨S512, .f32⟩
  | 23 => ⟨S_, .i32⟩
  | 24 => ⟨S_, .f32⟩
  | 25 => ⟨S2x16385x1824, .f32⟩
  | 26 => ⟨S2x16384x1824, .f32⟩
  | 27 => ⟨S2x16384x1824, .f32⟩
  | 28 => ⟨S1x1x1824, .f32⟩
  | 29 => ⟨S2x16384x1824, .f32⟩
  | 30 => ⟨S2x16384x1824, .f32⟩
  | 31 => ⟨S2x16384x1824, .f32⟩
  | 32 => ⟨S2x16384x512, .f32⟩
  | 33 => ⟨S2x16384x512, .f32⟩
  | 34 => ⟨S2x16384x512, .f32⟩
  | 35 => ⟨S2x16384x64, .f32⟩
  | 36 => ⟨S2x16384x64, .f32⟩
  | 37 => ⟨S2x16384x160, .f32⟩
  | 38 => ⟨S2x16384x64, .f32⟩
  | 39 => ⟨S2x16384x512, .f32⟩
  | 40 => ⟨S1x1x512, .f32⟩
  | 41 => ⟨S2x16384x512, .f32⟩
  | 42 => ⟨S2x16384x512, .f32⟩
  | 43 => ⟨S2x16384x512, .f32⟩
  | 44 => ⟨S_, .f32⟩
  | 45 => ⟨S2x16384x512, .f32⟩
  | 46 => ⟨S2x16384x512, .f32⟩
  | 47 => ⟨S2x16384x512, .f32⟩
  | 48 => ⟨S2x16384x512, .f32⟩
  | 49 => ⟨S2x16384x512, .i1⟩
  | 50 => ⟨S2x16384x512, .f32⟩
  | 51 => ⟨S2x16384x512, .f32⟩
  | 52 => ⟨S2x16384x512, .f32⟩
  | 53 => ⟨S2x16384x512, .f32⟩
  | 54 => ⟨S2x16384x512, .f32⟩
  | 55 => ⟨S2x16384x512, .f32⟩
  | 56 => ⟨S2x16384x512, .f32⟩
  | 57 => ⟨S2x16384x512, .f32⟩
  | 58 => ⟨S2x16384x512, .f32⟩
  | 59 => ⟨S2x16384x512, .f32⟩
  | 60 => ⟨S_, .f32⟩
  | 61 => ⟨S2x16384x512, .f32⟩
  | 62 => ⟨S2x16384x512, .f32⟩
  | 63 => ⟨S2x16384x512, .f32⟩
  | 64 => ⟨S2x16384x512, .f32⟩
  | 65 => ⟨S2x16384x512, .f32⟩
  | 66 => ⟨S1x1x512, .f32⟩
  | 67 => ⟨S2x16384x512, .f32⟩
  | 68 => ⟨S2x16384x512, .f32⟩
  | 69 => ⟨S2x16384x512, .f32⟩
  | 70 => ⟨S2x16384x512, .f32⟩
  | 71 => ⟨S_, .f32⟩
  | 72 => ⟨S2x16384x512, .f32⟩
  | 73 => ⟨S2x16384x512, .f32⟩
  | 74 => ⟨S_, .f32⟩
  | 75 => ⟨S2x16384x512, .f32⟩
  | 76 => ⟨S2x16384x512, .f32⟩
  | 77 => ⟨S2x16384x160, .f32⟩
  | 78 => ⟨S2x16384x160, .f32⟩
  | 79 => ⟨S_, .f32⟩
  | 80 => ⟨S2x16384x160, .f32⟩
  | 81 => ⟨S2x16384x160, .f32⟩
  | 82 => ⟨S_, .f32⟩
  | 83 => ⟨S2x16384x160, .f32⟩
  | 84 => ⟨S2x16384x160, .f32⟩
  | 85 => ⟨S2x16384x512, .f32⟩
  | 86 => ⟨S1x1x512, .f32⟩
  | 87 => ⟨S2x16384x512, .f32⟩
  | 88 => ⟨S2x16384x512, .f32⟩
  | 89 => ⟨S_, .f32⟩
  | 90 => ⟨S2x16384x512, .f32⟩
  | 91 => ⟨S2x16384x512, .f32⟩
  | 92 => ⟨S1x1x512, .f32⟩
  | 93 => ⟨S2x16384x512, .f32⟩
  | 94 => ⟨S2x16384x512, .f32⟩
  | 95 => ⟨S_, .f32⟩
  | 96 => ⟨S2x16384x512, .f32⟩
  | 97 => ⟨S2x16384x512, .f32⟩
  | 98 => ⟨S2x16384x512, .f32⟩
  | 99 => ⟨S2x16384x8x64, .f32⟩
  | 100 => ⟨S2x16384x8x64, .f32⟩
  | 101 => ⟨S_, .f32⟩
  | 102 => ⟨S2x16384x8, .f32⟩
  | 103 => ⟨S2x16384x8x1, .f32⟩
  | 104 => ⟨S2x16384x8x1, .f32⟩
  | 105 => ⟨S_, .f32⟩
  | 106 => ⟨S2x16384x8x1, .f32⟩
  | 107 => ⟨S2x16384x8x1, .f32⟩
  | 108 => ⟨S2x16384x8x64, .f32⟩
  | 109 => ⟨S2x16384x8x64, .f32⟩
  | 110 => ⟨S2x16384x8x64, .f32⟩
  | 111 => ⟨S2x16384x8x64, .f32⟩
  | 112 => ⟨S2x16384x8x64, .f32⟩
  | 113 => ⟨S2x16384x8x64, .f32⟩
  | 114 => ⟨S2x16384x8x64, .f32⟩
  | 115 => ⟨S_, .f32⟩
  | 116 => ⟨S2x8x64x64, .f32⟩
  | 117 => ⟨S16384x2x8x64, .f32⟩
  | 118 => ⟨S16384x2x8x64, .f32⟩
  | 119 => ⟨S16384x2x8x64, .f32⟩
  | 120 => ⟨S16384x2x8x64, .f32⟩
  | 121 => ⟨S2x16384x8x64, .f32⟩
  | 122 => ⟨S16384x2x8x64, .f32⟩
  | 123 => ⟨S2x16384x8x64, .f32⟩
  | 124 => ⟨S16384x2x8x64, .f32⟩
  | 125 => ⟨S_, .f32⟩
  | 126 => ⟨S16384x2x8x64, .f32⟩
  | 127 => ⟨S_, .i32⟩
  | _ => ⟨S2x16384x1824, .f32⟩

abbrev hbmTy0_1 (i : Nat) : BufTy := match i % 128 with
  | 0 => ⟨S16384x2x8x64, .f32⟩
  | 1 => ⟨S16384x2x8x64, .f32⟩
  | 2 => ⟨S16384x2x8x64, .f32⟩
  | 3 => ⟨S16384x2x8x64, .f32⟩
  | 4 => ⟨S16384x2x8x64, .f32⟩
  | 5 => ⟨S16384x2x8x64, .f32⟩
  | 6 => ⟨S_, .i32⟩
  | 7 => ⟨S2x8x64x64, .f32⟩
  | 8 => ⟨S16384x2x8x64, .f32⟩
  | 9 => ⟨S_, .i32⟩
  | 10 => ⟨S_, .i1⟩
  | 11 => ⟨S_, .i32⟩
  | 12 => ⟨S_, .i32⟩
  | 13 => ⟨S_, .i32⟩
  | 14 => ⟨S1x2x8x64, .f32⟩
  | 15 => ⟨S2x8x64, .f32⟩
  | 16 => ⟨S_, .i32⟩
  | 17 => ⟨S_, .i32⟩
  | 18 => ⟨S_, .i32⟩
  | 19 => ⟨S1x2x8x64, .f32⟩
  | 20 => ⟨S2x8x64, .f32⟩
  | 21 => ⟨S_, .i32⟩
  | 22 => ⟨S_, .i32⟩
  | 23 => ⟨S_, .i32⟩
  | 24 => ⟨S1x2x8x64, .f32⟩
  | 25 => ⟨S2x8x64, .f32⟩
  | 26 => ⟨S_, .i32⟩
  | 27 => ⟨S_, .i32⟩
  | 28 => ⟨S_, .i32⟩
  | 29 => ⟨S1x2x8x64, .f32⟩
  | 30 => ⟨S2x8x64, .f32⟩
  | 31 => ⟨S_, .i32⟩
  | 32 => ⟨S_, .i32⟩
  | 33 => ⟨S_, .i32⟩
  | 34 => ⟨S1x2x8x64, .f32⟩
  | 35 => ⟨S2x8x64, .f32⟩
  | 36 => ⟨S_, .i32⟩
  | 37 => ⟨S_, .i32⟩
  | 38 => ⟨S_, .i32⟩
  | 39 => ⟨S1x2x8x64, .f32⟩
  | 40 => ⟨S2x8x64, .f32⟩
  | 41 => ⟨S2x8x64, .f32⟩
  | 42 => ⟨S2x8x1x64, .f32⟩
  | 43 => ⟨S2x8x64x64, .f32⟩
  | 44 => ⟨S2x8x64x64, .f32⟩
  | 45 => ⟨S2x8x64x1, .f32⟩
  | 46 => ⟨S2x8x1x64, .f32⟩
  | 47 => ⟨S2x8x64x64, .f32⟩
  | 48 => ⟨S2x8x64x64, .f32⟩
  | 49 => ⟨S2x8x64x64, .f32⟩
  | 50 => ⟨S2x8x64x64, .f32⟩
  | 51 => ⟨S2x8x64x1, .f32⟩
  | 52 => ⟨S2x8x1x64, .f32⟩
  | 53 => ⟨S2x8x64x64, .f32⟩
  | 54 => ⟨S2x8x64x64, .f32⟩
  | 55 => ⟨S2x8x64x64, .f32⟩
  | 56 => ⟨S2x8x64x64, .f32⟩
  | 57 => ⟨S2x8x64, .f32⟩
  | 58 => ⟨S1x2x8x64, .f32⟩
  | 59 => ⟨S_, .i32⟩
  | 60 => ⟨S_, .i32⟩
  | 61 => ⟨S_, .i32⟩
  | 62 => ⟨S16384x2x8x64, .f32⟩
  | 63 => ⟨S_, .i32⟩
  | 64 => ⟨S_, .i32⟩
  | 65 => ⟨S2x16384x8x64, .f32⟩
  | 66 => ⟨S_, .f32⟩
  | 67 => ⟨S2x16384x8, .f32⟩
  | 68 => ⟨S2x16384x8x1, .f32⟩
  | 69 => ⟨S_, .f32⟩
  | 70 => ⟨S2x16384x8x1, .f32⟩
  | 71 => ⟨S2x16384x8x1, .f32⟩
  | 72 => ⟨S2x16384x8x64, .f32⟩
  | 73 => ⟨S2x16384x8x64, .f32⟩
  | 74 => ⟨S2x16384x8x64, .f32⟩
  | 75 => ⟨S_, .f32⟩
  | 76 => ⟨S2x16384x8, .f32⟩
  | 77 => ⟨S2x16384x8x1, .f32⟩
  | 78 => ⟨S_, .f32⟩
  | 79 => ⟨S2x16384x8x1, .f32⟩
  | 80 => ⟨S2x16384x8x1, .f32⟩
  | 81 => ⟨S2x16384x8x64, .f32⟩
  | 82 => ⟨S2x16384x8x64, .f32⟩
  | 83 => ⟨S_, .f32⟩
  | 84 => ⟨S2x16384x8x1, .f32⟩
  | 85 => ⟨S2x16384x8x1, .f32⟩
  | 86 => ⟨S2x16384x8x1, .f32⟩
  | 87 => ⟨S2x16384x8x64, .f32⟩
  | 88 => ⟨S2x16384x8x64, .f32⟩
  | 89 => ⟨S2x16384x512, .f32⟩
  | 90 => ⟨S1x1x512, .f32⟩
  | 91 => ⟨S2x16384x512, .f32⟩
  | 92 => ⟨S2x16384x512, .f32⟩
  | 93 => ⟨S1x1x512, .f32⟩
  | 94 => ⟨S2x16384x512, .f32⟩
  | 95 => ⟨S2x16384x512, .f32⟩
  | 96 => ⟨S2x16384x8x64, .f32⟩
  | 97 => ⟨S1x1x8x64, .f32⟩
  | 98 => ⟨S2x16384x8x64, .f32⟩
  | 99 => ⟨S2x16384x8x64, .f32⟩
  | 100 => ⟨S_, .f32⟩
  | 101 => ⟨S2x16384x8, .f32⟩
  | 102 => ⟨S2x16384x8x1, .f32⟩
  | 103 => ⟨S2x16384x8x64, .f32⟩
  | 104 => ⟨S2x16384x8x64, .f32⟩
  | 105 => ⟨S2x16384x512, .f32⟩
  | 106 => ⟨S2x16384x512, .f32⟩
  | 107 => ⟨S2x16384x512, .f32⟩
  | 108 => ⟨S2x16384x512, .bf16⟩
  | _ => ⟨S2x16384x1824, .f32⟩

abbrev hbmTy (i : Nat) : BufTy := match i / 128 with
  | 0 => hbmTy0_0 i
  | 1 => hbmTy0_1 i
  | _ => ⟨S2x16384x1824, .f32⟩

abbrev bufTy : (tb : Table) → Fin (tcTables nBuf tb) → BufTy
  | .hbm, ⟨i, _⟩ => hbmTy i
  | _, _ => ⟨S2x16384x1824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_0 : Ref sig .tc := ⟨.hbm, 71, rfl⟩
abbrev main_v43 : Ref sig .tc := ⟨.hbm, 72, rfl⟩
abbrev main_v44 : Ref sig .tc := ⟨.hbm, 73, rfl⟩
abbrev main_cst_1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_2 : Ref sig .tc := ⟨.hbm, 79, rfl⟩
abbrev main_v49 : Ref sig .tc := ⟨.hbm, 80, rfl⟩
abbrev main_v50 : Ref sig .tc := ⟨.hbm, 81, rfl⟩
abbrev main_cst_3 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_4 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_5 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_6 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_7 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_8 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_9 : Ref sig .tc := ⟨.hbm, 125, rfl⟩
abbrev main_v88 : Ref sig .tc := ⟨.hbm, 126, rfl⟩
abbrev main_c_10 : Ref sig .tc := ⟨.hbm, 127, rfl⟩
abbrev main_v89_0 : Ref sig .tc := ⟨.hbm, 128, rfl⟩
abbrev main_v89_1 : Ref sig .tc := ⟨.hbm, 129, rfl⟩
abbrev main_v89_2 : Ref sig .tc := ⟨.hbm, 130, rfl⟩
abbrev main_v89_3 : Ref sig .tc := ⟨.hbm, 131, rfl⟩
abbrev main_v89_4 : Ref sig .tc := ⟨.hbm, 132, rfl⟩
abbrev main_v89_5 : Ref sig .tc := ⟨.hbm, 133, rfl⟩
abbrev main_v89_6 : Ref sig .tc := ⟨.hbm, 134, rfl⟩
abbrev main_v89_7 : Ref sig .tc := ⟨.hbm, 135, rfl⟩
abbrev main_v89_8 : Ref sig .tc := ⟨.hbm, 136, rfl⟩
abbrev main_while0c_c_25 : Ref sig .tc := ⟨.hbm, 137, rfl⟩
abbrev main_while0c_v128 : Ref sig .tc := ⟨.hbm, 138, rfl⟩
abbrev main_while0b_call2_c : Ref sig .tc := ⟨.hbm, 139, rfl⟩
abbrev main_while0b_call2_c_0 : Ref sig .tc := ⟨.hbm, 140, rfl⟩
abbrev main_while0b_call2_c_1 : Ref sig .tc := ⟨.hbm, 141, rfl⟩
abbrev main_while0b_call2_v0 : Ref sig .tc := ⟨.hbm, 142, rfl⟩
abbrev main_while0b_v128 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_c_1 : Ref sig .tc := ⟨.hbm, 146, rfl⟩
abbrev main_while0b_call3_v0 : Ref sig .tc := ⟨.hbm, 147, rfl⟩
abbrev main_while0b_v129 : Ref sig .tc := ⟨.hbm, 148, rfl⟩
abbrev main_while0b_call4_c : Ref sig .tc := ⟨.hbm, 149, rfl⟩
abbrev main_while0b_call4_c_0 : Ref sig .tc := ⟨.hbm, 150, rfl⟩
abbrev main_while0b_call4_c_1 : Ref sig .tc := ⟨.hbm, 151, rfl⟩
abbrev main_while0b_call4_v0 : Ref sig .tc := ⟨.hbm, 152, rfl⟩
abbrev main_while0b_v130 : Ref sig .tc := ⟨.hbm, 153, rfl⟩
abbrev main_while0b_call5_c : Ref sig .tc := ⟨.hbm, 154, rfl⟩
abbrev main_while0b_call5_c_0 : Ref sig .tc := ⟨.hbm, 155, rfl⟩
abbrev main_while0b_call5_c_1 : Ref sig .tc := ⟨.hbm, 156, rfl⟩
abbrev main_while0b_call5_v0 : Ref sig .tc := ⟨.hbm, 157, rfl⟩
abbrev main_while0b_v131 : Ref sig .tc := ⟨.hbm, 158, rfl⟩
abbrev main_while0b_call6_c : Ref sig .tc := ⟨.hbm, 159, rfl⟩
abbrev main_while0b_call6_c_0 : Ref sig .tc := ⟨.hbm, 160, rfl⟩
abbrev main_while0b_call6_c_1 : Ref sig .tc := ⟨.hbm, 161, rfl⟩
abbrev main_while0b_call6_v0 : Ref sig .tc := ⟨.hbm, 162, rfl⟩
abbrev main_while0b_v132 : Ref sig .tc := ⟨.hbm, 163, rfl⟩
abbrev main_while0b_call7_c : Ref sig .tc := ⟨.hbm, 164, rfl⟩
abbrev main_while0b_call7_c_0 : Ref sig .tc := ⟨.hbm, 165, rfl⟩
abbrev main_while0b_call7_c_1 : Ref sig .tc := ⟨.hbm, 166, rfl⟩
abbrev main_while0b_call7_v0 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_v138 : Ref sig .tc := ⟨.hbm, 173, rfl⟩
abbrev main_while0b_v139 : Ref sig .tc := ⟨.hbm, 174, rfl⟩
abbrev main_while0b_v140 : Ref sig .tc := ⟨.hbm, 175, rfl⟩
abbrev main_while0b_v141 : Ref sig .tc := ⟨.hbm, 176, rfl⟩
abbrev main_while0b_v142 : Ref sig .tc := ⟨.hbm, 177, rfl⟩
abbrev main_while0b_v143 : Ref sig .tc := ⟨.hbm, 178, rfl⟩
abbrev main_while0b_v144 : Ref sig .tc := ⟨.hbm, 179, rfl⟩
abbrev main_while0b_v145 : Ref sig .tc := ⟨.hbm, 180, rfl⟩
abbrev main_while0b_v146 : Ref sig .tc := ⟨.hbm, 181, rfl⟩
abbrev main_while0b_v147 : Ref sig .tc := ⟨.hbm, 182, rfl⟩
abbrev main_while0b_v148 : Ref sig .tc := ⟨.hbm, 183, rfl⟩
abbrev main_while0b_v149 : Ref sig .tc := ⟨.hbm, 184, rfl⟩
abbrev main_while0b_v150 : Ref sig .tc := ⟨.hbm, 185, rfl⟩
abbrev main_while0b_call8_v0 : Ref sig .tc := ⟨.hbm, 186, rfl⟩
abbrev main_while0b_call8_c : Ref sig .tc := ⟨.hbm, 187, rfl⟩
abbrev main_while0b_call8_c_0 : Ref sig .tc := ⟨.hbm, 188, rfl⟩
abbrev main_while0b_call8_c_1 : Ref sig .tc := ⟨.hbm, 189, rfl⟩
abbrev main_while0b_v151 : Ref sig .tc := ⟨.hbm, 190, rfl⟩
abbrev main_while0b_c_25 : Ref sig .tc := ⟨.hbm, 191, rfl⟩
abbrev main_while0b_v152 : Ref sig .tc := ⟨.hbm, 192, rfl⟩
abbrev main_v90 : Ref sig .tc := ⟨.hbm, 193, rfl⟩
abbrev main_cst_11 : Ref sig .tc := ⟨.hbm, 194, rfl⟩
abbrev main_v91 : Ref sig .tc := ⟨.hbm, 195, rfl⟩
abbrev main_v92 : Ref sig .tc := ⟨.hbm, 196, rfl⟩
abbrev main_cst_12 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_cst_13 : Ref sig .tc := ⟨.hbm, 203, rfl⟩
abbrev main_v98 : Ref sig .tc := ⟨.hbm, 204, rfl⟩
abbrev main_v99 : Ref sig .tc := ⟨.hbm, 205, rfl⟩
abbrev main_cst_14 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_15 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_cst_16 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩

abbrev nD : Nat := 1
abbrev τ : Topo := Topo.v7x

variable {F : FTy → Type} [FloatOps F]

abbrev main_while0_count : Scf.Loop 32 := ⟨0#32, 16384#32, 1#32⟩
-- ==== Ffn.lean ====
abbrev S2x16384x1024 : Shape := ⟨3, ![2, 16384, 1024]⟩
abbrev S2x16384x512 : Shape := ⟨3, ![2, 16384, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S32768x1024 : Shape := ⟨2, ![32768, 1024]⟩
abbrev S32768x512 : Shape := ⟨2, ![32768, 512]⟩
abbrev S1024x1024 : Shape := ⟨2, ![1024, 1024]⟩
abbrev S2816x1024 : Shape := ⟨2, ![2816, 1024]⟩
abbrev S512x1024 : Shape := ⟨2, ![512, 1024]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 25
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024x2816, .f32⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S2x16384x1024 : Shape := ⟨3, ![2, 16384, 1024]⟩
abbrev S2x16384x512 : Shape := ⟨3, ![2, 16384, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x2816 : Shape := ⟨2, ![1024, 2816]⟩
abbrev S2x16384x2816 : Shape := ⟨3, ![2, 16384, 2816]⟩
abbrev S2816x1024 : Shape := ⟨2, ![2816, 1024]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S2x16384x512, .f32⟩
  | .hbm, ⟨10, _⟩ => ⟨S2x16384x512, .f32⟩
  | .hbm, ⟨11, _⟩ => ⟨S2x16384x1024, .f32⟩
  | .hbm, ⟨12, _⟩ => ⟨S1024x1024, .f32⟩
  | .hbm, ⟨13, _⟩ => ⟨S2x16384x1024, .f32⟩
  | .hbm, ⟨14, _⟩ => ⟨S2x16384x1024, .f32⟩
  | .hbm, ⟨15, _⟩ => ⟨S1024, .f32⟩
  | .hbm, ⟨16, _⟩ => ⟨S2x16384x1024, .f32⟩
  | .hbm, ⟨17, _⟩ => ⟨S_, .f32⟩
  | .hbm, ⟨18, _⟩ => ⟨S2x16384, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S2x16384x1, .f32⟩
  | .hbm, ⟨27, _⟩ => ⟨S2x16384x1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | .hbm, ⟨32, _⟩ => ⟨S1024x2816, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S_, .f32⟩
  | .hbm, ⟨37, _⟩ => ⟨S2x16384x2816, .f32⟩
  | .hbm, ⟨38, _⟩ => ⟨S2x16384x2816, .f32⟩
  | .hbm, ⟨39, _⟩ => ⟨S_, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S1024x2816, .f32⟩
  | .hbm, ⟨44, _⟩ => ⟨S2x16384x2816, .f32⟩
  | .hbm, ⟨45, _⟩ => ⟨S2x16384x2816, .f32⟩
  | .hbm, ⟨46, _⟩ => ⟨S2816x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x1024, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.FfnBlock.lean ====
/- What the two kinds of grid point of the FFN program leave behind, as the body's own payloads: the first point of a row
   block fills the three scratch buffers (the residual row block, its normalised copy, the running sum over the hidden
   units), the second one writes the output block. -/
module

public import proofs.«01_k».proof.Proof.Gen.FfnIdeal.Value
public import Idealize.ShloMosaic.Lib.Tactic

@[expose] public section

set_option maxRecDepth 16384

noncomputable section

namespace Cert.FfnIdeal.Block

open Cert.FfnIdeal Cert.FfnIdeal.Gen Idealize.ShloMosaic Idealize.ShloMosaic.TcCoe Idealize.SL.Sem

variable {F : FTy → Type} [FloatOps F]
variable (m : (ℓ : Loc nD τ sig) → Buf (Elt F) ℓ)

/-- The whole-buffer offset, as the constant function. -/
theorem off_zero : (![0, 0] : Fin 2 → Nat) = fun _ => 0 := funext fun a => by fin_cases a <;> rfl

/-- The top 512 rows of the output projection's weight block. -/
def top (x : Vec F S1024x1024 .bf16) : Vec F S512x1024 .bf16 :=
  View.ld x (Rect.unit (s := S1024x1024) ![0, 0] S512x1024.size inb_S1024x1024_S512x1024_0_0)

/-- The bottom 512 rows of it. -/
def bot (x : Vec F S1024x1024 .bf16) : Vec F S512x1024 .bf16 :=
  View.ld x (Rect.unit (s := S1024x1024) ![512, 0] S512x1024.size inb_S1024x1024_S512x1024_512_0)

variable (c : Dev nD) (t : Fin cfg0.N)

/-- The residual row block after a first point. -/
theorem first_res (h0 : t.val % 2 = 0) (h1 : ¬t.val % 2 = 1) :
    (outsAt0 m c t.val t.isLt).2.1
      = k0_pay5 (iblk m c 1 t) (top (iblk m c 3 t)) (iblk m c 2 t) (bot (iblk m c 3 t)) (iblk m c 0 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_unit_zero off_zero]
  simp only [top, bot, View.readAt_eq_ld, (hs0_0 t).read_unread, (hs0_1 t).read_unread, (hs0_2 t).read_unread, (hs0_3 t).read_unread,
    View.ld_unit_zero (S := S512x1024) off_zero, View.ld_unit_zero (S := S512x512) off_zero]

/-- The normalised row block after a first point. -/
theorem first_norm (h0 : t.val % 2 = 0) (h1 : ¬t.val % 2 = 1) :
    (outsAt0 m c t.val t.isLt).2.2.1
      = k0_pay6 (iblk m c 1 t) (top (iblk m c 3 t)) (iblk m c 2 t) (bot (iblk m c 3 t)) (iblk m c 0 t) (iblk m c 4 t) := by
  rw [outsAt0_A m c t h0 h1]
  dsimp only
  unfold sout0_A_1
  rw [View.read_writes_eq_canon _ _ _ (fun _ => scover0_A_1 ..)]
  unfold kernelRun0_A
  dsimp only
  sl_unfold_words
  rw [View.canon_unit_zero off_zero]
  simp only [top, bot, View.readAt_eq_ld, (hs0_0 t).read_unread, (hs0_1 t).read_unread, (hs0_2 t).read_unread, (hs0_3 t).read_unread,
    (hs0_4 t).read_unread, View.ld_unit_zero (S := S512x1024) off_zero, View.ld_unit_zero (S := S512x512) off_zero,
    View.ld_unit_zero (S := S1x1024) off_zero]

/-- The running sum after a first point: zero plus the product over the first half of the hidden units. -/
theorem first_acc (h0 : t.val % 2 = 0) (h1 : ¬t.val % 2 = 1) :
    (outsAt0 m c t.val t.isLt).2.2.2
      = k0_pay2 (k0_pay6 (iblk m c 1 t) (top (iblk m c 3 t)) (iblk m c 2 t) (bot (iblk m c 3 t)) (iblk m c 0 t) (iblk m c 4 t))
          (iblk m c 5 t) (iblk m c 6 t) (k0_pay1 k0_pay7) (iblk m c 7 t) := by
  rw [outsAt0_A m c t h0 h1]
  dsimp only
  unfold sout0_A_2
  rw [View.read_writes_eq_canon _ _ _ (fun _ => scover0_A_2 ..)]
  unfold kernelRun0_A
  dsimp only
  sl_unfold_words
  rw [View.canon_cons_unit_zero (S := S512x1024) off_zero, View.readCov_unit_zero (S := S512x1024) _ off_zero,
    View.readCov_unit_zero (S := S512x1024) _ off_zero]
  simp only [top, bot, View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    View.ld_unit_zero (S := S512x1024) off_zero, View.ld_unit_zero (S := S512x512) off_zero,
    View.ld_unit_zero (S := S1x1024) off_zero, View.ld_unit_zero (S := S1024x1408) off_zero,
    View.ld_unit_zero (S := S1408x1024) off_zero]

/-- The output block after a second point, over what the first point left. -/
theorem second_out (h0 : ¬t.val % 2 = 0) (h1 : t.val % 2 = 1) :
    (outsAt0 m c t.val t.isLt).1
      = k0_pay3 ((outsAt0 m c (t.val - 1) (by have := t.isLt; omega)).2.1)
          (k0_pay2 ((outsAt0 m c (t.val - 1) (by have := t.isLt; omega)).2.2.1) (iblk m c 5 t) (iblk m c 6 t)
            ((outsAt0 m c (t.val - 1) (by have := t.isLt; omega)).2.2.2) (iblk m c 7 t))
          (iblk m c 8 t) := by
  rw [outsAt0_B m c t h0 h1]
  dsimp only
  unfold out0_B_9
  rw [View.read_writes_eq_canon _ _ _ (fun _ => cover0_B_9 ..)]
  unfold kernelRun0_B
  dsimp only
  sl_unfold_words
  rw [View.canon_unit_zero off_zero]
  generalize (outsAt0 m c (t.val - 1) _) = o
  rw [View.readCov_unit_zero (S := S512x1024) _ off_zero]
  simp only [View.readAt_eq_ld, (hs0_5 t).read_unread, (hs0_6 t).read_unread, (hs0_7 t).read_unread, (hs0_8 t).read_unread,
    (Memref.isWhole_whole _).read_unread,
    View.ld_unit_zero (S := S512x1024) off_zero, View.ld_unit_zero (S := S512x512) off_zero,
    View.ld_unit_zero (S := S1x1024) off_zero, View.ld_unit_zero (S := S1024x1408) off_zero,
    View.ld_unit_zero (S := S1408x1024) off_zero]

end Cert.FfnIdeal.Block

end
-- ==== Proof.FfnEntry.lean ====
/- The input blocks of the FFN program's grid points, read at an index as elements of the program's arguments: row block
   `t / 2` of the residual stream and of the mixers' outputs, half `t % 2` of the hidden units, the rest whole. -/
module

public import proofs.«01_k».proof.Proof.Gen.FfnIdeal.Value
public import Idealize.ShloMosaic.Lib.Pipeline.ValueKit.Point

@[expose] public section

set_option maxRecDepth 16384

noncomputable section

namespace Cert.FfnIdeal.Entry

open Cert.FfnIdeal Cert.FfnIdeal.Gen Idealize.ShloMosaic Idealize.ShloMosaic.TcCoe Idealize.SL.Sem

variable (m : (ℓ : Loc nD τ sig) → Buf (Elt Ideal) ℓ) (c : Dev nD)

theorem at0 : ∀ t : Fin cfg0.N, win0_0.index t = ![t.val / 2, 0] := (by decide +kernel : ∀ t : Fin grid0.N, _)
theorem at1 : ∀ t : Fin cfg0.N, win0_1.index t = ![t.val / 2, 0] := (by decide +kernel : ∀ t : Fin grid0.N, _)
theorem at2 : ∀ t : Fin cfg0.N, win0_2.index t = ![t.val / 2, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, t.val % 2] := (by decide +kernel : ∀ t : Fin grid0.N, _)
theorem at6 : ∀ t : Fin cfg0.N, win0_6.index t = ![0, t.val % 2] := (by decide +kernel : ∀ t : Fin grid0.N, _)
theorem at7 : ∀ t : Fin cfg0.N, win0_7.index t = ![t.val % 2, 0] := (by decide +kernel : ∀ t : Fin grid0.N, _)
theorem at8 : ∀ t : Fin cfg0.N, win0_8.index t = ![0, 0] := (by decide +kernel : ∀ t : Fin grid0.N, _)

theorem point_lt (t : Fin cfg0.N) : t.val < 128 := lt_of_lt_of_eq t.isLt N_0

/-- The batch row of row `r` of point `t`'s row block. -/
abbrev batch (t : Fin cfg0.N) (r : Fin 512) : Fin 2 := ⟨(t.val / 2 * 512 + r.val) / 16384, by have := point_lt t; omega⟩
/-- The position in the sequence of that row. -/
abbrev pos (t : Fin cfg0.N) (r : Fin 512) : Fin 16384 := ⟨(t.val / 2 * 512 + r.val) % 16384, by omega⟩
/-- Hidden unit `j` of the half that point `t` works on. -/
abbrev unit (t : Fin cfg0.N) (j : Fin 1408) : Fin 2816 := ⟨t.val % 2 * 1408 + j.val, by omega⟩

theorem blk0 (t : Fin cfg0.N) (r : Fin 512) (l : Fin 1024) :
    iblk m c 0 t (ix2 r l) = m ((c : Thread nD τ).loc main_arg0) (ix3 (batch t r) (pos t r) l) := by
  blk_simp [iblk]; entry_read; pointwise; blk_ext [at0 t]

theorem blk1 (t : Fin cfg0.N) (r : Fin 512) (k : Fin 512) :
    iblk m c 1 t (ix2 r k) = m ((c : Thread nD τ).loc main_arg1) (ix3 (batch t r) (pos t r) k) := by
  blk_simp [iblk]; entry_read; pointwise; blk_ext [at1 t]

theorem blk2 (t : Fin cfg0.N) (r : Fin 512) (k : Fin 512) :
    iblk m c 2 t (ix2 r k) = m ((c : Thread nD τ).loc main_arg2) (ix3 (batch t r) (pos t r) k) := by
  blk_simp [iblk]; entry_read; pointwise; blk_ext [at2 t]

theorem blk3 (t : Fin cfg0.N) (k l : Fin 1024) :
    iblk m c 3 t (ix2 k l) = m ((c : Thread nD τ).loc main_arg3) (ix3 0 k l) := by
  blk_simp [iblk]; entry_read; pointwise; blk_ext [at3 t]

theorem blk4 (t : Fin cfg0.N) (l : Fin 1024) :
    iblk m c 4 t (ix2 0 l) = m ((c : Thread nD τ).loc main_arg4) (ix2 0 l) := by
  blk_simp [iblk]; entry_read; pointwise; blk_ext [at4 t]

theorem blk5 (t : Fin cfg0.N) (k : Fin 1024) (j : Fin 1408) :
    iblk m c 5 t (ix2 k j) = m ((c : Thread nD τ).loc main_arg5) (ix3 0 k (unit t j)) := by
  blk_simp [iblk]; entry_read; pointwise; blk_ext [at5 t]

theorem blk6 (t : Fin cfg0.N) (k : Fin 1024) (j : Fin 1408) :
    iblk m c 6 t (ix2 k j) = m ((c : Thread nD τ).loc main_arg6) (ix3 0 k (unit t j)) := by
  blk_simp [iblk]; entry_read; pointwise; blk_ext [at6 t]

theorem blk7 (t : Fin cfg0.N) (j : Fin 1408) (l : Fin 1024) :
    iblk m c 7 t (ix2 j l) = m ((c : Thread nD τ).loc main_arg7) (ix3 0 (unit t j) l) := by
  blk_simp [iblk]; entry_read; pointwise; blk_ext [at7 t]

theorem blk8 (t : Fin cfg0.N) (l : Fin 1024) :
    iblk m c 8 t (ix2 0 l) = m ((c : Thread nD τ).loc main_arg8) (ix1 l) := by
  blk_simp [iblk]; entry_read; pointwise; blk_ext [at8 t]

end Cert.FfnIdeal.Entry

end
-- ==== Proof.FfnPay.lean ====
/- One row of the FFN block as a function of that row's data, and what the second grid point of a row block stores, as
   this function: the residual row, its normalised copy, and the sum over the hidden units that the two points of the row
   block split into two halves. -/
module

public import proofs.«01_k».proof.Proof.FfnBlock
public import proofs.«01_k».proof.Proof.FfnEntry

@[expose] public section

set_option maxRecDepth 16384

noncomputable section

namespace Cert.FfnSpec

open Idealize.ShloMosaic

/-- A row divided by its root mean square and scaled. -/
def rms (h g : Fin 1024 → EReal) (l : Fin 1024) : EReal :=
  h l * Ideal.rsqrt (Ideal.div (∑ k, h k * h k) (Ideal.ofBits .f32 0x44800000#32) + Ideal.ofBits .f32 0x358637BD#32) * g l

/-- The residual row with the two mixers' outputs projected onto it. -/
def residual (x : Fin 1024 → EReal) (yr yn : Fin 512 → EReal) (wo : Fin 1024 → Fin 1024 → EReal) (l : Fin 1024) : EReal :=
  x l + (∑ k : Fin 512, yr k * wo ⟨k.val, by omega⟩ l + ∑ k : Fin 512, yn k * wo ⟨512 + k.val, by omega⟩ l)

/-- A hidden unit: the gated product of its two projections. -/
def hidden (xn g u : Fin 1024 → EReal) : EReal :=
  (∑ k, xn k * g k) * Ideal.logistic (∑ k, xn k * g k) * ∑ k, xn k * u k

/-- A row of the block: residual, norm, gated feed-forward, residual, norm. -/
def row (x : Fin 1024 → EReal) (yr yn : Fin 512 → EReal) (wo : Fin 1024 → Fin 1024 → EReal) (gf : Fin 1024 → EReal)
    (wg wu : Fin 1024 → Fin 2816 → EReal) (wd : Fin 2816 → Fin 1024 → EReal) (gl : Fin 1024 → EReal) : Fin 1024 → EReal :=
  rms (fun l => residual x yr yn wo l
    + ∑ j : Fin 2816, hidden (rms (residual x yr yn wo) gf) (fun k => wg k j) (fun k => wu k j) * wd j l) gl

end Cert.FfnSpec

namespace Cert.FfnIdeal.Block

open Cert.FfnIdeal Cert.FfnIdeal.Gen Idealize.ShloMosaic Idealize.ShloMosaic.TcCoe Idealize.SL.Sem
open Cert.FfnSpec Cert.FfnIdeal.Entry

variable (m : (ℓ : Loc nD τ sig) → Buf (Elt Ideal) ℓ) (c : Dev nD) (t : Fin cfg0.N)

/-- The arguments, read as the rows and matrices of `Cert.FfnSpec`, at batch row `b` and position `p`. -/
abbrev argX (b : Fin 2) (p : Fin 16384) : Fin 1024 → EReal := fun l => m ((c : Thread nD τ).loc main_arg0) (ix3 b p l)
abbrev argR (b : Fin 2) (p : Fin 16384) : Fin 512 → EReal := fun k => m ((c : Thread nD τ).loc main_arg1) (ix3 b p k)
abbrev argN (b : Fin 2) (p : Fin 16384) : Fin 512 → EReal := fun k => m ((c : Thread nD τ).loc main_arg2) (ix3 b p k)
abbrev argO : Fin 1024 → Fin 1024 → EReal := fun k l => m ((c : Thread nD τ).loc main_arg3) (ix3 0 k l)
abbrev argF : Fin 1024 → EReal := fun l => m ((c : Thread nD τ).loc main_arg4) (ix2 0 l)
abbrev argG : Fin 1024 → Fin 2816 → EReal := fun k j => m ((c : Thread nD τ).loc main_arg5) (ix3 0 k j)
abbrev argU : Fin 1024 → Fin 2816 → EReal := fun k j => m ((c : Thread nD τ).loc main_arg6) (ix3 0 k j)
abbrev argD : Fin 2816 → Fin 1024 → EReal := fun j l => m ((c : Thread nD τ).loc main_arg7) (ix3 0 j l)
abbrev argL : Fin 1024 → EReal := fun l => m ((c : Thread nD τ).loc main_arg8) (ix1 l)

/-- The residual row of row `r` of point `t`'s block. -/
abbrev resAt (r : Fin 512) : Fin 1024 → EReal :=
  residual (argX m c (batch t r) (pos t r)) (argR m c (batch t r) (pos t r)) (argN m c (batch t r) (pos t r)) (argO m c)

theorem top_apply (x : Vec Ideal S1024x1024 .bf16) (k : Fin 512) (l : Fin 1024) : top x (ix2 k l) = x (ix2 ⟨k.val, by omega⟩ l) := by
  pointwise [top]

theorem bot_apply (x : Vec Ideal S1024x1024 .bf16) (k : Fin 512) (l : Fin 1024) : bot x (ix2 k l) = x (ix2 ⟨512 + k.val, by omega⟩ l) := by
  pointwise [bot]

theorem res_general (yr yn : Vec Ideal S512x512 .bf16) (wo : Vec Ideal S1024x1024 .bf16) (x : Vec Ideal S512x1024 .f32) (r : Fin 512) (l : Fin 1024) :
    k0_pay4 yr (top wo) yn (bot wo) x (ix2 r l)
      = residual (fun l => x (ix2 r l)) (fun k => yr (ix2 r k)) (fun k => yn (ix2 r k)) (fun k l => wo (ix2 k l)) l := by
  pointwise [k0_pay4]
  simp only [top_apply, bot_apply]
  rfl

theorem res_apply (r : Fin 512) (l : Fin 1024) :
    k0_pay4 (iblk m c 1 t) (top (iblk m c 3 t)) (iblk m c 2 t) (bot (iblk m c 3 t)) (iblk m c 0 t) (ix2 r l) = resAt m c t r l := by
  refine (res_general (iblk m c 1 t) (iblk m c 2 t) (iblk m c 3 t) (iblk m c 0 t) r l).trans ?_
  simp only [blk0, blk1, blk2, blk3]

theorem norm_apply (r : Fin 512) (l : Fin 1024) :
    k0_pay6 (iblk m c 1 t) (top (iblk m c 3 t)) (iblk m c 2 t) (bot (iblk m c 3 t)) (iblk m c 0 t) (iblk m c 4 t) (ix2 r l)
      = rms (resAt m c t r) (argF m c) l := by
  pointwise [k0_pay6]
  simp only [res_apply, blk4]
  rfl

/-- What a point adds to the running sum: the product over its half of the hidden units. -/
theorem add_apply (xn : Vec Ideal S512x1024 .bf16) (a : Vec Ideal S512x1024 .f32) (r : Fin 512) (l : Fin 1024) :
    k0_pay2 xn (iblk m c 5 t) (iblk m c 6 t) a (iblk m c 7 t) (ix2 r l)
      = a (ix2 r l) + ∑ j : Fin 1408, hidden (fun k => xn (ix2 r k)) (fun k => argG m c k (unit t j)) (fun k => argU m c k (unit t j))
          * argD m c (unit t j) l := by
  pointwise [k0_pay2]
  simp only [blk5, blk6, blk7]
  rfl

theorem out_apply (h a : Vec Ideal S512x1024 .f32) (r : Fin 512) (l : Fin 1024) :
    k0_pay3 h a (iblk m c 8 t) (ix2 r l) = rms (fun k => h (ix2 r k) + a (ix2 r k)) (argL m c) l := by
  pointwise [k0_pay3]
  simp only [blk8]
  rfl

/-- The block that a second point stores is the rows of its row block. -/
theorem second_apply (h0 : ¬t.val % 2 = 0) (h1 : t.val % 2 = 1) (r : Fin 512) (l : Fin 1024) :
    (outsAt0 m c t.val t.isLt).1 (ix2 r l)
      = row (argX m c (batch t r) (pos t r)) (argR m c (batch t r) (pos t r)) (argN m c (batch t r) (pos t r)) (argO m c)
          (argF m c) (argG m c) (argU m c) (argD m c) (argL m c) l := by
  have hN := point_lt t
  obtain ⟨s, hs⟩ : ∃ s : Fin cfg0.N, s.val = t.val - 1 := ⟨⟨t.val - 1, by have := t.isLt; omega⟩, rfl⟩
  have hs0 : s.val % 2 = 0 := by omega
  have hs1 : ¬s.val % 2 = 1 := by omega
  have hb : batch s r = batch t r := Fin.ext (by show (s.val / 2 * 512 + r.val) / 16384 = (t.val / 2 * 512 + r.val) / 16384; rw [hs]; omega)
  have hp : pos s r = pos t r := Fin.ext (by show (s.val / 2 * 512 + r.val) % 16384 = (t.val / 2 * 512 + r.val) % 16384; rw [hs]; omega)
  have e : ∀ h, outsAt0 m c (t.val - 1) h = outsAt0 m c s.val s.isLt := fun h => by congr 1; exact hs.symm
  rw [second_out m c t h0 h1, out_apply]
  simp only [e]
  rw [first_res m c s hs0 hs1, first_norm m c s hs0 hs1, first_acc m c s hs0 hs1]
  unfold row
  congr 1
  funext k
  simp only [add_apply, norm_apply]
  rw [show ∀ (x0 x1 x2 x3 x4), k0_pay5 (F := Ideal) x0 x1 x2 x3 x4 (ix2 r k) = k0_pay4 x0 x1 x2 x3 x4 (ix2 r k) from fun _ _ _ _ _ => by pointwise [k0_pay5],
    res_apply]
  rw [show k0_pay1 (F := Ideal) k0_pay7 (ix2 r k) = 0 by pointwise [k0_pay1, k0_pay7], zero_add]
  unfold resAt
  rw [hb, hp]
  congr 1
  rw [Fin.sum_univ_two_halves 1408 1408 rfl]
  congr 1 <;> refine Finset.sum_congr rfl fun j _ => ?_
  · have hu : unit s j = ⟨j.val, by omega⟩ := Fin.ext (by show s.val % 2 * 1408 + j.val = j.val; omega)
    rw [hu]
  · have hu : unit t j = ⟨1408 + j.val, by omega⟩ := Fin.ext (by show t.val % 2 * 1408 + j.val = 1408 + j.val; omega)
    rw [hu]

end Cert.FfnIdeal.Block

end
-- ==== Proof.FfnRef.lean ====
/- The FFN reference's result read at an index: a row of `Cert.FfnSpec.row` over the arguments' rows. -/
module

public import proofs.«01_k».proof.Proof.Gen.FfnRefIdeal.Read
public import proofs.«01_k».proof.Proof.FfnPay

@[expose] public section

set_option maxRecDepth 16384

noncomputable section

namespace Cert.FfnRefIdeal.RefRow

open Cert.FfnRefIdeal Cert.FfnRefIdeal.Gen Idealize.ShloMosaic Idealize.ShloMosaic.TcCoe Idealize.SL.Sem
open Cert.FfnSpec

variable (x0 : (⟨S2x16384x1024, .f32⟩ : BufTy).Contents (Elt Ideal)) (x1 x2 : (⟨S2x16384x512, .bf16⟩ : BufTy).Contents (Elt Ideal))
  (x3 : (⟨S1x1024x1024, .f32⟩ : BufTy).Contents (Elt Ideal)) (x4 : (⟨S1x1024, .f32⟩ : BufTy).Contents (Elt Ideal))
  (x5 x6 : (⟨S1x1024x2816, .f32⟩ : BufTy).Contents (Elt Ideal)) (x7 : (⟨S1x2816x1024, .f32⟩ : BufTy).Contents (Elt Ideal))
  (x8 : (⟨S1024, .f32⟩ : BufTy).Contents (Elt Ideal))

open Cert.FfnRefIdeal.Read

/-- The residual row: the concatenated heads' product is the sum of the two halves' products. -/
theorem res_apply (b : Fin 2) (p : Fin 16384) (l : Fin 1024) :
    val_main_v5 (F := Ideal) x0 x1 x2 x3 (ix3 b p l)
      = residual (fun l => x0 (ix3 b p l)) (fun k => x1 (ix3 b p k)) (fun k => x2 (ix3 b p k)) (fun k l => x3 (ix3 0 k l)) l := by
  pointwise [val_main_v5, val_main_v4, val_main_v3, val_main_v2, val_main_v1, val_main_v0]
  rfl

/-- Its normalised copy. -/
theorem norm_apply (b : Fin 2) (p : Fin 16384) (l : Fin 1024) :
    val_main_v19 (F := Ideal) x0 x1 x2 x3 x4 (ix3 b p l)
      = rms (residual (fun l => x0 (ix3 b p l)) (fun k => x1 (ix3 b p k)) (fun k => x2 (ix3 b p k)) (fun k l => x3 (ix3 0 k l)))
          (fun l => x4 (ix2 0 l)) l := by
  pointwise [val_main_v19, val_main_v18, val_main_v17, val_main_v16, val_main_v15, val_main_v14, val_main_v13, val_main_v12,
    val_main_cst_1, val_main_v11, val_main_v10, val_main_cst_0, val_main_v9, val_main_v8, val_main_cst, val_main_v7, val_main_v6]
  simp only [res_apply]
  rfl

/-- A hidden unit. -/
theorem hidden_apply (b : Fin 2) (p : Fin 16384) (j : Fin 2816) :
    val_main_v25 (F := Ideal) x0 x1 x2 x3 x4 x5 x6 (ix3 b p j)
      = hidden (rms (residual (fun l => x0 (ix3 b p l)) (fun k => x1 (ix3 b p k)) (fun k => x2 (ix3 b p k)) (fun k l => x3 (ix3 0 k l)))
          (fun l => x4 (ix2 0 l))) (fun k => x5 (ix3 0 k j)) (fun k => x6 (ix3 0 k j)) := by
  pointwise [val_main_v25, val_main_v24, val_main_v23, val_main_v22, val_main_call0_v5, val_main_call0_v4, val_main_call0_cst_0,
    val_main_call0_v3, val_main_call0_v2, val_main_call0_cst, val_main_call0_v1, val_main_call0_v0, val_main_v21, val_main_v20]
  simp only [norm_apply]
  rfl

/-- The residual row after the feed-forward product. -/
theorem sum_apply (b : Fin 2) (p : Fin 16384) (l : Fin 1024) :
    val_main_v28 (F := Ideal) x0 x1 x2 x3 x4 x5 x6 x7 (ix3 b p l)
      = residual (fun l => x0 (ix3 b p l)) (fun k => x1 (ix3 b p k)) (fun k => x2 (ix3 b p k)) (fun k l => x3 (ix3 0 k l)) l
        + ∑ j : Fin 2816, hidden (rms (residual (fun l => x0 (ix3 b p l)) (fun k => x1 (ix3 b p k)) (fun k => x2 (ix3 b p k))
            (fun k l => x3 (ix3 0 k l))) (fun l => x4 (ix2 0 l))) (fun k => x5 (ix3 0 k j)) (fun k => x6 (ix3 0 k j)) * x7 (ix3 0 j l) := by
  pointwise [val_main_v28, val_main_v27, val_main_v26]
  simp only [res_apply, hidden_apply]

/-- The result, whose rows are the (batch, position) pairs in order. -/
theorem row_apply (i : Fin 32768) (l : Fin 1024) :
    val_main_v42 (F := Ideal) x0 x1 x2 x3 x4 x5 x6 x7 x8 (ix2 i l)
      = row (fun l => x0 (ix3 ⟨i.val / 16384, by omega⟩ ⟨i.val % 16384, by omega⟩ l))
          (fun k => x1 (ix3 ⟨i.val / 16384, by omega⟩ ⟨i.val % 16384, by omega⟩ k))
          (fun k => x2 (ix3 ⟨i.val / 16384, by omega⟩ ⟨i.val % 16384, by omega⟩ k)) (fun k l => x3 (ix3 0 k l))
          (fun l => x4 (ix2 0 l)) (fun k j => x5 (ix3 0 k j)) (fun k j => x6 (ix3 0 k j)) (fun j l => x7 (ix3 0 j l))
          (fun l => x8 (ix1 l)) l := by
  pointwise [val_main_v42, val_main_v41, val_main_v40, val_main_v39, val_main_v38, val_main_v37, val_main_v36, val_main_v35,
    val_main_v34, val_main_cst_4, val_main_v33, val_main_v32, val_main_cst_3, val_main_v31, val_main_v30, val_main_cst_2, val_main_v29]
  simp only [sum_apply]
  rfl

end Cert.FfnRefIdeal.RefRow

end
-- ==== Proof.FfnValue.lean ====
/- The FFN program's result array, row by row: `Cert.FfnSpec.row` over the arguments' rows. -/
module

public import proofs.«01_k».proof.Proof.FfnPay

@[expose] public section

set_option maxRecDepth 16384

noncomputable section

namespace Cert.FfnIdeal.Block

open Cert.FfnIdeal Cert.FfnIdeal.Gen Idealize.ShloMosaic Idealize.ShloMosaic.TcCoe Idealize.SL.Sem
open Cert.FfnSpec Cert.FfnIdeal.Entry Cert.FfnIdeal.Value

variable (m : (ℓ : Loc nD τ sig) → Buf (Elt Ideal) ℓ) (c : Dev nD)

theorem result_apply (i : Fin 32768) (l : Fin 1024) :
    G9 m c (ix2 i l)
      = row (argX m c ⟨i.val / 16384, by omega⟩ ⟨i.val % 16384, by omega⟩) (argR m c ⟨i.val / 16384, by omega⟩ ⟨i.val % 16384, by omega⟩)
          (argN m c ⟨i.val / 16384, by omega⟩ ⟨i.val % 16384, by omega⟩) (argO m c)
          (argF m c) (argG m c) (argU m c) (argD m c) (argL m c) l := by
  have hp : pt9Of (ix2 i l) = 2 * (i.val / 512) + 1 := by
    show 2 * (1 * (i.val / 512 - 0) + 1 * (l.val / 1024 - 0)) + 1 = _
    omega
  have hlt : pt9Of (ix2 i l) < cfg0.N := by rw [hp]; exact lt_of_lt_of_eq (by omega) N_0.symm
  unfold G9
  rw [dif_pos hlt, ← outsAt0_sweep m c _ hlt]
  have hl : loc9Of (ix2 i l) = ix2 ⟨i.val % 512, by omega⟩ l := by
    funext a; apply Fin.ext
    match a with
    | ⟨0, _⟩ => rfl
    | ⟨1, _⟩ => show l.val % 1024 = l.val; omega
  rw [hl]
  have e := second_apply m c ⟨pt9Of (ix2 i l), hlt⟩ (by dsimp only; omega) (by dsimp only; omega) ⟨i.val % 512, by omega⟩ l
  refine e.trans ?_
  have hb : batch ⟨pt9Of (ix2 i l), hlt⟩ ⟨i.val % 512, by omega⟩ = ⟨i.val / 16384, by omega⟩ :=
    Fin.ext (by show (pt9Of (ix2 i l) / 2 * 512 + i.val % 512) / 16384 = i.val / 16384; rw [hp]; omega)
  have hq : pos ⟨pt9Of (ix2 i l), hlt⟩ ⟨i.val % 512, by omega⟩ = ⟨i.val % 16384, by omega⟩ :=
    Fin.ext (by show (pt9Of (ix2 i l) / 2 * 512 + i.val % 512) % 16384 = i.val % 16384; rw [hp]; omega)
  rw [hb, hq]

end Cert.FfnIdeal.Block

end
-- ==== Proof.RwkvMath.lean ====
/- The recurrence `S ← S diag(exp ld) + (S a) bᵀ + v kᵀ` over the reals, and the equation by which 64 of its steps are taken at once:
   the steps' inner products form a strictly lower triangular matrix, whose geometric series is a product of six factors. -/
module

public import Mathlib.Analysis.SpecialFunctions.Exp
public import Mathlib.Data.Matrix.Mul
public import Mathlib.LinearAlgebra.Matrix.Notation
public import Mathlib.Tactic.Ring
public import Mathlib.LinearAlgebra.Matrix.NonsingularInverse
public import Mathlib.Tactic.Abel

@[expose] public section

noncomputable section

namespace Cert.RwkvSpec

open Finset Matrix

/-- A head's state: value channel by key channel. -/
abbrev State := Fin 64 → Fin 64 → ℝ

/-- One step of the recurrence. -/
def step (S : State) (ld a b k v : Fin 64 → ℝ) : State :=
  fun i j => S i j * Real.exp (ld j) + (∑ l, S i l * a l) * b j + v i * k j

/-- The state before position `t`, from the state `S₀` before position 0. -/
def stateAt (S₀ : State) (ld a b k v : ℕ → Fin 64 → ℝ) : ℕ → State
  | 0 => S₀
  | t + 1 => step (stateAt S₀ ld a b k v t) (ld t) (a t) (b t) (k t) (v t)

/-- A recurrence may be started again at any position. -/
theorem stateAt_add (S₀ : State) (ld a b k v : ℕ → Fin 64 → ℝ) (s t : ℕ) :
    stateAt S₀ ld a b k v (s + t) = stateAt (stateAt S₀ ld a b k v s) (fun n => ld (s + n)) (fun n => a (s + n)) (fun n => b (s + n))
      (fun n => k (s + n)) (fun n => v (s + n)) t := by
  induction t with
  | zero => rfl
  | succ t ih => rw [← Nat.add_assoc, stateAt, ih, stateAt]

/-- Only the positions before `t` matter. -/
theorem stateAt_congr (S₀ : State) {ld a b k v ld' a' b' k' v' : ℕ → Fin 64 → ℝ} (t : ℕ)
    (h : ∀ s < t, ld s = ld' s ∧ a s = a' s ∧ b s = b' s ∧ k s = k' s ∧ v s = v' s) :
    stateAt S₀ ld a b k v t = stateAt S₀ ld' a' b' k' v' t := by
  induction t with
  | zero => rfl
  | succ t ih =>
    rw [stateAt, stateAt, ih fun s hs => h s (Nat.lt_succ_of_lt hs)]
    obtain ⟨h1, h2, h3, h4, h5⟩ := h t (Nat.lt_succ_self t)
    rw [h1, h2, h3, h4, h5]

section Chunk

variable (S₀ : State) (ld a b k v : ℕ → Fin 64 → ℝ)

/-- The decay's logarithm summed over the positions before `t`. -/
def before (t : ℕ) (j : Fin 64) : ℝ := ∑ s ∈ range t, ld s j

/-- The state with the decay of the positions before `t` divided out. -/
def scaled (t : ℕ) : State := fun i j => stateAt S₀ ld a b k v t i j * Real.exp (-before ld t j)

/-- The state's product with the scaled `a` of position `t`. -/
def removal (t : ℕ) (i : Fin 64) : ℝ := ∑ l, scaled S₀ ld a b k v t i l * (a t l * Real.exp (before ld t l))

theorem stateAt_eq_scaled (t : ℕ) (i j : Fin 64) :
    stateAt S₀ ld a b k v t i j = scaled S₀ ld a b k v t i j * Real.exp (before ld t j) := by
  rw [scaled, mul_assoc, ← Real.exp_add, neg_add_cancel, Real.exp_zero, mul_one]

theorem removal_eq (t : ℕ) (i : Fin 64) : removal S₀ ld a b k v t i = ∑ l, stateAt S₀ ld a b k v t i l * a t l := by
  refine Finset.sum_congr rfl fun l _ => ?_
  rw [stateAt_eq_scaled]; ring

/-- In the scaled state a step only adds two outer products. -/
theorem scaled_succ (t : ℕ) (i j : Fin 64) :
    scaled S₀ ld a b k v (t + 1) i j = scaled S₀ ld a b k v t i j + removal S₀ ld a b k v t i * (b t j * Real.exp (-before ld (t + 1) j))
      + v t i * (k t j * Real.exp (-before ld (t + 1) j)) := by
  rw [removal_eq]
  have e : Real.exp (ld t j) * Real.exp (-before ld (t + 1) j) = Real.exp (-before ld t j) := by
    rw [← Real.exp_add]; congr 1; rw [before, before, sum_range_succ]; ring
  simp only [scaled, stateAt, step]
  rw [← e]; ring

theorem scaled_eq (t : ℕ) (i j : Fin 64) :
    scaled S₀ ld a b k v t i j = S₀ i j + ∑ s ∈ range t, (removal S₀ ld a b k v s i * (b s j * Real.exp (-before ld (s + 1) j))
      + v s i * (k s j * Real.exp (-before ld (s + 1) j))) := by
  induction t with
  | zero => simp [scaled, stateAt, before]
  | succ t ih => rw [scaled_succ, ih, sum_range_succ]; ring

end Chunk

/-! ## The inverse of a unit lower triangular matrix -/

/-- A product of `n` strictly lower triangular matrices vanishes above its `n`-th lower diagonal. -/
theorem pow_lower {A : Matrix (Fin 64) (Fin 64) ℝ} (hA : ∀ i j, i ≤ j → A i j = 0) (n : ℕ) :
    ∀ i j : Fin 64, i.val < j.val + n → (A ^ n) i j = 0 := by
  induction n with
  | zero => intro i j h; rw [pow_zero, Matrix.one_apply_ne (by intro e; subst e; omega)]
  | succ n ih =>
    intro i j h
    rw [pow_succ, Matrix.mul_apply]
    refine Finset.sum_eq_zero fun l _ => ?_
    by_cases hl : l ≤ j
    · rw [hA l j hl, mul_zero]
    · rw [ih i l (by have : j.val < l.val := Nat.lt_of_not_le hl
                     omega), zero_mul]

/-- The six factors by which the kernel doubles up the geometric series. -/
def series (A : Matrix (Fin 64) (Fin 64) ℝ) : Matrix (Fin 64) (Fin 64) ℝ :=
  (1 + A) * (1 + A ^ 2) * (1 + A ^ 4) * (1 + A ^ 8) * (1 + A ^ 16) * (1 + A ^ 32)

theorem series_inv {A : Matrix (Fin 64) (Fin 64) ℝ} (hA : ∀ i j, i ≤ j → A i j = 0) : (1 - A) * series A = 1 := by
  have d : ∀ n : ℕ, (1 - A ^ n) * (1 + A ^ n) = 1 - A ^ (n + n) := fun n => by
    rw [pow_add, sub_mul, one_mul, mul_add, mul_one, sub_add_eq_sub_sub, add_sub_cancel_right]
  have d1 : (1 - A) * (1 + A) = 1 - A ^ 2 := by have := d 1; rwa [pow_one] at this
  have e : (1 - A) * series A = 1 - A ^ 64 := by
    simp only [series, ← Matrix.mul_assoc]
    rw [d1, d 2, d 4, d 8, d 16, d 32]
  rw [e, show A ^ 64 = 0 from Matrix.ext fun i j => pow_lower hA 64 i j (Nat.lt_of_lt_of_le i.isLt (Nat.le_add_left 64 j.val)), sub_zero]

/-! ## A chunk of 64 positions -/

section Chunk

variable (S₀ : State) (ld a b k v : ℕ → Fin 64 → ℝ)

/-- The scaled rows of the chunk: `a` by the decay before its position, `b` and `k` by the inverse of the decay up to it. -/
def rowA (t : Fin 64) (j : Fin 64) : ℝ := a t j * Real.exp (before ld t j)
/-- A row divided by the decay up to and with its position. -/
def rowInv (b : ℕ → Fin 64 → ℝ) (t : Fin 64) (j : Fin 64) : ℝ := b t j * Real.exp (-before ld (t + 1) j)

/-- The strictly lower triangle of the inner products of `A`'s rows with `B`'s. -/
def lower (A B : Fin 64 → Fin 64 → ℝ) : Matrix (Fin 64) (Fin 64) ℝ := fun t s => if s < t then ∑ l, A t l * B s l else 0

theorem lower_eq_zero (A B : Fin 64 → Fin 64 → ℝ) (i j : Fin 64) (h : i ≤ j) : lower A B i j = 0 := if_neg (not_lt.mpr h)

/-- The right side of the triangular system the chunk solves. -/
def rhs : Matrix (Fin 64) (Fin 64) ℝ :=
  fun t i => ∑ l, rowA ld a t l * S₀ i l + ∑ s, lower (rowA ld a) (rowInv ld k) t s * v s i

theorem sum_range_fin (t : Fin 64) (f : ℕ → ℝ) : ∑ s ∈ range t, f s = ∑ s : Fin 64, if s < t then f s else 0 := by
  refine Eq.trans ?_ (Fin.sum_univ_eq_sum_range (fun s => if s < t.val then f s else 0) 64).symm
  rw [← Finset.sum_filter]
  refine (Finset.sum_congr ?_ fun _ _ => rfl)
  ext s; simp only [mem_range, mem_filter]; have := t.isLt; omega

/-- The removals solve the system. -/
theorem removal_system (t : Fin 64) (i : Fin 64) : removal S₀ ld a b k v t i
    = rhs S₀ ld a k v t i + ∑ s, lower (rowA ld a) (rowInv ld b) t s * removal S₀ ld a b k v s i := by
  have e : removal S₀ ld a b k v t i = ∑ l, (S₀ i l * rowA ld a t l
      + ∑ s : Fin 64, if s < t then (removal S₀ ld a b k v s i * rowInv ld b s l + v s i * rowInv ld k s l) * rowA ld a t l else 0) := by
    refine Finset.sum_congr rfl fun l _ => ?_
    rw [scaled_eq, add_mul, Finset.sum_mul, sum_range_fin t]; rfl
  rw [e, Finset.sum_add_distrib, Finset.sum_comm (s := univ (α := Fin 64)), rhs, add_assoc]
  refine congrArg₂ (· + ·) ?_ ?_
  · exact Finset.sum_congr rfl fun l _ => mul_comm (S₀ i l) (rowA ld a t l)
  · refine Eq.trans (Finset.sum_congr rfl fun s _ => ?_) Finset.sum_add_distrib
    by_cases h : s < t
    · simp only [lower, if_pos h, Finset.sum_mul, ← Finset.sum_add_distrib]
      exact Finset.sum_congr rfl fun l _ => by ring_nf
    · simp [lower, h]

/-- So they are the product of the series with its right side. -/
theorem removal_eq_series (t : Fin 64) (i : Fin 64) : removal S₀ ld a b k v t i
    = ∑ s, series (lower (rowA ld a) (rowInv ld b)) t s * rhs S₀ ld a k v s i := by
  let A := lower (rowA ld a) (rowInv ld b)
  let U : Matrix (Fin 64) (Fin 64) ℝ := fun t i => removal S₀ ld a b k v t i
  have h : (1 - A) * U = rhs S₀ ld a k v := by
    rw [Matrix.sub_mul, Matrix.one_mul]
    ext t i
    rw [Matrix.sub_apply, Matrix.mul_apply]
    show removal S₀ ld a b k v t i - _ = _
    rw [removal_system]
    show _ + ∑ s, A t s * U s i - ∑ s, A t s * U s i = _
    ring
  have e : U = series A * rhs S₀ ld a k v := by
    rw [← h, ← Matrix.mul_assoc, mul_eq_one_comm.mp (series_inv (lower_eq_zero _ _)), Matrix.one_mul]
  exact congrFun (congrFun e t) i

/-- The state after the chunk. -/
theorem stateAt_chunk (i j : Fin 64) : stateAt S₀ ld a b k v 64 i j
    = (S₀ i j + ∑ s : Fin 64, (removal S₀ ld a b k v s i * rowInv ld b s j + v s i * rowInv ld k s j)) * Real.exp (before ld 64 j) := by
  rw [stateAt_eq_scaled, scaled_eq, ← Fin.sum_univ_eq_sum_range (fun s => removal S₀ ld a b k v s i * (b s j * Real.exp (-before ld (s + 1) j))
      + v s i * (k s j * Real.exp (-before ld (s + 1) j))) 64]
  rfl

/-- The inner products of `A`'s rows with `B`'s, with the diagonal. -/
def lowerEq (A B : Fin 64 → Fin 64 → ℝ) : Matrix (Fin 64) (Fin 64) ℝ := fun t s => if s ≤ t then ∑ l, A t l * B s l else 0

/-- What the state after position `t` gives for the row `r`. -/
theorem read_chunk (r : ℕ → Fin 64 → ℝ) (t : Fin 64) (i : Fin 64) : ∑ l, stateAt S₀ ld a b k v (t + 1) i l * r t l
    = ∑ l, (r t l * Real.exp (before ld (t + 1) l)) * S₀ i l
      + (∑ s, lowerEq (fun t l => r t l * Real.exp (before ld (t + 1) l)) (rowInv ld b) t s * removal S₀ ld a b k v s i
        + ∑ s, lowerEq (fun t l => r t l * Real.exp (before ld (t + 1) l)) (rowInv ld k) t s * v s i) := by
  have q : ∀ f : ℕ → ℝ, ∑ s ∈ range (t.val + 1), f s = ∑ s : Fin 64, if s ≤ t then f s else 0 := fun f => by
    refine Eq.trans ?_ (Fin.sum_univ_eq_sum_range (fun s => if s ≤ t.val then f s else 0) 64).symm
    rw [← Finset.sum_filter]
    refine (Finset.sum_congr ?_ fun _ _ => rfl)
    ext s; simp only [mem_range, mem_filter]; have := t.isLt; omega
  have e : ∀ l, stateAt S₀ ld a b k v (t + 1) i l * r t l = S₀ i l * (r t l * Real.exp (before ld (t + 1) l))
      + ∑ s : Fin 64, if s ≤ t then (removal S₀ ld a b k v s i * rowInv ld b s l + v s i * rowInv ld k s l) * (r t l * Real.exp (before ld (t + 1) l)) else 0 := fun l => by
    rw [stateAt_eq_scaled, mul_assoc, mul_comm (Real.exp _), scaled_eq, add_mul, Finset.sum_mul, q]; rfl
  rw [Finset.sum_congr rfl fun l _ => e l, Finset.sum_add_distrib, Finset.sum_comm (s := univ (α := Fin 64))]
  refine congrArg₂ (· + ·) ?_ ?_
  · exact Finset.sum_congr rfl fun l _ => mul_comm (S₀ i l) _
  · refine Eq.trans (Finset.sum_congr rfl fun s _ => ?_) Finset.sum_add_distrib
    by_cases h : s ≤ t
    · simp only [lowerEq, if_pos h, Finset.sum_mul, ← Finset.sum_add_distrib]
      exact Finset.sum_congr rfl fun l _ => by ring_nf
    · simp [lowerEq, h]

end Chunk

end Cert.RwkvSpec

end
-- ==== Proof.RwkvReal.lean ====
/- The operations of the extended reals at real arguments: sums, products, exponentials, logistics, roots and quotients of reals
   are reals. -/
module

public import Idealize.ShloMosaic.PureOps.Ideal.Laws
public import Idealize.ShloMosaic.Lib.IdealHost
public import Mathlib.Analysis.SpecialFunctions.Exp
public import Mathlib.Analysis.SpecialFunctions.Log.Basic
public import Mathlib.Tactic.Ring
public import Mathlib.Tactic.Positivity
public import Mathlib.Tactic.FieldSimp
public import Mathlib.Tactic.Linarith

@[expose] public section

noncomputable section

namespace Cert.RwkvSpec

open Idealize.ShloMosaic

/-- A sum of reals, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The logistic function. -/
def sigma (x : ℝ) : ℝ := 1 / (1 + Real.exp (-x))

theorem exp_coe (x : ℝ) : Ideal.exp (x : EReal) = ((Real.exp x : ℝ) : EReal) := rfl

theorem tanh_coe (x : ℝ) : Ideal.tanh (x : EReal) = ((Real.tanh x : ℝ) : EReal) := rfl

theorem div_coe (x y : ℝ) (hy : y ≠ 0) : Ideal.div (x : EReal) (y : EReal) = ((x / y : ℝ) : EReal) := by
  have h : (y : EReal) ≠ 0 := by exact_mod_cast hy
  unfold Ideal.div
  rw [if_neg h, ← EReal.coe_inv, ← EReal.coe_mul, div_eq_mul_inv]

theorem sqrt_coe (x : ℝ) (hx : 0 ≤ x) : Ideal.sqrt (x : EReal) = ((Real.sqrt x : ℝ) : EReal) := by
  show (if x < 0 then (⊥ : EReal) else _) = _
  rw [if_neg (not_lt.mpr hx)]

theorem rsqrt_coe (x : ℝ) (hx : 0 < x) : Ideal.rsqrt (x : EReal) = (((Real.sqrt x)⁻¹ : ℝ) : EReal) := by
  show (if x < 0 then (⊥ : EReal) else if x = 0 then _ else _) = _
  rw [if_neg (not_lt.mpr hx.le), if_neg hx.ne']

theorem one_coe : (1 : EReal) = ((1 : ℝ) : EReal) := by norm_cast

theorem zero_coe : (0 : EReal) = ((0 : ℝ) : EReal) := by norm_cast

theorem logistic_coe (x : ℝ) : Ideal.logistic (x : EReal) = ((sigma x : ℝ) : EReal) := by
  unfold Ideal.logistic sigma
  rw [← EReal.coe_neg, exp_coe, one_coe, ← EReal.coe_add, div_coe _ _ (by positivity)]

theorem max_coe (x y : ℝ) : max (x : EReal) (y : EReal) = ((max x y : ℝ) : EReal) := (EReal.coe_strictMono.monotone.map_max).symm

/-- The kernel's decay constant. -/
def decayC : ℝ := 10175896 / 16777216

theorem ofBits_decay : Ideal.ofBits .f32 0x3F1B4598#32 = ((decayC : ℝ) : EReal) := by
  unfold decayC
  simp [Ideal.ofBits, Ideal.ieee, -EReal.coe_mul]; norm_num

theorem ofBits_decay_neg : Ideal.ofBits .f32 0xBF1B4598#32 = ((-decayC : ℝ) : EReal) := by
  unfold decayC
  simp [Ideal.ofBits, Ideal.ieee, -EReal.coe_mul, -EReal.coe_neg]; norm_num

/-- The floor of a key's norm. -/
def tiny : ℝ := (9223372 / 8388608) / 1099511627776

theorem ofBits_tiny : Ideal.ofBits .f32 0x2B8CBCCC#32 = ((tiny : ℝ) : EReal) := by
  unfold tiny
  simp [Ideal.ofBits, Ideal.ieee, -EReal.coe_mul]; norm_num

theorem tiny_pos : 0 < tiny := by unfold tiny; norm_num

theorem ofBits_sixtyfour : Ideal.ofBits .f32 0x42800000#32 = ((64 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

theorem ofBits_eps : ∃ e : ℝ, 0 < e ∧ Ideal.ofBits .f32 0x3A27C5AC#32 = ((e : ℝ) : EReal) := by
  refine ⟨_, ?_, by simp [Ideal.ofBits, Ideal.ieee, -EReal.coe_mul]; rfl⟩
  norm_num

/-- The exponential of the negated softplus is the logistic function. -/
theorem exp_neg_softplus (z : ℝ) : Real.exp (-(max (-z) 0 + Real.log (1 + Real.exp (-|z|)))) = sigma z := by
  have h : (0 : ℝ) < 1 + Real.exp (-|z|) := by positivity
  rw [neg_add, Real.exp_add, Real.exp_neg (Real.log _), Real.exp_log h]
  unfold sigma
  rcases le_total 0 z with hz | hz
  · rw [max_eq_right (by linarith), abs_of_nonneg hz]; simp
  · rw [max_eq_left (by linarith), abs_of_nonpos hz, neg_neg]
    rw [Real.exp_neg z]
    have := Real.exp_pos z
    field_simp
    ring

end Cert.RwkvSpec
-- ==== Proof.RwkvSpec.lean ====
/- The layer's recurrent part over the reals: the arrays a position's columns give, the state before a position, and the rows of
   the result. Indices are natural numbers; an array is zero outside its bounds. -/
module

public import proofs.«01_k».proof.Proof.RwkvMath
public import proofs.«01_k».proof.Proof.RwkvReal

@[expose] public section

noncomputable section

namespace Cert.RwkvSpec

/-- The arguments, as arrays of reals. -/
structure Args where
  cols : ℕ → ℕ → ℕ → ℝ
  mu : ℕ → ℝ
  w0 : ℕ → ℝ
  w2 : ℕ → ℕ → ℝ
  a0 : ℕ → ℝ
  a2 : ℕ → ℕ → ℝ
  g2 : ℕ → ℕ → ℝ
  kk : ℕ → ℝ
  ka : ℕ → ℝ
  rk : ℕ → ℝ
  lw : ℕ → ℝ
  lb : ℕ → ℝ

/-- The small number under the root of the group norm. -/
def eps : ℝ := Classical.choose ofBits_eps
theorem eps_pos : 0 < eps := (Classical.choose_spec ofBits_eps).1
theorem ofBits_eps' : Idealize.ShloMosaic.Ideal.ofBits .f32 0x3A27C5AC#32 = ((eps : ℝ) : EReal) := (Classical.choose_spec ofBits_eps).2

namespace Args

variable (P : Args) (b t j : ℕ)

/-- The column before the position, zero before the first. -/
def prev : ℝ := if t = 0 then 0 else P.cols b (t - 1) j
/-- The columns mixed with those of the position before. -/
def xm : ℝ := P.cols b t j + (P.prev b t j - P.cols b t j) * P.mu j
def r : ℝ := P.xm b t j
def k : ℝ := P.xm b t (512 + j)
def v : ℝ := P.xm b t (1024 + j)
def z : ℝ := P.w0 j + ∑ l : Fin 64, Real.tanh (P.xm b t (1536 + l)) * P.w2 l j
/-- The logarithm of the decay. -/
def ld : ℝ := -decayC * sigma (P.z b t j)
def al : ℝ := sigma (P.a0 j + ∑ l : Fin 64, P.xm b t (1600 + l) * P.a2 l j)
def g : ℝ := ∑ l : Fin 160, sigma (P.xm b t (1664 + l)) * P.g2 l j
def kkv : ℝ := P.k b t j * P.kk j
/-- The removal key, of norm one in every head. -/
def kkn : ℝ := P.kkv b t j / max (Real.sqrt (∑ l : Fin 64, P.kkv b t (64 * (j / 64) + l) * P.kkv b t (64 * (j / 64) + l))) tiny
def km : ℝ := P.k b t j * (1 + (P.al b t j - 1) * P.ka j)
def bonus : ℝ := (∑ l : Fin 64, P.r b t (64 * (j / 64) + l) * P.km b t (64 * (j / 64) + l) * P.rk (64 * (j / 64) + l)) * P.v b t j

variable (H : ℕ)

/-- The rows of one head. -/
def hr (n : ℕ) (l : Fin 64) : ℝ := P.r b n (64 * H + l)
def hld (n : ℕ) (l : Fin 64) : ℝ := P.ld b n (64 * H + l)
def ha (n : ℕ) (l : Fin 64) : ℝ := -P.kkn b n (64 * H + l)
def hb (n : ℕ) (l : Fin 64) : ℝ := P.kkn b n (64 * H + l) * P.al b n (64 * H + l)
def hk (n : ℕ) (l : Fin 64) : ℝ := P.km b n (64 * H + l)
def hv (n : ℕ) (l : Fin 64) : ℝ := P.v b n (64 * H + l)

/-- A head's state before position `t`. -/
def st : State := stateAt 0 (P.hld b H) (P.ha b H) (P.hb b H) (P.hk b H) (P.hv b H) t
/-- A head's row of the recurrence. -/
def y (i : Fin 64) : ℝ := ∑ l, P.st b (t + 1) H i l * P.hr b H t l
/-- The recurrence's row, by its column. -/
def yc : ℝ := P.y b t (j / 64) ⟨j % 64, Nat.mod_lt _ (by decide)⟩
def mean : ℝ := (∑ l : Fin 64, P.y b t H l) * (1 / 64)
def var : ℝ := (∑ l : Fin 64, (P.y b t H l - P.mean b t H) * (P.y b t H l - P.mean b t H)) * (1 / 64)
def out : ℝ := ((P.yc b t j - P.mean b t (j / 64)) * (Real.sqrt (P.var b t (j / 64) + eps))⁻¹ * P.lw j + P.lb j + P.bonus b t j) * P.g b t j

theorem var_nonneg : 0 ≤ P.var b t H := mul_nonneg (Finset.sum_nonneg fun _ _ => mul_self_nonneg _) (by norm_num)

theorem st_zero : P.st b 0 H = 0 := rfl
theorem st_succ : P.st b (t + 1) H = step (P.st b t H) (P.hld b H t) (P.ha b H t) (P.hb b H t) (P.hk b H t) (P.hv b H t) := rfl
theorem st_add (s : ℕ) : P.st b (s + t) H = stateAt (P.st b s H) (fun n => P.hld b H (s + n)) (fun n => P.ha b H (s + n))
    (fun n => P.hb b H (s + n)) (fun n => P.hk b H (s + n)) (fun n => P.hv b H (s + n)) t := stateAt_add _ _ _ _ _ _ s t

end Args

end Cert.RwkvSpec
-- ==== Proof.RwkvArgs.lean ====
module

public import proofs.«01_k».proof.Proof.RwkvSpec
public import Idealize.ShloMosaic.Lib.Pointwise
/-! The layer's arrays, as real functions of natural-number indices, read off the contents of the twelve arguments: an entry
beyond an array's end is zero. -/

@[expose] public section

noncomputable section

namespace Cert.RwkvSpec

open Idealize.ShloMosaic

/-- Every entry is a real number. -/
def Finite {S : Shape} (x : Vec Ideal S .f32) : Prop := ∀ i, (x i : EReal) ≠ ⊤ ∧ (x i : EReal) ≠ ⊥

def row {n : ℕ} (x : Vec Ideal ⟨2, ![1, n]⟩ .f32) (j : ℕ) : ℝ := if h : j < n then EReal.toReal (x (ix2 0 ⟨j, h⟩)) else 0

def mat {a n : ℕ} (x : Vec Ideal ⟨3, ![1, a, n]⟩ .f32) (l j : ℕ) : ℝ :=
  if h : l < a ∧ j < n then EReal.toReal (x (ix3 0 ⟨l, h.1⟩ ⟨j, h.2⟩)) else 0

def cube {q a n : ℕ} (x : Vec Ideal ⟨3, ![q, a, n]⟩ .f32) (b l j : ℕ) : ℝ :=
  if h : b < q ∧ l < a ∧ j < n then EReal.toReal (x (ix3 ⟨b, h.1⟩ ⟨l, h.2.1⟩ ⟨j, h.2.2⟩)) else 0

theorem row_coe {n : ℕ} {x : Vec Ideal ⟨2, ![1, n]⟩ .f32} (hx : Finite x) (j : Fin n) : (x (ix2 0 j) : EReal) = ((row x j : ℝ) : EReal) := by
  rw [row, dif_pos j.2, EReal.coe_toReal (hx _).1 (hx _).2]

theorem row_out {n : ℕ} (x : Vec Ideal ⟨2, ![1, n]⟩ .f32) {j : ℕ} (h : ¬j < n) : row x j = 0 := dif_neg h

theorem mat_coe {a n : ℕ} {x : Vec Ideal ⟨3, ![1, a, n]⟩ .f32} (hx : Finite x) (l : Fin a) (j : Fin n) :
    (x (ix3 0 l j) : EReal) = ((mat x l j : ℝ) : EReal) := by
  rw [mat, dif_pos ⟨l.2, j.2⟩, EReal.coe_toReal (hx _).1 (hx _).2]

theorem cube_coe {q a n : ℕ} {x : Vec Ideal ⟨3, ![q, a, n]⟩ .f32} (hx : Finite x) (b : Fin q) (l : Fin a) (j : Fin n) :
    (x (ix3 b l j) : EReal) = ((cube x b l j : ℝ) : EReal) := by
  rw [cube, dif_pos ⟨b.2, l.2, j.2⟩, EReal.coe_toReal (hx _).1 (hx _).2]

theorem cube_out {q a n : ℕ} (x : Vec Ideal ⟨3, ![q, a, n]⟩ .f32) {b l j : ℕ} (h : ¬j < n) : cube x b l j = 0 := dif_neg fun e => h e.2.2

/-- The layer's arrays. -/
def argsOf (x0 : Vec Ideal ⟨3, ![2, 16384, 1824]⟩ .f32) (x1 : Vec Ideal ⟨2, ![1, 1824]⟩ .f32) (x2 : Vec Ideal ⟨2, ![1, 512]⟩ .f32)
    (x3 : Vec Ideal ⟨3, ![1, 64, 512]⟩ .f32) (x4 : Vec Ideal ⟨2, ![1, 512]⟩ .f32) (x5 : Vec Ideal ⟨3, ![1, 64, 512]⟩ .f32)
    (x6 : Vec Ideal ⟨3, ![1, 160, 512]⟩ .f32) (x7 x8 : Vec Ideal ⟨2, ![1, 512]⟩ .f32) (x9 : Vec Ideal ⟨3, ![1, 8, 64]⟩ .f32)
    (x10 x11 : Vec Ideal ⟨2, ![1, 512]⟩ .f32) : Args where
  cols := cube x0
  mu := row x1
  w0 := row x2
  w2 := mat x3
  a0 := row x4
  a2 := mat x5
  g2 := mat x6
  kk := row x7
  ka := row x8
  rk j := mat x9 (j / 64) (j % 64)
  lw := row x10
  lb := row x11

/-- Every entry of every argument is a real number. -/
structure AllFinite (x0 : Vec Ideal ⟨3, ![2, 16384, 1824]⟩ .f32) (x1 : Vec Ideal ⟨2, ![1, 1824]⟩ .f32) (x2 : Vec Ideal ⟨2, ![1, 512]⟩ .f32)
    (x3 : Vec Ideal ⟨3, ![1, 64, 512]⟩ .f32) (x4 : Vec Ideal ⟨2, ![1, 512]⟩ .f32) (x5 : Vec Ideal ⟨3, ![1, 64, 512]⟩ .f32)
    (x6 : Vec Ideal ⟨3, ![1, 160, 512]⟩ .f32) (x7 x8 : Vec Ideal ⟨2, ![1, 512]⟩ .f32) (x9 : Vec Ideal ⟨3, ![1, 8, 64]⟩ .f32)
    (x10 x11 : Vec Ideal ⟨2, ![1, 512]⟩ .f32) : Prop where
  f0 : Finite x0
  f1 : Finite x1
  f2 : Finite x2
  f3 : Finite x3
  f4 : Finite x4
  f5 : Finite x5
  f6 : Finite x6
  f7 : Finite x7
  f8 : Finite x8
  f9 : Finite x9
  f10 : Finite x10
  f11 : Finite x11

end Cert.RwkvSpec
-- ==== Proof.RwkvChunk.lean ====
/- One chunk of one chain of the RWKV kernel as functions of the arrays it loads: the masked products of the chunk's rows, the
   doubling that inverts the unit lower triangular system, the rows the chunk writes and the state it leaves. The kernel runs
   these functions sixteen times per grid point, over the rows of four chunks of four chains. -/
module

public import proofs.«01_k».proof.Proof.Gen.RwkvIdeal.Skeleton

@[expose] public section

set_option maxRecDepth 16384

noncomputable section

namespace Cert.RwkvIdeal.Chunk

open Idealize.ShloMosaic Idealize.SL.Sem Cert.RwkvIdeal.Gen

variable {F : FTy → Type} [FloatOps F]

/-- Where a row and a column of a slab belong to the same head. -/
def sameHead : IVec S256x256 1 := k0_pay57 (iota .tc S256x256 32 [0] iota_S256x256_d0_w32) 64#32 k0_pay55 k0_pay56

/-- The block diagonal of ones. -/
def dgF : FVec F S256x256 .f32 := k0_pay58 sameHead (Scalar.ofBits .f32 0x3F800000#32) (Scalar.ofBits .f32 0x00000000#32)
/-- The block diagonal of ones, as the products take it. -/
def dgB : FVec F S256x256 .bf16 := k0_pay59 sameHead (Scalar.ofBits .f32 0x3F800000#32) (Scalar.ofBits .f32 0x00000000#32)

/-- Two arrays of a chunk's rows, one below the other. -/
def two (a b : FVec F S64x256 .f32) : FVec F S128x256 .f32 :=
  concatenate S128x256 0 [⟨S64x256, a⟩, ⟨S64x256, b⟩] concatenates_S64x256_S64x256_S128x256_d0
/-- Two arrays of a chunk's rows, one below the other, at the products' type. -/
def twoB (a b : FVec F S64x256 .bf16) : FVec F S128x256 .bf16 :=
  concatenate S128x256 0 [⟨S64x256, a⟩, ⟨S64x256, b⟩] concatenates_S64x256_S64x256_S128x256_d0
/-- The first half of such a pair. -/
def top (a : FVec F S128x256 .f32) : FVec F S64x256 .f32 := extractStridedSlice S64x256 ![0, 0] a slices_S128x256_o0_0_S64x256
/-- The second half of such a pair. -/
def low (a : FVec F S128x256 .f32) : FVec F S64x256 .f32 := extractStridedSlice S64x256 ![64, 0] a slices_S128x256_o64_0_S64x256
/-- The heads of a slab put on a block diagonal. -/
def bdiag (t : FVec F S64x256 .bf16) : FVec F S256x256 .bf16 :=
  mulf (concatenate S256x256 0 [⟨S64x256, t⟩, ⟨S64x256, t⟩, ⟨S64x256, t⟩, ⟨S64x256, t⟩]
    concatenates_S64x256_S64x256_S64x256_S64x256_S256x256_d0) dgB
/-- The transposed heads of a slab put on a block diagonal. -/
def bdiagT (t : FVec F S64x256 .f32) : FVec F S256x256 .bf16 :=
  mulf (truncf .bf16 (concatenate S256x256 1
    [⟨S256x128, transpose S256x128 [1, 0] (two t t) transposes_S128x256_p1_0_S256x128⟩,
     ⟨S256x128, transpose S256x128 [1, 0] (two t t) transposes_S128x256_p1_0_S256x128⟩]
    concatenates_S256x128_S256x128_S256x256_d1) bitsLt_bf16_f32) dgB
/-- A product of 128 rows with a slab's block diagonal. -/
def mul128 (a : FVec F S128x256 .bf16) (b : FVec F S256x256 .bf16) : FVec F S128x256 .f32 :=
  matmul dot_S128x256_S256x256_S128x256_1_0_0_1_n_n none a b (constant S128x256 .f32 0x00000000#32)
/-- A product of 64 rows with a slab's block diagonal. -/
def mul64 (a : FVec F S64x256 .bf16) (b : FVec F S256x256 .bf16) : FVec F S64x256 .f32 :=
  matmul dot_S64x256_S256x256_S64x256_1_0_0_1_n_n none a b (constant S64x256 .f32 0x00000000#32)
/-- The entries of a chunk's square strictly below the diagonal. -/
def strictly (a : FVec F S64x256 .f32) : FVec F S64x256 .f32 :=
  select k0_pay61 a (broadcast S64x256 (Scalar.ofBits .f32 0x00000000#32))
/-- The entries of a chunk's square on and below the diagonal. -/
def atMost (a : FVec F S64x256 .f32) : FVec F S64x256 .f32 :=
  select k0_pay62 a (broadcast S64x256 (Scalar.ofBits .f32 0x00000000#32))
/-- The narrowing of a chunk's rows. -/
def cut (a : FVec F S64x256 .f32) : FVec F S64x256 .bf16 := truncf .bf16 a bitsLt_bf16_f32
/-- The narrowing of 128 rows. -/
def cut2 (a : FVec F S128x256 .f32) : FVec F S128x256 .bf16 := truncf .bf16 a bitsLt_bf16_f32

/-- What one chain loads for one chunk. -/
structure Rows (F : FTy → Type) [FloatOps F] where
  /-- The removal keys, scaled. -/
  a : Vec F S64x256 .bf16
  /-- The receptances, scaled. -/
  r : Vec F S64x256 .bf16
  /-- The replacement keys, scaled back. -/
  b : Vec F S64x256 .bf16
  /-- The keys, scaled back. -/
  k : Vec F S64x256 .bf16
  /-- The values. -/
  v : Vec F S64x256 .f32
  /-- The decay over the whole chunk. -/
  w : Vec F S1x256 .f32

variable (x : Rows F) (S : FVec F S64x256 .f32)

/-- Removal keys and receptances. -/
def ar : FVec F S128x256 .bf16 := twoB x.a x.r
/-- Their products with the replacement keys. -/
def mb : FVec F S128x256 .f32 := mul128 (ar x) (bdiagT (extf .f32 x.b bitsLt_bf16_f32))
/-- Their products with the keys. -/
def mk : FVec F S128x256 .f32 := mul128 (ar x) (bdiagT (extf .f32 x.k bitsLt_bf16_f32))
/-- The system's strictly lower part. -/
def aab : FVec F S64x256 .f32 := strictly (top (mb x))
/-- What a receptance reads of the replacements. -/
def arb : FVec F S64x256 .bf16 := cut (atMost (low (mb x)))
/-- What removal keys and receptances read of the values. -/
def kv : FVec F S128x256 .f32 := mul128 (cut2 (two (strictly (top (mk x))) (atMost (low (mk x))))) (bdiag (cut x.v))

/-- One doubling: a power and the partial product of the series, multiplied by the power. -/
def res (p q : FVec F S64x256 .f32) : FVec F S128x256 .f32 := mul128 (cut2 (two p q)) (bdiag (cut p))

/-- The second power. -/
def p2 : FVec F S64x256 .f32 := mul64 (cut (aab x)) (bdiag (cut (aab x)))
/-- One and the system. -/
def q2 : FVec F S64x256 .f32 := addf k0_pay63 (aab x)
/-- The fourth power. -/
def p4 : FVec F S64x256 .f32 := top (res (p2 x) (q2 x))
/-- The series up to the fourth power. -/
def q4 : FVec F S64x256 .f32 := addf (q2 x) (low (res (p2 x) (q2 x)))
/-- The eighth power. -/
def p8 : FVec F S64x256 .f32 := top (res (p4 x) (q4 x))
/-- The series up to the eighth power. -/
def q8 : FVec F S64x256 .f32 := addf (q4 x) (low (res (p4 x) (q4 x)))
/-- The sixteenth power. -/
def p16 : FVec F S64x256 .f32 := top (res (p8 x) (q8 x))
/-- The series up to the sixteenth power. -/
def q16 : FVec F S64x256 .f32 := addf (q8 x) (low (res (p8 x) (q8 x)))
/-- The power thirty-two. -/
def p32 : FVec F S64x256 .f32 := top (res (p16 x) (q16 x))
/-- The series up to the power thirty-two. -/
def q32 : FVec F S64x256 .f32 := addf (q16 x) (low (res (p16 x) (q16 x)))
/-- The whole series. -/
def inv : FVec F S64x256 .f32 := addf (q32 x) (mul64 (cut (q32 x)) (bdiag (cut (p32 x))))

/-- What removal keys and receptances read of the state. -/
def asrs : FVec F S128x256 .f32 := mul128 (ar x) (bdiagT S)
/-- The replacement values. -/
def u : FVec F S64x256 .f32 := mul64 (cut (inv x)) (bdiag (cut (addf (top (asrs x S)) (top (kv x)))))
/-- The rows the chunk writes. -/
def y : FVec F S64x256 .f32 :=
  shapeCast S64x256 (addf (addf (low (asrs x S)) (mul64 (arb x) (bdiag (cut (u x S))))) (low (kv x))) shapeCasts_S64x256_S64x256
/-- The outer products of values with keys, head by head. -/
def full : FVec F S256x256 .f32 :=
  mulf (matmul dot_S256x128_S128x256_S256x256_1_0_0_1_n_n none
    (truncf .bf16 (transpose S256x128 [1, 0] (two (u x S) x.v) transposes_S128x256_p1_0_S256x128) bitsLt_bf16_f32)
    (twoB x.b x.k) (constant S256x256 .f32 0x00000000#32)) dgF
/-- The state after the chunk. -/
def next : FVec F S64x256 .f32 :=
  mulf (addf S (addf (addf (addf (extractStridedSlice S64x256 ![0, 0] (full x S) slices_S256x256_o0_0_S64x256)
      (extractStridedSlice S64x256 ![64, 0] (full x S) slices_S256x256_o64_0_S64x256))
      (extractStridedSlice S64x256 ![128, 0] (full x S) slices_S256x256_o128_0_S64x256))
      (extractStridedSlice S64x256 ![192, 0] (full x S) slices_S256x256_o192_0_S64x256)))
    (broadcastTo S64x256 x.w broadcasts_S1x256_S64x256)

end Cert.RwkvIdeal.Chunk
-- ==== Proof.RwkvChunkReal.lean ====
/- One chunk of one chain of the RWKV kernel at real arguments: the arrays of a slab are four heads' square matrices of reals, a
   product with a block diagonal is the four heads' matrix products, and the rows written and the state left are the closed
   formulas of the chunk. -/
module

public import proofs.«01_k».proof.Proof.RwkvChunk
public import proofs.«01_k».proof.Proof.RwkvMath
public import proofs.«01_k».proof.Proof.RwkvReal
public import Idealize.ShloMosaic.Lib.Pointwise
public import Idealize.ShloMosaic.Lib.Pipeline.ValueKit.Point
public import Idealize.ShloMosaic.Lib.Pipeline.Value

@[expose] public section

set_option maxRecDepth 65536

noncomputable section

namespace Cert.RwkvIdeal.Chunk

open Idealize.ShloMosaic Idealize.SL.Sem Cert.RwkvIdeal.Gen Cert.RwkvSpec

/-- The column of feature `l` of a slab's head `h`. -/
def col (h : Fin 4) (l : Fin 64) : Fin 256 := ⟨64 * h.val + l.val, by omega⟩

theorem col_div (h : Fin 4) (l : Fin 64) : (col h l).val / 64 = h.val := by unfold col; show (64 * h.val + l.val) / 64 = _; omega
theorem col_mod (h : Fin 4) (l : Fin 64) : (col h l).val % 64 = l.val := by unfold col; show (64 * h.val + l.val) % 64 = _; omega

/-- A sum over a slab's columns, head by head. -/
theorem sum_col {M : Type} [AddCommMonoid M] (f : Fin 256 → M) : ∑ x, f x = ∑ h, ∑ l, f (col h l) := by
  rw [← Fintype.sum_prod_type']
  refine (Fintype.sum_equiv (finProdFinEquiv (m := 4) (n := 64)) _ _ fun p => ?_).symm
  congr 1
  apply Fin.ext
  show 64 * p.1.val + p.2.val = p.2.val + 64 * p.1.val
  omega

theorem head_number : ∀ p : Fin 256, (Scalar.select
        (IntOp.andi
          (IntOp.cmpi CmpIPredicate.ne
            (IntOp.subi (BitVec.setWidth 32 (IntOp.cmpi CmpIPredicate.sgt (BitVec.ofNat 32 p.val) 0#32))
              (BitVec.setWidth 32 (IntOp.cmpi CmpIPredicate.slt (BitVec.ofNat 32 p.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 p.val) 64#32) 0#32))
        (IntOp.subi (IntOp.divsi ArithUnit.vector (BitVec.ofNat 32 p.val) 64#32) 1#32)
        (IntOp.divsi ArithUnit.vector (BitVec.ofNat 32 p.val) 64#32)) = BitVec.ofNat 32 (p.val / 64) := by
  decide +kernel

theorem same_number : ∀ a b : Fin 4, IntOp.cmpi CmpIPredicate.eq (BitVec.ofNat 32 a.val) (BitVec.ofNat 32 b.val) = if a = b then 1#1 else 0#1 := by
  decide +kernel

theorem sameHead_apply (h h' : Fin 4) (i l : Fin 64) : sameHead (ix2 (col h i) (col h' l)) = if h = h' then 1#1 else 0#1 := by
  pointwise [sameHead, k0_pay57, k0_pay55, k0_pay56]
  rw [head_number, head_number, col_div, col_div, same_number]

theorem dgF_apply (h h' : Fin 4) (i l : Fin 64) : (dgF (F := Ideal) (ix2 (col h i) (col h' l)) : EReal) = ((if h = h' then 1 else 0 : ℝ) : EReal) := by
  pointwise [dgF, k0_pay58]
  rw [sameHead_apply]
  split <;> simp [Scalar.select]

theorem dgB_apply (h h' : Fin 4) (i l : Fin 64) : (dgB (F := Ideal) (ix2 (col h i) (col h' l)) : EReal) = ((if h = h' then 1 else 0 : ℝ) : EReal) := by
  pointwise [dgB, k0_pay59, k0_pay58]
  rw [sameHead_apply]
  split <;> simp [Scalar.select]

theorem feature_number : ∀ q : Fin 256, (Scalar.select
        (IntOp.andi
          (IntOp.xori
            (IntOp.cmpi CmpIPredicate.slt
              (IntOp.remsi ArithUnit.vector (BitVec.ofNat 32 q.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 q.val)
              (Scalar.select (Scalar.cmpi CmpIPredicate.eq 64#32 0#32) 1#32 64#32))
            0#32))
        (IntOp.addi
          (IntOp.remsi ArithUnit.vector (BitVec.ofNat 32 q.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 q.val)
          (Scalar.select (Scalar.cmpi CmpIPredicate.eq 64#32 0#32) 1#32 64#32))) = BitVec.ofNat 32 (q.val % 64) := by
  decide +kernel

theorem gt_number : ∀ a b : Fin 64, IntOp.cmpi CmpIPredicate.sgt (BitVec.ofNat 32 a.val) (BitVec.ofNat 32 b.val) = if b < a then 1#1 else 0#1 := by
  decide +kernel
theorem ge_number : ∀ a b : Fin 64, IntOp.cmpi CmpIPredicate.sge (BitVec.ofNat 32 a.val) (BitVec.ofNat 32 b.val) = if b ≤ a then 1#1 else 0#1 := by
  decide +kernel
theorem eq_number : ∀ a b : Fin 64, IntOp.cmpi CmpIPredicate.eq (BitVec.ofNat 32 a.val) (BitVec.ofNat 32 b.val) = if a = b then 1#1 else 0#1 := by
  decide +kernel

theorem strict_apply (i : Fin 64) (h : Fin 4) (l : Fin 64) : k0_pay61 (ix2 i (col h l)) = if l < i then 1#1 else 0#1 := by
  pointwise [k0_pay61, k0_pay60]
  rw [feature_number, col_mod, gt_number]
theorem incl_apply (i : Fin 64) (h : Fin 4) (l : Fin 64) : k0_pay62 (ix2 i (col h l)) = if l ≤ i then 1#1 else 0#1 := by
  pointwise [k0_pay62, k0_pay60]
  rw [feature_number, col_mod, ge_number]
theorem eye_apply (i : Fin 64) (h : Fin 4) (l : Fin 64) : (k0_pay63 (F := Ideal) (ix2 i (col h l)) : EReal) = ((if i = l then 1 else 0 : ℝ) : EReal) := by
  pointwise [k0_pay63, k0_pay60]
  rw [feature_number, col_mod, eq_number]
  split
  · show (((1#32 : BitVec 32).toInt : ℝ) : EReal) = _
    simp
  · show (((0#32 : BitVec 32).toInt : ℝ) : EReal) = _
    simp

/-- Four heads' square matrices of reals. -/
abbrev Heads := Fin 4 → Matrix (Fin 64) (Fin 64) ℝ

/-- The array holds the four heads' matrices side by side. -/
def IsR (v : S64x256.Idx → EReal) (M : Heads) : Prop := ∀ h i l, (v (ix2 i (col h l)) : EReal) = ((M h i l : ℝ) : EReal)
/-- The array holds two such, one below the other. -/
def IsR2 (v : S128x256.Idx → EReal) (M N : Heads) : Prop :=
  (∀ h (i l : Fin 64), (v (ix2 (⟨i.val, by omega⟩ : Fin 128) (col h l)) : EReal) = ((M h i l : ℝ) : EReal))
  ∧ ∀ h (i l : Fin 64), (v (ix2 (⟨64 + i.val, by omega⟩ : Fin 128) (col h l)) : EReal) = ((N h i l : ℝ) : EReal)
/-- The array holds the four matrices on its block diagonal. -/
def IsD (v : S256x256.Idx → EReal) (M : Heads) : Prop :=
  ∀ h i h' l, (v (ix2 (col h i) (col h' l)) : EReal) = ((if h = h' then M h' i l else 0 : ℝ) : EReal)

theorem isR_congr {v : S64x256.Idx → EReal} {M N : Heads} (h : IsR v M) (e : M = N) : IsR v N := e ▸ h

theorem cut_real {v : FVec Ideal S64x256 .f32} {M : Heads} (h : IsR v M) : IsR (cut v) M := fun a i l => by
  rw [← h a i l]; pointwise [cut]
theorem cut2_real {v : FVec Ideal S128x256 .f32} {M N : Heads} (h : IsR2 v M N) : IsR2 (cut2 v) M N :=
  ⟨fun a i l => by rw [← h.1 a i l]; pointwise [cut2], fun a i l => by rw [← h.2 a i l]; pointwise [cut2]⟩
theorem ext_real {v : FVec Ideal S64x256 .bf16} {M : Heads} (h : IsR v M) : IsR (extf .f32 v bitsLt_bf16_f32) M := fun a i l => by
  rw [← h a i l]; pointwise []
theorem two_real {a b : FVec Ideal S64x256 .f32} {M N : Heads} (ha : IsR a M) (hb : IsR b N) : IsR2 (two a b) M N :=
  ⟨fun h i l => by rw [← ha h i l]; pointwise [two], fun h i l => by rw [← hb h i l]; pointwise [two]⟩
theorem twoB_real {a b : FVec Ideal S64x256 .bf16} {M N : Heads} (ha : IsR a M) (hb : IsR b N) : IsR2 (twoB a b) M N :=
  ⟨fun h i l => by rw [← ha h i l]; pointwise [twoB], fun h i l => by rw [← hb h i l]; pointwise [twoB]⟩
theorem top_real {v : FVec Ideal S128x256 .f32} {M N : Heads} (h : IsR2 v M N) : IsR (top v) M := fun a i l => by
  rw [← h.1 a i l]; pointwise [top]
theorem low_real {v : FVec Ideal S128x256 .f32} {M N : Heads} (h : IsR2 v M N) : IsR (low v) N := fun a i l => by
  rw [← h.2 a i l]; pointwise [low]
theorem add_real {a b : FVec Ideal S64x256 .f32} {M N : Heads} (ha : IsR a M) (hb : IsR b N) : IsR (addf a b) (fun h => M h + N h) := fun h i l => by
  pointwise []
  rw [ha h i l, hb h i l, ← EReal.coe_add]; rfl

theorem bdiag_real {t : FVec Ideal S64x256 .bf16} {M : Heads} (ht : IsR t M) : IsD (bdiag t) M := fun h i h' l => by
  have e : (bdiag t (ix2 (col h i) (col h' l)) : EReal) = t (ix2 i (col h' l)) * dgB (F := Ideal) (ix2 (col h i) (col h' l)) := by
    pointwise [bdiag]
    have hc : (col h i).val = 64 * h.val + i.val := rfl
    congr 1
    split_ifs with h1 h2 h3 <;> exact congrArg (fun z => t (ix2 z (col h' l))) (Fin.ext (by dsimp only; omega))
  rw [e, ht, dgB_apply, ← EReal.coe_mul]
  split <;> simp

theorem bdiagT_real {t : FVec Ideal S64x256 .f32} {M : Heads} (ht : IsR t M) : IsD (bdiagT t) (fun h => (M h).transpose) := fun h i h' l => by
  have e : (bdiagT t (ix2 (col h i) (col h' l)) : EReal) = t (ix2 l (col h i)) * dgB (F := Ideal) (ix2 (col h i) (col h' l)) := by
    pointwise [bdiagT, two]
    have hc : (col h' l).val = 64 * h'.val + l.val := rfl
    congr 1
    split_ifs with h1 h2 h3 <;> exact congrArg (fun z => t (ix2 z (col h i))) (Fin.ext (by dsimp only; omega))
  rw [e, ht, dgB_apply, ← EReal.coe_mul]
  split
  · rename_i hh; subst hh; simp [Matrix.transpose]
  · simp

theorem mul_sum {f : Fin 4 → Fin 64 → ℝ} {b : FVec Ideal S256x256 .bf16} {P : Heads} (hb : IsD b P) (g : Fin 256 → EReal)
    (hg : ∀ h l, g (col h l) = ((f h l : ℝ) : EReal)) (h : Fin 4) (l : Fin 64) :
    ∑ x, g x * b (ix2 x (col h l)) = ((∑ k, f h k * P h k l : ℝ) : EReal) := by
  rw [sum_col]
  simp only [hg, hb _ _ h l, ← EReal.coe_mul, coe_sum]
  congr 1
  rw [Finset.sum_eq_single h]
  · simp
  · intro h' _ hne; simp [hne]
  · simp

theorem mul64_real {a : FVec Ideal S64x256 .bf16} {b : FVec Ideal S256x256 .bf16} {M P : Heads} (ha : IsR a M) (hb : IsD b P) :
    IsR (mul64 a b) (fun h => M h * P h) := fun h i l => by
  have e : (mul64 a b (ix2 i (col h l)) : EReal) = ∑ x, a (ix2 i x) * b (ix2 x (col h l)) := by pointwise [mul64]
  rw [e, mul_sum hb _ (fun h l => ha h i l)]; rfl

theorem mul128_real {a : FVec Ideal S128x256 .bf16} {b : FVec Ideal S256x256 .bf16} {M N P : Heads} (ha : IsR2 a M N) (hb : IsD b P) :
    IsR2 (mul128 a b) (fun h => M h * P h) (fun h => N h * P h) := by
  have e : ∀ i j, (mul128 a b (ix2 i j) : EReal) = ∑ x, a (ix2 i x) * b (ix2 x j) := fun i j => by pointwise [mul128]
  refine ⟨fun h i l => ?_, fun h i l => ?_⟩
  · rw [e, mul_sum hb _ (fun h l => ha.1 h i l)]; rfl
  · rw [e, mul_sum hb _ (fun h l => ha.2 h i l)]; rfl

theorem strictly_real {a : FVec Ideal S64x256 .f32} {M : Heads} (ha : IsR a M) :
    IsR (strictly a) (fun h i l => if l < i then M h i l else 0) := fun h i l => by
  have e : (strictly a (ix2 i (col h l)) : EReal) = Scalar.select (k0_pay61 (ix2 i (col h l))) (a (ix2 i (col h l)) : EReal) 0 := by
    pointwise [strictly]
  rw [e, strict_apply, ha h i l]
  split <;> simp [Scalar.select, *]

theorem atMost_real {a : FVec Ideal S64x256 .f32} {M : Heads} (ha : IsR a M) :
    IsR (atMost a) (fun h i l => if l ≤ i then M h i l else 0) := fun h i l => by
  have e : (atMost a (ix2 i (col h l)) : EReal) = Scalar.select (k0_pay62 (ix2 i (col h l))) (a (ix2 i (col h l)) : EReal) 0 := by
    pointwise [atMost]
  rw [e, incl_apply, ha h i l]
  split <;> simp [Scalar.select, *]

theorem eye_real : IsR (k0_pay63 (F := Ideal)) (fun _ => 1) := fun h i l => by
  rw [eye_apply]
  show _ = (((1 : Matrix (Fin 64) (Fin 64) ℝ) i l : ℝ) : EReal)
  rw [Matrix.one_apply]

theorem res_real {p q : FVec Ideal S64x256 .f32} {X Q : Heads} (hp : IsR p X) (hq : IsR q Q) :
    IsR2 (res p q) (fun h => X h * X h) (fun h => Q h * X h) :=
  mul128_real (cut2_real (two_real hp hq)) (bdiag_real (cut_real hp))

section Whole

variable {x : Rows Ideal} {S : FVec Ideal S64x256 .f32} {A R B K V T : Heads}

theorem mb_real (ha : IsR x.a A) (hr : IsR x.r R) (hb : IsR x.b B) :
    IsR2 (mb x) (fun h => A h * (B h).transpose) (fun h => R h * (B h).transpose) :=
  mul128_real (twoB_real ha hr) (bdiagT_real (ext_real hb))
theorem mk_real (ha : IsR x.a A) (hr : IsR x.r R) (hk : IsR x.k K) :
    IsR2 (mk x) (fun h => A h * (K h).transpose) (fun h => R h * (K h).transpose) :=
  mul128_real (twoB_real ha hr) (bdiagT_real (ext_real hk))

theorem aab_real (ha : IsR x.a A) (hr : IsR x.r R) (hb : IsR x.b B) : IsR (aab x) (fun h => lower (A h) (B h)) :=
  strictly_real (top_real (mb_real ha hr hb))
theorem arb_real (ha : IsR x.a A) (hr : IsR x.r R) (hb : IsR x.b B) : IsR (arb x) (fun h => lowerEq (R h) (B h)) :=
  cut_real (atMost_real (low_real (mb_real ha hr hb)))
theorem kv_real (ha : IsR x.a A) (hr : IsR x.r R) (hk : IsR x.k K) (hv : IsR x.v V) :
    IsR2 (kv x) (fun h => lower (A h) (K h) * V h) (fun h => lowerEq (R h) (K h) * V h) :=
  mul128_real (M := fun h => lower (A h) (K h)) (N := fun h => lowerEq (R h) (K h))
    (cut2_real (two_real (strictly_real (top_real (mk_real ha hr hk))) (atMost_real (low_real (mk_real ha hr hk)))))
    (bdiag_real (cut_real hv))

theorem inv_real {L : Heads} (h : IsR (aab x) L) : IsR (inv x) (fun h => series (L h)) := by
  have hp2 : IsR (p2 x) (fun h => L h * L h) := mul64_real (cut_real h) (bdiag_real (cut_real h))
  have hq2 : IsR (q2 x) (fun h => 1 + L h) := add_real eye_real h
  have r2 := res_real hp2 hq2
  have r4 := res_real (top_real r2) (add_real hq2 (low_real r2))
  have r8 := res_real (top_real r4) (add_real (add_real hq2 (low_real r2)) (low_real r4))
  have r16 := res_real (top_real r8) (add_real (add_real (add_real hq2 (low_real r2)) (low_real r4)) (low_real r8))
  have hq32 : IsR (q32 x) _ := add_real (add_real (add_real (add_real hq2 (low_real r2)) (low_real r4)) (low_real r8)) (low_real r16)
  have hp32 : IsR (p32 x) _ := top_real r16
  refine isR_congr (add_real hq32 (mul64_real (cut_real hq32) (bdiag_real (cut_real hp32)))) (funext fun h => ?_)
  have e2 : L h * L h = L h ^ 2 := (sq _).symm
  have e4 : L h ^ 2 * L h ^ 2 = L h ^ 4 := by rw [← pow_add]
  have e8 : L h ^ 4 * L h ^ 4 = L h ^ 8 := by rw [← pow_add]
  have e16 : L h ^ 8 * L h ^ 8 = L h ^ 16 := by rw [← pow_add]
  have e32 : L h ^ 16 * L h ^ 16 = L h ^ 32 := by rw [← pow_add]
  unfold series
  simp only [e2, e4, e8, e16, e32, mul_add, mul_one]

/-- The replacement values of a chunk from the state before it. -/
def repl (A B K V S : Matrix (Fin 64) (Fin 64) ℝ) : Matrix (Fin 64) (Fin 64) ℝ :=
  series (lower A B) * (A * S.transpose + lower A K * V)

theorem asrs_real (ha : IsR x.a A) (hr : IsR x.r R) (hs : IsR S T) :
    IsR2 (asrs x S) (fun h => A h * (T h).transpose) (fun h => R h * (T h).transpose) :=
  mul128_real (twoB_real ha hr) (bdiagT_real hs)

theorem u_real (ha : IsR x.a A) (hr : IsR x.r R) (hb : IsR x.b B) (hk : IsR x.k K) (hv : IsR x.v V) (hs : IsR S T) :
    IsR (u x S) (fun h => repl (A h) (B h) (K h) (V h) (T h)) :=
  mul64_real (cut_real (inv_real (aab_real ha hr hb)))
    (bdiag_real (cut_real (add_real (top_real (asrs_real ha hr hs)) (top_real (kv_real ha hr hk hv)))))

theorem y_real (ha : IsR x.a A) (hr : IsR x.r R) (hb : IsR x.b B) (hk : IsR x.k K) (hv : IsR x.v V) (hs : IsR S T) :
    IsR (y x S) (fun h => R h * (T h).transpose + lowerEq (R h) (B h) * repl (A h) (B h) (K h) (V h) (T h) + lowerEq (R h) (K h) * V h) := by
  have hy := add_real (add_real (low_real (asrs_real ha hr hs))
    (mul64_real (arb_real ha hr hb) (bdiag_real (cut_real (u_real ha hr hb hk hv hs))))) (low_real (kv_real ha hr hk hv))
  intro h i l
  rw [← hy h i l]
  have e : ∀ z : FVec Ideal S64x256 .f32, shapeCast S64x256 z shapeCasts_S64x256_S64x256 (ix2 i (col h l)) = z (ix2 i (col h l)) := fun z => by pointwise []
  exact e _

theorem full_real {U : Heads} (hu : IsR (u x S) U) (hb : IsR x.b B) (hk : IsR x.k K) (hv : IsR x.v V)
    (h h' : Fin 4) (i l : Fin 64) :
    (full x S (ix2 (col h i) (col h' l)) : EReal)
      = (((∑ s, U h s i * B h' s l + ∑ s, V h s i * K h' s l) * (if h = h' then 1 else 0) : ℝ) : EReal) := by
  have e : (full x S (ix2 (col h i) (col h' l)) : EReal)
      = (∑ s : Fin 128, (two (F := Ideal) (u x S) x.v (ix2 s (col h i)) : EReal) * (twoB (F := Ideal) x.b x.k (ix2 s (col h' l)) : EReal)) * dgF (F := Ideal) (ix2 (col h i) (col h' l)) := by
    pointwise [full]
  rw [e, dgF_apply, Fin.sum_univ_two_halves 64 64 rfl]
  simp only [(two_real hu hv).1 h, (two_real hu hv).2 h, (twoB_real hb hk).1 h', (twoB_real hb hk).2 h', ← EReal.coe_mul, coe_sum, ← EReal.coe_add]

theorem next_real {w : Fin 4 → Fin 64 → ℝ} {U : Heads} (hu : IsR (u x S) U) (hb : IsR x.b B) (hk : IsR x.k K) (hv : IsR x.v V) (hs : IsR S T)
    (hw : ∀ h l, (x.w (ix2 0 (col h l)) : EReal) = ((w h l : ℝ) : EReal)) :
    IsR (next x S) (fun h i l => (T h i l + (∑ s, U h s i * B h s l + ∑ s, V h s i * K h s l)) * w h l) := fun h i l => by
  have e : (next x S (ix2 i (col h l)) : EReal) = (S (ix2 i (col h l)) + (full x S (ix2 (col 0 i) (col h l)) + full x S (ix2 (col 1 i) (col h l))
      + full x S (ix2 (col 2 i) (col h l)) + full x S (ix2 (col 3 i) (col h l)))) * x.w (ix2 0 (col h l)) := by
    pointwise [next]
    simp [col]
  rw [e, hs h i l, hw h l]
  simp only [full_real hu hb hk hv, ← EReal.coe_add, ← EReal.coe_mul]
  congr 1
  fin_cases h <;> simp

end Whole

end Cert.RwkvIdeal.Chunk
-- ==== Proof.RwkvChunkStep.lean ====
/- One chunk of one chain of the RWKV kernel against the recurrence: when a chunk's rows hold the recurrence's rows scaled by the
   decay inside the chunk, the rows written are the states read with the receptance, and the state left is the state 64
   positions on. -/
module

public import proofs.«01_k».proof.Proof.RwkvChunkReal

@[expose] public section

noncomputable section

namespace Cert.RwkvIdeal.Chunk

open Idealize.ShloMosaic Idealize.SL.Sem Cert.RwkvIdeal.Gen Cert.RwkvSpec

/-- Four heads' rows, position by position. -/
abbrev Seqs := Fin 4 → ℕ → Fin 64 → ℝ

/-- The chunk's rows hold the recurrence's rows, scaled by the decay inside the chunk. -/
structure Holds (x : Rows Ideal) (ld a b k v r : Seqs) : Prop where
  a : IsR x.a fun h => rowA (ld h) (a h)
  r : IsR x.r fun h t l => r h t l * Real.exp (before (ld h) (t + 1) l)
  b : IsR x.b fun h => rowInv (ld h) (b h)
  k : IsR x.k fun h => rowInv (ld h) (k h)
  v : IsR x.v fun h t l => v h t l
  w : ∀ h l, (x.w (ix2 0 (col h l)) : EReal) = ((Real.exp (before (ld h) 64 l) : ℝ) : EReal)

variable {x : Rows Ideal} {S : FVec Ideal S64x256 .f32} {ld a b k v r : Seqs} {T : Fin 4 → State}

theorem mul_at (M N : Matrix (Fin 64) (Fin 64) ℝ) (i j : Fin 64) : (M * N) i j = ∑ l, M i l * N l j := rfl

theorem repl_eq (S : State) (ld a b k v : ℕ → Fin 64 → ℝ) (t i : Fin 64) :
    repl (rowA ld a) (rowInv ld b) (rowInv ld k) (fun t l => v t l) S t i = removal S ld a b k v t i := by
  rw [removal_eq_series]
  refine (mul_at _ _ t i).trans (Finset.sum_congr rfl fun s _ => congrArg (_ * ·) ?_)
  exact congrArg₂ (· + ·) (mul_at _ _ s i) (mul_at _ _ s i)

theorem y_holds (hx : Holds x ld a b k v r) (hs : IsR S T) :
    IsR (y x S) fun h t i => ∑ l, stateAt (T h) (ld h) (a h) (b h) (k h) (v h) (t + 1) i l * r h t l :=
  isR_congr (y_real hx.a hx.r hx.b hx.k hx.v hs) (funext fun h => Matrix.ext fun t i => by
    rw [read_chunk, ← add_assoc]
    refine congrArg₂ (· + ·) (congrArg₂ (· + ·) (mul_at _ _ t i) ((mul_at _ _ t i).trans ?_)) (mul_at _ _ t i)
    exact Finset.sum_congr rfl fun s _ => congrArg (_ * ·) (repl_eq _ _ _ _ _ _ s i))

theorem next_holds (hx : Holds x ld a b k v r) (hs : IsR S T) :
    IsR (next x S) fun h => stateAt (T h) (ld h) (a h) (b h) (k h) (v h) 64 :=
  isR_congr (next_real (u_real hx.a hx.r hx.b hx.k hx.v hs) hx.b hx.k hx.v hs hx.w) (funext fun h => Matrix.ext fun i j => by
    rw [stateAt_chunk, Finset.sum_add_distrib]
    simp only [repl_eq])

end Cert.RwkvIdeal.Chunk
-- ==== Proof.RwkvPrep.lean ====
/- The preparation of one batch entry's rows at one grid point: its arrays as functions of what is loaded, and their entries at
   real arguments. -/
module

public import proofs.«01_k».proof.Proof.RwkvSpec
public import proofs.«01_k».proof.Proof.Gen.RwkvIdeal.Skeleton
public import Idealize.ShloMosaic.Lib.Pointwise
public import Idealize.ShloMosaic.Lib.Pipeline.ValueKit.Point
public import Idealize.ShloMosaic.Lib.Pipeline.Value

@[expose] public section

set_option maxRecDepth 65536

noncomputable section

namespace Cert.RwkvIdeal.Prep

open Idealize.ShloMosaic Idealize.SL.Sem Cert.RwkvIdeal.Gen Cert.RwkvSpec

/-- What the preparation of one batch entry's rows loads. -/
structure Loads (F : FTy → Type) [FloatOps F] where
  x : Vec F S1x256x1920 .f32
  pv : Vec F S1x1x1920 .f32
  mu : Vec F S1x1920 .f32
  w0 : Vec F S1x512 .f32
  w2 : Vec F S128x512 .bf16
  a0 : Vec F S1x512 .f32
  a2 : Vec F S128x512 .bf16
  g2 : Vec F S256x512 .bf16
  kk : Vec F S1x512 .f32
  ka : Vec F S1x512 .f32
  rk : Vec F S1x512 .f32
  lw : Vec F S1x512 .f32
  lb : Vec F S1x512 .f32
  gm : Vec F S512x512 .bf16
  lt : Vec F S256x256 .bf16

section

variable {F : FTy → Type} [FloatOps F] (L : Loads F)

def r : FVec F S256x512 .f32 := k0_pay8 L.x L.pv L.mu
def k : FVec F S256x512 .f32 := k0_pay9 L.x L.pv L.mu
def v : FVec F S256x512 .f32 := k0_pay10 L.x L.pv L.mu
def ld : FVec F S256x512 .f32 := k0_pay15 (k0_pay13 L.w0) (k0_pay14 L.x L.pv L.mu) L.w2
def al : FVec F S256x512 .f32 := k0_pay16 (k0_pay11 L.x L.pv L.mu) L.a0 L.a2
def al1 : FVec F S256x512 .f32 := k0_pay19 (k0_pay11 L.x L.pv L.mu) L.a0 L.a2
def g : FVec F S256x512 .f32 := k0_pay17 (k0_pay12 L.x L.pv L.mu) L.g2
def kkn : FVec F S256x512 .f32 := k0_pay18 (k0_pay4 L.gm) (k L) L.kk
def km : FVec F S256x512 .f32 := k0_pay20 (k L) (al1 L) L.ka
def bonus : FVec F S256x512 .f32 := k0_pay21 (k0_pay4 L.gm) (r L) (k L) (v L) (al1 L) L.ka L.rk
def cum : FVec F S256x512 .f32 := k0_pay22 (ld L) L.lt
def at' : FVec F S256x512 .bf16 := k0_pay25 (ld L) (kkn L) L.lt
def rt : FVec F S256x512 .bf16 := k0_pay27 (k0_pay26 (r L) (ld L) L.lt)
def bt : FVec F S256x512 .bf16 := k0_pay28 (al L) (kkn L) (k0_pay24 (ld L) L.lt)
def kt : FVec F S256x512 .bf16 := k0_pay29 (km L) (k0_pay24 (ld L) L.lt)
def vt : FVec F S256x512 .f32 := k0_pay30 (v L)
def wc : FVec F S256x512 .f32 := k0_pay31 (k0_pay23 (ld L) L.lt)
/-- The group norm, the bonus and the gate over the recurrence's rows `y`. -/
def fin (y bo ga : Vec F S256x512 .f32) : FVec F S1x256x512 .bf16 := k0_pay557 (k0_pay4 L.gm) y L.lw L.lb bo ga

end

/-- The loads hold batch entry `b`'s rows from position `t` on, and the arguments. -/
structure Has (L : Loads Ideal) (P : Args) (b t : ℕ) : Prop where
  x : ∀ (p : Fin 256) (j : Fin 1920), (L.x (ix3 0 p j) : EReal) = ((P.cols b (t + p) j : ℝ) : EReal)
  pv : ∀ j : Fin 1920, (L.pv (ix3 0 0 j) : EReal) = ((P.prev b t j : ℝ) : EReal)
  mu : ∀ j : Fin 1920, (L.mu (ix2 0 j) : EReal) = ((P.mu j : ℝ) : EReal)
  w0 : ∀ j : Fin 512, (L.w0 (ix2 0 j) : EReal) = ((P.w0 j : ℝ) : EReal)
  w2 : ∀ (l : Fin 128) (j : Fin 512), (L.w2 (ix2 l j) : EReal) = ((if l.val < 64 then P.w2 l j else 0 : ℝ) : EReal)
  a0 : ∀ j : Fin 512, (L.a0 (ix2 0 j) : EReal) = ((P.a0 j : ℝ) : EReal)
  a2 : ∀ (l : Fin 128) (j : Fin 512), (L.a2 (ix2 l j) : EReal) = ((if l.val < 64 then 0 else P.a2 (l - 64) j : ℝ) : EReal)
  g2 : ∀ (l : Fin 256) (j : Fin 512), (L.g2 (ix2 l j) : EReal) = ((if l.val < 160 then P.g2 l j else 0 : ℝ) : EReal)
  kk : ∀ j : Fin 512, (L.kk (ix2 0 j) : EReal) = ((P.kk j : ℝ) : EReal)
  ka : ∀ j : Fin 512, (L.ka (ix2 0 j) : EReal) = ((P.ka j : ℝ) : EReal)
  rk : ∀ j : Fin 512, (L.rk (ix2 0 j) : EReal) = ((P.rk j : ℝ) : EReal)
  lw : ∀ j : Fin 512, (L.lw (ix2 0 j) : EReal) = ((P.lw j : ℝ) : EReal)
  lb : ∀ j : Fin 512, (L.lb (ix2 0 j) : EReal) = ((P.lb j : ℝ) : EReal)
  gm : ∀ i j : Fin 512, (L.gm (ix2 i j) : EReal) = ((if i.val / 64 = j.val / 64 then 1 else 0 : ℝ) : EReal)
  lt : ∀ i j : Fin 256, (L.lt (ix2 i j) : EReal) = ((if i.val / 64 = j.val / 64 ∧ j.val ≤ i.val then 1 else 0 : ℝ) : EReal)

variable {L : Loads Ideal} {P : Args} {b t : ℕ}

/-- A sum over columns, head by head. -/
theorem sum_heads {M : Type} [AddCommMonoid M] (m : ℕ) (f : ℕ → M) : ∑ x : Fin (m * 64), f x = ∑ h : Fin m, ∑ l : Fin 64, f (64 * h.val + l.val) := by
  rw [← Fintype.sum_prod_type']
  refine (Fintype.sum_equiv (finProdFinEquiv (m := m) (n := 64)) _ _ fun p => ?_).symm
  congr 1
  show 64 * p.1.val + p.2.val = p.2.val + 64 * p.1.val
  omega

/-- The head's columns of a sum over all columns. -/
theorem sum_head (f : ℕ → ℝ) (j : Fin 512) : ∑ x : Fin 512, f x * (if x.val / 64 = j.val / 64 then 1 else 0) = ∑ l : Fin 64, f (64 * (j.val / 64) + l) := by
  refine (sum_heads 8 (fun x => f x * (if x / 64 = j.val / 64 then 1 else 0))).trans ?_
  rw [Finset.sum_eq_single (⟨j.val / 64, by omega⟩ : Fin 8)]
  · refine Finset.sum_congr rfl fun l _ => ?_
    rw [if_pos (by have := l.isLt; dsimp only; omega), mul_one]
  · intro h _ hne
    refine Finset.sum_eq_zero fun l _ => ?_
    rw [if_neg (fun e => hne (Fin.ext (by have := l.isLt; dsimp only; omega))), mul_zero]
  · simp

/-- The part of a sum over the rows that the chunk's triangle keeps. -/
theorem sum_tri (f : ℕ → ℝ) (p : Fin 256) : ∑ x : Fin 256, (if p.val / 64 = x.val / 64 ∧ x.val ≤ p.val then 1 else 0) * f x
    = ∑ s ∈ Finset.range (p.val % 64 + 1), f (64 * (p.val / 64) + s) := by
  refine (sum_heads 4 (fun x => (if p.val / 64 = x / 64 ∧ x ≤ p.val then 1 else 0) * f x)).trans ?_
  rw [Finset.sum_eq_single (⟨p.val / 64, by omega⟩ : Fin 4)]
  · refine (Fin.sum_univ_eq_sum_range (fun l => (if p.val / 64 = (64 * (p.val / 64) + l) / 64 ∧ 64 * (p.val / 64) + l ≤ p.val then 1 else 0)
      * f (64 * (p.val / 64) + l)) 64).trans ?_
    refine (Finset.sum_subset (s₁ := Finset.range (p.val % 64 + 1)) (fun s hs => ?_) fun s hs hn => ?_).symm.trans
      (Finset.sum_congr rfl fun s hs => ?_)
    · have := Finset.mem_range.mp hs; exact Finset.mem_range.mpr (by omega)
    · have h1 := Finset.mem_range.mp hs
      have h2 : ¬ s < p.val % 64 + 1 := fun h => hn (Finset.mem_range.mpr h)
      rw [if_neg (by omega), zero_mul]
    · have := Finset.mem_range.mp hs
      rw [if_pos (by omega), one_mul]
  · intro h _ hne
    refine Finset.sum_eq_zero fun l _ => ?_
    rw [if_neg (fun e => hne (Fin.ext (by have := l.isLt; dsimp only; omega))), zero_mul]
  · simp

theorem xm_at (h : Has L P b t) (p : Fin 256) (j : Fin 1920) : (k0_pay7 L.x L.pv L.mu (ix2 p j) : EReal) = ((P.xm b (t + p) j : ℝ) : EReal) := by
  pointwise [k0_pay7, k0_pay5]
  have e : (Scalar.select (IntOp.cmpi CmpIPredicate.eq (BitVec.ofNat 32 p.val) 0#32) (L.pv (ix3 0 0 j))
      (L.x (ix3 0 ⟨(p.val + 256 - 1) % 256, Nat.mod_lt _ (by decide)⟩ j)) : EReal) = ((P.prev b (t + p) j : ℝ) : EReal) := by
    have q : ∀ p : Fin 256, IntOp.cmpi CmpIPredicate.eq (BitVec.ofNat 32 p.val) 0#32 = if p.val = 0 then 1#1 else 0#1 := by decide +kernel
    rw [q]
    by_cases hp : p.val = 0
    · rw [if_pos hp, hp]
      exact h.pv j
    · rw [if_neg hp]
      refine (h.x _ _).trans ?_
      rw [Args.prev, if_neg (by omega)]
      congr 2
      dsimp only
      omega
  rw [h.x, h.mu]
  erw [e]
  simp only [← EReal.coe_sub, ← EReal.coe_mul, ← EReal.coe_add]
  rfl

theorem r_at (h : Has L P b t) (p : Fin 256) (j : Fin 512) : (r L (ix2 p j) : EReal) = ((P.r b (t + p) j : ℝ) : EReal) := by
  have e : (r L (ix2 p j) : EReal) = k0_pay7 L.x L.pv L.mu (ix2 p (⟨0 + j.val, by omega⟩ : Fin 1920)) := by pointwise [r, k0_pay8]
  rw [e, xm_at h, Args.r]
  dsimp only
  rw [Nat.zero_add]

theorem k_at (h : Has L P b t) (p : Fin 256) (j : Fin 512) : (k L (ix2 p j) : EReal) = ((P.k b (t + p) j : ℝ) : EReal) := by
  have e : (k L (ix2 p j) : EReal) = k0_pay7 L.x L.pv L.mu (ix2 p (⟨512 + j.val, by omega⟩ : Fin 1920)) := by pointwise [k, k0_pay9]
  rw [e, xm_at h]; rfl

theorem v_at (h : Has L P b t) (p : Fin 256) (j : Fin 512) : (v L (ix2 p j) : EReal) = ((P.v b (t + p) j : ℝ) : EReal) := by
  have e : (v L (ix2 p j) : EReal) = k0_pay7 L.x L.pv L.mu (ix2 p (⟨1024 + j.val, by omega⟩ : Fin 1920)) := by pointwise [v, k0_pay10]
  rw [e, xm_at h]; rfl

theorem ld_at (h : Has L P b t) (p : Fin 256) (j : Fin 512) : (ld L (ix2 p j) : EReal) = ((P.ld b (t + p) j : ℝ) : EReal) := by
  pointwise [ld, k0_pay15, k0_pay13, k0_pay14, k0_pay11]
  simp only [xm_at h, h.w0, h.w2, tanh_coe, ← EReal.coe_mul, coe_sum, ← EReal.coe_add, logistic_coe, ofBits_decay_neg]
  rw [Fin.sum_univ_two_halves 64 64 rfl]
  simp [Args.ld, Args.z]

theorem al_at (h : Has L P b t) (p : Fin 256) (j : Fin 512) : (al L (ix2 p j) : EReal) = ((P.al b (t + p) j : ℝ) : EReal) := by
  pointwise [al, k0_pay16, k0_pay11]
  simp only [xm_at h, h.a0, h.a2, ← EReal.coe_mul, coe_sum, ← EReal.coe_add, logistic_coe]
  rw [Fin.sum_univ_two_halves 64 64 rfl]
  simp [Args.al, ← Nat.add_assoc]

theorem al1_at (h : Has L P b t) (p : Fin 256) (j : Fin 512) : (al1 L (ix2 p j) : EReal) = ((P.al b (t + p) j - 1 : ℝ) : EReal) := by
  have e : (al1 L (ix2 p j) : EReal) = al L (ix2 p j) - 1 := by pointwise [al1, al, k0_pay19]
  rw [e, al_at h, one_coe, EReal.coe_sub]

theorem g_at (h : Has L P b t) (p : Fin 256) (j : Fin 512) : (g L (ix2 p j) : EReal) = ((P.g b (t + p) j : ℝ) : EReal) := by
  pointwise [g, k0_pay17, k0_pay12]
  simp only [xm_at h, h.g2, ← EReal.coe_mul, coe_sum, logistic_coe]
  rw [Fin.sum_univ_two_halves 160 96 rfl]
  simp [Args.g]

theorem kkn_at (h : Has L P b t) (p : Fin 256) (j : Fin 512) : (kkn L (ix2 p j) : EReal) = ((P.kkn b (t + p) j : ℝ) : EReal) := by
  pointwise [kkn, k0_pay18, k0_pay4]
  simp only [k_at h, h.kk, h.gm, ← EReal.coe_mul, coe_sum]
  rw [sum_head (fun x => P.k b (t + p) x * P.kk x * (P.k b (t + p) x * P.kk x)) j,
    sqrt_coe _ (Finset.sum_nonneg fun _ _ => mul_self_nonneg _), ofBits_tiny, max_coe, div_coe _ _ (lt_of_lt_of_le tiny_pos (le_max_right _ _)).ne']
  rfl

theorem km_at (h : Has L P b t) (p : Fin 256) (j : Fin 512) : (km L (ix2 p j) : EReal) = ((P.km b (t + p) j : ℝ) : EReal) := by
  pointwise [km, k0_pay20]
  simp only [k_at h, al1_at h, h.ka, one_coe, ← EReal.coe_mul, ← EReal.coe_add]
  rfl

theorem bonus_at (h : Has L P b t) (p : Fin 256) (j : Fin 512) : (bonus L (ix2 p j) : EReal) = ((P.bonus b (t + p) j : ℝ) : EReal) := by
  pointwise [bonus, k0_pay21, k0_pay4]
  have e : ∀ x, (k0_pay20 (k L) (al1 L) L.ka (ix2 p x) : EReal) = ((P.km b (t + p) x : ℝ) : EReal) := km_at h p
  simp only [r_at h, v_at h, e, h.rk, h.gm, ← EReal.coe_mul, coe_sum]
  rw [sum_head (fun x => P.r b (t + p) x * P.km b (t + p) x * P.rk x) j]
  rfl

/-- The decay from the chunk's first row up to and with the row. -/
theorem cum_at (h : Has L P b t) (p : Fin 256) (j : Fin 512) :
    (k0_pay22 (ld L) L.lt (ix2 p j) : EReal) = ((∑ s ∈ Finset.range (p.val % 64 + 1), P.ld b (t + (64 * (p.val / 64) + s)) j : ℝ) : EReal) := by
  pointwise [k0_pay22]
  simp only [ld_at h, h.lt, ← EReal.coe_sub, sub_self, ← EReal.coe_mul, coe_sum, mul_zero, Finset.sum_const_zero, EReal.coe_zero, add_zero]
  rw [sum_tri (fun x => P.ld b (t + x) j) p]

theorem at_at (h : Has L P b t) (p : Fin 256) (j : Fin 512) :
    (at' L (ix2 p j) : EReal) = ((-P.kkn b (t + p) j * Real.exp (∑ s ∈ Finset.range (p.val % 64), P.ld b (t + (64 * (p.val / 64) + s)) j) : ℝ) : EReal) := by
  pointwise [at', k0_pay25]
  simp only [cum_at h, ld_at h, kkn_at h, zero_coe, ← EReal.coe_sub, exp_coe, ← EReal.coe_mul]
  rw [Finset.sum_range_succ, zero_sub, show 64 * (p.val / 64) + p.val % 64 = p.val from Nat.div_add_mod _ _, add_sub_cancel_right]

theorem rt_at (h : Has L P b t) (p : Fin 256) (j : Fin 512) :
    (rt L (ix2 p j) : EReal) = ((P.r b (t + p) j * Real.exp (∑ s ∈ Finset.range (p.val % 64 + 1), P.ld b (t + (64 * (p.val / 64) + s)) j) : ℝ) : EReal) := by
  pointwise [rt, k0_pay27, k0_pay26, k0_pay23]
  simp only [cum_at h, r_at h, exp_coe, ← EReal.coe_mul]

theorem inv_at (h : Has L P b t) (p : Fin 256) (j : Fin 512) :
    (k0_pay24 (ld L) L.lt (ix2 p j) : EReal) = ((Real.exp (-∑ s ∈ Finset.range (p.val % 64 + 1), P.ld b (t + (64 * (p.val / 64) + s)) j) : ℝ) : EReal) := by
  pointwise [k0_pay24]
  simp only [cum_at h, zero_coe, ← EReal.coe_sub, exp_coe, zero_sub]

theorem bt_at (h : Has L P b t) (p : Fin 256) (j : Fin 512) :
    (bt L (ix2 p j) : EReal) = ((P.kkn b (t + p) j * P.al b (t + p) j * Real.exp (-∑ s ∈ Finset.range (p.val % 64 + 1), P.ld b (t + (64 * (p.val / 64) + s)) j) : ℝ) : EReal) := by
  pointwise [bt, k0_pay28]
  simp only [inv_at h, kkn_at h, al_at h, ← EReal.coe_mul]

theorem kt_at (h : Has L P b t) (p : Fin 256) (j : Fin 512) :
    (kt L (ix2 p j) : EReal) = ((P.km b (t + p) j * Real.exp (-∑ s ∈ Finset.range (p.val % 64 + 1), P.ld b (t + (64 * (p.val / 64) + s)) j) : ℝ) : EReal) := by
  pointwise [kt, k0_pay29]
  simp only [inv_at h, km_at h, ← EReal.coe_mul]

theorem vt_at (h : Has L P b t) (p : Fin 256) (j : Fin 512) : (vt L (ix2 p j) : EReal) = ((P.v b (t + p) j : ℝ) : EReal) := by
  pointwise [vt, k0_pay30]
  exact v_at h p j

theorem wc_at (h : Has L P b t) (p : Fin 256) (j : Fin 512) :
    (wc L (ix2 p j) : EReal) = ((Real.exp (∑ s ∈ Finset.range (p.val % 64 + 1), P.ld b (t + (64 * (p.val / 64) + s)) j) : ℝ) : EReal) := by
  pointwise [wc, k0_pay31, k0_pay23]
  simp only [cum_at h, exp_coe]

theorem fin_at (h : Has L P b t) (y bo ga : Vec Ideal S256x512 .f32) (hy : ∀ (p : Fin 256) (j : Fin 512), (y (ix2 p j) : EReal) = ((P.yc b (t + p) j : ℝ) : EReal))
    (hb : ∀ (p : Fin 256) (j : Fin 512), (bo (ix2 p j) : EReal) = ((P.bonus b (t + p) j : ℝ) : EReal))
    (hg : ∀ (p : Fin 256) (j : Fin 512), (ga (ix2 p j) : EReal) = ((P.g b (t + p) j : ℝ) : EReal)) (p : Fin 256) (j : Fin 512) :
    (fin L y bo ga (ix3 0 p j) : EReal) = ((P.out b (t + p) j : ℝ) : EReal) := by
  have hc : ∀ (H : ℕ) (l : Fin 64), P.yc b (t + p) (64 * H + l) = P.y b (t + p) H l := fun H l => by
    have e1 : (64 * H + l.val) / 64 = H := by have := l.isLt; omega
    have e2 : (64 * H + l.val) % 64 = l.val := by have := l.isLt; omega
    rw [Args.yc]
    simp only [e1, e2]
  have hm : ∀ x : Fin 512, (∑ z : Fin 512, P.yc b (t + p) z * (if z.val / 64 = x.val / 64 then 1 else 0)) * (1 / 64) = P.mean b (t + p) (x.val / 64) := fun x => by
    rw [sum_head (fun z => P.yc b (t + p) z) x]
    simp only [hc]
    rfl
  have hv : (∑ x : Fin 512, (P.yc b (t + p) x - P.mean b (t + p) (x.val / 64)) * (P.yc b (t + p) x - P.mean b (t + p) (x.val / 64))
      * (if x.val / 64 = j.val / 64 then 1 else 0)) * (1 / 64) = P.var b (t + p) (j.val / 64) := by
    rw [sum_head (fun x => (P.yc b (t + p) x - P.mean b (t + p) (x / 64)) * (P.yc b (t + p) x - P.mean b (t + p) (x / 64))) j]
    have e1 : ∀ l : Fin 64, (64 * (j.val / 64) + l.val) / 64 = j.val / 64 := fun l => by have := l.isLt; omega
    simp only [hc, e1]
    rfl
  pointwise [fin, k0_pay557, k0_pay4]
  simp only [hy, hb, hg, h.gm, h.lw, h.lb, ofBits_sixtyfourth, ofBits_eps', ← EReal.coe_mul, coe_sum, hm, ← EReal.coe_sub, hv, ← EReal.coe_add]
  rw [rsqrt_coe _ (add_pos_of_nonneg_of_pos (P.var_nonneg b _ _) eps_pos)]
  simp only [← EReal.coe_mul, ← EReal.coe_add]
  rfl

end Cert.RwkvIdeal.Prep
-- ==== Proof.RwkvWindow.lean ====
/- What a chain's chunk loads from the arrays the preparation stored: the recurrence's rows from the chunk's first position on,
   scaled by the decay inside the chunk. -/
module

public import proofs.«01_k».proof.Proof.RwkvChunkStep
public import proofs.«01_k».proof.Proof.RwkvPrep

@[expose] public section

set_option maxRecDepth 65536

noncomputable section

namespace Cert.RwkvIdeal.Chunk

open Idealize.ShloMosaic Idealize.SL.Sem Cert.RwkvIdeal.Gen Cert.RwkvSpec

/-- The rectangle of the rows of batch entry 1 in an array of the preparation. -/
abbrev hiR : Rect S512x512 := Rect.unit (s := S512x512) ![256, 0] S256x512.size inb_S512x512_S256x512_256_0
/-- The rectangle of the rows of batch entry 0. -/
abbrev loR : Rect S512x512 := Rect.unit (s := S512x512) ![0, 0] S256x512.size inb_S512x512_S256x512_0_0

/-- The two stores of the preparation, batch entry 1's last. -/
abbrev stored {e : EltTy} (q p : Vec Ideal S256x512 e) : List (View.Piece (Elt Ideal) S512x512 e) := [⟨hiR, q⟩, ⟨loR, p⟩]

theorem canon_hi {e : EltTy} (q p : Vec Ideal S256x512 e) (i : Fin 256) (j : Fin 512) :
    View.canon (stored q p) (ix2 (⟨256 + i.val, by omega⟩ : Fin 512) j) = q (ix2 i j) := by
  have h : (ix2 (⟨256 + i.val, by omega⟩ : Fin 512) j : S512x512.Idx) = hiR.emb (ix2 i j) := by
    funext a; fin_cases a <;> apply Fin.ext <;> simp [Rect.emb, Rect.unit, ix2]
  rw [h]
  exact View.canon_cons_emb hiR q _ (ix2 i j)

theorem canon_lo {e : EltTy} (q p : Vec Ideal S256x512 e) (i : Fin 256) (j : Fin 512) :
    View.canon (stored q p) (ix2 (⟨i.val, by omega⟩ : Fin 512) j) = p (ix2 i j) := by
  have h : (ix2 (⟨i.val, by omega⟩ : Fin 512) j : S512x512.Idx) = loR.emb (ix2 i j) := by
    funext a; fin_cases a <;> apply Fin.ext <;> simp [Rect.emb, Rect.unit, ix2]
  rw [View.canon_cons_of_not_mem]
  · rw [h]
    exact View.canon_cons_emb loR p _ (ix2 i j)
  · intro hm
    obtain ⟨z, hz⟩ := hiR.exists_idx_of_mem hm
    have := congrArg (fun z : S512x512.Idx => (z 0).val) hz
    simp [Rect.emb, Rect.unit, ix2] at this
    omega

section

variable {e : EltTy}

/-- A load inside the rows of batch entry 1. -/
theorem load_hi {m n o l : ℕ} (v : Memref sig .tc .vmem S512x512 e) (q p : Vec Ideal S256x512 e)
    (h : ∀ a, (![256 + o, l] : Fin 2 → Nat) a + (![m, n] : Fin 2 → Nat) a ≤ S512x512.size a) (ho : o + m ≤ 256) (hl : l + n ≤ 512) (i : Fin m) (j : Fin n) :
    v.view.readCov (stored q p) (Rect.unit (s := S512x512) ![256 + o, l] ![m, n] h).toLoadRect (ix2 i j) = q (ix2 ⟨o + i.val, by omega⟩ ⟨l + j.val, by omega⟩) := by
  rw [View.readCov_eq_canon']
  refine Eq.trans (congrArg (View.canon (stored q p)) ?_) (canon_hi q p ⟨o + i.val, by omega⟩ ⟨l + j.val, by omega⟩)
  funext a; fin_cases a <;> apply Fin.ext <;> simp [Rect.unit, ix2, Nat.add_assoc]

/-- A load inside the rows of batch entry 0. -/
theorem load_lo {m n o l : ℕ} (v : Memref sig .tc .vmem S512x512 e) (q p : Vec Ideal S256x512 e)
    (h : ∀ a, (![o, l] : Fin 2 → Nat) a + (![m, n] : Fin 2 → Nat) a ≤ S512x512.size a) (ho : o + m ≤ 256) (hl : l + n ≤ 512) (i : Fin m) (j : Fin n) :
    v.view.readCov (stored q p) (Rect.unit (s := S512x512) ![o, l] ![m, n] h).toLoadRect (ix2 i j) = p (ix2 ⟨o + i.val, by omega⟩ ⟨l + j.val, by omega⟩) := by
  rw [View.readCov_eq_canon']
  refine Eq.trans (congrArg (View.canon (stored q p)) ?_) (canon_lo q p ⟨o + i.val, by omega⟩ ⟨l + j.val, by omega⟩)
  funext a; fin_cases a <;> apply Fin.ext <;> simp [Rect.unit, ix2]

end

/-- Four heads' rows from position `t` on. -/
def seq (f : ℕ → ℕ → Fin 64 → ℝ) (t s : ℕ) : Seqs := fun h n l => f (4 * s + h) (t + n) l

/-- A chunk whose rows are those of the preparation's arrays from row `64 * c` on and column `256 * s` on. -/
structure Takes (x : Rows Ideal) (L : Prep.Loads Ideal) (c s : ℕ) (hc : 64 * c + 64 ≤ 256) (hs : 256 * s + 256 ≤ 512) : Prop where
  a : ∀ (i : Fin 64) (j : Fin 256), x.a (ix2 i j) = Prep.at' L (ix2 ⟨64 * c + i.val, by omega⟩ ⟨256 * s + j.val, by omega⟩)
  r : ∀ (i : Fin 64) (j : Fin 256), x.r (ix2 i j) = Prep.rt L (ix2 ⟨64 * c + i.val, by omega⟩ ⟨256 * s + j.val, by omega⟩)
  b : ∀ (i : Fin 64) (j : Fin 256), x.b (ix2 i j) = Prep.bt L (ix2 ⟨64 * c + i.val, by omega⟩ ⟨256 * s + j.val, by omega⟩)
  k : ∀ (i : Fin 64) (j : Fin 256), x.k (ix2 i j) = Prep.kt L (ix2 ⟨64 * c + i.val, by omega⟩ ⟨256 * s + j.val, by omega⟩)
  v : ∀ (i : Fin 64) (j : Fin 256), x.v (ix2 i j) = Prep.vt L (ix2 ⟨64 * c + i.val, by omega⟩ ⟨256 * s + j.val, by omega⟩)
  w : ∀ j : Fin 256, x.w (ix2 0 j) = Prep.wc L (ix2 ⟨64 * c + 63, by omega⟩ ⟨256 * s + j.val, by omega⟩)

/-- What a chunk of batch entry 0 loads. -/
theorem takes_lo (m18 m19 m20 m21 : Memref sig .tc .vmem S512x512 .bf16) (m22 m23 : Memref sig .tc .vmem S512x512 .f32) (L1 L0 : Prep.Loads Ideal)
    (c s : ℕ) (hc : 64 * c + 64 ≤ 256) (hs : 256 * s + 256 ≤ 512) (h : ∀ a, (![64 * c, 256 * s] : Fin 2 → Nat) a + S64x256.size a ≤ S512x512.size a)
    (hw : ∀ a, (![64 * c + 63, 256 * s] : Fin 2 → Nat) a + S1x256.size a ≤ S512x512.size a) :
    Takes ⟨m18.view.readCov (stored (Prep.at' L1) (Prep.at' L0)) (Rect.unit (s := S512x512) ![64 * c, 256 * s] S64x256.size h).toLoadRect,
      m19.view.readCov (stored (Prep.rt L1) (Prep.rt L0)) (Rect.unit (s := S512x512) ![64 * c, 256 * s] S64x256.size h).toLoadRect,
      m20.view.readCov (stored (Prep.bt L1) (Prep.bt L0)) (Rect.unit (s := S512x512) ![64 * c, 256 * s] S64x256.size h).toLoadRect,
      m21.view.readCov (stored (Prep.kt L1) (Prep.kt L0)) (Rect.unit (s := S512x512) ![64 * c, 256 * s] S64x256.size h).toLoadRect,
      m22.view.readCov (stored (Prep.vt L1) (Prep.vt L0)) (Rect.unit (s := S512x512) ![64 * c, 256 * s] S64x256.size h).toLoadRect,
      m23.view.readCov (stored (Prep.wc L1) (Prep.wc L0)) (Rect.unit (s := S512x512) ![64 * c + 63, 256 * s] S1x256.size hw).toLoadRect⟩ L0 c s hc hs :=
  ⟨fun i j => load_lo m18 _ _ h hc hs i j, fun i j => load_lo m19 _ _ h hc hs i j, fun i j => load_lo m20 _ _ h hc hs i j,
    fun i j => load_lo m21 _ _ h hc hs i j, fun i j => load_lo m22 _ _ h hc hs i j, fun j => load_lo m23 _ _ hw (by omega) hs 0 j⟩

/-- What a chunk of batch entry 1 loads. -/
theorem takes_hi (m18 m19 m20 m21 : Memref sig .tc .vmem S512x512 .bf16) (m22 m23 : Memref sig .tc .vmem S512x512 .f32) (L1 L0 : Prep.Loads Ideal)
    (c s : ℕ) (hc : 64 * c + 64 ≤ 256) (hs : 256 * s + 256 ≤ 512) (h : ∀ a, (![256 + 64 * c, 256 * s] : Fin 2 → Nat) a + S64x256.size a ≤ S512x512.size a)
    (hw : ∀ a, (![256 + (64 * c + 63), 256 * s] : Fin 2 → Nat) a + S1x256.size a ≤ S512x512.size a) :
    Takes ⟨m18.view.readCov (stored (Prep.at' L1) (Prep.at' L0)) (Rect.unit (s := S512x512) ![256 + 64 * c, 256 * s] S64x256.size h).toLoadRect,
      m19.view.readCov (stored (Prep.rt L1) (Prep.rt L0)) (Rect.unit (s := S512x512) ![256 + 64 * c, 256 * s] S64x256.size h).toLoadRect,
      m20.view.readCov (stored (Prep.bt L1) (Prep.bt L0)) (Rect.unit (s := S512x512) ![256 + 64 * c, 256 * s] S64x256.size h).toLoadRect,
      m21.view.readCov (stored (Prep.kt L1) (Prep.kt L0)) (Rect.unit (s := S512x512) ![256 + 64 * c, 256 * s] S64x256.size h).toLoadRect,
      m22.view.readCov (stored (Prep.vt L1) (Prep.vt L0)) (Rect.unit (s := S512x512) ![256 + 64 * c, 256 * s] S64x256.size h).toLoadRect,
      m23.view.readCov (stored (Prep.wc L1) (Prep.wc L0)) (Rect.unit (s := S512x512) ![256 + (64 * c + 63), 256 * s] S1x256.size hw).toLoadRect⟩ L1 c s hc hs :=
  ⟨fun i j => load_hi m18 _ _ h hc hs i j, fun i j => load_hi m19 _ _ h hc hs i j, fun i j => load_hi m20 _ _ h hc hs i j,
    fun i j => load_hi m21 _ _ h hc hs i j, fun i j => load_hi m22 _ _ h hc hs i j, fun j => load_hi m23 _ _ hw (by omega) hs 0 j⟩

theorem holds_of {x : Rows Ideal} {L : Prep.Loads Ideal} {P : Args} {b t c s : ℕ} {hc : 64 * c + 64 ≤ 256} {hs : 256 * s + 256 ≤ 512}
    (h : Takes x L c s hc hs) (hL : Prep.Has L P b t) :
    Holds x (seq (P.hld b) (t + 64 * c) s) (seq (P.ha b) (t + 64 * c) s) (seq (P.hb b) (t + 64 * c) s) (seq (P.hk b) (t + 64 * c) s)
      (seq (P.hv b) (t + 64 * c) s) (seq (P.hr b) (t + 64 * c) s) := by
  have e1 : ∀ i : Fin 64, (64 * c + i.val) % 64 = i.val := fun i => by omega
  have e2 : ∀ i : Fin 64, (64 * c + i.val) / 64 = c := fun i => by omega
  have e3 : ∀ (h : Fin 4) (l : Fin 64), 256 * s + (col h l).val = 64 * (4 * s + h.val) + l.val := fun h l => by
    show 256 * s + (64 * h.val + l.val) = _; omega
  have e4 : ∀ i : ℕ, t + (64 * c + i) = t + 64 * c + i := fun i => (Nat.add_assoc _ _ _).symm
  refine ⟨fun h' i l => (h.a i _).trans ?_, fun h' i l => (h.r i _).trans ?_, fun h' i l => (h.b i _).trans ?_, fun h' i l => (h.k i _).trans ?_,
    fun h' i l => (h.v i _).trans ?_, fun h' l => (h.w _).trans ?_⟩
  · rw [Prep.at_at hL]; simp only [e1, e2, e3, e4]; rfl
  · rw [Prep.rt_at hL]; simp only [e1, e2, e3, e4]; rfl
  · rw [Prep.bt_at hL]; simp only [e1, e2, e3, e4]; rfl
  · rw [Prep.kt_at hL]; simp only [e1, e2, e3, e4]; rfl
  · rw [Prep.vt_at hL]; simp only [e3, e4]; rfl
  · rw [Prep.wc_at hL]
    have e1' : (64 * c + 63) % 64 = 63 := by omega
    have e2' : (64 * c + 63) / 64 = c := by omega
    simp only [e1', e2', e3, e4]; rfl

/-- A chain's state holds its heads' states before position `t`. -/
abbrev HoldsState (S : FVec Ideal S64x256 .f32) (P : Args) (b t s : ℕ) : Prop := IsR S fun h => P.st b t (4 * s + h)

theorem y_takes {x : Rows Ideal} {L : Prep.Loads Ideal} {P : Args} {b t c s : ℕ} {hc : 64 * c + 64 ≤ 256} {hs : 256 * s + 256 ≤ 512}
    {S : FVec Ideal S64x256 .f32} (h : Takes x L c s hc hs) (hL : Prep.Has L P b t) (hS : HoldsState S P b (t + 64 * c) s) :
    IsR (y x S) fun h i l => P.y b (t + 64 * c + i) (4 * s + h) l :=
  isR_congr (y_holds (holds_of h hL) hS) (funext fun h => Matrix.ext fun i l => by
    rw [Args.y, Nat.add_assoc (t + 64 * c) i.val 1, P.st_add b (i.val + 1) (4 * s + h.val) (t + 64 * c)]
    rfl)

theorem next_takes {x : Rows Ideal} {L : Prep.Loads Ideal} {P : Args} {b t c s : ℕ} {hc : 64 * c + 64 ≤ 256} {hs : 256 * s + 256 ≤ 512}
    {S : FVec Ideal S64x256 .f32} (h : Takes x L c s hc hs) (hL : Prep.Has L P b t) (hS : HoldsState S P b (t + 64 * c) s) :
    HoldsState (next x S) P b (t + 64 * (c + 1)) s :=
  isR_congr (next_holds (holds_of h hL) hS) (funext fun h => by
    rw [show t + 64 * (c + 1) = t + 64 * c + 64 by omega, P.st_add b 64 (4 * s + h.val) (t + 64 * c)]
    rfl)

/-- The recurrence's rows over the two batch entries' rows of a grid point. -/
def rowsG (P : Args) (t : ℕ) (y : S512x512.Idx) : EReal := ((P.yc ((y 0).val / 256) (t + (y 0).val % 256) (y 1).val : ℝ) : EReal)

theorem block {P : Args} {t b c s : ℕ} {w : Vec Ideal S64x256 .f32} {o l : ℕ} (h : IsR w fun h i l => P.y b (t + 64 * c + i) (4 * s + h) l)
    (inb : ∀ a, (![o, l] : Fin 2 → Nat) a + S64x256.size a ≤ S512x512.size a) (ho : o = 256 * b + 64 * c := by rfl) (hl : l = 256 * s := by rfl)
    (hc : 64 * c + 64 ≤ 256 := by decide) (z : S64x256.Idx) :
    w z = rowsG P t ((Rect.unit (s := S512x512) ![o, l] S64x256.size inb).emb z) := by
  obtain ⟨i, j, rfl⟩ : ∃ (i : Fin 64) (j : Fin 256), z = ix2 i j := ⟨z 0, z 1, eq_ix2 z⟩
  obtain ⟨k, m, rfl⟩ : ∃ (k : Fin 4) (m : Fin 64), j = col k m := ⟨⟨j.val / 64, by omega⟩, ⟨j.val % 64, by omega⟩, Fin.ext (by show j.val = 64 * (j.val / 64) + j.val % 64; omega)⟩
  refine (h k i m).trans ?_
  subst ho hl
  have e0 : (((Rect.unit (s := S512x512) ![256 * b + 64 * c, 256 * s] S64x256.size inb).emb (ix2 i (col k m))) 0).val = 256 * b + 64 * c + i.val := by
    simp [Rect.emb, Rect.unit, ix2]
  have e1 : (((Rect.unit (s := S512x512) ![256 * b + 64 * c, 256 * s] S64x256.size inb).emb (ix2 i (col k m))) 1).val = 64 * (4 * s + k.val) + m.val := by
    have : (col k m).val = 64 * k.val + m.val := rfl
    simp [Rect.emb, Rect.unit, ix2]; omega
  rw [rowsG, e0, e1, Args.yc]
  have f1 : (64 * (4 * s + k.val) + m.val) / 64 = 4 * s + k.val := by omega
  have f2 : (64 * (4 * s + k.val) + m.val) % 64 = m.val := by omega
  have f3 : (256 * b + 64 * c + i.val) / 256 = b := by omega
  have f4 : t + (256 * b + 64 * c + i.val) % 256 = t + 64 * c + i.val := by omega
  simp only [f1, f2, f3, f4]

theorem mem_rect (o l : ℕ) (inb : ∀ a, (![o, l] : Fin 2 → Nat) a + S64x256.size a ≤ S512x512.size a) (p j : Fin 512)
    (h1 : o ≤ p.val) (h2 : p.val < o + 64) (h3 : l ≤ j.val) (h4 : j.val < l + 256) :
    (ix2 p j : S512x512.Idx) ∈ (Rect.unit (s := S512x512) ![o, l] S64x256.size inb).set := by
  have e : (ix2 p j : S512x512.Idx) = (Rect.unit (s := S512x512) ![o, l] S64x256.size inb).emb
      (ix2 (⟨p.val - o, by omega⟩ : Fin 64) (⟨j.val - l, by omega⟩ : Fin 256)) := by
    funext a; fin_cases a <;> apply Fin.ext <;> simp [Rect.emb, Rect.unit, ix2] <;> omega
  rw [e]
  exact LoadRect.idx_mem _ _

/-- The sixteen chunks' stores hold the recurrence's rows. -/
theorem rows_at {P : Args} {t : ℕ} {w3_3 w3_2 w3_1 w3_0 w2_3 w2_2 w2_1 w2_0 w1_3 w1_2 w1_1 w1_0 w0_3 w0_2 w0_1 w0_0 : Vec Ideal S64x256 .f32}
    (h3_3 : IsR w3_3 fun h i l => P.y 1 (t + 64 * 3 + i) (4 * 1 + h) l) (h3_2 : IsR w3_2 fun h i l => P.y 1 (t + 64 * 3 + i) (4 * 0 + h) l) (h3_1 : IsR w3_1 fun h i l => P.y 0 (t + 64 * 3 + i) (4 * 1 + h) l) (h3_0 : IsR w3_0 fun h i l => P.y 0 (t + 64 * 3 + i) (4 * 0 + h) l) (h2_3 : IsR w2_3 fun h i l => P.y 1 (t + 64 * 2 + i) (4 * 1 + h) l) (h2_2 : IsR w2_2 fun h i l => P.y 1 (t + 64 * 2 + i) (4 * 0 + h) l) (h2_1 : IsR w2_1 fun h i l => P.y 0 (t + 64 * 2 + i) (4 * 1 + h) l) (h2_0 : IsR w2_0 fun h i l => P.y 0 (t + 64 * 2 + i) (4 * 0 + h) l) (h1_3 : IsR w1_3 fun h i l => P.y 1 (t + 64 * 1 + i) (4 * 1 + h) l) (h1_2 : IsR w1_2 fun h i l => P.y 1 (t + 64 * 1 + i) (4 * 0 + h) l) (h1_1 : IsR w1_1 fun h i l => P.y 0 (t + 64 * 1 + i) (4 * 1 + h) l) (h1_0 : IsR w1_0 fun h i l => P.y 0 (t + 64 * 1 + i) (4 * 0 + h) l) (h0_3 : IsR w0_3 fun h i l => P.y 1 (t + 64 * 0 + i) (4 * 1 + h) l) (h0_2 : IsR w0_2 fun h i l => P.y 1 (t + 64 * 0 + i) (4 * 0 + h) l) (h0_1 : IsR w0_1 fun h i l => P.y 0 (t + 64 * 0 + i) (4 * 1 + h) l) (h0_0 : IsR w0_0 fun h i l => P.y 0 (t + 64 * 0 + i) (4 * 0 + h) l) (p j : Fin 512) :
    View.canon ([⟨Rect.unit (s := S512x512) ![448, 256] S64x256.size inb_S512x512_S64x256_448_256, w3_3⟩,
    ⟨Rect.unit (s := S512x512) ![448, 0] S64x256.size inb_S512x512_S64x256_448_0, w3_2⟩,
    ⟨Rect.unit (s := S512x512) ![192, 256] S64x256.size inb_S512x512_S64x256_192_256, w3_1⟩,
    ⟨Rect.unit (s := S512x512) ![192, 0] S64x256.size inb_S512x512_S64x256_192_0, w3_0⟩,
    ⟨Rect.unit (s := S512x512) ![384, 256] S64x256.size inb_S512x512_S64x256_384_256, w2_3⟩,
    ⟨Rect.unit (s := S512x512) ![384, 0] S64x256.size inb_S512x512_S64x256_384_0, w2_2⟩,
    ⟨Rect.unit (s := S512x512) ![128, 256] S64x256.size inb_S512x512_S64x256_128_256, w2_1⟩,
    ⟨Rect.unit (s := S512x512) ![128, 0] S64x256.size inb_S512x512_S64x256_128_0, w2_0⟩,
    ⟨Rect.unit (s := S512x512) ![320, 256] S64x256.size inb_S512x512_S64x256_320_256, w1_3⟩,
    ⟨Rect.unit (s := S512x512) ![320, 0] S64x256.size inb_S512x512_S64x256_320_0, w1_2⟩,
    ⟨Rect.unit (s := S512x512) ![64, 256] S64x256.size inb_S512x512_S64x256_64_256, w1_1⟩,
    ⟨Rect.unit (s := S512x512) ![64, 0] S64x256.size inb_S512x512_S64x256_64_0, w1_0⟩,
    ⟨Rect.unit (s := S512x512) ![256, 256] S64x256.size inb_S512x512_S64x256_256_256, w0_3⟩,
    ⟨Rect.unit (s := S512x512) ![256, 0] S64x256.size inb_S512x512_S64x256_256_0, w0_2⟩,
    ⟨Rect.unit (s := S512x512) ![0, 256] S64x256.size inb_S512x512_S64x256_0_256, w0_1⟩,
    ⟨Rect.unit (s := S512x512) ![0, 0] S64x256.size inb_S512x512_S64x256_0_0, w0_0⟩] : List (View.Piece (Elt Ideal) S512x512 .f32)) (ix2 p j) = rowsG P t (ix2 p j) := by
  refine View.canon_apply_of_pieces (Val := Elt Ideal) (e := .f32) (rowsG P t) _ ?_ (ix2 p j) ?_
  · intro q hq
    simp only [List.mem_cons, List.not_mem_nil, or_false] at hq
    rcases hq with rfl | rfl | rfl | rfl | rfl | rfl | rfl | rfl | rfl | rfl | rfl | rfl | rfl | rfl | rfl | rfl
    · exact block h3_3 inb_S512x512_S64x256_448_256
    · exact block h3_2 inb_S512x512_S64x256_448_0
    · exact block h3_1 inb_S512x512_S64x256_192_256
    · exact block h3_0 inb_S512x512_S64x256_192_0
    · exact block h2_3 inb_S512x512_S64x256_384_256
    · exact block h2_2 inb_S512x512_S64x256_384_0
    · exact block h2_1 inb_S512x512_S64x256_128_256
    · exact block h2_0 inb_S512x512_S64x256_128_0
    · exact block h1_3 inb_S512x512_S64x256_320_256
    · exact block h1_2 inb_S512x512_S64x256_320_0
    · exact block h1_1 inb_S512x512_S64x256_64_256
    · exact block h1_0 inb_S512x512_S64x256_64_0
    · exact block h0_3 inb_S512x512_S64x256_256_256
    · exact block h0_2 inb_S512x512_S64x256_256_0
    · exact block h0_1 inb_S512x512_S64x256_0_256
    · exact block h0_0 inb_S512x512_S64x256_0_0
  · have hp := p.isLt
    have hj := j.isLt
    rcases (by omega : (0 ≤ p.val ∧ p.val < 64 ∧ 0 ≤ j.val ∧ j.val < 256) ∨ (0 ≤ p.val ∧ p.val < 64 ∧ 256 ≤ j.val ∧ j.val < 512) ∨ (64 ≤ p.val ∧ p.val < 128 ∧ 0 ≤ j.val ∧ j.val < 256) ∨ (64 ≤ p.val ∧ p.val < 128 ∧ 256 ≤ j.val ∧ j.val < 512) ∨ (128 ≤ p.val ∧ p.val < 192 ∧ 0 ≤ j.val ∧ j.val < 256) ∨ (128 ≤ p.val ∧ p.val < 192 ∧ 256 ≤ j.val ∧ j.val < 512) ∨ (192 ≤ p.val ∧ p.val < 256 ∧ 0 ≤ j.val ∧ j.val < 256) ∨ (192 ≤ p.val ∧ p.val < 256 ∧ 256 ≤ j.val ∧ j.val < 512) ∨ (256 ≤ p.val ∧ p.val < 320 ∧ 0 ≤ j.val ∧ j.val < 256) ∨ (256 ≤ p.val ∧ p.val < 320 ∧ 256 ≤ j.val ∧ j.val < 512) ∨ (320 ≤ p.val ∧ p.val < 384 ∧ 0 ≤ j.val ∧ j.val < 256) ∨ (320 ≤ p.val ∧ p.val < 384 ∧ 256 ≤ j.val ∧ j.val < 512) ∨ (384 ≤ p.val ∧ p.val < 448 ∧ 0 ≤ j.val ∧ j.val < 256) ∨ (384 ≤ p.val ∧ p.val < 448 ∧ 256 ≤ j.val ∧ j.val < 512) ∨ (448 ≤ p.val ∧ p.val < 512 ∧ 0 ≤ j.val ∧ j.val < 256) ∨ (448 ≤ p.val ∧ p.val < 512 ∧ 256 ≤ j.val ∧ j.val < 512)) with h | h | h | h | h | h | h | h | h | h | h | h | h | h | h | h
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_rect 0 0 inb_S512x512_S64x256_0_0 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_rect 0 256 inb_S512x512_S64x256_0_256 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_rect 64 0 inb_S512x512_S64x256_64_0 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_rect 64 256 inb_S512x512_S64x256_64_256 p j (by omega) (by omega) (by omega) (by omega)⟩
    · exact ⟨_, List.Mem.tail _ (List.Mem.tail _ (List.Mem.tail _ (List.Mem.tail _ (List.Mem.tail _ (List.Mem.tail _ (List.Mem.tail _ (List.Mem.head _))))))), mem_rect 128 0 inb_S512x512_S64x256_128_0 p j (by omega) (by omega) (by omega) (by omega)⟩
    · exact ⟨_, List.Mem.tail _ (List.Mem.tail _ (List.Mem.tail _ (List.Mem.tail _ (List.Mem.tail _ (List.Mem.tail _ (List.Mem.head _)))))), mem_rect 128 256 inb_S512x512_S64x256_128_256 p j (by omega) (by omega) (by omega) (by omega)⟩
    · exact ⟨_, List.Mem.tail _ (List.Mem.tail _ (List.Mem.tail _ (List.Mem.head _))), mem_rect 192 0 inb_S512x512_S64x256_192_0 p j (by omega) (by omega) (by omega) (by omega)⟩
    · exact ⟨_, List.Mem.tail _ (List.Mem.tail _ (List.Mem.head _)), mem_rect 192 256 inb_S512x512_S64x256_192_256 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_rect 256 0 inb_S512x512_S64x256_256_0 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_rect 256 256 inb_S512x512_S64x256_256_256 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_rect 320 0 inb_S512x512_S64x256_320_0 p j (by omega) (by omega) (by omega) (by omega)⟩
    · exact ⟨_, List.Mem.tail _ (List.Mem.tail _ (List.Mem.tail _ (List.Mem.tail _ (List.Mem.tail _ (List.Mem.tail _ (List.Mem.tail _ (List.Mem.tail _ (List.Mem.head _)))))))), mem_rect 320 256 inb_S512x512_S64x256_320_256 p j (by omega) (by omega) (by omega) (by omega)⟩
    · exact ⟨_, List.Mem.tail _ (List.Mem.tail _ (List.Mem.tail _ (List.Mem.tail _ (List.Mem.tail _ (List.Mem.head _))))), mem_rect 384 0 inb_S512x512_S64x256_384_0 p j (by omega) (by omega) (by omega) (by omega)⟩
    · exact ⟨_, List.Mem.tail _ (List.Mem.tail _ (List.Mem.tail _ (List.Mem.tail _ (List.Mem.head _)))), mem_rect 384 256 inb_S512x512_S64x256_384_256 p j (by omega) (by omega) (by omega) (by omega)⟩
    · exact ⟨_, List.Mem.tail _ (List.Mem.head _), mem_rect 448 0 inb_S512x512_S64x256_448_0 p j (by omega) (by omega) (by omega) (by omega)⟩
    · exact ⟨_, List.Mem.head _, mem_rect 448 256 inb_S512x512_S64x256_448_256 p j (by omega) (by omega) (by omega) (by omega)⟩

end Cert.RwkvIdeal.Chunk
-- ==== Proof.RwkvOut.lean ====
/- What a grid point is given and what it leaves, entry by entry: the blocks it reads, the states and the last row it carries,
   and how a list of stores along the first axis is read back. -/
module

public import proofs.«01_k».proof.Proof.RwkvWindow

@[expose] public section

set_option maxRecDepth 65536

noncomputable section

namespace Cert.RwkvIdeal.Chunk

open Idealize.ShloMosaic Idealize.SL.Sem Cert.RwkvIdeal.Gen Cert.RwkvSpec

/-- The blocks a grid point reads hold the arguments, the columns from position `t` on. -/
structure Raw (x0 : Vec Ideal S2x256x1920 .f32) (x1 : Vec Ideal S1x1920 .f32) (x2 : Vec Ideal S1x512 .f32) (x3 : Vec Ideal S128x512 .bf16)
    (x4 : Vec Ideal S1x512 .f32) (x5 : Vec Ideal S128x512 .bf16) (x6 : Vec Ideal S256x512 .bf16) (x7 : Vec Ideal S1x512 .f32)
    (x8 : Vec Ideal S1x512 .f32) (x9 : Vec Ideal S1x512 .f32) (x10 : Vec Ideal S1x512 .f32) (x11 : Vec Ideal S1x512 .f32)
    (x12 : Vec Ideal S512x512 .bf16) (x13 : Vec Ideal S256x256 .bf16) (P : Args) (t : ℕ) : Prop where
  x : ∀ (b : Fin 2) (p : Fin 256) (j : Fin 1920), (x0 (ix3 b p j) : EReal) = ((P.cols b (t + p) j : ℝ) : EReal)
  mu : ∀ j : Fin 1920, (x1 (ix2 0 j) : EReal) = ((P.mu j : ℝ) : EReal)
  w0 : ∀ j : Fin 512, (x2 (ix2 0 j) : EReal) = ((P.w0 j : ℝ) : EReal)
  w2 : ∀ (l : Fin 128) (j : Fin 512), (x3 (ix2 l j) : EReal) = ((if l.val < 64 then P.w2 l j else 0 : ℝ) : EReal)
  a0 : ∀ j : Fin 512, (x4 (ix2 0 j) : EReal) = ((P.a0 j : ℝ) : EReal)
  a2 : ∀ (l : Fin 128) (j : Fin 512), (x5 (ix2 l j) : EReal) = ((if l.val < 64 then 0 else P.a2 (l - 64) j : ℝ) : EReal)
  g2 : ∀ (l : Fin 256) (j : Fin 512), (x6 (ix2 l j) : EReal) = ((if l.val < 160 then P.g2 l j else 0 : ℝ) : EReal)
  kk : ∀ j : Fin 512, (x7 (ix2 0 j) : EReal) = ((P.kk j : ℝ) : EReal)
  ka : ∀ j : Fin 512, (x8 (ix2 0 j) : EReal) = ((P.ka j : ℝ) : EReal)
  rk : ∀ j : Fin 512, (x9 (ix2 0 j) : EReal) = ((P.rk j : ℝ) : EReal)
  lw : ∀ j : Fin 512, (x10 (ix2 0 j) : EReal) = ((P.lw j : ℝ) : EReal)
  lb : ∀ j : Fin 512, (x11 (ix2 0 j) : EReal) = ((P.lb j : ℝ) : EReal)
  gm : ∀ i j : Fin 512, (x12 (ix2 i j) : EReal) = ((if i.val / 64 = j.val / 64 then 1 else 0 : ℝ) : EReal)
  lt : ∀ i j : Fin 256, (x13 (ix2 i j) : EReal) = ((if i.val / 64 = j.val / 64 ∧ j.val ≤ i.val then 1 else 0 : ℝ) : EReal)

/-- What is carried before position `t`: the four chains' states and the row before, one for each batch entry. -/
structure Carry (xs0 : Vec Ideal S4x64x256 .f32) (xs1 : Vec Ideal S2x8x1920 .f32) (P : Args) (t : ℕ) : Prop where
  st : ∀ (i : Fin 4) (h : Fin 4) (r l : Fin 64), (xs0 (ix3 i r (col h l)) : EReal) = ((P.st (i.val / 2) t (4 * (i.val % 2) + h) r l : ℝ) : EReal)
  pv : ∀ (b : Fin 2) (j : Fin 1920), (xs1 (ix3 b 0 j) : EReal) = ((P.prev b t j : ℝ) : EReal)

theorem read_at {S : Shape} {e : EltTy} (m : Memref sig .tc .vmem S e) (h : m.IsWhole) (x : Vec Ideal S e) (B : LoadRect S) (i : B.shape.Idx) :
    View.readAt (Elt Ideal) m.view B (h.unread x) i = x (B.idx i) := by
  rw [View.readAt_apply, h.read_unread]

/-- A whole matrix read. -/
theorem read_all {m n : ℕ} {e : EltTy} (v : Memref sig .tc .vmem ⟨2, ![m, n]⟩ e) (h : v.IsWhole) (x : Vec Ideal ⟨2, ![m, n]⟩ e)
    (inb : ∀ a, (![0, 0] : Fin 2 → Nat) a + (![m, n] : Fin 2 → Nat) a ≤ (⟨2, ![m, n]⟩ : Shape).size a) (i : Fin m) (j : Fin n) :
    View.readAt (Elt Ideal) v.view (Rect.unit (s := ⟨2, ![m, n]⟩) ![0, 0] ![m, n] inb).toLoadRect (h.unread x) (ix2 i j) = x (ix2 i j) := by
  rw [read_at]
  congr 1
  funext a; fin_cases a <;> apply Fin.ext <;> simp [Rect.unit, ix2]

/-- One slab along the first axis read. -/
theorem read_slab {B M N m n : ℕ} {e : EltTy} (v : Memref sig .tc .vmem ⟨3, ![B, M, N]⟩ e) (h : v.IsWhole) (x : Vec Ideal ⟨3, ![B, M, N]⟩ e) (b : ℕ)
    (inb : ∀ a, (![b, 0, 0] : Fin 3 → Nat) a + (![1, m, n] : Fin 3 → Nat) a ≤ (⟨3, ![B, M, N]⟩ : Shape).size a) (hb : b < B) (hm : m ≤ M) (hn : n ≤ N)
    (r : Fin m) (j : Fin n) :
    View.readAt (Elt Ideal) v.view (Rect.unit (s := ⟨3, ![B, M, N]⟩) ![b, 0, 0] ![1, m, n] inb).toLoadRect (h.unread x) (ix3 0 r j)
      = x (ix3 ⟨b, hb⟩ ⟨r, by omega⟩ ⟨j, by omega⟩) := by
  rw [read_at]
  congr 1
  funext a; fin_cases a <;> apply Fin.ext <;> simp [Rect.unit, ix3]

section

variable {B M N m n b : ℕ} {e : EltTy} (inb : ∀ a, (![b, 0, 0] : Fin 3 → Nat) a + (![1, m, n] : Fin 3 → Nat) a ≤ (⟨3, ![B, M, N]⟩ : Shape).size a)
  (w : Vec Ideal ⟨3, ![1, m, n]⟩ e) (L : List (View.Piece (Elt Ideal) ⟨3, ![B, M, N]⟩ e)) (a : Fin B) (r : Fin M) (j : Fin N)

/-- The last store read where it was made. -/
theorem canon_same (ha : a.val = b) (hr : r.val < m) (hj : j.val < n) :
    View.canon (⟨Rect.unit (s := ⟨3, ![B, M, N]⟩) ![b, 0, 0] ![1, m, n] inb, w⟩ :: L) (ix3 a r j) = w (ix3 0 ⟨r, hr⟩ ⟨j, hj⟩) := by
  have h : (ix3 a r j : (⟨3, ![B, M, N]⟩ : Shape).Idx) = (Rect.unit (s := ⟨3, ![B, M, N]⟩) ![b, 0, 0] ![1, m, n] inb).emb
      (ix3 (0 : Fin 1) (⟨r, hr⟩ : Fin m) (⟨j, hj⟩ : Fin n)) := by
    funext k; fin_cases k <;> apply Fin.ext <;> simp [Rect.emb, Rect.unit, ix3, ha]
  rw [h]
  exact View.canon_cons_emb (Val := Elt Ideal) (e := e) (Rect.unit (s := ⟨3, ![B, M, N]⟩) ![b, 0, 0] ![1, m, n] inb) w L _

/-- The last store does not matter at another slab. -/
theorem canon_other (ha : a.val ≠ b) :
    View.canon (⟨Rect.unit (s := ⟨3, ![B, M, N]⟩) ![b, 0, 0] ![1, m, n] inb, w⟩ :: L) (ix3 a r j) = View.canon L (ix3 a r j) := by
  refine View.canon_cons_of_not_mem _ _ fun hm => ha ?_
  obtain ⟨z, hz⟩ := (Rect.unit (s := ⟨3, ![B, M, N]⟩) ![b, 0, 0] ![1, m, n] inb).exists_idx_of_mem hm
  have h0 : b + 1 * (z 0).val = a.val := congrArg (fun z => (z 0).val) hz
  have h1 : (z 0).val < 1 := (z 0).isLt
  omega

end

/-- One row's rectangle of the carried rows. -/
theorem mem_row (b : Fin 2) (inb : ∀ a, (![b.val, 0, 0] : Fin 3 → Nat) a + S1x1x1920.size a ≤ S2x8x1920.size a) (j : Fin 1920) :
    (ix3 b 0 j : S2x8x1920.Idx) ∈ (Rect.unit (s := S2x8x1920) ![b.val, 0, 0] S1x1x1920.size inb).set := by
  have h : (ix3 b 0 j : S2x8x1920.Idx) = (Rect.unit (s := S2x8x1920) ![b.val, 0, 0] S1x1x1920.size inb).emb (ix3 (0 : Fin 1) (0 : Fin 1) j) := by
    funext k; fin_cases k <;> apply Fin.ext <;> simp [Rect.emb, Rect.unit, ix3]
  rw [h]
  exact LoadRect.idx_mem _ _

theorem rowsG_at (P : Args) (t : ℕ) (b : Fin 2) (p : Fin 256) (j : Fin 512) :
    rowsG P t (ix2 (⟨256 * b.val + p.val, by omega⟩ : Fin 512) j) = ((P.yc b (t + p) j : ℝ) : EReal) := by
  have h1 : (256 * b.val + p.val) / 256 = b.val := by omega
  have h2 : (256 * b.val + p.val) % 256 = p.val := by omega
  show ((P.yc ((256 * b.val + p.val) / 256) (t + (256 * b.val + p.val) % 256) j.val : ℝ) : EReal) = _
  rw [h1, h2]

/-- A chain's state as it is stored. -/
def up (S : FVec Ideal S64x256 .f32) : FVec Ideal S1x64x256 .f32 := k0_pay553 S

theorem up_at (S : FVec Ideal S64x256 .f32) (r : Fin 64) (j : Fin 256) : (up S (ix3 0 r j) : EReal) = S (ix2 r j) := by
  pointwise [up, k0_pay553]

theorem down_at (S : Vec Ideal S1x64x256 .f32) (r : Fin 64) (j : Fin 256) :
    ((shapeCast S64x256 S shapeCasts_S1x64x256_S64x256 : FVec Ideal S64x256 .f32) (ix2 r j) : EReal) = S (ix3 0 r j) := by
  pointwise []

/-- The last row of a batch entry's columns, as it is stored. -/
theorem last_at (x : Vec Ideal S1x256x1920 .f32) (j : Fin 1920) : (k0_pay6 x (ix3 0 0 j) : EReal) = x (ix3 0 255 j) := by
  pointwise [k0_pay6, k0_pay5]

theorem zeros0_at (y : S4x64x256.Idx) : (k0_pay2 (F := Ideal) y : EReal) = 0 := by
  pointwise [k0_pay2]

theorem zeros1_at (y : S2x8x1920.Idx) : (k0_pay3 (F := Ideal) y : EReal) = 0 := by
  pointwise [k0_pay3]

/-- The states stored by the four chains, read back. -/
theorem states_canon {S0 S1 S2 S3 : FVec Ideal S64x256 .f32} {P : Args} {t : ℕ} (h0 : HoldsState S0 P 0 t 0) (h1 : HoldsState S1 P 0 t 1)
    (h2 : HoldsState S2 P 1 t 0) (h3 : HoldsState S3 P 1 t 1) (L : List (View.Piece (Elt Ideal) S4x64x256 .f32)) (i : Fin 4) (h : Fin 4) (r l : Fin 64) :
    (View.canon (⟨Rect.unit (s := S4x64x256) ![3, 0, 0] S1x64x256.size inb_S4x64x256_S1x64x256_3_0_0, up S3⟩ ::
      ⟨Rect.unit (s := S4x64x256) ![2, 0, 0] S1x64x256.size inb_S4x64x256_S1x64x256_2_0_0, up S2⟩ ::
      ⟨Rect.unit (s := S4x64x256) ![1, 0, 0] S1x64x256.size inb_S4x64x256_S1x64x256_1_0_0, up S1⟩ ::
      ⟨Rect.unit (s := S4x64x256) ![0, 0, 0] S1x64x256.size inb_S4x64x256_S1x64x256_0_0_0, up S0⟩ :: L) (ix3 i r (col h l)) : EReal)
      = ((P.st (i.val / 2) t (4 * (i.val % 2) + h) r l : ℝ) : EReal) := by
  obtain rfl | rfl | rfl | rfl : i = 0 ∨ i = 1 ∨ i = 2 ∨ i = 3 := (by decide : ∀ z : Fin 4, z = 0 ∨ z = 1 ∨ z = 2 ∨ z = 3) i
  · exact (canon_other (b := 3) _ _ _ _ r (col h l) (by decide)).trans ((canon_other (b := 2) _ _ _ _ r (col h l) (by decide)).trans
      ((canon_other (b := 1) _ _ _ _ r (col h l) (by decide)).trans ((canon_same (b := 0) _ _ _ _ r (col h l) rfl r.isLt (col h l).isLt).trans
      ((up_at S0 r (col h l)).trans (h0 h r l)))))
  · exact (canon_other (b := 3) _ _ _ _ r (col h l) (by decide)).trans ((canon_other (b := 2) _ _ _ _ r (col h l) (by decide)).trans
      ((canon_same (b := 1) _ _ _ _ r (col h l) rfl r.isLt (col h l).isLt).trans ((up_at S1 r (col h l)).trans (h1 h r l))))
  · exact (canon_other (b := 3) _ _ _ _ r (col h l) (by decide)).trans
      ((canon_same (b := 2) _ _ _ _ r (col h l) rfl r.isLt (col h l).isLt).trans ((up_at S2 r (col h l)).trans (h2 h r l)))
  · exact (canon_same (b := 3) _ _ _ _ r (col h l) rfl r.isLt (col h l).isLt).trans ((up_at S3 r (col h l)).trans (h3 h r l))

/-- The last rows stored, read back. -/
theorem lasts_canon {q p : Vec Ideal S1x256x1920 .f32} {P : Args} {t : ℕ} (h0 : ∀ j : Fin 1920, (p (ix3 0 255 j) : EReal) = ((P.cols 0 (t + 255) j : ℝ) : EReal))
    (h1 : ∀ j : Fin 1920, (q (ix3 0 255 j) : EReal) = ((P.cols 1 (t + 255) j : ℝ) : EReal)) (L : List (View.Piece (Elt Ideal) S2x8x1920 .f32)) (b : Fin 2) (j : Fin 1920) :
    (View.canon (⟨Rect.unit (s := S2x8x1920) ![1, 0, 0] S1x1x1920.size inb_S2x8x1920_S1x1x1920_1_0_0, k0_pay6 q⟩ ::
      ⟨Rect.unit (s := S2x8x1920) ![0, 0, 0] S1x1x1920.size inb_S2x8x1920_S1x1x1920_0_0_0, k0_pay6 p⟩ :: L) (ix3 b 0 j) : EReal)
      = ((P.prev b (t + 256) j : ℝ) : EReal) := by
  have e : P.prev b (t + 256) j = P.cols b (t + 255) j := by
    unfold Args.prev
    rw [if_neg (by omega)]
    rfl
  rw [e]
  obtain rfl | rfl : b = 0 ∨ b = 1 := (by decide : ∀ z : Fin 2, z = 0 ∨ z = 1) b
  · exact (canon_other (b := 1) _ _ _ _ 0 j (by decide)).trans ((canon_same (b := 0) _ _ _ _ 0 j rfl (by decide) j.isLt).trans ((last_at p j).trans (h0 j)))
  · exact (canon_same (b := 1) _ _ _ _ 0 j rfl (by decide) j.isLt).trans ((last_at q j).trans (h1 j))

/-- Those two rows are stored. -/
theorem lasts_mem (w q : Vec Ideal S1x1x1920 .f32) (b : Fin 2) (j : Fin 1920) :
    ∃ p ∈ ([⟨Rect.unit (s := S2x8x1920) ![1, 0, 0] S1x1x1920.size inb_S2x8x1920_S1x1x1920_1_0_0, w⟩,
      ⟨Rect.unit (s := S2x8x1920) ![0, 0, 0] S1x1x1920.size inb_S2x8x1920_S1x1x1920_0_0_0, q⟩] : List (View.Piece (Elt Ideal) S2x8x1920 .f32)),
      (ix3 b 0 j : S2x8x1920.Idx) ∈ p.1.set := by
  obtain rfl | rfl : b = 0 ∨ b = 1 := (by decide : ∀ z : Fin 2, z = 0 ∨ z = 1) b
  · exact ⟨_, List.Mem.tail _ (List.Mem.head _), mem_row 0 inb_S2x8x1920_S1x1x1920_0_0_0 j⟩
  · exact ⟨_, List.Mem.head _, mem_row 1 inb_S2x8x1920_S1x1x1920_1_0_0 j⟩

/-- The two output blocks stored, read back. -/
theorem outs_canon {q p : FVec Ideal S1x256x512 .bf16} {P : Args} {t : ℕ} (h0 : ∀ (r : Fin 256) (j : Fin 512), (p (ix3 0 r j) : EReal) = ((P.out 0 (t + r) j : ℝ) : EReal))
    (h1 : ∀ (r : Fin 256) (j : Fin 512), (q (ix3 0 r j) : EReal) = ((P.out 1 (t + r) j : ℝ) : EReal)) (b : Fin 2) (r : Fin 256) (j : Fin 512) :
    (View.canon ([⟨Rect.unit (s := S2x256x512) ![1, 0, 0] S1x256x512.size inb_S2x256x512_S1x256x512_1_0_0, q⟩,
      ⟨Rect.unit (s := S2x256x512) ![0, 0, 0] S1x256x512.size inb_S2x256x512_S1x256x512_0_0_0, p⟩] : List (View.Piece (Elt Ideal) S2x256x512 .bf16)) (ix3 b r j) : EReal)
      = ((P.out b (t + r) j : ℝ) : EReal) := by
  obtain rfl | rfl : b = 0 ∨ b = 1 := (by decide : ∀ z : Fin 2, z = 0 ∨ z = 1) b
  · exact (canon_other (b := 1) _ _ _ _ r j (by decide)).trans ((canon_same (b := 0) _ _ _ _ r j rfl r.isLt j.isLt).trans (h0 r j))
  · exact (canon_same (b := 1) _ _ _ _ r j rfl r.isLt j.isLt).trans (h1 r j)

section

variable {P : Args} {t : ℕ} (v : Memref sig .tc .vmem S512x512 .f32) {C : List (View.Piece (Elt Ideal) S512x512 .f32)}

/-- The recurrence's rows of batch entry 0, loaded. -/
theorem window_lo (h : ∀ p j : Fin 512, View.canon C (ix2 p j) = rowsG P t (ix2 p j)) (p : Fin 256) (j : Fin 512) :
    (v.view.readCov C (Rect.unit (s := S512x512) ![0, 0] S256x512.size inb_S512x512_S256x512_0_0).toLoadRect (ix2 p j) : EReal) = ((P.yc 0 (t + p) j : ℝ) : EReal) := by
  rw [View.readCov_eq_canon']
  have e : (Rect.unit (s := S512x512) ![0, 0] S256x512.size inb_S512x512_S256x512_0_0).toLoadRect.idx (ix2 p j) = ix2 (⟨256 * (0 : Fin 2).val + p.val, by simp; omega⟩ : Fin 512) j := by
    funext a; fin_cases a <;> apply Fin.ext <;> simp [Rect.unit, ix2]
  exact (congrArg (View.canon C) e).trans ((h _ _).trans (rowsG_at P t 0 p j))

/-- The recurrence's rows of batch entry 1, loaded. -/
theorem window_hi (h : ∀ p j : Fin 512, View.canon C (ix2 p j) = rowsG P t (ix2 p j)) (p : Fin 256) (j : Fin 512) :
    (v.view.readCov C (Rect.unit (s := S512x512) ![256, 0] S256x512.size inb_S512x512_S256x512_256_0).toLoadRect (ix2 p j) : EReal) = ((P.yc 1 (t + p) j : ℝ) : EReal) := by
  rw [View.readCov_eq_canon']
  have e : (Rect.unit (s := S512x512) ![256, 0] S256x512.size inb_S512x512_S256x512_256_0).toLoadRect.idx (ix2 p j) = ix2 (⟨256 * (1 : Fin 2).val + p.val, by simp; omega⟩ : Fin 512) j := by
    funext a; fin_cases a <;> apply Fin.ext <;> simp [Rect.unit, ix2]
  exact (congrArg (View.canon C) e).trans ((h _ _).trans (rowsG_at P t 1 p j))

/-- An array of the preparation loaded for batch entry 0. -/
theorem whole_lo {q r : Vec Ideal S256x512 .f32} (h : C = stored q r) (p : Fin 256) (j : Fin 512) :
    v.view.readCov C (Rect.unit (s := S512x512) ![0, 0] S256x512.size inb_S512x512_S256x512_0_0).toLoadRect (ix2 p j) = r (ix2 p j) := by
  rw [h]
  refine (load_lo (o := 0) (l := 0) (m := 256) (n := 512) v q r inb_S512x512_S256x512_0_0 (by decide) (by decide) p j).trans (congrArg r ?_)
  exact congrArg₂ ix2 (Fin.ext (Nat.zero_add _)) (Fin.ext (Nat.zero_add _))

/-- An array of the preparation loaded for batch entry 1. -/
theorem whole_hi {q r : Vec Ideal S256x512 .f32} (h : C = stored q r) (p : Fin 256) (j : Fin 512) :
    v.view.readCov C (Rect.unit (s := S512x512) ![256, 0] S256x512.size inb_S512x512_S256x512_256_0).toLoadRect (ix2 p j) = q (ix2 p j) := by
  rw [h]
  refine (load_hi (o := 0) (l := 0) (m := 256) (n := 512) v q r inb_S512x512_S256x512_256_0 (by decide) (by decide) p j).trans (congrArg q ?_)
  exact congrArg₂ ix2 (Fin.ext (Nat.zero_add _)) (Fin.ext (Nat.zero_add _))

end

end Cert.RwkvIdeal.Chunk
-- ==== Proof.RwkvEntry.lean ====
/- The input blocks of the RWKV program's grid points, read at an index as elements of the program's arguments: rows
   `256 t …` of the projected columns, every other block whole. -/
module

public import proofs.«01_k».proof.Proof.Gen.RwkvIdeal.Frame.Runs
public import proofs.«01_k».proof.Proof.RwkvArgs
public import proofs.«01_k».proof.Proof.RwkvOut
public import Idealize.ShloMosaic.Lib.DynamicIndex
public import Idealize.ShloMosaic.Lib.Pipeline.ValueKit.Point
public import Idealize.ShloMosaic.Lib.Pointwise
public import Idealize.ShloMosaic.Lib.StableHlo.ReadAt
public import Idealize.ShloMosaic.Lib.IdealHost

@[expose] public section

set_option maxRecDepth 16384
set_option maxHeartbeats 1000000

noncomputable section

namespace Cert.RwkvIdeal.Entry

open Cert.RwkvSpec Cert.RwkvIdeal Cert.RwkvIdeal.Gen Idealize.ShloMosaic Idealize.ShloMosaic.TcCoe Idealize.SL.Sem

variable (m : (ℓ : Loc nD τ sig) → Buf (Elt Ideal) ℓ) (c : Dev nD)

theorem at0 : ∀ t : Fin cfg0.N, win0_0.index t = ![0, t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at9 : ∀ t : Fin cfg0.N, win0_9.index t = ![0, 0] := (by decide +kernel : ∀ t : Fin grid0.N, _)

theorem point_lt (t : Fin cfg0.N) : t.val < 64 := lt_of_lt_of_eq t.isLt N_0

/-- The host operations before the kernel, in order. -/
abbrev pre : List (HloOp τ sig (Elt Ideal)) :=
  [hostOps0, hostOps0_1, hostOps0_2, hostOps0_3, hostOps0_4, hostOps0_5, hostOps0_6, hostOps0_7, hostOps0_8, hostOps0_9, hostOps0_10, hostOps0_11, hostOps0_12, hostOps0_13, hostOps0_14].flatten

/-- The buffer each of them writes. -/
abbrev preW : List (Ref sig .tc) :=
  [main_v0, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v1, main_v2, main_v3, main_v4, main_v5, main_v6, main_v7, main_v8, main_v9, main_c_0, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10, main_v11, main_c_1, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v12, main_v13, main_v14, main_v15, main_v16, main_v17, main_v18, main_v19, main_v20, main_v21, main_v22, main_v23, main_c_2, main_call3_v0, main_v24, main_v25, main_cst, main_v26, main_v27, main_v28, main_v29, main_v30, main_c_3, main_call4_v0, main_v31, main_v32, main_c_4, main_call5_v0, main_v33, main_v34, main_c_5, main_call6_v0, main_v35, main_v36, main_v37, main_v38, main_v39, main_v40, main_v41, main_v42, main_v43, main_v44, main_v45, main_v46, main_v47, main_v48, main_v49, main_v50, main_v51]

theorem pre_writes : pre.map HloOp.writes = preW.map fun r => {Proc.devRef (τ := τ) .tc r} := rfl

theorem from_ops (k : ℕ) {x : Ref sig .tc} (hx : x ∉ preW.drop k) : StableHlo.after (pre.take k) (fun b => m (c, b)) (Proc.devRef .tc x) = V m c x := by
  show _ = StableHlo.after pre _ _
  conv_rhs => rw [← List.take_append_drop k pre, StableHlo.after_append]
  refine (StableHlo.after_of_writes_sub (W := preW.drop k) (pre.drop k) _ (StableHlo.forall_writes_sub_of_map ?_) hx).symm
  rw [List.map_drop, pre_writes, List.map_drop]

theorem from_entry (k : ℕ) {x : Ref sig .tc} (hx : x ∉ preW.take k) : StableHlo.after (pre.take k) (fun b => m (c, b)) (Proc.devRef .tc x) = m ((c : Thread nD τ).loc x) := by
  refine StableHlo.after_of_writes_sub (W := preW.take k) (pre.take k) _ (StableHlo.forall_writes_sub_of_map ?_) hx
  rw [List.map_take, pre_writes, List.map_take]

theorem at_stage (k n : ℕ) {st : List (HloOp τ sig (Elt Ideal))} (hst : (pre.drop k).take n = st) {y : Ref sig .tc} (hy : y ∉ preW.drop (k + n)) :
    V m c y = StableHlo.after st (StableHlo.after (pre.take k) fun b => m (c, b)) (Proc.devRef .tc y) := by
  rw [← from_ops m c (k + n) hy, List.take_add, StableHlo.after_append, hst]

theorem V38 (j : Fin 512) : (V m c main_v38 : Vec Ideal S1x512 .f32) (ix2 0 j) = (m ((c : Thread nD τ).loc main_arg2) : Vec Ideal S1x512 .f32) (ix2 0 j) := by
  rw [at_stage m c 96 16 (st := hostOps0_14) rfl (by decide)]
  show (StableHlo.after (hostOps0_14 (F := Ideal)) _ main_v38 : Vec Ideal S1x512 .f32) _ = _
  unfold hostOps0_14
  after_reads_at

theorem V40 (j : Fin 512) : (V m c main_v40 : Vec Ideal S1x512 .f32) (ix2 0 j) = (m ((c : Thread nD τ).loc main_arg4) : Vec Ideal S1x512 .f32) (ix2 0 j) := by
  rw [at_stage m c 96 16 (st := hostOps0_14) rfl (by decide)]
  show (StableHlo.after (hostOps0_14 (F := Ideal)) _ main_v40 : Vec Ideal S1x512 .f32) _ = _
  unfold hostOps0_14
  after_reads_at

theorem V42 (j : Fin 512) : (V m c main_v42 : Vec Ideal S1x512 .f32) (ix2 0 j) = (m ((c : Thread nD τ).loc main_arg7) : Vec Ideal S1x512 .f32) (ix2 0 j) := by
  rw [at_stage m c 96 16 (st := hostOps0_14) rfl (by decide)]
  show (StableHlo.after (hostOps0_14 (F := Ideal)) _ main_v42 : Vec Ideal S1x512 .f32) _ = _
  unfold hostOps0_14
  after_reads_at

theorem V44 (j : Fin 512) : (V m c main_v44 : Vec Ideal S1x512 .f32) (ix2 0 j) = (m ((c : Thread nD τ).loc main_arg8) : Vec Ideal S1x512 .f32) (ix2 0 j) := by
  rw [at_stage m c 96 16 (st := hostOps0_14) rfl (by decide)]
  show (StableHlo.after (hostOps0_14 (F := Ideal)) _ main_v44 : Vec Ideal S1x512 .f32) _ = _
  unfold hostOps0_14
  after_reads_at

theorem V49 (j : Fin 512) : (V m c main_v49 : Vec Ideal S1x512 .f32) (ix2 0 j) = (m ((c : Thread nD τ).loc main_arg10) : Vec Ideal S1x512 .f32) (ix2 0 j) := by
  rw [at_stage m c 96 16 (st := hostOps0_14) rfl (by decide)]
  show (StableHlo.after (hostOps0_14 (F := Ideal)) _ main_v49 : Vec Ideal S1x512 .f32) _ = _
  unfold hostOps0_14
  after_reads_at

theorem V51 (j : Fin 512) : (V m c main_v51 : Vec Ideal S1x512 .f32) (ix2 0 j) = (m ((c : Thread nD τ).loc main_arg11) : Vec Ideal S1x512 .f32) (ix2 0 j) := by
  rw [at_stage m c 96 16 (st := hostOps0_14) rfl (by decide)]
  show (StableHlo.after (hostOps0_14 (F := Ideal)) _ main_v51 : Vec Ideal S1x512 .f32) _ = _
  unfold hostOps0_14
  after_reads_at

theorem V47 (j : Fin 512) : (V m c main_v47 : Vec Ideal S1x512 .f32) (ix2 0 j) = (m ((c : Thread nD τ).loc main_arg9) : Vec Ideal S1x8x64 .f32) (ix3 0 ⟨j.val / 64, by omega⟩ ⟨j.val % 64, by omega⟩) := by
  rw [at_stage m c 96 16 (st := hostOps0_14) rfl (by decide)]
  show (StableHlo.after (hostOps0_14 (F := Ideal)) _ main_v47 : Vec Ideal S1x512 .f32) _ = _
  unfold hostOps0_14
  after_reads_at

theorem sitofp_zero : (FloatOps.sitofp (F := Ideal) .f32 (0#32) : EReal) = ((0 : ℝ) : EReal) := by
  show (((0#32).toInt : ℝ) : EReal) = _
  simp

theorem V24_raw (U : Valuation τ sig (Elt Ideal)) (hc : (U main_c_2 : Vec Ideal S_ .i32) = fun _ => 0#32) (l : Fin 128) (j : Fin 512) :
    ((StableHlo.after (hostOps0_7 (F := Ideal)) U main_v24 : Vec Ideal S128x512 .f32) (ix2 l j) : EReal) = if h : l.val < 64 then (U main_v23 : Vec Ideal S64x512 .f32) (ix2 ⟨l, h⟩ j) else ((0 : ℝ) : EReal) := by
  unfold hostOps0_7
  after_reads_at
  pointwise
  by_cases h : l.val < 64
  · simp only [dif_pos h]
  · simp only [dif_neg h, hc]; exact sitofp_zero

theorem V31_raw (U : Valuation τ sig (Elt Ideal)) (hc : (U main_c_3 : Vec Ideal S_ .i32) = fun _ => 0#32) (l : Fin 256) (j : Fin 512) :
    ((StableHlo.after (hostOps0_9 (F := Ideal)) U main_v31 : Vec Ideal S256x512 .f32) (ix2 l j) : EReal) = if h : l.val < 160 then (U main_v30 : Vec Ideal S160x512 .f32) (ix2 ⟨l, h⟩ j) else ((0 : ℝ) : EReal) := by
  unfold hostOps0_9
  after_reads_at
  pointwise
  by_cases h : l.val < 160
  · simp only [dif_pos h]
  · simp only [dif_neg h, hc]; exact sitofp_zero

theorem V33_raw (U : Valuation τ sig (Elt Ideal)) (hc : (U main_c_4 : Vec Ideal S_ .i32) = fun _ => 0#32) (b : Fin 2) (t : Fin 16384) (j : Fin 1920) :
    ((StableHlo.after (hostOps0_11 (F := Ideal)) U main_v33 : Vec Ideal S2x16384x1920 .f32) (ix3 b t j) : EReal) = if h : j.val < 1824 then (U main_arg0 : Vec Ideal S2x16384x1824 .f32) (ix3 b t ⟨j, h⟩) else ((0 : ℝ) : EReal) := by
  unfold hostOps0_11
  after_reads_at
  pointwise
  by_cases h : j.val < 1824
  · simp only [dif_pos h]
  · simp only [dif_neg h, hc]; exact sitofp_zero

theorem V35_raw (U : Valuation τ sig (Elt Ideal)) (hc : (U main_c_5 : Vec Ideal S_ .i32) = fun _ => 0#32) (j : Fin 1920) :
    ((StableHlo.after (hostOps0_13 (F := Ideal)) U main_v35 : Vec Ideal S1920 .f32) (ix1 j) : EReal) = if h : j.val < 1824 then (U main_v34 : Vec Ideal S1824 .f32) (ix1 ⟨j, h⟩) else ((0 : ℝ) : EReal) := by
  unfold hostOps0_13
  after_reads_at
  pointwise
  by_cases h : j.val < 1824
  · simp only [dif_pos h]
  · simp only [dif_neg h, hc]; exact sitofp_zero

theorem V29_raw (U : Valuation τ sig (Elt Ideal)) (l : Fin 128) (j : Fin 512) :
    ((StableHlo.after (hostOps0_8 (F := Ideal)) U main_v29 : Vec Ideal S128x512 .bf16) (ix2 l j) : EReal) = if h : l.val < 64 then ((0 : ℝ) : EReal) else (U main_arg5 : Vec Ideal S1x64x512 .f32) (ix3 0 ⟨l - 64, by omega⟩ j) := by
  unfold hostOps0_8
  after_reads_simp
  pointwise
  by_cases h : l.val < 64
  · rw [dif_pos h, dif_pos h, StableHlo.upto]
    simp only [List.take_succ_cons, List.take_zero]
    after_reads_at
    pointwise
    exact EReal.coe_zero.symm
  · rw [dif_neg h, dif_neg h, StableHlo.upto]
    simp only [List.take_succ_cons, List.take_zero]
    after_reads_at

/-- The floor division by 64 on small words. -/
theorem div64 : ∀ j : Fin 512, Scalar.select
      (IntOp.andi
        (IntOp.cmpi CmpIPredicate.ne
          (if BitVec.ofNat 32 j.val = 0 then (0 : BitVec 32) else if (BitVec.ofNat 32 j.val).msb = true then -1 else 1)
          (if 64#32 = 0 then (0 : BitVec 32) else if BitVec.msb 64#32 = true then -1 else 1))
        (IntOp.cmpi CmpIPredicate.ne (IntOp.remsi ArithUnit.host (BitVec.ofNat 32 j.val) (64#32)) 0#32))
      (IntOp.subi (IntOp.divsi ArithUnit.host (BitVec.ofNat 32 j.val) (64#32)) 1#32)
      (IntOp.divsi ArithUnit.host (BitVec.ofNat 32 j.val) (64#32)) =
    BitVec.ofNat 32 (j.val / 64) := by decide +kernel

theorem V1_raw (U : Valuation τ sig (Elt Ideal)) (j : Fin 512) (h0 : (U main_v0 : Vec Ideal S512 .i32) (ix1 j) = BitVec.ofNat 32 j) (hc : (U main_c : Vec Ideal S_ .i32) = fun _ => 64#32) :
    (StableHlo.after (hostOps0_1 (F := Ideal)) U main_v1 : Vec Ideal S512 .i32) (ix1 j) = BitVec.ofNat 32 (j / 64) := by
  unfold hostOps0_1
  after_reads_at
  pointwise
  simp only [h0, hc, id_eq]
  exact div64 ⟨j, by omega⟩

theorem V10_raw (U : Valuation τ sig (Elt Ideal)) (j : Fin 256) (h0 : (U main_v9 : Vec Ideal S256x1 .i32) (ix2 j 0) = BitVec.ofNat 32 j) (hc : (U main_c_0 : Vec Ideal S_ .i32) = fun _ => 64#32) :
    (StableHlo.after (hostOps0_3 (F := Ideal)) U main_v10 : Vec Ideal S256x1 .i32) (ix2 j 0) = BitVec.ofNat 32 (j / 64) := by
  unfold hostOps0_3
  after_reads_at
  pointwise
  simp only [h0, hc, id_eq]
  exact div64 ⟨j, by omega⟩

theorem V12_raw (U : Valuation τ sig (Elt Ideal)) (j : Fin 256) (h0 : (U main_v11 : Vec Ideal S1x256 .i32) (ix2 0 j) = BitVec.ofNat 32 j) (hc : (U main_c_1 : Vec Ideal S_ .i32) = fun _ => 64#32) :
    (StableHlo.after (hostOps0_5 (F := Ideal)) U main_v12 : Vec Ideal S1x256 .i32) (ix2 0 j) = BitVec.ofNat 32 (j / 64) := by
  unfold hostOps0_5
  after_reads_at
  pointwise
  simp only [h0, hc, id_eq]
  exact div64 ⟨j, by omega⟩

theorem eq_bit : ∀ a b : Fin 8, IntOp.cmpi CmpIPredicate.eq (BitVec.ofNat 32 a.val) (BitVec.ofNat 32 b.val) = if a.val = b.val then 1#1 else 0#1 := by decide +kernel

theorem ge_bit (a b : Fin 256) : IntOp.cmpi CmpIPredicate.sge (BitVec.ofNat 32 a.val) (BitVec.ofNat 32 b.val) = if b.val ≤ a.val then 1#1 else 0#1 := by
  have ha := toInt_ofNat_of_lt (k := a.val) (by omega)
  have hb := toInt_ofNat_of_lt (k := b.val) (by omega)
  by_cases h : b.val ≤ a.val <;> simp [IntOp.cmpi, BitVec.sle, ha, hb, h]

theorem one_bit : (FloatOps.uitofp (F := Ideal) .bf16 (1#1) : EReal) = ((1 : ℝ) : EReal) := by
  show (((1#1).toNat : ℝ) : EReal) = _
  simp

theorem zero_bit : (FloatOps.uitofp (F := Ideal) .bf16 (0#1) : EReal) = ((0 : ℝ) : EReal) := by
  show (((0#1).toNat : ℝ) : EReal) = _
  simp

theorem and_bits : IntOp.andi 1#1 1#1 = 1#1 ∧ IntOp.andi 1#1 0#1 = 0#1 ∧ IntOp.andi 0#1 1#1 = 0#1 ∧ IntOp.andi 0#1 0#1 = 0#1 := by decide

theorem V7_raw (U : Valuation τ sig (Elt Ideal)) (h1 : ∀ j : Fin 512, (U main_v1 : Vec Ideal S512 .i32) (ix1 j) = BitVec.ofNat 32 (j / 64)) (i j : Fin 512) :
    ((StableHlo.after (hostOps0_2 (F := Ideal)) U main_v7 : Vec Ideal S512x512 .bf16) (ix2 i j) : EReal) = ((if i.val / 64 = j.val / 64 then 1 else 0 : ℝ) : EReal) := by
  unfold hostOps0_2
  after_reads_at
  pointwise
  simp only [h1]
  rw [eq_bit ⟨i / 64, by omega⟩ ⟨j / 64, by omega⟩]
  by_cases h : i.val / 64 = j.val / 64
  · simp only [if_pos h]; exact one_bit
  · simp only [if_neg h]; exact zero_bit

theorem V22_raw (U : Valuation τ sig (Elt Ideal)) (h10 : ∀ j : Fin 256, (U main_v10 : Vec Ideal S256x1 .i32) (ix2 j 0) = BitVec.ofNat 32 (j / 64))
    (h12 : ∀ j : Fin 256, (U main_v12 : Vec Ideal S1x256 .i32) (ix2 0 j) = BitVec.ofNat 32 (j / 64)) (h8 : ∀ j : Fin 256, (U main_v8 : Vec Ideal S256 .i32) (ix1 j) = BitVec.ofNat 32 j) (i j : Fin 256) :
    ((StableHlo.after (hostOps0_6 (F := Ideal)) U main_v22 : Vec Ideal S256x256 .bf16) (ix2 i j) : EReal) = ((if i.val / 64 = j.val / 64 ∧ j.val ≤ i.val then 1 else 0 : ℝ) : EReal) := by
  unfold hostOps0_6
  after_reads_at
  pointwise
  simp only [h10, h12, h8]
  rw [eq_bit ⟨i / 64, by omega⟩ ⟨j / 64, by omega⟩, ge_bit]
  by_cases h : i.val / 64 = j.val / 64 <;> by_cases h' : j.val ≤ i.val <;> simp only [h, h', if_true, if_false, true_and, and_true, false_and, and_false, and_bits.1, and_bits.2.1, and_bits.2.2.1, and_bits.2.2.2] <;> first | exact one_bit | exact zero_bit

theorem V_c : (V m c main_c : Vec Ideal S_ .i32) = fun _ => 64#32 := by
  rw [at_stage m c 0 2 (st := hostOps0) rfl (by decide)]
  show (StableHlo.after (hostOps0 (F := Ideal)) _ main_c : Vec Ideal S_ .i32) = _
  unfold hostOps0
  after_reads_simp
  rfl

theorem V_c_0 : (V m c main_c_0 : Vec Ideal S_ .i32) = fun _ => 64#32 := by
  rw [at_stage m c 19 9 (st := hostOps0_2) rfl (by decide)]
  show (StableHlo.after (hostOps0_2 (F := Ideal)) _ main_c_0 : Vec Ideal S_ .i32) = _
  unfold hostOps0_2
  after_reads_simp
  rfl

theorem V_c_1 : (V m c main_c_1 : Vec Ideal S_ .i32) = fun _ => 64#32 := by
  rw [at_stage m c 45 2 (st := hostOps0_4) rfl (by decide)]
  show (StableHlo.after (hostOps0_4 (F := Ideal)) _ main_c_1 : Vec Ideal S_ .i32) = _
  unfold hostOps0_4
  after_reads_simp
  rfl

theorem V_c_2 : (V m c main_c_2 : Vec Ideal S_ .i32) = fun _ => 0#32 := by
  rw [at_stage m c 64 12 (st := hostOps0_6) rfl (by decide)]
  show (StableHlo.after (hostOps0_6 (F := Ideal)) _ main_c_2 : Vec Ideal S_ .i32) = _
  unfold hostOps0_6
  after_reads_simp
  rfl

theorem V_c_3 : (V m c main_c_3 : Vec Ideal S_ .i32) = fun _ => 0#32 := by
  rw [at_stage m c 78 8 (st := hostOps0_8) rfl (by decide)]
  show (StableHlo.after (hostOps0_8 (F := Ideal)) _ main_c_3 : Vec Ideal S_ .i32) = _
  unfold hostOps0_8
  after_reads_simp
  rfl

theorem V_c_4 : (V m c main_c_4 : Vec Ideal S_ .i32) = fun _ => 0#32 := by
  rw [at_stage m c 88 2 (st := hostOps0_10) rfl (by decide)]
  show (StableHlo.after (hostOps0_10 (F := Ideal)) _ main_c_4 : Vec Ideal S_ .i32) = _
  unfold hostOps0_10
  after_reads_simp
  rfl

theorem V_c_5 : (V m c main_c_5 : Vec Ideal S_ .i32) = fun _ => 0#32 := by
  rw [at_stage m c 92 2 (st := hostOps0_12) rfl (by decide)]
  show (StableHlo.after (hostOps0_12 (F := Ideal)) _ main_c_5 : Vec Ideal S_ .i32) = _
  unfold hostOps0_12
  after_reads_simp
  rfl

theorem V0 (j : Fin 512) : (V m c main_v0 : Vec Ideal S512 .i32) (ix1 j) = BitVec.ofNat 32 j := by
  rw [at_stage m c 0 2 (st := hostOps0) rfl (by decide)]
  show (StableHlo.after (hostOps0 (F := Ideal)) _ main_v0 : Vec Ideal S512 .i32) (ix1 j) = _
  unfold hostOps0
  after_reads_at

theorem V8 (j : Fin 256) : (V m c main_v8 : Vec Ideal S256 .i32) (ix1 j) = BitVec.ofNat 32 j := by
  rw [at_stage m c 19 9 (st := hostOps0_2) rfl (by decide)]
  show (StableHlo.after (hostOps0_2 (F := Ideal)) _ main_v8 : Vec Ideal S256 .i32) (ix1 j) = _
  unfold hostOps0_2
  after_reads_at

theorem V9 (j : Fin 256) : (V m c main_v9 : Vec Ideal S256x1 .i32) (ix2 j 0) = BitVec.ofNat 32 j := by
  rw [at_stage m c 19 9 (st := hostOps0_2) rfl (by decide)]
  show (StableHlo.after (hostOps0_2 (F := Ideal)) _ main_v9 : Vec Ideal S256x1 .i32) (ix2 j 0) = _
  unfold hostOps0_2
  after_reads_at

theorem V11 (j : Fin 256) : (V m c main_v11 : Vec Ideal S1x256 .i32) (ix2 0 j) = BitVec.ofNat 32 j := by
  rw [at_stage m c 45 2 (st := hostOps0_4) rfl (by decide)]
  show (StableHlo.after (hostOps0_4 (F := Ideal)) _ main_v11 : Vec Ideal S1x256 .i32) (ix2 0 j) = _
  unfold hostOps0_4
  after_reads_at

theorem V1 (j : Fin 512) : (V m c main_v1 : Vec Ideal S512 .i32) (ix1 j) = BitVec.ofNat 32 (j / 64) := by
  rw [at_stage m c 2 17 (st := hostOps0_1) rfl (by decide)]
  exact V1_raw _ j (by rw [from_ops m c 2 (by decide)]; exact V0 m c j) (by rw [from_ops m c 2 (by decide)]; exact V_c m c)

theorem V10 (j : Fin 256) : (V m c main_v10 : Vec Ideal S256x1 .i32) (ix2 j 0) = BitVec.ofNat 32 (j / 64) := by
  rw [at_stage m c 28 17 (st := hostOps0_3) rfl (by decide)]
  exact V10_raw _ j (by rw [from_ops m c 28 (by decide)]; exact V9 m c j) (by rw [from_ops m c 28 (by decide)]; exact V_c_0 m c)

theorem V12 (j : Fin 256) : (V m c main_v12 : Vec Ideal S1x256 .i32) (ix2 0 j) = BitVec.ofNat 32 (j / 64) := by
  rw [at_stage m c 47 17 (st := hostOps0_5) rfl (by decide)]
  exact V12_raw _ j (by rw [from_ops m c 47 (by decide)]; exact V11 m c j) (by rw [from_ops m c 47 (by decide)]; exact V_c_1 m c)

theorem V7 (i j : Fin 512) : ((V m c main_v7 : Vec Ideal S512x512 .bf16) (ix2 i j) : EReal) = ((if i.val / 64 = j.val / 64 then 1 else 0 : ℝ) : EReal) := by
  rw [at_stage m c 19 9 (st := hostOps0_2) rfl (by decide)]
  exact V7_raw _ (fun j => by rw [from_ops m c 19 (by decide)]; exact V1 m c j) i j

theorem V22 (i j : Fin 256) : ((V m c main_v22 : Vec Ideal S256x256 .bf16) (ix2 i j) : EReal) = ((if i.val / 64 = j.val / 64 ∧ j.val ≤ i.val then 1 else 0 : ℝ) : EReal) := by
  rw [at_stage m c 64 12 (st := hostOps0_6) rfl (by decide)]
  exact V22_raw _ (fun j => by rw [from_ops m c 64 (by decide)]; exact V10 m c j) (fun j => by rw [from_ops m c 64 (by decide)]; exact V12 m c j)
    (fun j => by rw [from_ops m c 64 (by decide)]; exact V8 m c j) i j

theorem V23 (l : Fin 64) (j : Fin 512) : (V m c main_v23 : Vec Ideal S64x512 .f32) (ix2 l j) = (m ((c : Thread nD τ).loc main_arg3) : Vec Ideal S1x64x512 .f32) (ix3 0 l j) := by
  rw [at_stage m c 64 12 (st := hostOps0_6) rfl (by decide)]
  show (StableHlo.after (hostOps0_6 (F := Ideal)) _ main_v23 : Vec Ideal S64x512 .f32) _ = _
  unfold hostOps0_6
  after_reads_at

theorem V30 (l : Fin 160) (j : Fin 512) : (V m c main_v30 : Vec Ideal S160x512 .f32) (ix2 l j) = (m ((c : Thread nD τ).loc main_arg6) : Vec Ideal S1x160x512 .f32) (ix3 0 l j) := by
  rw [at_stage m c 78 8 (st := hostOps0_8) rfl (by decide)]
  show (StableHlo.after (hostOps0_8 (F := Ideal)) _ main_v30 : Vec Ideal S160x512 .f32) _ = _
  unfold hostOps0_8
  after_reads_at

theorem V34 (j : Fin 1824) : (V m c main_v34 : Vec Ideal S1824 .f32) (ix1 j) = (m ((c : Thread nD τ).loc main_arg1) : Vec Ideal S1x1824 .f32) (ix2 0 j) := by
  rw [at_stage m c 92 2 (st := hostOps0_12) rfl (by decide)]
  show (StableHlo.after (hostOps0_12 (F := Ideal)) _ main_v34 : Vec Ideal S1824 .f32) _ = _
  unfold hostOps0_12
  after_reads_at

theorem V24 (l : Fin 128) (j : Fin 512) : ((V m c main_v24 : Vec Ideal S128x512 .f32) (ix2 l j) : EReal) = if h : l.val < 64 then (m ((c : Thread nD τ).loc main_arg3) : Vec Ideal S1x64x512 .f32) (ix3 0 ⟨l, h⟩ j) else ((0 : ℝ) : EReal) := by
  rw [at_stage m c 76 2 (st := hostOps0_7) rfl (by decide)]
  refine (V24_raw _ (by rw [from_ops m c 76 (by decide)]; exact V_c_2 m c) l j).trans ?_
  by_cases h : l.val < 64
  · rw [dif_pos h, dif_pos h]; rw [from_ops m c 76 (by decide), V23 m c]
  · rw [dif_neg h, dif_neg h]

theorem V31 (l : Fin 256) (j : Fin 512) : ((V m c main_v31 : Vec Ideal S256x512 .f32) (ix2 l j) : EReal) = if h : l.val < 160 then (m ((c : Thread nD τ).loc main_arg6) : Vec Ideal S1x160x512 .f32) (ix3 0 ⟨l, h⟩ j) else ((0 : ℝ) : EReal) := by
  rw [at_stage m c 86 2 (st := hostOps0_9) rfl (by decide)]
  refine (V31_raw _ (by rw [from_ops m c 86 (by decide)]; exact V_c_3 m c) l j).trans ?_
  by_cases h : l.val < 160
  · rw [dif_pos h, dif_pos h]; rw [from_ops m c 86 (by decide), V30 m c]
  · rw [dif_neg h, dif_neg h]

theorem V33 (b : Fin 2) (t : Fin 16384) (j : Fin 1920) : ((V m c main_v33 : Vec Ideal S2x16384x1920 .f32) (ix3 b t j) : EReal) = if h : j.val < 1824 then (m ((c : Thread nD τ).loc main_arg0) : Vec Ideal S2x16384x1824 .f32) (ix3 b t ⟨j, h⟩) else ((0 : ℝ) : EReal) := by
  rw [at_stage m c 90 2 (st := hostOps0_11) rfl (by decide)]
  refine (V33_raw _ (by rw [from_ops m c 90 (by decide)]; exact V_c_4 m c) b t j).trans ?_
  by_cases h : j.val < 1824
  · rw [dif_pos h, dif_pos h]; rw [from_entry m c 90 (by decide)]
  · rw [dif_neg h, dif_neg h]

theorem V35 (j : Fin 1920) : ((V m c main_v35 : Vec Ideal S1920 .f32) (ix1 j) : EReal) = if h : j.val < 1824 then (m ((c : Thread nD τ).loc main_arg1) : Vec Ideal S1x1824 .f32) (ix2 0 ⟨j, h⟩) else ((0 : ℝ) : EReal) := by
  rw [at_stage m c 94 2 (st := hostOps0_13) rfl (by decide)]
  refine (V35_raw _ (by rw [from_ops m c 94 (by decide)]; exact V_c_5 m c) j).trans ?_
  by_cases h : j.val < 1824
  · rw [dif_pos h, dif_pos h]; rw [from_ops m c 94 (by decide), V34 m c]
  · rw [dif_neg h, dif_neg h]

theorem V25 (l : Fin 128) (j : Fin 512) : ((V m c main_v25 : Vec Ideal S128x512 .bf16) (ix2 l j) : EReal) = (V m c main_v24 : Vec Ideal S128x512 .f32) (ix2 l j) := by
  rw [← from_ops m c 78 (x := main_v24) (by decide), at_stage m c 78 8 (y := main_v25) (st := hostOps0_8) rfl (by decide)]
  show (StableHlo.after (hostOps0_8 (F := Ideal)) _ main_v25 : Vec Ideal S128x512 .bf16) _ = _
  unfold hostOps0_8
  after_reads_at

theorem V32 (l : Fin 256) (j : Fin 512) : ((V m c main_v32 : Vec Ideal S256x512 .bf16) (ix2 l j) : EReal) = (V m c main_v31 : Vec Ideal S256x512 .f32) (ix2 l j) := by
  rw [← from_ops m c 88 (x := main_v31) (by decide), at_stage m c 88 2 (y := main_v32) (st := hostOps0_10) rfl (by decide)]
  show (StableHlo.after (hostOps0_10 (F := Ideal)) _ main_v32 : Vec Ideal S256x512 .bf16) _ = _
  unfold hostOps0_10
  after_reads_at

theorem V36 (j : Fin 1920) : ((V m c main_v36 : Vec Ideal S1x1920 .f32) (ix2 0 j) : EReal) = (V m c main_v35 : Vec Ideal S1920 .f32) (ix1 j) := by
  rw [← from_ops m c 96 (x := main_v35) (by decide), at_stage m c 96 16 (y := main_v36) (st := hostOps0_14) rfl (by decide)]
  show (StableHlo.after (hostOps0_14 (F := Ideal)) _ main_v36 : Vec Ideal S1x1920 .f32) _ = _
  unfold hostOps0_14
  after_reads_at

theorem V29 (l : Fin 128) (j : Fin 512) :
    ((V m c main_v29 : Vec Ideal S128x512 .bf16) (ix2 l j) : EReal) = if h : l.val < 64 then ((0 : ℝ) : EReal) else (m ((c : Thread nD τ).loc main_arg5) : Vec Ideal S1x64x512 .f32) (ix3 0 ⟨l - 64, by omega⟩ j) := by
  rw [at_stage m c 78 8 (st := hostOps0_8) rfl (by decide)]
  refine (V29_raw _ l j).trans ?_
  by_cases h : l.val < 64
  · rw [dif_pos h, dif_pos h]
  · rw [dif_neg h, dif_neg h, from_entry m c 78 (by decide)]

theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)

theorem blk1 (t : Fin cfg0.N) (l : Fin 1) (j : Fin 1920) : iblk m c 1 t (ix2 l j) = (V m c main_v36 : Vec Ideal S1x1920 .f32) (ix2 l j) := by
  show V m c main_v36 ((win0_1.blk t).view.emb (ix2 l j)) = _
  blk_ext [at1 t]

theorem blk2 (t : Fin cfg0.N) (l : Fin 1) (j : Fin 512) : iblk m c 2 t (ix2 l j) = (V m c main_v38 : Vec Ideal S1x512 .f32) (ix2 l j) := by
  show V m c main_v38 ((win0_2.blk t).view.emb (ix2 l j)) = _
  blk_ext [at2 t]

theorem blk3 (t : Fin cfg0.N) (l : Fin 128) (j : Fin 512) : iblk m c 3 t (ix2 l j) = (V m c main_v25 : Vec Ideal S128x512 .bf16) (ix2 l j) := by
  show V m c main_v25 ((win0_3.blk t).view.emb (ix2 l j)) = _
  blk_ext [at3 t]

theorem blk4 (t : Fin cfg0.N) (l : Fin 1) (j : Fin 512) : iblk m c 4 t (ix2 l j) = (V m c main_v40 : Vec Ideal S1x512 .f32) (ix2 l j) := by
  show V m c main_v40 ((win0_4.blk t).view.emb (ix2 l j)) = _
  blk_ext [at4 t]

theorem blk5 (t : Fin cfg0.N) (l : Fin 128) (j : Fin 512) : iblk m c 5 t (ix2 l j) = (V m c main_v29 : Vec Ideal S128x512 .bf16) (ix2 l j) := by
  show V m c main_v29 ((win0_5.blk t).view.emb (ix2 l j)) = _
  blk_ext [at5 t]

theorem blk6 (t : Fin cfg0.N) (l : Fin 256) (j : Fin 512) : iblk m c 6 t (ix2 l j) = (V m c main_v32 : Vec Ideal S256x512 .bf16) (ix2 l j) := by
  show V m c main_v32 ((win0_6.blk t).view.emb (ix2 l j)) = _
  blk_ext [at6 t]

theorem blk7 (t : Fin cfg0.N) (l : Fin 1) (j : Fin 512) : iblk m c 7 t (ix2 l j) = (V m c main_v42 : Vec Ideal S1x512 .f32) (ix2 l j) := by
  show V m c main_v42 ((win0_7.blk t).view.emb (ix2 l j)) = _
  blk_ext [at7 t]

theorem blk8 (t : Fin cfg0.N) (l : Fin 1) (j : Fin 512) : iblk m c 8 t (ix2 l j) = (V m c main_v44 : Vec Ideal S1x512 .f32) (ix2 l j) := by
  show V m c main_v44 ((win0_8.blk t).view.emb (ix2 l j)) = _
  blk_ext [at8 t]

theorem blk9 (t : Fin cfg0.N) (l : Fin 1) (j : Fin 512) : iblk m c 9 t (ix2 l j) = (V m c main_v47 : Vec Ideal S1x512 .f32) (ix2 l j) := by
  show V m c main_v47 ((win0_9.blk t).view.emb (ix2 l j)) = _
  blk_ext [at9 t]

theorem blk10 (t : Fin cfg0.N) (l : Fin 1) (j : Fin 512) : iblk m c 10 t (ix2 l j) = (V m c main_v49 : Vec Ideal S1x512 .f32) (ix2 l j) := by
  show V m c main_v49 ((win0_10.blk t).view.emb (ix2 l j)) = _
  blk_ext [at10 t]

theorem blk11 (t : Fin cfg0.N) (l : Fin 1) (j : Fin 512) : iblk m c 11 t (ix2 l j) = (V m c main_v51 : Vec Ideal S1x512 .f32) (ix2 l j) := by
  show V m c main_v51 ((win0_11.blk t).view.emb (ix2 l j)) = _
  blk_ext [at11 t]

theorem blk12 (t : Fin cfg0.N) (l : Fin 512) (j : Fin 512) : iblk m c 12 t (ix2 l j) = (V m c main_v7 : Vec Ideal S512x512 .bf16) (ix2 l j) := by
  show V m c main_v7 ((win0_12.blk t).view.emb (ix2 l j)) = _
  blk_ext [at12 t]

theorem blk13 (t : Fin cfg0.N) (l : Fin 256) (j : Fin 256) : iblk m c 13 t (ix2 l j) = (V m c main_v22 : Vec Ideal S256x256 .bf16) (ix2 l j) := by
  show V m c main_v22 ((win0_13.blk t).view.emb (ix2 l j)) = _
  blk_ext [at13 t]

theorem blk0 (t : Fin cfg0.N) (b : Fin 2) (p : Fin 256) (j : Fin 1920) :
    iblk m c 0 t (ix3 b p j) = (V m c main_v33 : Vec Ideal S2x16384x1920 .f32) (ix3 b ⟨256 * t.val + p.val, by have := point_lt t; omega⟩ j) := by
  show V m c main_v33 ((win0_0.blk t).view.emb (ix3 b p j)) = _
  blk_ext [at0 t]

/-- The layer's arrays on device `c`. -/
abbrev args : Args := argsOf
  (m ((c : Thread nD τ).loc main_arg0))
  (m ((c : Thread nD τ).loc main_arg1))
  (m ((c : Thread nD τ).loc main_arg2))
  (m ((c : Thread nD τ).loc main_arg3))
  (m ((c : Thread nD τ).loc main_arg4))
  (m ((c : Thread nD τ).loc main_arg5))
  (m ((c : Thread nD τ).loc main_arg6))
  (m ((c : Thread nD τ).loc main_arg7))
  (m ((c : Thread nD τ).loc main_arg8))
  (m ((c : Thread nD τ).loc main_arg9))
  (m ((c : Thread nD τ).loc main_arg10))
  (m ((c : Thread nD τ).loc main_arg11))

/-- Every entry of every argument on device `c` is a real number. -/
abbrev AllFin : Prop := AllFinite
  (m ((c : Thread nD τ).loc main_arg0))
  (m ((c : Thread nD τ).loc main_arg1))
  (m ((c : Thread nD τ).loc main_arg2))
  (m ((c : Thread nD τ).loc main_arg3))
  (m ((c : Thread nD τ).loc main_arg4))
  (m ((c : Thread nD τ).loc main_arg5))
  (m ((c : Thread nD τ).loc main_arg6))
  (m ((c : Thread nD τ).loc main_arg7))
  (m ((c : Thread nD τ).loc main_arg8))
  (m ((c : Thread nD τ).loc main_arg9))
  (m ((c : Thread nD τ).loc main_arg10))
  (m ((c : Thread nD τ).loc main_arg11))

/-- What a grid point reads: the layer's arrays. -/
theorem raw (H : AllFin m c) (t : Fin cfg0.N) : Chunk.Raw (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (args m c) (256 * t.val) where
  x b p j := by
    rw [blk0, V33]
    by_cases h : j.val < 1824
    · rw [dif_pos h]; exact cube_coe H.f0 b _ ⟨j, h⟩
    · rw [dif_neg h]; exact congrArg _ (cube_out _ h).symm
  mu j := by
    rw [blk1, V36, V35]
    by_cases h : j.val < 1824
    · rw [dif_pos h]; exact row_coe H.f1 ⟨j, h⟩
    · rw [dif_neg h]; exact congrArg _ (row_out _ h).symm
  w0 j := by rw [blk2, V38]; exact row_coe H.f2 j
  w2 l j := by
    rw [blk3, V25, V24]
    by_cases h : l.val < 64
    · rw [dif_pos h, if_pos h]; exact mat_coe H.f3 ⟨l, h⟩ j
    · rw [dif_neg h, if_neg h]
  a0 j := by rw [blk4, V40]; exact row_coe H.f4 j
  a2 l j := by
    rw [blk5, V29]
    by_cases h : l.val < 64
    · rw [dif_pos h, if_pos h]
    · rw [dif_neg h, if_neg h]; exact mat_coe H.f5 ⟨l - 64, by omega⟩ j
  g2 l j := by
    rw [blk6, V32, V31]
    by_cases h : l.val < 160
    · rw [dif_pos h, if_pos h]; exact mat_coe H.f6 ⟨l, h⟩ j
    · rw [dif_neg h, if_neg h]
  kk j := by rw [blk7, V42]; exact row_coe H.f7 j
  ka j := by rw [blk8, V44]; exact row_coe H.f8 j
  rk j := by rw [blk9, V47]; exact mat_coe H.f9 ⟨j / 64, by omega⟩ ⟨j % 64, by omega⟩
  lw j := by rw [blk10, V49]; exact row_coe H.f10 j
  lb j := by rw [blk11, V51]; exact row_coe H.f11 j
  gm i j := by rw [blk12]; exact V7 m c i j
  lt i j := by rw [blk13]; exact V22 m c i j

end Cert.RwkvIdeal.Entry
-- ==== Proof.RwkvIdealRunB.lean ====
/- The body of `RwkvIdeal`'s kernel run at the grid points after the first, where the state and the last row of the point before are carried in.
   It is the run the frame kit states for this case, with a larger limit for the definition, since its 125 loads and stores do not fit the default one. -/
module

public import proofs.«01_k».proof.Proof.Gen.RwkvIdeal.Frame.RunA

@[expose] public section

-- membership in a rectangle of production extents (`View.cover_of_tiled`): the elaborator's structural look
-- recurses once per coordinate of the long axes
set_option maxRecDepth 16384

noncomputable section

namespace Cert.RwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 12000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (z1 : Memref sig .tc .vmem S2x256x1920 .f32) (Z1 : z1.IsWhole) (z2 : Memref sig .tc .vmem S1x1920 .f32) (Z2 : z2.IsWhole) (z3 : Memref sig .tc .vmem S1x512 .f32) (Z3 : z3.IsWhole) (z4 : Memref sig .tc .vmem S128x512 .bf16) (Z4 : z4.IsWhole) (z5 : Memref sig .tc .vmem S1x512 .f32) (Z5 : z5.IsWhole) (z6 : Memref sig .tc .vmem S128x512 .bf16) (Z6 : z6.IsWhole) (z7 : Memref sig .tc .vmem S256x512 .bf16) (Z7 : z7.IsWhole) (z8 : Memref sig .tc .vmem S1x512 .f32) (Z8 : z8.IsWhole) (z9 : Memref sig .tc .vmem S1x512 .f32) (Z9 : z9.IsWhole) (z10 : Memref sig .tc .vmem S1x512 .f32) (Z10 : z10.IsWhole) (z11 : Memref sig .tc .vmem S1x512 .f32) (Z11 : z11.IsWhole) (z12 : Memref sig .tc .vmem S1x512 .f32) (Z12 : z12.IsWhole) (z13 : Memref sig .tc .vmem S512x512 .bf16) (Z13 : z13.IsWhole) (z14 : Memref sig .tc .vmem S256x256 .bf16) (Z14 : z14.IsWhole) (z15 : Memref sig .tc .vmem S2x256x512 .bf16) (Z15 : z15.IsWhole) (z16 : Memref sig .tc .vmem S4x64x256 .f32) (Z16 : z16.IsWhole) (z17 : Memref sig .tc .vmem S2x8x1920 .f32) (Z17 : z17.IsWhole) (z18 : Memref sig .tc .vmem S512x512 .bf16) (Z18 : z18.IsWhole) (z19 : Memref sig .tc .vmem S512x512 .bf16) (Z19 : z19.IsWhole) (z20 : Memref sig .tc .vmem S512x512 .bf16) (Z20 : z20.IsWhole) (z21 : Memref sig .tc .vmem S512x512 .bf16) (Z21 : z21.IsWhole) (z22 : Memref sig .tc .vmem S512x512 .f32) (Z22 : z22.IsWhole) (z23 : Memref sig .tc .vmem S512x512 .f32) (Z23 : z23.IsWhole) (z24 : Memref sig .tc .vmem S512x512 .f32) (Z24 : z24.IsWhole) (z25 : Memref sig .tc .vmem S512x512 .f32) (Z25 : z25.IsWhole) (z26 : Memref sig .tc .vmem S512x512 .f32) (Z26 : z26.IsWhole) (hc0 : ¬cond0_0 i)
    (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 : Vec F S1x512 .f32) (x8 : Vec F S1x512 .f32) (x9 : Vec F S1x512 .f32) (x10 : Vec F S1x512 .f32) (x11 : Vec F S1x512 .f32) (x12 : Vec F S512x512 .bf16) (x13 : Vec F S256x256 .bf16) (xs0 : Vec F S4x64x256 .f32) (xs1 : Vec F S2x8x1920 .f32) :
    Σ' (L14 : List (View.Piece (Elt F) S2x256x512 .bf16)), Σ' (LS0 : List (View.Piece (Elt F) S4x64x256 .f32)), Σ' (LS1 : List (View.Piece (Elt F) S2x8x1920 .f32)), Σ' (LT2 : List (View.Piece (Elt F) S512x512 .bf16)), Σ' (LT3 : List (View.Piece (Elt F) S512x512 .bf16)), Σ' (LT4 : List (View.Piece (Elt F) S512x512 .bf16)), Σ' (LT5 : List (View.Piece (Elt F) S512x512 .bf16)), Σ' (LT6 : List (View.Piece (Elt F) S512x512 .f32)), Σ' (LT7 : List (View.Piece (Elt F) S512x512 .f32)), Σ' (LT8 : List (View.Piece (Elt F) S512x512 .f32)), Σ' (LT9 : List (View.Piece (Elt F) S512x512 .f32)), { LT10 : List (View.Piece (Elt F) S512x512 .f32) //
      ∀ (E : Set ℕ) (K : PUnit → sProp 𝕄),
        iprop(owns (c : Thread nD τ) z1 fullShare x0 ∗ owns (c : Thread nD τ) z2 fullShare x1 ∗ owns (c : Thread nD τ) z3 fullShare x2 ∗ owns (c : Thread nD τ) z4 fullShare x3 ∗ owns (c : Thread nD τ) z5 fullShare x4 ∗ owns (c : Thread nD τ) z6 fullShare x5 ∗ owns (c : Thread nD τ) z7 fullShare x6 ∗ owns (c : Thread nD τ) z8 fullShare x7 ∗ owns (c : Thread nD τ) z9 fullShare x8 ∗ owns (c : Thread nD τ) z10 fullShare x9 ∗ owns (c : Thread nD τ) z11 fullShare x10 ∗ owns (c : Thread nD τ) z12 fullShare x11 ∗ owns (c : Thread nD τ) z13 fullShare x12 ∗ owns (c : Thread nD τ) z14 fullShare x13 ∗ (∃ d, owns (c : Thread nD τ) z15 fullShare d) ∗ owns (c : Thread nD τ) z16 fullShare xs0 ∗ owns (c : Thread nD τ) z17 fullShare xs1 ∗ (∃ d, owns (c : Thread nD τ) z18 fullShare d) ∗ (∃ d, owns (c : Thread nD τ) z19 fullShare d) ∗ (∃ d, owns (c : Thread nD τ) z20 fullShare d) ∗ (∃ d, owns (c : Thread nD τ) z21 fullShare d) ∗ (∃ d, owns (c : Thread nD τ) z22 fullShare d) ∗ (∃ d, owns (c : Thread nD τ) z23 fullShare d) ∗ (∃ d, owns (c : Thread nD τ) z24 fullShare d) ∗ (∃ d, owns (c : Thread nD τ) z25 fullShare d) ∗ (∃ d, owns (c : Thread nD τ) z26 fullShare d)
            ∗ (iprop(owns (c : Thread nD τ) z1 fullShare x0 ∗ owns (c : Thread nD τ) z2 fullShare x1 ∗ owns (c : Thread nD τ) z3 fullShare x2 ∗ owns (c : Thread nD τ) z4 fullShare x3 ∗ owns (c : Thread nD τ) z5 fullShare x4 ∗ owns (c : Thread nD τ) z6 fullShare x5 ∗ owns (c : Thread nD τ) z7 fullShare x6 ∗ owns (c : Thread nD τ) z8 fullShare x7 ∗ owns (c : Thread nD τ) z9 fullShare x8 ∗ owns (c : Thread nD τ) z10 fullShare x9 ∗ owns (c : Thread nD τ) z11 fullShare x10 ∗ owns (c : Thread nD τ) z12 fullShare x11 ∗ owns (c : Thread nD τ) z13 fullShare x12 ∗ owns (c : Thread nD τ) z14 fullShare x13 ∗ (∃ f, z15.view.loc (c : Thread nD τ) ↦[z15.view.set]{fullShare} z15.view.writes (Elt F) f L14) ∗ (∃ f, z16.view.loc (c : Thread nD τ) ↦[z16.view.set]{fullShare} z16.view.writes (Elt F) f LS0) ∗ (z17.view.loc (c : Thread nD τ) ↦[z17.view.set]{fullShare} z17.view.writes (Elt F) (Z17.unread xs1) LS1) ∗ (∃ f, z18.view.loc (c : Thread nD τ) ↦[z18.view.set]{fullShare} z18.view.writes (Elt F) f LT2) ∗ (∃ f, z19.view.loc (c : Thread nD τ) ↦[z19.view.set]{fullShare} z19.view.writes (Elt F) f LT3) ∗ (∃ f, z20.view.loc (c : Thread nD τ) ↦[z20.view.set]{fullShare} z20.view.writes (Elt F) f LT4) ∗ (∃ f, z21.view.loc (c : Thread nD τ) ↦[z21.view.set]{fullShare} z21.view.writes (Elt F) f LT5) ∗ (∃ f, z22.view.loc (c : Thread nD τ) ↦[z22.view.set]{fullShare} z22.view.writes (Elt F) f LT6) ∗ (∃ f, z23.view.loc (c : Thread nD τ) ↦[z23.view.set]{fullShare} z23.view.writes (Elt F) f LT7) ∗ (∃ f, z24.view.loc (c : Thread nD τ) ↦[z24.view.set]{fullShare} z24.view.writes (Elt F) f LT8) ∗ (∃ f, z25.view.loc (c : Thread nD τ) ↦[z25.view.set]{fullShare} z25.view.writes (Elt F) f LT9) ∗ (∃ f, z26.view.loc (c : Thread nD τ) ↦[z26.view.set]{fullShare} z26.view.writes (Elt F) f LT10)) -∗ K ⟨⟩))
          ⊢ wp frame (wpE (defs₀ (F := F)) Variants.none c none) E (cc0_rwkv i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26) K } := by
  refine ⟨?_, ?_, ?_, ?_, ?_, ?_, ?_, ?_, ?_, ?_, ?_, ?_, fun E K => ?run⟩
  case run =>
    simp only [cc0_rwkv_eq_skeleton]; unfold cc0_rwkv_skel
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := Z1.eq_unread hf0; obtain rfl := Z2.eq_unread hf1; obtain rfl := Z3.eq_unread hf2; obtain rfl := Z4.eq_unread hf3; obtain rfl := Z5.eq_unread hf4; obtain rfl := Z6.eq_unread hf5; obtain rfl := Z7.eq_unread hf6; obtain rfl := Z8.eq_unread hf7; obtain rfl := Z9.eq_unread hf8; obtain rfl := Z10.eq_unread hf9; obtain rfl := Z11.eq_unread hf10; obtain rfl := Z12.eq_unread hf11; obtain rfl := Z13.eq_unread hf12; obtain rfl := Z14.eq_unread hf13; obtain rfl := Z16.eq_unread hfs0; obtain rfl := Z17.eq_unread hfs1
    sl_exec (disch := first | sl_exact hc0)
    sl_step
    iapply Hk
    isplitl [H0]
    · iexists _; isplitr; · ipureintro; exact Z1.read_unread _
      iexact H0
    isplitl [H1]
    · iexists _; isplitr; · ipureintro; exact Z2.read_unread _
      iexact H1
    isplitl [H2]
    · iexists _; isplitr; · ipureintro; exact Z3.read_unread _
      iexact H2
    isplitl [H3]
    · iexists _; isplitr; · ipureintro; exact Z4.read_unread _
      iexact H3
    isplitl [H4]
    · iexists _; isplitr; · ipureintro; exact Z5.read_unread _
      iexact H4
    isplitl [H5]
    · iexists _; isplitr; · ipureintro; exact Z6.read_unread _
      iexact H5
    isplitl [H6]
    · iexists _; isplitr; · ipureintro; exact Z7.read_unread _
      iexact H6
    isplitl [H7]
    · iexists _; isplitr; · ipureintro; exact Z8.read_unread _
      iexact H7
    isplitl [H8]
    · iexists _; isplitr; · ipureintro; exact Z9.read_unread _
      iexact H8
    isplitl [H9]
    · iexists _; isplitr; · ipureintro; exact Z10.read_unread _
      iexact H9
    isplitl [H10]
    · iexists _; isplitr; · ipureintro; exact Z11.read_unread _
      iexact H10
    isplitl [H11]
    · iexists _; isplitr; · ipureintro; exact Z12.read_unread _
      iexact H11
    isplitl [H12]
    · iexists _; isplitr; · ipureintro; exact Z13.read_unread _
      iexact H12
    isplitl [H13]
    · iexists _; isplitr; · ipureintro; exact Z14.read_unread _
      iexact H13
    isplitl [H14]; · iexists _; iexact H14
    isplitl [HS0]; · iexists _; iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iexists _; iexact HS10

/-- A whole staging or scratch buffer of the program, as the body takes it. -/
abbrev Mr (S : Shape) (e : EltTy) := Memref sig .tc .vmem S e

end Cert.RwkvIdeal.Gen

end
-- ==== Proof.RwkvRowsA.lean ====
/- The arrays one chain loads for one chunk at a first grid point, and the states between the chunks, by the names the
   run of the kernel gives them. -/
module

public import proofs.«01_k».proof.Proof.RwkvChunk
public import proofs.«01_k».proof.Proof.RwkvIdealRunB
public import proofs.«01_k».proof.Proof.Gen.RwkvIdeal.Frame.RunA

@[expose] public section

set_option maxRecDepth 65536
set_option maxHeartbeats 4000000

noncomputable section

namespace Cert.RwkvIdeal.Chunk.A

open Idealize.ShloMosaic Idealize.SL.Sem Cert.RwkvIdeal.Gen

variable {F : FTy → Type} [FloatOps F]
variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : cond0_0 i)     (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 x8 x9 x10 x11 : Vec F S1x512 .f32) (x12 : Vec F S512x512 .bf16) (x13 : Vec F S256x256 .bf16)

/-- What a chain loads from the arrays the preparation stored: the rows from `o` on of the columns from `l` on, and row `w` of the decays. -/
def x (o l w : ℕ) (h : ∀ a, (![o, l] : Fin 2 → Nat) a + S64x256.size a ≤ S512x512.size a)
    (hw : ∀ a, (![w, l] : Fin 2 → Nat) a + S1x256.size a ≤ S512x512.size a) : Rows F :=
  ⟨z18.view.readCov (kernelRun0_A.sl.HS2_2 c z1 Z1 z2 Z2 z3 Z3 z4 Z4 z8 Z8 z13 Z13 z14 Z14 z17 x0 x1 x2 x3 x7 x12 x13) (Rect.unit (s := S512x512) ![o, l] S64x256.size h).toLoadRect,
   z19.view.readCov (kernelRun0_A.sl.HS3_2 c z1 Z1 z2 Z2 z3 Z3 z4 Z4 z14 Z14 z17 x0 x1 x2 x3 x13) (Rect.unit (s := S512x512) ![o, l] S64x256.size h).toLoadRect,
   z20.view.readCov (kernelRun0_A.sl.HS4_2 c z1 Z1 z2 Z2 z3 Z3 z4 Z4 z5 Z5 z6 Z6 z8 Z8 z13 Z13 z14 Z14 z17 x0 x1 x2 x3 x4 x5 x7 x12 x13) (Rect.unit (s := S512x512) ![o, l] S64x256.size h).toLoadRect,
   z21.view.readCov (kernelRun0_A.sl.HS5_2 c z1 Z1 z2 Z2 z3 Z3 z4 Z4 z5 Z5 z6 Z6 z9 Z9 z14 Z14 z17 x0 x1 x2 x3 x4 x5 x8 x13) (Rect.unit (s := S512x512) ![o, l] S64x256.size h).toLoadRect,
   z22.view.readCov (kernelRun0_A.sl.HS6_2 c z1 Z1 z2 Z2 z17 x0 x1) (Rect.unit (s := S512x512) ![o, l] S64x256.size h).toLoadRect,
   z23.view.readCov (kernelRun0_A.sl.HS7_2 c z1 Z1 z2 Z2 z3 Z3 z4 Z4 z14 Z14 z17 x0 x1 x2 x3 x13) (Rect.unit (s := S512x512) ![w, l] S1x256.size hw).toLoadRect⟩

/-- Chain 0's state before the point. -/
def s0_0 : FVec F S64x256 .f32 :=
  shapeCast S64x256 (z16.view.readCov (kernelRun0_A.sl.HS0_1 (F := F)) (Rect.unit (s := S4x64x256) ![0, 0, 0] S1x64x256.size inb_S4x64x256_S1x64x256_0_0_0).toLoadRect) shapeCasts_S1x64x256_S64x256

/-- Chain 1's state before the point. -/
def s0_1 : FVec F S64x256 .f32 :=
  shapeCast S64x256 (z16.view.readCov (kernelRun0_A.sl.HS0_1 (F := F)) (Rect.unit (s := S4x64x256) ![1, 0, 0] S1x64x256.size inb_S4x64x256_S1x64x256_1_0_0).toLoadRect) shapeCasts_S1x64x256_S64x256

/-- Chain 2's state before the point. -/
def s0_2 : FVec F S64x256 .f32 :=
  shapeCast S64x256 (z16.view.readCov (kernelRun0_A.sl.HS0_1 (F := F)) (Rect.unit (s := S4x64x256) ![2, 0, 0] S1x64x256.size inb_S4x64x256_S1x64x256_2_0_0).toLoadRect) shapeCasts_S1x64x256_S64x256

/-- Chain 3's state before the point. -/
def s0_3 : FVec F S64x256 .f32 :=
  shapeCast S64x256 (z16.view.readCov (kernelRun0_A.sl.HS0_1 (F := F)) (Rect.unit (s := S4x64x256) ![3, 0, 0] S1x64x256.size inb_S4x64x256_S1x64x256_3_0_0).toLoadRect) shapeCasts_S1x64x256_S64x256

/-- Chain 0's state after chunk 0. -/
def s1_0 : FVec F S64x256 .f32 := kernelRun0_A.sl.r_158 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 1's state after chunk 0. -/
def s1_1 : FVec F S64x256 .f32 := kernelRun0_A.sl.r_159 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 2's state after chunk 0. -/
def s1_2 : FVec F S64x256 .f32 := kernelRun0_A.sl.r_161 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 3's state after chunk 0. -/
def s1_3 : FVec F S64x256 .f32 := kernelRun0_A.sl.r_162 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 0's state after chunk 1. -/
def s2_0 : FVec F S64x256 .f32 := kernelRun0_A.sl.r_258 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 1's state after chunk 1. -/
def s2_1 : FVec F S64x256 .f32 := kernelRun0_A.sl.r_259 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 2's state after chunk 1. -/
def s2_2 : FVec F S64x256 .f32 := kernelRun0_A.sl.r_260 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 3's state after chunk 1. -/
def s2_3 : FVec F S64x256 .f32 := kernelRun0_A.sl.r_262 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 0's state after chunk 2. -/
def s3_0 : FVec F S64x256 .f32 := kernelRun0_A.sl.r_358 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 1's state after chunk 2. -/
def s3_1 : FVec F S64x256 .f32 := kernelRun0_A.sl.r_361 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 2's state after chunk 2. -/
def s3_2 : FVec F S64x256 .f32 := kernelRun0_A.sl.r_362 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 3's state after chunk 2. -/
def s3_3 : FVec F S64x256 .f32 := kernelRun0_A.sl.r_363 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 0's state after chunk 3. -/
def s4_0 : FVec F S64x256 .f32 := kernelRun0_A.sl.r_417 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 1's state after chunk 3. -/
def s4_1 : FVec F S64x256 .f32 := kernelRun0_A.sl.r_418 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

/-- Chain 2's state after chunk 3. -/
def s4_2 : FVec F S64x256 .f32 := kernelRun0_A.sl.r_419 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13

end Cert.RwkvIdeal.Chunk.A
-- ==== Proof.RwkvLoadsA.lean ====
/- What the preparation loads at a first grid point, and the arrays it stores as its functions. -/
module

public import proofs.«01_k».proof.Proof.RwkvWindow
public import proofs.«01_k».proof.Proof.RwkvRowsA

@[expose] public section

set_option maxRecDepth 65536
set_option maxHeartbeats 4000000

noncomputable section

namespace Cert.RwkvIdeal.Chunk.A

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16)

/-- What the preparation of batch entry 0's rows loads. -/
def L0 : Prep.Loads Ideal :=
  ⟨View.readAt (Elt Ideal) z1.view (Rect.unit (s := S2x256x1920) ![0, 0, 0] S1x256x1920.size inb_S2x256x1920_S1x256x1920_0_0_0).toLoadRect (Z1.unread x0),
   kernelRun0_A.sl.v10 (F := Ideal) c z17,
   View.readAt (Elt Ideal) z2.view (Rect.unit (s := S1x1920) ![0, 0] S1x1920.size inb_S1x1920_S1x1920_0_0).toLoadRect (Z2.unread x1),
   View.readAt (Elt Ideal) z3.view (Rect.unit (s := S1x512) ![0, 0] S1x512.size inb_S1x512_S1x512_0_0).toLoadRect (Z3.unread x2),
   View.readAt (Elt Ideal) z4.view (Rect.unit (s := S128x512) ![0, 0] S128x512.size inb_S128x512_S128x512_0_0).toLoadRect (Z4.unread x3),
   View.readAt (Elt Ideal) z5.view (Rect.unit (s := S1x512) ![0, 0] S1x512.size inb_S1x512_S1x512_0_0).toLoadRect (Z5.unread x4),
   View.readAt (Elt Ideal) z6.view (Rect.unit (s := S128x512) ![0, 0] S128x512.size inb_S128x512_S128x512_0_0).toLoadRect (Z6.unread x5),
   View.readAt (Elt Ideal) z7.view (Rect.unit (s := S256x512) ![0, 0] S256x512.size inb_S256x512_S256x512_0_0).toLoadRect (Z7.unread x6),
   View.readAt (Elt Ideal) z8.view (Rect.unit (s := S1x512) ![0, 0] S1x512.size inb_S1x512_S1x512_0_0).toLoadRect (Z8.unread x7),
   View.readAt (Elt Ideal) z9.view (Rect.unit (s := S1x512) ![0, 0] S1x512.size inb_S1x512_S1x512_0_0).toLoadRect (Z9.unread x8),
   View.readAt (Elt Ideal) z10.view (Rect.unit (s := S1x512) ![0, 0] S1x512.size inb_S1x512_S1x512_0_0).toLoadRect (Z10.unread x9),
   View.readAt (Elt Ideal) z11.view (Rect.unit (s := S1x512) ![0, 0] S1x512.size inb_S1x512_S1x512_0_0).toLoadRect (Z11.unread x10),
   View.readAt (Elt Ideal) z12.view (Rect.unit (s := S1x512) ![0, 0] S1x512.size inb_S1x512_S1x512_0_0).toLoadRect (Z12.unread x11),
   View.readAt (Elt Ideal) z13.view (Rect.unit (s := S512x512) ![0, 0] S512x512.size inb_S512x512_S512x512_0_0).toLoadRect (Z13.unread x12),
   View.readAt (Elt Ideal) z14.view (Rect.unit (s := S256x256) ![0, 0] S256x256.size inb_S256x256_S256x256_0_0).toLoadRect (Z14.unread x13)⟩

/-- What the preparation of batch entry 1's rows loads. -/
def L1 : Prep.Loads Ideal :=
  ⟨View.readAt (Elt Ideal) z1.view (Rect.unit (s := S2x256x1920) ![1, 0, 0] S1x256x1920.size inb_S2x256x1920_S1x256x1920_1_0_0).toLoadRect (Z1.unread x0),
   kernelRun0_A.sl.v142 c z1 Z1 z17 x0,
   View.readAt (Elt Ideal) z2.view (Rect.unit (s := S1x1920) ![0, 0] S1x1920.size inb_S1x1920_S1x1920_0_0).toLoadRect (Z2.unread x1),
   View.readAt (Elt Ideal) z3.view (Rect.unit (s := S1x512) ![0, 0] S1x512.size inb_S1x512_S1x512_0_0).toLoadRect (Z3.unread x2),
   View.readAt (Elt Ideal) z4.view (Rect.unit (s := S128x512) ![0, 0] S128x512.size inb_S128x512_S128x512_0_0).toLoadRect (Z4.unread x3),
   View.readAt (Elt Ideal) z5.view (Rect.unit (s := S1x512) ![0, 0] S1x512.size inb_S1x512_S1x512_0_0).toLoadRect (Z5.unread x4),
   View.readAt (Elt Ideal) z6.view (Rect.unit (s := S128x512) ![0, 0] S128x512.size inb_S128x512_S128x512_0_0).toLoadRect (Z6.unread x5),
   View.readAt (Elt Ideal) z7.view (Rect.unit (s := S256x512) ![0, 0] S256x512.size inb_S256x512_S256x512_0_0).toLoadRect (Z7.unread x6),
   View.readAt (Elt Ideal) z8.view (Rect.unit (s := S1x512) ![0, 0] S1x512.size inb_S1x512_S1x512_0_0).toLoadRect (Z8.unread x7),
   View.readAt (Elt Ideal) z9.view (Rect.unit (s := S1x512) ![0, 0] S1x512.size inb_S1x512_S1x512_0_0).toLoadRect (Z9.unread x8),
   View.readAt (Elt Ideal) z10.view (Rect.unit (s := S1x512) ![0, 0] S1x512.size inb_S1x512_S1x512_0_0).toLoadRect (Z10.unread x9),
   View.readAt (Elt Ideal) z11.view (Rect.unit (s := S1x512) ![0, 0] S1x512.size inb_S1x512_S1x512_0_0).toLoadRect (Z11.unread x10),
   View.readAt (Elt Ideal) z12.view (Rect.unit (s := S1x512) ![0, 0] S1x512.size inb_S1x512_S1x512_0_0).toLoadRect (Z12.unread x11),
   View.readAt (Elt Ideal) z13.view (Rect.unit (s := S512x512) ![0, 0] S512x512.size inb_S512x512_S512x512_0_0).toLoadRect (Z13.unread x12),
   View.readAt (Elt Ideal) z14.view (Rect.unit (s := S256x256) ![0, 0] S256x256.size inb_S256x256_S256x256_0_0).toLoadRect (Z14.unread x13)⟩

theorem hs2_2 : kernelRun0_A.sl.HS2_2 c z1 Z1 z2 Z2 z3 Z3 z4 Z4 z8 Z8 z13 Z13 z14 Z14 z17 x0 x1 x2 x3 x7 x12 x13 =
    stored (Prep.at' (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.at' (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs3_2 : kernelRun0_A.sl.HS3_2 c z1 Z1 z2 Z2 z3 Z3 z4 Z4 z14 Z14 z17 x0 x1 x2 x3 x13 =
    stored (Prep.rt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.rt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs4_2 : kernelRun0_A.sl.HS4_2 c z1 Z1 z2 Z2 z3 Z3 z4 Z4 z5 Z5 z6 Z6 z8 Z8 z13 Z13 z14 Z14 z17 x0 x1 x2 x3 x4 x5 x7 x12 x13 =
    stored (Prep.bt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.bt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs5_2 : kernelRun0_A.sl.HS5_2 c z1 Z1 z2 Z2 z3 Z3 z4 Z4 z5 Z5 z6 Z6 z9 Z9 z14 Z14 z17 x0 x1 x2 x3 x4 x5 x8 x13 =
    stored (Prep.kt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.kt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs6_2 : kernelRun0_A.sl.HS6_2 c z1 Z1 z2 Z2 z17 x0 x1 =
    stored (Prep.vt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.vt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs7_2 : kernelRun0_A.sl.HS7_2 c z1 Z1 z2 Z2 z3 Z3 z4 Z4 z14 Z14 z17 x0 x1 x2 x3 x13 =
    stored (Prep.wc (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.wc (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs9_2 : kernelRun0_A.sl.HS9_2 c z1 Z1 z2 Z2 z5 Z5 z6 Z6 z9 Z9 z10 Z10 z13 Z13 z17 x0 x1 x4 x5 x8 x9 x12 =
    stored (Prep.bonus (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.bonus (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

theorem hs10_2 : kernelRun0_A.sl.HS10_2 c z1 Z1 z2 Z2 z7 Z7 z17 x0 x1 x6 =
    stored (Prep.g (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.g (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) := by exact rfl

end Cert.RwkvIdeal.Chunk.A
-- ==== Proof.RwkvWritesA.lean ====
/- The state after each chunk, and the rows each chunk writes, are one chunk's step and rows of the state before it, at a first grid point. -/
module

public import proofs.«01_k».proof.Proof.RwkvRowsA

@[expose] public section

set_option maxRecDepth 65536
set_option maxHeartbeats 4000000

noncomputable section

namespace Cert.RwkvIdeal.Chunk.A

open Idealize.ShloMosaic Idealize.SL.Sem Cert.RwkvIdeal.Gen

variable {F : FTy → Type} [FloatOps F]
variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : cond0_0 i)     (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 x8 x9 x10 x11 : Vec F S1x512 .f32) (x12 : Vec F S512x512 .bf16) (x13 : Vec F S256x256 .bf16)

theorem step0_0 : s1_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 0 63 inb_S512x512_S64x256_0_0 inb_S512x512_S1x256_63_0) (s0_0 (F := F) z16) := by exact rfl

theorem step0_1 : s1_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 256 63 inb_S512x512_S64x256_0_256 inb_S512x512_S1x256_63_256) (s0_1 (F := F) z16) := by exact rfl

theorem step0_2 : s1_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 0 319 inb_S512x512_S64x256_256_0 inb_S512x512_S1x256_319_0) (s0_2 (F := F) z16) := by exact rfl

theorem step0_3 : s1_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 256 319 inb_S512x512_S64x256_256_256 inb_S512x512_S1x256_319_256) (s0_3 (F := F) z16) := by exact rfl

theorem step1_0 : s2_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 0 127 inb_S512x512_S64x256_64_0 inb_S512x512_S1x256_127_0) (s1_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step1_1 : s2_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 256 127 inb_S512x512_S64x256_64_256 inb_S512x512_S1x256_127_256) (s1_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step1_2 : s2_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 0 383 inb_S512x512_S64x256_320_0 inb_S512x512_S1x256_383_0) (s1_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step1_3 : s2_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 256 383 inb_S512x512_S64x256_320_256 inb_S512x512_S1x256_383_256) (s1_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step2_0 : s3_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 0 191 inb_S512x512_S64x256_128_0 inb_S512x512_S1x256_191_0) (s2_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step2_1 : s3_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 256 191 inb_S512x512_S64x256_128_256 inb_S512x512_S1x256_191_256) (s2_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step2_2 : s3_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 0 447 inb_S512x512_S64x256_384_0 inb_S512x512_S1x256_447_0) (s2_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step2_3 : s3_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 256 447 inb_S512x512_S64x256_384_256 inb_S512x512_S1x256_447_256) (s2_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step3_0 : s4_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 0 255 inb_S512x512_S64x256_192_0 inb_S512x512_S1x256_255_0) (s3_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step3_1 : s4_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 256 255 inb_S512x512_S64x256_192_256 inb_S512x512_S1x256_255_256) (s3_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem step3_2 : s4_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 0 511 inb_S512x512_S64x256_448_0 inb_S512x512_S1x256_511_0) (s3_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y0_0 : k0_pay220 (kernelRun0_A.sl.r_57 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_101 c z1 Z1 z2 Z2 z3 Z3 z4 Z4 z8 Z8 z13 Z13 z14 Z14 z16 z17 z18 z19 x0 x1 x2 x3 x7 x12 x13) (kernelRun0_A.sl.r_148 c z1 Z1 z2 Z2 z3 Z3 z4 Z4 z5 Z5 z6 Z6 z8 Z8 z9 Z9 z13 Z13 z14 Z14 z16 z17 z18 z19 z20 z21 z22 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 0 63 inb_S512x512_S64x256_0_0 inb_S512x512_S1x256_63_0) (s0_0 (F := F) z16) := by exact rfl

theorem y0_1 : k0_pay222 (kernelRun0_A.sl.r_58 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_102 c z1 Z1 z2 Z2 z3 Z3 z4 Z4 z8 Z8 z13 Z13 z14 Z14 z16 z17 z18 z19 x0 x1 x2 x3 x7 x12 x13) (kernelRun0_A.sl.r_149 c z1 Z1 z2 Z2 z3 Z3 z4 Z4 z5 Z5 z6 Z6 z8 Z8 z9 Z9 z13 Z13 z14 Z14 z16 z17 z18 z19 z20 z21 z22 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 256 63 inb_S512x512_S64x256_0_256 inb_S512x512_S1x256_63_256) (s0_1 (F := F) z16) := by exact rfl

theorem y0_2 : k0_pay225 (kernelRun0_A.sl.r_59 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_103 c z1 Z1 z2 Z2 z3 Z3 z4 Z4 z8 Z8 z13 Z13 z14 Z14 z16 z17 z18 z19 x0 x1 x2 x3 x7 x12 x13) (kernelRun0_A.sl.r_150 c z1 Z1 z2 Z2 z3 Z3 z4 Z4 z5 Z5 z6 Z6 z8 Z8 z9 Z9 z13 Z13 z14 Z14 z16 z17 z18 z19 z20 z21 z22 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 0 319 inb_S512x512_S64x256_256_0 inb_S512x512_S1x256_319_0) (s0_2 (F := F) z16) := by exact rfl

theorem y0_3 : k0_pay227 (kernelRun0_A.sl.r_60 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_104 c z1 Z1 z2 Z2 z3 Z3 z4 Z4 z8 Z8 z13 Z13 z14 Z14 z16 z17 z18 z19 x0 x1 x2 x3 x7 x12 x13) (kernelRun0_A.sl.r_151 c z1 Z1 z2 Z2 z3 Z3 z4 Z4 z5 Z5 z6 Z6 z8 Z8 z9 Z9 z13 Z13 z14 Z14 z16 z17 z18 z19 z20 z21 z22 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 256 319 inb_S512x512_S64x256_256_256 inb_S512x512_S1x256_319_256) (s0_3 (F := F) z16) := by exact rfl

theorem y1_0 : k0_pay339 (kernelRun0_A.sl.r_136 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_196 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_250 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 0 127 inb_S512x512_S64x256_64_0 inb_S512x512_S1x256_127_0) (s1_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y1_1 : k0_pay341 (kernelRun0_A.sl.r_137 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_197 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_251 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 256 127 inb_S512x512_S64x256_64_256 inb_S512x512_S1x256_127_256) (s1_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y1_2 : k0_pay344 (kernelRun0_A.sl.r_261 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 0 383 inb_S512x512_S64x256_320_0 inb_S512x512_S1x256_383_0) (s1_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y1_3 : k0_pay346 (kernelRun0_A.sl.r_139 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_199 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_253 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 256 383 inb_S512x512_S64x256_320_256 inb_S512x512_S1x256_383_256) (s1_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y2_0 : k0_pay461 (kernelRun0_A.sl.r_235 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_298 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_350 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 0 191 inb_S512x512_S64x256_128_0 inb_S512x512_S1x256_191_0) (s2_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y2_1 : k0_pay465 (kernelRun0_A.sl.r_236 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_299 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_351 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 256 191 inb_S512x512_S64x256_128_256 inb_S512x512_S1x256_191_256) (s2_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y2_2 : k0_pay467 (kernelRun0_A.sl.r_237 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_300 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_353 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 0 447 inb_S512x512_S64x256_384_0 inb_S512x512_S1x256_447_0) (s2_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y2_3 : k0_pay470 (kernelRun0_A.sl.r_364 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 256 447 inb_S512x512_S64x256_384_256 inb_S512x512_S1x256_447_256) (s2_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y3_0 : k0_pay547 (kernelRun0_A.sl.r_338 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_400 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_408 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 0 255 inb_S512x512_S64x256_192_0 inb_S512x512_S1x256_255_0) (s3_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y3_1 : k0_pay549 (kernelRun0_A.sl.r_339 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_401 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_409 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 256 255 inb_S512x512_S64x256_192_256 inb_S512x512_S1x256_255_256) (s3_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y3_2 : k0_pay551 (kernelRun0_A.sl.r_340 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_402 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_410 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 0 511 inb_S512x512_S64x256_448_0 inb_S512x512_S1x256_511_0) (s3_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

theorem y3_3 : k0_pay552 (kernelRun0_A.sl.r_341 c z1 Z1 z2 Z2 z3 Z3 z4 Z4 z5 Z5 z6 Z6 z8 Z8 z9 Z9 z13 Z13 z14 Z14 z17 z18 z19 z21 z22 x0 x1 x2 x3 x4 x5 x7 x8 x12 x13) (kernelRun0_A.sl.r_403 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (kernelRun0_A.sl.r_411 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) =
    y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 256 511 inb_S512x512_S64x256_448_256 inb_S512x512_S1x256_511_256) (s3_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) := by exact rfl

/-- The rows stored, last store first. -/
theorem rows_eq : kernelRun0_A.sl.HS8_16 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13 = [⟨Rect.unit (s := S512x512) ![448, 256] S64x256.size inb_S512x512_S64x256_448_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 256 511 inb_S512x512_S64x256_448_256 inb_S512x512_S1x256_511_256) (s3_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![448, 0] S64x256.size inb_S512x512_S64x256_448_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 0 511 inb_S512x512_S64x256_448_0 inb_S512x512_S1x256_511_0) (s3_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![192, 256] S64x256.size inb_S512x512_S64x256_192_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 256 255 inb_S512x512_S64x256_192_256 inb_S512x512_S1x256_255_256) (s3_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![192, 0] S64x256.size inb_S512x512_S64x256_192_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 0 255 inb_S512x512_S64x256_192_0 inb_S512x512_S1x256_255_0) (s3_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![384, 256] S64x256.size inb_S512x512_S64x256_384_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 256 447 inb_S512x512_S64x256_384_256 inb_S512x512_S1x256_447_256) (s2_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![384, 0] S64x256.size inb_S512x512_S64x256_384_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 0 447 inb_S512x512_S64x256_384_0 inb_S512x512_S1x256_447_0) (s2_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![128, 256] S64x256.size inb_S512x512_S64x256_128_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 256 191 inb_S512x512_S64x256_128_256 inb_S512x512_S1x256_191_256) (s2_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![128, 0] S64x256.size inb_S512x512_S64x256_128_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 0 191 inb_S512x512_S64x256_128_0 inb_S512x512_S1x256_191_0) (s2_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![320, 256] S64x256.size inb_S512x512_S64x256_320_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 256 383 inb_S512x512_S64x256_320_256 inb_S512x512_S1x256_383_256) (s1_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![320, 0] S64x256.size inb_S512x512_S64x256_320_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 0 383 inb_S512x512_S64x256_320_0 inb_S512x512_S1x256_383_0) (s1_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![64, 256] S64x256.size inb_S512x512_S64x256_64_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 256 127 inb_S512x512_S64x256_64_256 inb_S512x512_S1x256_127_256) (s1_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![64, 0] S64x256.size inb_S512x512_S64x256_64_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 0 127 inb_S512x512_S64x256_64_0 inb_S512x512_S1x256_127_0) (s1_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩,
    ⟨Rect.unit (s := S512x512) ![256, 256] S64x256.size inb_S512x512_S64x256_256_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 256 319 inb_S512x512_S64x256_256_256 inb_S512x512_S1x256_319_256) (s0_3 (F := F) z16)⟩,
    ⟨Rect.unit (s := S512x512) ![256, 0] S64x256.size inb_S512x512_S64x256_256_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 0 319 inb_S512x512_S64x256_256_0 inb_S512x512_S1x256_319_0) (s0_2 (F := F) z16)⟩,
    ⟨Rect.unit (s := S512x512) ![0, 256] S64x256.size inb_S512x512_S64x256_0_256, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 256 63 inb_S512x512_S64x256_0_256 inb_S512x512_S1x256_63_256) (s0_1 (F := F) z16)⟩,
    ⟨Rect.unit (s := S512x512) ![0, 0] S64x256.size inb_S512x512_S64x256_0_0, y (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 0 63 inb_S512x512_S64x256_0_0 inb_S512x512_S1x256_63_0) (s0_0 (F := F) z16)⟩] := by
  unfold kernelRun0_A.sl.HS8_16
  rw [y0_0, y0_1, y0_2, y0_3, y1_0, y1_1, y1_2, y1_3, y2_0, y2_1, y2_2, y2_3, y3_0, y3_1, y3_2, y3_3]

end Cert.RwkvIdeal.Chunk.A
-- ==== Proof.RwkvStatesA.lean ====
/- The states between the chunks, and what each chunk loads, at a first grid point. -/
module

public import proofs.«01_k».proof.Proof.RwkvLoadsA
public import proofs.«01_k».proof.Proof.RwkvWritesA

@[expose] public section

set_option maxRecDepth 65536
set_option maxHeartbeats 4000000

noncomputable section

namespace Cert.RwkvIdeal.Chunk.A

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16)

theorem x_eq (o l w : ℕ) (h : ∀ a, (![o, l] : Fin 2 → Nat) a + S64x256.size a ≤ S512x512.size a)
    (hw : ∀ a, (![w, l] : Fin 2 → Nat) a + S1x256.size a ≤ S512x512.size a) :
    x c z1 Z1 z2 Z2 z3 Z3 z4 Z4 z5 Z5 z6 Z6 z8 Z8 z9 Z9 z13 Z13 z14 Z14 z17 z18 z19 z20 z21 z22 z23 x0 x1 x2 x3 x4 x5 x7 x8 x12 x13 o l w h hw = ⟨z18.view.readCov (stored (Prep.at' (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.at' (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13))) (Rect.unit (s := S512x512) ![o, l] S64x256.size h).toLoadRect,
      z19.view.readCov (stored (Prep.rt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.rt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13))) (Rect.unit (s := S512x512) ![o, l] S64x256.size h).toLoadRect,
      z20.view.readCov (stored (Prep.bt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.bt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13))) (Rect.unit (s := S512x512) ![o, l] S64x256.size h).toLoadRect,
      z21.view.readCov (stored (Prep.kt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.kt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13))) (Rect.unit (s := S512x512) ![o, l] S64x256.size h).toLoadRect,
      z22.view.readCov (stored (Prep.vt (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.vt (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13))) (Rect.unit (s := S512x512) ![o, l] S64x256.size h).toLoadRect,
      z23.view.readCov (stored (Prep.wc (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)) (Prep.wc (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13))) (Rect.unit (s := S512x512) ![w, l] S1x256.size hw).toLoadRect⟩ := by
  unfold x
  rw [hs2_2, hs3_2, hs4_2, hs5_2, hs6_2, hs7_2]

theorem takes0_0 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 0 63 inb_S512x512_S64x256_0_0 inb_S512x512_S1x256_63_0) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 0 0 (by decide) (by decide) := by
  rw [x_eq]
  exact takes_lo z18 z19 z20 z21 z22 z23 _ _ 0 0 (by decide) (by decide) _ _

theorem takes0_1 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 0 256 63 inb_S512x512_S64x256_0_256 inb_S512x512_S1x256_63_256) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 0 1 (by decide) (by decide) := by
  rw [x_eq]
  exact takes_lo z18 z19 z20 z21 z22 z23 _ _ 0 1 (by decide) (by decide) _ _

theorem takes0_2 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 0 319 inb_S512x512_S64x256_256_0 inb_S512x512_S1x256_319_0) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 0 0 (by decide) (by decide) := by
  rw [x_eq]
  exact takes_hi z18 z19 z20 z21 z22 z23 _ _ 0 0 (by decide) (by decide) _ _

theorem takes0_3 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 256 256 319 inb_S512x512_S64x256_256_256 inb_S512x512_S1x256_319_256) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 0 1 (by decide) (by decide) := by
  rw [x_eq]
  exact takes_hi z18 z19 z20 z21 z22 z23 _ _ 0 1 (by decide) (by decide) _ _

theorem takes1_0 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 0 127 inb_S512x512_S64x256_64_0 inb_S512x512_S1x256_127_0) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 1 0 (by decide) (by decide) := by
  rw [x_eq]
  exact takes_lo z18 z19 z20 z21 z22 z23 _ _ 1 0 (by decide) (by decide) _ _

theorem takes1_1 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 64 256 127 inb_S512x512_S64x256_64_256 inb_S512x512_S1x256_127_256) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 1 1 (by decide) (by decide) := by
  rw [x_eq]
  exact takes_lo z18 z19 z20 z21 z22 z23 _ _ 1 1 (by decide) (by decide) _ _

theorem takes1_2 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 0 383 inb_S512x512_S64x256_320_0 inb_S512x512_S1x256_383_0) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 1 0 (by decide) (by decide) := by
  rw [x_eq]
  exact takes_hi z18 z19 z20 z21 z22 z23 _ _ 1 0 (by decide) (by decide) _ _

theorem takes1_3 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 320 256 383 inb_S512x512_S64x256_320_256 inb_S512x512_S1x256_383_256) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 1 1 (by decide) (by decide) := by
  rw [x_eq]
  exact takes_hi z18 z19 z20 z21 z22 z23 _ _ 1 1 (by decide) (by decide) _ _

theorem takes2_0 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 0 191 inb_S512x512_S64x256_128_0 inb_S512x512_S1x256_191_0) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 2 0 (by decide) (by decide) := by
  rw [x_eq]
  exact takes_lo z18 z19 z20 z21 z22 z23 _ _ 2 0 (by decide) (by decide) _ _

theorem takes2_1 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 128 256 191 inb_S512x512_S64x256_128_256 inb_S512x512_S1x256_191_256) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 2 1 (by decide) (by decide) := by
  rw [x_eq]
  exact takes_lo z18 z19 z20 z21 z22 z23 _ _ 2 1 (by decide) (by decide) _ _

theorem takes2_2 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 0 447 inb_S512x512_S64x256_384_0 inb_S512x512_S1x256_447_0) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 2 0 (by decide) (by decide) := by
  rw [x_eq]
  exact takes_hi z18 z19 z20 z21 z22 z23 _ _ 2 0 (by decide) (by decide) _ _

theorem takes2_3 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 384 256 447 inb_S512x512_S64x256_384_256 inb_S512x512_S1x256_447_256) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 2 1 (by decide) (by decide) := by
  rw [x_eq]
  exact takes_hi z18 z19 z20 z21 z22 z23 _ _ 2 1 (by decide) (by decide) _ _

theorem takes3_0 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 0 255 inb_S512x512_S64x256_192_0 inb_S512x512_S1x256_255_0) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 3 0 (by decide) (by decide) := by
  rw [x_eq]
  exact takes_lo z18 z19 z20 z21 z22 z23 _ _ 3 0 (by decide) (by decide) _ _

theorem takes3_1 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 192 256 255 inb_S512x512_S64x256_192_256 inb_S512x512_S1x256_255_256) (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 3 1 (by decide) (by decide) := by
  rw [x_eq]
  exact takes_lo z18 z19 z20 z21 z22 z23 _ _ 3 1 (by decide) (by decide) _ _

theorem takes3_2 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 0 511 inb_S512x512_S64x256_448_0 inb_S512x512_S1x256_511_0) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 3 0 (by decide) (by decide) := by
  rw [x_eq]
  exact takes_hi z18 z19 z20 z21 z22 z23 _ _ 3 0 (by decide) (by decide) _ _

theorem takes3_3 : Takes (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 256 511 inb_S512x512_S64x256_448_256 inb_S512x512_S1x256_511_256) (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) 3 1 (by decide) (by decide) := by
  rw [x_eq]
  exact takes_hi z18 z19 z20 z21 z22 z23 _ _ 3 1 (by decide) (by decide) _ _

theorem holds1_0 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_0 (F := Ideal) z16) P 0 t 0) : HoldsState (s1_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 1) 0 := by
  rw [step0_0]
  exact next_takes (c := 0) (takes0_0 ..) H S

theorem holds1_1 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_1 (F := Ideal) z16) P 0 t 1) : HoldsState (s1_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 1) 1 := by
  rw [step0_1]
  exact next_takes (c := 0) (takes0_1 ..) H S

theorem holds1_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_2 (F := Ideal) z16) P 1 t 0) : HoldsState (s1_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 1) 0 := by
  rw [step0_2]
  exact next_takes (c := 0) (takes0_2 ..) H S

theorem holds1_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_3 (F := Ideal) z16) P 1 t 1) : HoldsState (s1_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 1) 1 := by
  rw [step0_3]
  exact next_takes (c := 0) (takes0_3 ..) H S

theorem holds2_0 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_0 (F := Ideal) z16) P 0 t 0) : HoldsState (s2_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 2) 0 := by
  rw [step1_0]
  exact next_takes (c := 1) (takes1_0 ..) H (holds1_0 _ _ _ _ _ _ _ _ _ _ _ _ _ _ _ _ _ _ _ _ _ _ _ _ _ _ _ _ _ _ _ _ _ _ _ _ _ _ _ _ _ _ _ _ _ _ _ _ _ _ _ H S)

theorem holds2_1 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_1 (F := Ideal) z16) P 0 t 1) : HoldsState (s2_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 2) 1 := by
  rw [step1_1]
  exact next_takes (c := 1) (takes1_1 ..) H (holds1_1 _ _ _ _ _ _ _ _ _ _ _ _ _ _ _ _ _ _ _ _ _ _ _ _ _ _ _ _ _ _ _ _ _ _ _ _ _ _ _ _ _ _ _ _ _ _ _ _ _ _ _ H S)

theorem holds2_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_2 (F := Ideal) z16) P 1 t 0) : HoldsState (s2_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 2) 0 := by
  rw [step1_2]
  exact next_takes (c := 1) (takes1_2 ..) H (holds1_2 _ _ _ _ _ _ _ _ _ _ _ _ _ _ _ _ _ _ _ _ _ _ _ _ _ _ _ _ _ _ _ _ _ _ _ _ _ _ _ _ _ _ _ _ _ _ _ _ _ _ _ H S)

theorem holds2_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_3 (F := Ideal) z16) P 1 t 1) : HoldsState (s2_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 2) 1 := by
  rw [step1_3]
  exact next_takes (c := 1) (takes1_3 ..) H (holds1_3 _ _ _ _ _ _ _ _ _ _ _ _ _ _ _ _ _ _ _ _ _ _ _ _ _ _ _ _ _ _ _ _ _ _ _ _ _ _ _ _ _ _ _ _ _ _ _ _ _ _ _ H S)

theorem holds3_0 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_0 (F := Ideal) z16) P 0 t 0) : HoldsState (s3_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 3) 0 := by
  rw [step2_0]
  exact next_takes (c := 2) (takes2_0 ..) H (holds2_0 _ _ _ _ _ _ _ _ _ _ _ _ _ _ _ _ _ _ _ _ _ _ _ _ _ _ _ _ _ _ _ _ _ _ _ _ _ _ _ _ _ _ _ _ _ _ _ _ _ _ _ H S)

theorem holds3_1 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_1 (F := Ideal) z16) P 0 t 1) : HoldsState (s3_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 3) 1 := by
  rw [step2_1]
  exact next_takes (c := 2) (takes2_1 ..) H (holds2_1 _ _ _ _ _ _ _ _ _ _ _ _ _ _ _ _ _ _ _ _ _ _ _ _ _ _ _ _ _ _ _ _ _ _ _ _ _ _ _ _ _ _ _ _ _ _ _ _ _ _ _ H S)

theorem holds3_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_2 (F := Ideal) z16) P 1 t 0) : HoldsState (s3_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 3) 0 := by
  rw [step2_2]
  exact next_takes (c := 2) (takes2_2 ..) H (holds2_2 _ _ _ _ _ _ _ _ _ _ _ _ _ _ _ _ _ _ _ _ _ _ _ _ _ _ _ _ _ _ _ _ _ _ _ _ _ _ _ _ _ _ _ _ _ _ _ _ _ _ _ H S)

theorem holds3_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_3 (F := Ideal) z16) P 1 t 1) : HoldsState (s3_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 3) 1 := by
  rw [step2_3]
  exact next_takes (c := 2) (takes2_3 ..) H (holds2_3 _ _ _ _ _ _ _ _ _ _ _ _ _ _ _ _ _ _ _ _ _ _ _ _ _ _ _ _ _ _ _ _ _ _ _ _ _ _ _ _ _ _ _ _ _ _ _ _ _ _ _ H S)

theorem holds4_0 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_0 (F := Ideal) z16) P 0 t 0) : HoldsState (s4_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 4) 0 := by
  rw [step3_0]
  exact next_takes (c := 3) (takes3_0 ..) H (holds3_0 _ _ _ _ _ _ _ _ _ _ _ _ _ _ _ _ _ _ _ _ _ _ _ _ _ _ _ _ _ _ _ _ _ _ _ _ _ _ _ _ _ _ _ _ _ _ _ _ _ _ _ H S)

theorem holds4_1 {P : Args} {t : ℕ} (H : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (S : HoldsState (s0_1 (F := Ideal) z16) P 0 t 1) : HoldsState (s4_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 0 (t + 64 * 4) 1 := by
  rw [step3_1]
  exact next_takes (c := 3) (takes3_1 ..) H (holds3_1 _ _ _ _ _ _ _ _ _ _ _ _ _ _ _ _ _ _ _ _ _ _ _ _ _ _ _ _ _ _ _ _ _ _ _ _ _ _ _ _ _ _ _ _ _ _ _ _ _ _ _ H S)

theorem holds4_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_2 (F := Ideal) z16) P 1 t 0) : HoldsState (s4_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) P 1 (t + 64 * 4) 0 := by
  rw [step3_2]
  exact next_takes (c := 3) (takes3_2 ..) H (holds3_2 _ _ _ _ _ _ _ _ _ _ _ _ _ _ _ _ _ _ _ _ _ _ _ _ _ _ _ _ _ _ _ _ _ _ _ _ _ _ _ _ _ _ _ _ _ _ _ _ _ _ _ H S)

theorem holds4_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t) (S : HoldsState (s0_3 (F := Ideal) z16) P 1 t 1) : HoldsState (next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 256 511 inb_S512x512_S64x256_448_256 inb_S512x512_S1x256_511_256) (s3_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)) P 1 (t + 64 * 4) 1 :=
  next_takes (c := 3) (takes3_3 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H (holds3_3 _ _ _ _ _ _ _ _ _ _ _ _ _ _ _ _ _ _ _ _ _ _ _ _ _ _ _ _ _ _ _ _ _ _ _ _ _ _ _ _ _ _ _ _ _ _ _ _ _ _ _ H S)

end Cert.RwkvIdeal.Chunk.A
-- ==== Proof.RwkvEndsA.lean ====
/- What a first grid point reads holds the arguments and the carried rows and states; what it leaves, its output block, the states and the last
   rows, as functions of what it reads. -/
module

public import proofs.«01_k».proof.Proof.RwkvOut
public import proofs.«01_k».proof.Proof.RwkvStatesA
public import proofs.«01_k».proof.Proof.RwkvWritesA

@[expose] public section

set_option maxRecDepth 65536
set_option maxHeartbeats 4000000

noncomputable section

namespace Cert.RwkvIdeal.Chunk.A

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16)

/-- The rows the chunks store are the recurrence's. -/
theorem rows_yc {P : Args} {t : ℕ} (H0 : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 t) (H1 : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 t)
    (S0 : HoldsState (s0_0 (F := Ideal) z16) P 0 t 0) (S1 : HoldsState (s0_1 (F := Ideal) z16) P 0 t 1) (S2 : HoldsState (s0_2 (F := Ideal) z16) P 1 t 0) (S3 : HoldsState (s0_3 (F := Ideal) z16) P 1 t 1) (p j : Fin 512) :
    View.canon (kernelRun0_A.sl.HS8_16 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (ix2 p j) = rowsG P t (ix2 p j) := by
  have k3_3 := (y_takes (c := 3) (takes3_3 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 (holds3_3 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S3))
  have k3_2 := (y_takes (c := 3) (takes3_2 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 (holds3_2 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S2))
  have k3_1 := (y_takes (c := 3) (takes3_1 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 (holds3_1 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S1))
  have k3_0 := (y_takes (c := 3) (takes3_0 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 (holds3_0 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S0))
  have k2_3 := (y_takes (c := 2) (takes2_3 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 (holds2_3 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S3))
  have k2_2 := (y_takes (c := 2) (takes2_2 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 (holds2_2 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S2))
  have k2_1 := (y_takes (c := 2) (takes2_1 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 (holds2_1 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S1))
  have k2_0 := (y_takes (c := 2) (takes2_0 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 (holds2_0 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S0))
  have k1_3 := (y_takes (c := 1) (takes1_3 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 (holds1_3 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S3))
  have k1_2 := (y_takes (c := 1) (takes1_2 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 (holds1_2 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S2))
  have k1_1 := (y_takes (c := 1) (takes1_1 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 (holds1_1 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S1))
  have k1_0 := (y_takes (c := 1) (takes1_0 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 (holds1_0 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S0))
  have k0_3 := (y_takes (c := 0) (takes0_3 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 S3)
  have k0_2 := (y_takes (c := 0) (takes0_2 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H1 S2)
  have k0_1 := (y_takes (c := 0) (takes0_1 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 S1)
  have k0_0 := (y_takes (c := 0) (takes0_0 c z1 Z1 z2 Z2 z3 Z3 z4 Z4 z5 Z5 z6 Z6 z7 Z7 z8 Z8 z9 Z9 z10 Z10 z11 Z11 z12 Z12 z13 Z13 z14 Z14 z17 z18 z19 z20 z21 z22 z23 x0 x1 x2 x3 x4 x5 x6 x7 x8 x9 x10 x11 x12 x13) H0 S0)
  refine (congrArg (fun L => View.canon L (ix2 p j)) (rows_eq (F := Ideal) c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)).trans ?_
  exact rows_at k3_3 k3_2 k3_1 k3_0 k2_3 k2_2 k2_1 k2_0 k1_3 k1_2 k1_1 k1_0 k0_3 k0_2 k0_1 k0_0 p j

theorem off3 : (![0, 0, 0] : Fin 3 → Nat) = fun _ => 0 := by decide

theorem has0 {P : Args} (R : Raw x0 x1 x2 x3 x4 x5 x6 x7 x8 x9 x10 x11 x12 x13 P 0) : Prep.Has (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 0 0 where
  x := fun p j => (read_slab z1 Z1 x0 0 inb_S2x256x1920_S1x256x1920_0_0_0 (by decide) (by decide) (by decide) p j).trans (R.x 0 p j)
  pv := fun j => by
    refine Eq.trans (b := (0 : EReal)) ?_ (by simp [Args.prev])
    show (z17.view.readCov (kernelRun0_A.sl.HS1_1 (F := Ideal)) (Rect.unit (s := S2x8x1920) ![0, 0, 0] S1x1x1920.size inb_S2x8x1920_S1x1x1920_0_0_0).toLoadRect (ix3 0 0 j) : EReal) = 0
    rw [View.readCov_eq_canon']
    unfold kernelRun0_A.sl.HS1_1
    rw [View.canon_unit_zero off3]
    exact zeros1_at _
  mu := fun  j => (read_all z2 Z2 x1 inb_S1x1920_S1x1920_0_0 0 j).trans (R.mu j)
  w0 := fun  j => (read_all z3 Z3 x2 inb_S1x512_S1x512_0_0 0 j).trans (R.w0 j)
  w2 := fun i j => (read_all z4 Z4 x3 inb_S128x512_S128x512_0_0 i j).trans (R.w2 i j)
  a0 := fun  j => (read_all z5 Z5 x4 inb_S1x512_S1x512_0_0 0 j).trans (R.a0 j)
  a2 := fun i j => (read_all z6 Z6 x5 inb_S128x512_S128x512_0_0 i j).trans (R.a2 i j)
  g2 := fun i j => (read_all z7 Z7 x6 inb_S256x512_S256x512_0_0 i j).trans (R.g2 i j)
  kk := fun  j => (read_all z8 Z8 x7 inb_S1x512_S1x512_0_0 0 j).trans (R.kk j)
  ka := fun  j => (read_all z9 Z9 x8 inb_S1x512_S1x512_0_0 0 j).trans (R.ka j)
  rk := fun  j => (read_all z10 Z10 x9 inb_S1x512_S1x512_0_0 0 j).trans (R.rk j)
  lw := fun  j => (read_all z11 Z11 x10 inb_S1x512_S1x512_0_0 0 j).trans (R.lw j)
  lb := fun  j => (read_all z12 Z12 x11 inb_S1x512_S1x512_0_0 0 j).trans (R.lb j)
  gm := fun i j => (read_all z13 Z13 x12 inb_S512x512_S512x512_0_0 i j).trans (R.gm i j)
  lt := fun i j => (read_all z14 Z14 x13 inb_S256x256_S256x256_0_0 i j).trans (R.lt i j)

theorem has1 {P : Args} (R : Raw x0 x1 x2 x3 x4 x5 x6 x7 x8 x9 x10 x11 x12 x13 P 0) : Prep.Has (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) P 1 0 where
  x := fun p j => (read_slab z1 Z1 x0 1 inb_S2x256x1920_S1x256x1920_1_0_0 (by decide) (by decide) (by decide) p j).trans (R.x 1 p j)
  pv := fun j => by
    refine Eq.trans (b := (0 : EReal)) ?_ (by simp [Args.prev])
    show (z17.view.readCov (kernelRun0_A.sl.HS1_2 c z1 Z1 x0) (Rect.unit (s := S2x8x1920) ![1, 0, 0] S1x1x1920.size inb_S2x8x1920_S1x1x1920_1_0_0).toLoadRect (ix3 0 0 j) : EReal) = 0
    rw [View.readCov_eq_canon']
    unfold kernelRun0_A.sl.HS1_2
    have e : (Rect.unit (s := S2x8x1920) ![1, 0, 0] S1x1x1920.size inb_S2x8x1920_S1x1x1920_1_0_0).toLoadRect.idx (ix3 0 0 j) = ix3 (1 : Fin 2) (0 : Fin 8) j := by
      funext a; fin_cases a <;> apply Fin.ext <;> simp [Rect.unit, ix3]
    refine (congrArg (View.canon _) e).trans ((canon_other _ _ _ _ _ _ (by decide)).trans ?_)
    unfold kernelRun0_A.sl.HS1_1
    rw [View.canon_unit_zero off3]
    exact zeros1_at _
  mu := fun  j => (read_all z2 Z2 x1 inb_S1x1920_S1x1920_0_0 0 j).trans (R.mu j)
  w0 := fun  j => (read_all z3 Z3 x2 inb_S1x512_S1x512_0_0 0 j).trans (R.w0 j)
  w2 := fun i j => (read_all z4 Z4 x3 inb_S128x512_S128x512_0_0 i j).trans (R.w2 i j)
  a0 := fun  j => (read_all z5 Z5 x4 inb_S1x512_S1x512_0_0 0 j).trans (R.a0 j)
  a2 := fun i j => (read_all z6 Z6 x5 inb_S128x512_S128x512_0_0 i j).trans (R.a2 i j)
  g2 := fun i j => (read_all z7 Z7 x6 inb_S256x512_S256x512_0_0 i j).trans (R.g2 i j)
  kk := fun  j => (read_all z8 Z8 x7 inb_S1x512_S1x512_0_0 0 j).trans (R.kk j)
  ka := fun  j => (read_all z9 Z9 x8 inb_S1x512_S1x512_0_0 0 j).trans (R.ka j)
  rk := fun  j => (read_all z10 Z10 x9 inb_S1x512_S1x512_0_0 0 j).trans (R.rk j)
  lw := fun  j => (read_all z11 Z11 x10 inb_S1x512_S1x512_0_0 0 j).trans (R.lw j)
  lb := fun  j => (read_all z12 Z12 x11 inb_S1x512_S1x512_0_0 0 j).trans (R.lb j)
  gm := fun i j => (read_all z13 Z13 x12 inb_S512x512_S512x512_0_0 i j).trans (R.gm i j)
  lt := fun i j => (read_all z14 Z14 x13 inb_S256x256_S256x256_0_0 i j).trans (R.lt i j)

theorem start0 (P : Args) : HoldsState (s0_0 (F := Ideal) z16) P 0 0 0 := by
  intro h r l
  refine Eq.trans (b := (0 : EReal)) ?_ EReal.coe_zero.symm
  refine (down_at _ r (col h l)).trans ?_
  rw [View.readCov_eq_canon']
  unfold kernelRun0_A.sl.HS0_1
  rw [View.canon_unit_zero off3]
  exact zeros0_at _

theorem start1 (P : Args) : HoldsState (s0_1 (F := Ideal) z16) P 0 0 1 := by
  intro h r l
  refine Eq.trans (b := (0 : EReal)) ?_ EReal.coe_zero.symm
  refine (down_at _ r (col h l)).trans ?_
  rw [View.readCov_eq_canon']
  unfold kernelRun0_A.sl.HS0_1
  rw [View.canon_unit_zero off3]
  exact zeros0_at _

theorem start2 (P : Args) : HoldsState (s0_2 (F := Ideal) z16) P 1 0 0 := by
  intro h r l
  refine Eq.trans (b := (0 : EReal)) ?_ EReal.coe_zero.symm
  refine (down_at _ r (col h l)).trans ?_
  rw [View.readCov_eq_canon']
  unfold kernelRun0_A.sl.HS0_1
  rw [View.canon_unit_zero off3]
  exact zeros0_at _

theorem start3 (P : Args) : HoldsState (s0_3 (F := Ideal) z16) P 1 0 1 := by
  intro h r l
  refine Eq.trans (b := (0 : EReal)) ?_ EReal.coe_zero.symm
  refine (down_at _ r (col h l)).trans ?_
  rw [View.readCov_eq_canon']
  unfold kernelRun0_A.sl.HS0_1
  rw [View.canon_unit_zero off3]
  exact zeros0_at _

theorem out_eq : (kernelRun0_A (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).1 =
    [⟨Rect.unit (s := S2x256x512) ![1, 0, 0] S1x256x512.size inb_S2x256x512_S1x256x512_1_0_0, Prep.fin (L1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)
      (z24.view.readCov (kernelRun0_A.sl.HS8_16 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (Rect.unit (s := S512x512) ![256, 0] S256x512.size inb_S512x512_S256x512_256_0).toLoadRect)
      (z25.view.readCov (kernelRun0_A.sl.HS9_2 c z1 Z1 z2 Z2 z5 Z5 z6 Z6 z9 Z9 z10 Z10 z13 Z13 z17 x0 x1 x4 x5 x8 x9 x12) (Rect.unit (s := S512x512) ![256, 0] S256x512.size inb_S512x512_S256x512_256_0).toLoadRect)
      (z26.view.readCov (kernelRun0_A.sl.HS10_2 c z1 Z1 z2 Z2 z7 Z7 z17 x0 x1 x6) (Rect.unit (s := S512x512) ![256, 0] S256x512.size inb_S512x512_S256x512_256_0).toLoadRect)⟩,
     ⟨Rect.unit (s := S2x256x512) ![0, 0, 0] S1x256x512.size inb_S2x256x512_S1x256x512_0_0_0, Prep.fin (L0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13)
      (z24.view.readCov (kernelRun0_A.sl.HS8_16 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13) (Rect.unit (s := S512x512) ![0, 0] S256x512.size inb_S512x512_S256x512_0_0).toLoadRect)
      (z25.view.readCov (kernelRun0_A.sl.HS9_2 c z1 Z1 z2 Z2 z5 Z5 z6 Z6 z9 Z9 z10 Z10 z13 Z13 z17 x0 x1 x4 x5 x8 x9 x12) (Rect.unit (s := S512x512) ![0, 0] S256x512.size inb_S512x512_S256x512_0_0).toLoadRect)
      (z26.view.readCov (kernelRun0_A.sl.HS10_2 c z1 Z1 z2 Z2 z7 Z7 z17 x0 x1 x6) (Rect.unit (s := S512x512) ![0, 0] S256x512.size inb_S512x512_S256x512_0_0).toLoadRect)⟩] := by
  exact rfl

theorem states_eq : (kernelRun0_A (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).2.1 =
    ⟨Rect.unit (s := S4x64x256) ![3, 0, 0] S1x64x256.size inb_S4x64x256_S1x64x256_3_0_0, up (next (x c z1 Z1 z2 Z2 z3 Z3 z4 Z4 z5 Z5 z6 Z6 z8 Z8 z9 Z9 z13 Z13 z14 Z14 z17 z18 z19 z20 z21 z22 z23 x0 x1 x2 x3 x4 x5 x7 x8 x12 x13 448 256 511 inb_S512x512_S64x256_448_256 inb_S512x512_S1x256_511_256) (s3_3 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13))⟩ ::
    ⟨Rect.unit (s := S4x64x256) ![2, 0, 0] S1x64x256.size inb_S4x64x256_S1x64x256_2_0_0, up (s4_2 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩ ::
    ⟨Rect.unit (s := S4x64x256) ![1, 0, 0] S1x64x256.size inb_S4x64x256_S1x64x256_1_0_0, up (s4_1 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩ ::
    ⟨Rect.unit (s := S4x64x256) ![0, 0, 0] S1x64x256.size inb_S4x64x256_S1x64x256_0_0_0, up (s4_0 c z1 Z1 z2 Z2 z3 Z3 z4 Z4 z5 Z5 z6 Z6 z8 Z8 z9 Z9 z13 Z13 z14 Z14 z16 z17 z18 z19 z20 z21 z22 z23 x0 x1 x2 x3 x4 x5 x7 x8 x12 x13)⟩ :: kernelRun0_A.sl.HS0_1 (F := Ideal) := by
  exact rfl

theorem lasts_eq : (kernelRun0_A (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).2.2.1 =
    ⟨Rect.unit (s := S2x8x1920) ![1, 0, 0] S1x1x1920.size inb_S2x8x1920_S1x1x1920_1_0_0, k0_pay6 (View.readAt (Elt Ideal) z1.view (Rect.unit (s := S2x256x1920) ![1, 0, 0] S1x256x1920.size inb_S2x256x1920_S1x256x1920_1_0_0).toLoadRect (Z1.unread x0))⟩ ::
    ⟨Rect.unit (s := S2x8x1920) ![0, 0, 0] S1x1x1920.size inb_S2x8x1920_S1x1x1920_0_0_0, k0_pay6 (View.readAt (Elt Ideal) z1.view (Rect.unit (s := S2x256x1920) ![0, 0, 0] S1x256x1920.size inb_S2x256x1920_S1x256x1920_0_0_0).toLoadRect (Z1.unread x0))⟩ :: kernelRun0_A.sl.HS1_1 (F := Ideal) := by
  exact rfl

end Cert.RwkvIdeal.Chunk.A
-- ==== Proof.RwkvIdealFrame.lean ====
/- The frame of `RwkvIdeal`: what the output and the two carried scratch buffers hold after each grid point, the body's obligation at every point
   over the two runs (the first point's, the later points'), and the launch. -/
module

public import proofs.«01_k».proof.Proof.RwkvIdealRunB
public import Idealize.ShloMosaic.Lib.Claim

@[expose] public section

-- membership in a rectangle of production extents (`View.cover_of_tiled`): the elaborator's structural look
-- recurses once per coordinate of the long axes
set_option maxRecDepth 16384

noncomputable section

namespace Cert.RwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole)

section
variable (hc0 : cond0_0 i)
    (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 x8 x9 x10 x11 : Vec F S1x512 .f32) (x12 : Vec F S512x512 .bf16) (x13 : Vec F S256x256 .bf16)

/-- Case A's two stores into the output's block tile it. -/
theorem cover0_A_14 (y : S2x256x512.Idx) :
    ∃ pc ∈ (kernelRun0_A c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).1, y ∈ pc.1.set :=
  View.cover_of_tiledL (s := S2x256x512) _ S1x256x512.size (by sl_kernel_rfl) y

/-- What case A leaves in output 14's staging buffer: its pieces read back over junk. -/
def out0_A_14 : Vec F S2x256x512 .bf16 :=
  VO0_14.read (Elt F) (VO0_14.writes (Elt F) VO0_14.junk (kernelRun0_A c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).1)

/-- Case A covers the carried states. -/
theorem scover0_A_0 (y : S4x64x256.Idx) :
    ∃ pc ∈ (kernelRun0_A c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).2.1, y ∈ pc.1.set :=
  View.cover_of_wholeMem _ (by sl_whole_mem) y

/-- What case A leaves in scratch `z16`: its pieces read back over junk. -/
def sout0_A_0 : Vec F S4x64x256 .f32 :=
  VS0_0.read (Elt F) (VS0_0.writes (Elt F) VS0_0.junk (kernelRun0_A c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).2.1)

/-- Case A covers the carried rows. -/
theorem scover0_A_1 (y : S2x8x1920.Idx) :
    ∃ pc ∈ (kernelRun0_A c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).2.2.1, y ∈ pc.1.set :=
  View.cover_of_wholeMem _ (by sl_whole_mem) y

/-- What case A leaves in scratch `z17`: its pieces read back over junk. -/
def sout0_A_1 : Vec F S2x8x1920 .f32 :=
  VS0_1.read (Elt F) (VS0_1.writes (Elt F) VS0_1.junk (kernelRun0_A c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13).2.2.1)

/-- All that case A leaves. -/
abbrev all0_A : Vec F S2x256x512 .bf16 × Vec F S4x64x256 .f32 × Vec F S2x8x1920 .f32 :=
  (out0_A_14 c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13, sout0_A_0 c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13, sout0_A_1 c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13)

end

section
variable (hc0 : ¬cond0_0 i)
    (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 x8 x9 x10 x11 : Vec F S1x512 .f32) (x12 : Vec F S512x512 .bf16) (x13 : Vec F S256x256 .bf16) (xs0 : Vec F S4x64x256 .f32) (xs1 : Vec F S2x8x1920 .f32)

/-- Case B's two stores into the output's block tile it. -/
theorem cover0_B_14 (y : S2x256x512.Idx) :
    ∃ pc ∈ (kernelRun0_B c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).1, y ∈ pc.1.set :=
  View.cover_of_tiledL (s := S2x256x512) _ S1x256x512.size (by sl_kernel_rfl) y

/-- What case B leaves in output 14's staging buffer: its pieces read back over junk. -/
def out0_B_14 : Vec F S2x256x512 .bf16 :=
  VO0_14.read (Elt F) (VO0_14.writes (Elt F) VO0_14.junk (kernelRun0_B c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).1)

/-- Case B's four stores into the carried states tile them. -/
theorem scover0_B_0 (y : S4x64x256.Idx) :
    ∃ pc ∈ (kernelRun0_B c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).2.1, y ∈ pc.1.set :=
  View.cover_of_tiledL (s := S4x64x256) _ S1x64x256.size (by sl_kernel_rfl) y

/-- What case B leaves in scratch `z16`: its pieces read back over junk. -/
def sout0_B_0 : Vec F S4x64x256 .f32 :=
  VS0_0.read (Elt F) (VS0_0.writes (Elt F) VS0_0.junk (kernelRun0_B c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).2.1)

/-- What case B leaves in the carried rows, over what the point before left there. -/
def sout0_B_1 : Vec F S2x8x1920 .f32 :=
  z17.view.read (Elt F) (z17.view.writes (Elt F) (Z17.unread xs1) (kernelRun0_B c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).2.2.1)

/-- All that case B leaves. -/
abbrev all0_B : Vec F S2x256x512 .bf16 × Vec F S4x64x256 .f32 × Vec F S2x8x1920 .f32 :=
  (out0_B_14 c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1, sout0_B_0 c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1, sout0_B_1 c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1)

/-! ## What the outputs hold after each point -/

end

end

/-- What a first point leaves: the output block and the two carried scratches. -/
abbrev outA (c : Dev nD) (t : Fin cfg0.N) (h0 : t.val % 64 = 0) : Vec F S2x256x512 .bf16 × Vec F S4x64x256 .f32 × Vec F S2x8x1920 .f32 :=
  all0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- What a later point leaves, over the carried scratches as the point before left them. -/
abbrev outB (c : Dev nD) (t : Fin cfg0.N) (h0 : ¬t.val % 64 = 0) (xs0 : Vec F S4x64x256 .f32) (xs1 : Vec F S2x8x1920 .f32) :
    Vec F S2x256x512 .bf16 × Vec F S4x64x256 .f32 × Vec F S2x8x1920 .f32 :=
  all0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1

/-- What the output's staging buffer and the carried scratches hold after the point at position `n`. -/
def outsAt0 (c : Dev nD) : (n : ℕ) → n < cfg0.N → Vec F S2x256x512 .bf16 × Vec F S4x64x256 .f32 × Vec F S2x8x1920 .f32
  | 0, hn => outA m c ⟨0, hn⟩ (Nat.zero_mod _)
  | n + 1, hn =>
    if h0 : (n + 1) % 64 = 0 then outA m c ⟨n + 1, hn⟩ h0
    else outB m c ⟨n + 1, hn⟩ h0 (outsAt0 c n (Nat.lt_of_succ_lt hn)).2.1 (outsAt0 c n (Nat.lt_of_succ_lt hn)).2.2

/-- At a first point. -/
theorem outsAt0_A (c : Dev nD) (t : Fin cfg0.N) (h0 : t.val % 64 = 0) : outsAt0 m c t.val t.isLt = outA m c t h0 := by
  obtain ⟨n, hn⟩ := t
  cases n with
  | zero => exact rfl
  | succ n => exact (dif_pos h0).trans rfl

/-- At a later point. -/
theorem outsAt0_B (c : Dev nD) (t : Fin cfg0.N) (h0 : ¬t.val % 64 = 0) :
    outsAt0 m c t.val t.isLt = outB m c t h0 (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- The invariant before position `n`: before the first point what the launch hands over; after a point, the carried scratches at what
    the point left, the other buffers at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  cases n with
  | zero => exact absurd rfl hz
  | succ n => rfl

/-! ## The pipeline's proof data -/

/-- The proof data: the arrays as the region finds them, each input's buffer at its block, the output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
/-- The body at any point: the first point runs case A, every later one case B, over the blocks and the carried scratches. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold outA all0_A out0_A_14 sout0_A_0 sout0_A_1; (try dsimp only)
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, H7, H8, H9, H10, H11, H12, H13, ⟨%e14, H14⟩, ⟨%es0, HS0⟩, ⟨%es1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩⟩
      isplitl [HS0 HS1 HS2 HS3 HS4 HS5 HS6 HS7 HS8 HS9 HS10 Hg]
      · isplitl [HS0 HS1 HS2 HS3 HS4 HS5 HS6 HS7 HS8 HS9 HS10]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexists _; unfold owns; iexists _; isplitr
            swap; · iexact HS9
            ipureintro; rfl
          iexists _; unfold owns; iexists _; isplitr
          swap; · iexact HS10
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold outB all0_B out0_B_14 sout0_B_0 sout0_B_1; (try dsimp only)
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, H7, H8, H9, H10, H11, H12, H13, ⟨%e14, H14⟩, ⟨%es0, HS0⟩, HS1, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩⟩
      isplitl [HS0 HS1 HS2 HS3 HS4 HS5 HS6 HS7 HS8 HS9 HS10 Hg]
      · isplitl [HS0 HS1 HS2 HS3 HS4 HS5 HS6 HS7 HS8 HS9 HS10]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexists _; unfold owns; iexists _; isplitr
            swap; · iexact HS9
            ipureintro; rfl
          iexists _; unfold owns; iexists _; isplitr
          swap; · iexact HS10
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10⟩, Hg⟩
  isplitl [HS0 HS1 HS2 HS3 HS4 HS5 HS6 HS7 HS8 HS9 HS10]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    iexact HS10
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run from any memory with zero counters: every final state keeps the frame's postcondition. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: the arguments are unchanged and every counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.RwkvIdeal.Gen

end
-- ==== Proof.RwkvPointA.lean ====
/- What a first grid point leaves at real arguments: the output rows, and the states and last rows of the next position. -/
module

public import proofs.«01_k».proof.Proof.RwkvEndsA
public import proofs.«01_k».proof.Proof.RwkvIdealFrame

@[expose] public section

set_option maxRecDepth 65536
set_option maxHeartbeats 4000000

noncomputable section

namespace Cert.RwkvIdeal.Chunk.A

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16)

theorem out_at {P : Args} (R : Raw x0 x1 x2 x3 x4 x5 x6 x7 x8 x9 x10 x11 x12 x13 P 0) (b : Fin 2) (p : Fin 256) (j : Fin 512) :
    (out0_A_14 (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 (ix3 b p j) : EReal) = ((P.out b (0 + p) j : ℝ) : EReal) := by
  have H0 := (has0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13 R)
  have H1 := (has1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13 R)
  have S0 := (start0 z16 P)
  have S1 := (start1 z16 P)
  have S2 := (start2 z16 P)
  have S3 := (start3 z16 P)
  have Y := rows_yc c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 H1 S0 S1 S2 S3
  have F0 := fun (p : Fin 256) (j : Fin 512) => Prep.fin_at H0 _ _ _ (window_lo z24 Y)
    (fun p j => (whole_lo z25 (hs9_2 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) p j).trans (Prep.bonus_at H0 p j)) (fun p j => (whole_lo z26 (hs10_2 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) p j).trans (Prep.g_at H0 p j)) p j
  have F1 := fun (p : Fin 256) (j : Fin 512) => Prep.fin_at H1 _ _ _ (window_hi z24 Y)
    (fun p j => (whole_hi z25 (hs9_2 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) p j).trans (Prep.bonus_at H1 p j)) (fun p j => (whole_hi z26 (hs10_2 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13) p j).trans (Prep.g_at H1 p j)) p j
  unfold out0_A_14
  rw [View.read_writes_junk_eq_canon, out_eq]
  exact outs_canon F0 F1 b p j

theorem carry {P : Args} (R : Raw x0 x1 x2 x3 x4 x5 x6 x7 x8 x9 x10 x11 x12 x13 P 0) : Carry (sout0_A_0 (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13) (sout0_A_1 (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13) P (0 + 256) := by
  have H0 := (has0 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13 R)
  have H1 := (has1 c z1 Z1 z2 Z2 z3 Z3 z4 Z4 z5 Z5 z6 Z6 z7 Z7 z8 Z8 z9 Z9 z10 Z10 z11 Z11 z12 Z12 z13 Z13 z14 Z14 z17 x0 x1 x2 x3 x4 x5 x6 x7 x8 x9 x10 x11 x12 x13 R)
  have S0 := (start0 z16 P)
  have S1 := (start1 z16 P)
  have S2 := (start2 z16 P)
  have S3 := (start3 z16 P)
  have T0 := (holds4_0 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S0)
  have T1 := (holds4_1 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H0 S1)
  have T2 := (holds4_2 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S2)
  have T3 := (holds4_3 c z1 Z1 z2 Z2 z3 Z3 z4 Z4 z5 Z5 z6 Z6 z7 Z7 z8 Z8 z9 Z9 z10 Z10 z11 Z11 z12 Z12 z13 Z13 z14 Z14 z16 z17 z18 z19 z20 z21 z22 z23 x0 x1 x2 x3 x4 x5 x6 x7 x8 x9 x10 x11 x12 x13 H1 S3)
  have X0 := fun j : Fin 1920 => (read_slab z1 Z1 x0 0 inb_S2x256x1920_S1x256x1920_0_0_0 (by decide) (by decide) (by decide) 255 j).trans (R.x 0 255 j)
  have X1 := fun j : Fin 1920 => (read_slab z1 Z1 x0 1 inb_S2x256x1920_S1x256x1920_1_0_0 (by decide) (by decide) (by decide) 255 j).trans (R.x 1 255 j)
  refine ⟨fun i h r l => ?_, fun b j => ?_⟩
  · unfold sout0_A_0
    rw [View.read_writes_junk_eq_canon, states_eq]
    exact states_canon T0 T1 T2 T3 _ i h r l
  · unfold sout0_A_1
    rw [View.read_writes_junk_eq_canon, lasts_eq]
    exact lasts_canon X0 X1 _ b j

end Cert.RwkvIdeal.Chunk.A
-- ==== Proof.RwkvRowsB.lean ====
/- The arrays one chain loads for one chunk at a later grid point, and the states between the chunks, by the names the
   run of the kernel gives them. -/
module

public import proofs.«01_k».proof.Proof.RwkvChunk
public import proofs.«01_k».proof.Proof.RwkvIdealRunB

@[expose] public section

set_option maxRecDepth 65536
set_option maxHeartbeats 4000000

noncomputable section

namespace Cert.RwkvIdeal.Chunk.B

open Idealize.ShloMosaic Idealize.SL.Sem Cert.RwkvIdeal.Gen

variable {F : FTy → Type} [FloatOps F]
variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : ¬cond0_0 i)     (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 x8 x9 x10 x11 : Vec F S1x512 .f32) (x12 : Vec F S512x512 .bf16) (x13 : Vec F S256x256 .bf16) (xs0 : Vec F S4x64x256 .f32) (xs1 : Vec F S2x8x1920 .f32)

/-- What a chain loads from the arrays the preparation stored: the rows from `o` on of the columns from `l` on, and row `w` of the decays. -/
def x (o l w : ℕ) (h : ∀ a, (![o, l] : Fin 2 → Nat) a + S64x256.size a ≤ S512x512.size a)
    (hw : ∀ a, (![w, l] : Fin 2 → Nat) a + S1x256.size a ≤ S512x512.size a) : Rows F :=
  ⟨z18.view.readCov (kernelRun0_B.sl.HS2_2 c z1 Z1 z2 Z2 z3 Z3 z4 Z4 z8 Z8 z13 Z13 z14 Z14 z17 Z17 x0 x1 x2 x3 x7 x12 x13 xs1) (Rect.unit (s := S512x512) ![o, l] S64x256.size h).toLoadRect,
   z19.view.readCov (kernelRun0_B.sl.HS3_2 c z1 Z1 z2 Z2 z3 Z3 z4 Z4 z14 Z14 z17 Z17 x0 x1 x2 x3 x13 xs1) (Rect.unit (s := S512x512) ![o, l] S64x256.size h).toLoadRect,
   z20.view.readCov (kernelRun0_B.sl.HS4_2 c z1 Z1 z2 Z2 z3 Z3 z4 Z4 z5 Z5 z6 Z6 z8 Z8 z13 Z13 z14 Z14 z17 Z17 x0 x1 x2 x3 x4 x5 x7 x12 x13 xs1) (Rect.unit (s := S512x512) ![o, l] S64x256.size h).toLoadRect,
   z21.view.readCov (kernelRun0_B.sl.HS5_2 c z1 Z1 z2 Z2 z3 Z3 z4 Z4 z5 Z5 z6 Z6 z9 Z9 z14 Z14 z17 Z17 x0 x1 x2 x3 x4 x5 x8 x13 xs1) (Rect.unit (s := S512x512) ![o, l] S64x256.size h).toLoadRect,
   z22.view.readCov (kernelRun0_B.sl.HS6_2 c z1 Z1 z2 Z2 z17 Z17 x0 x1 xs1) (Rect.unit (s := S512x512) ![o, l] S64x256.size h).toLoadRect,
   z23.view.readCov (kernelRun0_B.sl.HS7_2 c z1 Z1 z2 Z2 z3 Z3 z4 Z4 z14 Z14 z17 Z17 x0 x1 x2 x3 x13 xs1) (Rect.unit (s := S512x512) ![w, l] S1x256.size hw).toLoadRect⟩

/-- Chain 0's state before the point. -/
def s0_0 : FVec F S64x256 .f32 :=
  shapeCast S64x256 (View.readAt (Elt F) z16.view (Rect.unit (s := S4x64x256) ![0, 0, 0] S1x64x256.size inb_S4x64x256_S1x64x256_0_0_0).toLoadRect (Z16.unread xs0)) shapeCasts_S1x64x256_S64x256

/-- Chain 1's state before the point. -/
def s0_1 : FVec F S64x256 .f32 :=
  shapeCast S64x256 (View.readAt (Elt F) z16.view (Rect.unit (s := S4x64x256) ![1, 0, 0] S1x64x256.size inb_S4x64x256_S1x64x256_1_0_0).toLoadRect (Z16.unread xs0)) shapeCasts_S1x64x256_S64x256

/-- Chain 2's state before the point. -/
def s0_2 : FVec F S64x256 .f32 :=
  shapeCast S64x256 (View.readAt (Elt F) z16.view (Rect.unit (s := S4x64x256) ![2, 0, 0] S1x64x256.size inb_S4x64x256_S1x64x256_2_0_0).toLoadRect (Z16.unread xs0)) shapeCasts_S1x64x256_S64x256

/-- Chain 3's state before the point. -/
def s0_3 : FVec F S64x256 .f32 :=
  shapeCast S64x256 (View.readAt (Elt F) z16.view (Rect.unit (s := S4x64x256) ![3, 0, 0] S1x64x256.size inb_S4x64x256_S1x64x256_3_0_0).toLoadRect (Z16.unread xs0)) shapeCasts_S1x64x256_S64x256

/-- Chain 0's state after chunk 0. -/
def s1_0 : FVec F S64x256 .f32 := kernelRun0_B.sl.r_158 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 1's state after chunk 0. -/
def s1_1 : FVec F S64x256 .f32 := kernelRun0_B.sl.r_159 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 2's state after chunk 0. -/
def s1_2 : FVec F S64x256 .f32 := kernelRun0_B.sl.r_161 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 3's state after chunk 0. -/
def s1_3 : FVec F S64x256 .f32 := kernelRun0_B.sl.r_162 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 0's state after chunk 1. -/
def s2_0 : FVec F S64x256 .f32 := kernelRun0_B.sl.r_258 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 1's state after chunk 1. -/
def s2_1 : FVec F S64x256 .f32 := kernelRun0_B.sl.r_259 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 2's state after chunk 1. -/
def s2_2 : FVec F S64x256 .f32 := kernelRun0_B.sl.r_260 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 3's state after chunk 1. -/
def s2_3 : FVec F S64x256 .f32 := kernelRun0_B.sl.r_262 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 0's state after chunk 2. -/
def s3_0 : FVec F S64x256 .f32 := kernelRun0_B.sl.r_358 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 1's state after chunk 2. -/
def s3_1 : FVec F S64x256 .f32 := kernelRun0_B.sl.r_361 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 2's state after chunk 2. -/
def s3_2 : FVec F S64x256 .f32 := kernelRun0_B.sl.r_362 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 3's state after chunk 2. -/
def s3_3 : FVec F S64x256 .f32 := kernelRun0_B.sl.r_363 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 0's state after chunk 3. -/
def s4_0 : FVec F S64x256 .f32 := kernelRun0_B.sl.r_417 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 1's state after chunk 3. -/
def s4_1 : FVec F S64x256 .f32 := kernelRun0_B.sl.r_418 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

/-- Chain 2's state after chunk 3. -/
def s4_2 : FVec F S64x256 .f32 := kernelRun0_B.sl.r_419 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1

end Cert.RwkvIdeal.Chunk.B
-- ==== Proof.RwkvLoadsB.lean ====
/- What the preparation loads at a later grid point, and the arrays it stores as its functions. -/
module

public import proofs.«01_k».proof.Proof.RwkvWindow
public import proofs.«01_k».proof.Proof.RwkvRowsB

@[expose] public section

set_option maxRecDepth 65536
set_option maxHeartbeats 4000000

noncomputable section

namespace Cert.RwkvIdeal.Chunk.B

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : ¬cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16) (xs0 : Vec Ideal S4x64x256 .f32) (xs1 : Vec Ideal S2x8x1920 .f32)

/-- What the preparation of batch entry 0's rows loads. -/
def L0 : Prep.Loads Ideal :=
  ⟨View.readAt (Elt Ideal) z1.view (Rect.unit (s := S2x256x1920) ![0, 0, 0] S1x256x1920.size inb_S2x256x1920_S1x256x1920_0_0_0).toLoadRect (Z1.unread x0),
   View.readAt (Elt Ideal) z17.view (Rect.unit (s := S2x8x1920) ![0, 0, 0] S1x1x1920.size inb_S2x8x1920_S1x1x1920_0_0_0).toLoadRect (Z17.unread xs1),
   View.readAt (Elt Ideal) z2.view (Rect.unit (s := S1x1920) ![0, 0] S1x1920.size inb_S1x1920_S1x1920_0_0).toLoadRect (Z2.unread x1),
   View.readAt (Elt Ideal) z3.view (Rect.unit (s := S1x512) ![0, 0] S1x512.size inb_S1x512_S1x512_0_0).toLoadRect (Z3.unread x2),
   View.readAt (Elt Ideal) z4.view (Rect.unit (s := S128x512) ![0, 0] S128x512.size inb_S128x512_S128x512_0_0).toLoadRect (Z4.unread x3),
   View.readAt (Elt Ideal) z5.view (Rect.unit (s := S1x512) ![0, 0] S1x512.size inb_S1x512_S1x512_0_0).toLoadRect (Z5.unread x4),
   View.readAt (Elt Ideal) z6.view (Rect.unit (s := S128x512) ![0, 0] S128x512.size inb_S128x512_S128x512_0_0).toLoadRect (Z6.unread x5),
   View.readAt (Elt Ideal) z7.view (Rect.unit (s := S256x512) ![0, 0] S256x512.size inb_S256x512_S256x512_0_0).toLoadRect (Z7.unread x6),
   View.readAt (Elt Ideal) z8.view (Rect.unit (s := S1x512) ![0, 0] S1x512.size inb_S1x512_S1x512_0_0).toLoadRect (Z8.unread x7),
   View.readAt (Elt Ideal) z9.view (Rect.unit (s := S1x512) ![0, 0] S1x512.size inb_S1x512_S1x512_0_0).toLoadRect (Z9.unread x8),
   View.readAt (Elt Ideal) z10.view (Rect.unit (s := S1x512) ![0, 0] S1x512.size inb_S1x512_S1x512_0_0).toLoadRect (Z10.unread x9),
   View.readAt (Elt Ideal) z11.view (Rect.unit (s := S1x512) ![0, 0] S1x512.size inb_S1x512_S1x512_0_0).toLoadRect (Z11.unread x10),
   View.readAt (Elt Ideal) z12.view (Rect.unit (s := S1x512) ![0, 0] S1x512.size inb_S1x512_S1x512_0_0).toLoadRect (Z12.unread x11),
   View.readAt (Elt Ideal) z13.view (Rect.unit (s := S512x512) ![0, 0] S512x512.size inb_S512x512_S512x512_0_0).toLoadRect (Z13.unread x12),
   View.readAt (Elt Ideal) z14.view (Rect.unit (s := S256x256) ![0, 0] S256x256.size inb_S256x256_S256x256_0_0).toLoadRect (Z14.unread x13)⟩

/-- What the preparation of batch entry 1's rows loads. -/
def L1 : Prep.Loads Ideal :=
  ⟨View.readAt (Elt Ideal) z1.view (Rect.unit (s := S2x256x1920) ![1, 0, 0] S1x256x1920.size inb_S2x256x1920_S1x256x1920_1_0_0).toLoadRect (Z1.unread x0),
   kernelRun0_B.sl.v142 c z17 Z17 xs1,
   View.readAt (Elt Ideal) z2.view (Rect.unit (s := S1x1920) ![0, 0] S1x1920.size inb_S1x1920_S1x1920_0_0).toLoadRect (Z2.unread x1),
   View.readAt (Elt Ideal) z3.view (Rect.unit (s := S1x512) ![0, 0] S1x512.size inb_S1x512_S1x512_0_0).toLoadRect (Z3.unread x2),
   View.readAt (Elt Ideal) z4.view (Rect.unit (s := S128x512) ![0, 0] S128x512.size inb_S128x512_S128x512_0_0).toLoadRect (Z4.unread x3),
   View.readAt (Elt Ideal) z5.view (Rect.unit (s := S1x512) ![0, 0] S1x512.size inb_S1x512_S1x512_0_0).toLoadRect (Z5.unread x4),
   View.readAt (Elt Ideal) z6.view (Rect.unit (s := S128x512) ![0, 0] S128x512.size inb_S128x512_S128x512_0_0).toLoadRect (Z6.unread x5),
   View.readAt (Elt Ideal) z7.view (Rect.unit (s := S256x512) ![0, 0] S256x512.size inb_S256x512_S256x512_0_0).toLoadRect (Z7.unread x6),
   View.readAt (Elt Ideal) z8.view (Rect.unit (s := S1x512) ![0, 0] S1x512.size inb_S1x512_S1x512_0_0).toLoadRect (Z8.unread x7),
   View.readAt (Elt Ideal) z9.view (Rect.unit (s := S1x512) ![0, 0] S1x512.size inb_S1x512_S1x512_0_0).toLoadRect (Z9.unread x8),
   View.readAt (Elt Ideal) z10.view (Rect.unit (s := S1x512) ![0, 0] S1x512.size inb_S1x512_S1x512_0_0).toLoadRect (Z10.unread x9),
   View.readAt (Elt Ideal) z11.view (Rect.unit (s := S1x512) ![0, 0] S1x512.size inb_S1x512_S1x512_0_0).toLoadRect (Z11.unread x10),
   View.readAt (Elt Ideal) z12.view (Rect.unit (s := S1x512) ![0, 0] S1x512.size inb_S1x512_S1x512_0_0).toLoadRect (Z12.unread x11),
   View.readAt (Elt Ideal) z13.view (Rect.unit (s := S512x512) ![0, 0] S512x512.size inb_S512x512_S512x512_0_0).toLoadRect (Z13.unread x12),
   View.readAt (Elt Ideal) z14.view (Rect.unit (s := S256x256) ![0, 0] S256x256.size inb_S256x256_S256x256_0_0).toLoadRect (Z14.unread x13)⟩

theorem hs2_2 : kernelRun0_B.sl.HS2_2 c z1 Z1 z2 Z2 z3 Z3 z4 Z4 z8 Z8 z13 Z13 z14 Z14 z17 Z17 x0 x1 x2 x3 x7 x12 x13 xs1 =
    stored (Prep.at' (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.at' (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs3_2 : kernelRun0_B.sl.HS3_2 c z1 Z1 z2 Z2 z3 Z3 z4 Z4 z14 Z14 z17 Z17 x0 x1 x2 x3 x13 xs1 =
    stored (Prep.rt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.rt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs4_2 : kernelRun0_B.sl.HS4_2 c z1 Z1 z2 Z2 z3 Z3 z4 Z4 z5 Z5 z6 Z6 z8 Z8 z13 Z13 z14 Z14 z17 Z17 x0 x1 x2 x3 x4 x5 x7 x12 x13 xs1 =
    stored (Prep.bt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.bt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs5_2 : kernelRun0_B.sl.HS5_2 c z1 Z1 z2 Z2 z3 Z3 z4 Z4 z5 Z5 z6 Z6 z9 Z9 z14 Z14 z17 Z17 x0 x1 x2 x3 x4 x5 x8 x13 xs1 =
    stored (Prep.kt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.kt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs6_2 : kernelRun0_B.sl.HS6_2 c z1 Z1 z2 Z2 z17 Z17 x0 x1 xs1 =
    stored (Prep.vt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.vt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs7_2 : kernelRun0_B.sl.HS7_2 c z1 Z1 z2 Z2 z3 Z3 z4 Z4 z14 Z14 z17 Z17 x0 x1 x2 x3 x13 xs1 =
    stored (Prep.wc (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.wc (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs9_2 : kernelRun0_B.sl.HS9_2 c z1 Z1 z2 Z2 z5 Z5 z6 Z6 z9 Z9 z10 Z10 z13 Z13 z17 Z17 x0 x1 x4 x5 x8 x9 x12 xs1 =
    stored (Prep.bonus (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.bonus (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

theorem hs10_2 : kernelRun0_B.sl.HS10_2 c z1 Z1 z2 Z2 z7 Z7 z17 Z17 x0 x1 x6 xs1 =
    stored (Prep.g (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.g (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) := by exact rfl

end Cert.RwkvIdeal.Chunk.B
-- ==== Proof.RwkvWritesB.lean ====
/- The state after each chunk, and the rows each chunk writes, are one chunk's step and rows of the state before it, at a later grid point. -/
module

public import proofs.«01_k».proof.Proof.RwkvRowsB

@[expose] public section

set_option maxRecDepth 65536
set_option maxHeartbeats 4000000

noncomputable section

namespace Cert.RwkvIdeal.Chunk.B

open Idealize.ShloMosaic Idealize.SL.Sem Cert.RwkvIdeal.Gen

variable {F : FTy → Type} [FloatOps F]
variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : ¬cond0_0 i)     (x0 : Vec F S2x256x1920 .f32) (x1 : Vec F S1x1920 .f32) (x2 : Vec F S1x512 .f32) (x3 : Vec F S128x512 .bf16) (x4 : Vec F S1x512 .f32) (x5 : Vec F S128x512 .bf16) (x6 : Vec F S256x512 .bf16) (x7 x8 x9 x10 x11 : Vec F S1x512 .f32) (x12 : Vec F S512x512 .bf16) (x13 : Vec F S256x256 .bf16) (xs0 : Vec F S4x64x256 .f32) (xs1 : Vec F S2x8x1920 .f32)

theorem step0_0 : s1_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 0 63 inb_S512x512_S64x256_0_0 inb_S512x512_S1x256_63_0) (s0_0 z16 Z16 xs0) := by exact rfl

theorem step0_1 : s1_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 256 63 inb_S512x512_S64x256_0_256 inb_S512x512_S1x256_63_256) (s0_1 z16 Z16 xs0) := by exact rfl

theorem step0_2 : s1_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 0 319 inb_S512x512_S64x256_256_0 inb_S512x512_S1x256_319_0) (s0_2 z16 Z16 xs0) := by exact rfl

theorem step0_3 : s1_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 256 319 inb_S512x512_S64x256_256_256 inb_S512x512_S1x256_319_256) (s0_3 z16 Z16 xs0) := by exact rfl

theorem step1_0 : s2_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 0 127 inb_S512x512_S64x256_64_0 inb_S512x512_S1x256_127_0) (s1_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step1_1 : s2_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 256 127 inb_S512x512_S64x256_64_256 inb_S512x512_S1x256_127_256) (s1_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step1_2 : s2_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 0 383 inb_S512x512_S64x256_320_0 inb_S512x512_S1x256_383_0) (s1_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step1_3 : s2_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 256 383 inb_S512x512_S64x256_320_256 inb_S512x512_S1x256_383_256) (s1_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step2_0 : s3_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 0 191 inb_S512x512_S64x256_128_0 inb_S512x512_S1x256_191_0) (s2_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step2_1 : s3_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 256 191 inb_S512x512_S64x256_128_256 inb_S512x512_S1x256_191_256) (s2_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step2_2 : s3_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 0 447 inb_S512x512_S64x256_384_0 inb_S512x512_S1x256_447_0) (s2_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step2_3 : s3_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 256 447 inb_S512x512_S64x256_384_256 inb_S512x512_S1x256_447_256) (s2_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step3_0 : s4_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 0 255 inb_S512x512_S64x256_192_0 inb_S512x512_S1x256_255_0) (s3_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step3_1 : s4_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 256 255 inb_S512x512_S64x256_192_256 inb_S512x512_S1x256_255_256) (s3_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem step3_2 : s4_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 0 511 inb_S512x512_S64x256_448_0 inb_S512x512_S1x256_511_0) (s3_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y0_0 : k0_pay220 (kernelRun0_B.sl.r_57 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_101 c z1 Z1 z2 Z2 z3 Z3 z4 Z4 z8 Z8 z13 Z13 z14 Z14 z16 Z16 z17 Z17 z18 z19 x0 x1 x2 x3 x7 x12 x13 xs0 xs1) (kernelRun0_B.sl.r_148 c z1 Z1 z2 Z2 z3 Z3 z4 Z4 z5 Z5 z6 Z6 z8 Z8 z9 Z9 z13 Z13 z14 Z14 z16 Z16 z17 Z17 z18 z19 z20 z21 z22 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 0 63 inb_S512x512_S64x256_0_0 inb_S512x512_S1x256_63_0) (s0_0 z16 Z16 xs0) := by exact rfl

theorem y0_1 : k0_pay222 (kernelRun0_B.sl.r_58 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_102 c z1 Z1 z2 Z2 z3 Z3 z4 Z4 z8 Z8 z13 Z13 z14 Z14 z16 Z16 z17 Z17 z18 z19 x0 x1 x2 x3 x7 x12 x13 xs0 xs1) (kernelRun0_B.sl.r_149 c z1 Z1 z2 Z2 z3 Z3 z4 Z4 z5 Z5 z6 Z6 z8 Z8 z9 Z9 z13 Z13 z14 Z14 z16 Z16 z17 Z17 z18 z19 z20 z21 z22 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 256 63 inb_S512x512_S64x256_0_256 inb_S512x512_S1x256_63_256) (s0_1 z16 Z16 xs0) := by exact rfl

theorem y0_2 : k0_pay225 (kernelRun0_B.sl.r_59 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_103 c z1 Z1 z2 Z2 z3 Z3 z4 Z4 z8 Z8 z13 Z13 z14 Z14 z16 Z16 z17 Z17 z18 z19 x0 x1 x2 x3 x7 x12 x13 xs0 xs1) (kernelRun0_B.sl.r_150 c z1 Z1 z2 Z2 z3 Z3 z4 Z4 z5 Z5 z6 Z6 z8 Z8 z9 Z9 z13 Z13 z14 Z14 z16 Z16 z17 Z17 z18 z19 z20 z21 z22 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 0 319 inb_S512x512_S64x256_256_0 inb_S512x512_S1x256_319_0) (s0_2 z16 Z16 xs0) := by exact rfl

theorem y0_3 : k0_pay227 (kernelRun0_B.sl.r_60 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_104 c z1 Z1 z2 Z2 z3 Z3 z4 Z4 z8 Z8 z13 Z13 z14 Z14 z16 Z16 z17 Z17 z18 z19 x0 x1 x2 x3 x7 x12 x13 xs0 xs1) (kernelRun0_B.sl.r_151 c z1 Z1 z2 Z2 z3 Z3 z4 Z4 z5 Z5 z6 Z6 z8 Z8 z9 Z9 z13 Z13 z14 Z14 z16 Z16 z17 Z17 z18 z19 z20 z21 z22 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 256 319 inb_S512x512_S64x256_256_256 inb_S512x512_S1x256_319_256) (s0_3 z16 Z16 xs0) := by exact rfl

theorem y1_0 : k0_pay339 (kernelRun0_B.sl.r_136 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_196 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_250 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 0 127 inb_S512x512_S64x256_64_0 inb_S512x512_S1x256_127_0) (s1_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y1_1 : k0_pay341 (kernelRun0_B.sl.r_137 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_197 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_251 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 256 127 inb_S512x512_S64x256_64_256 inb_S512x512_S1x256_127_256) (s1_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y1_2 : k0_pay344 (kernelRun0_B.sl.r_261 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 0 383 inb_S512x512_S64x256_320_0 inb_S512x512_S1x256_383_0) (s1_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y1_3 : k0_pay346 (kernelRun0_B.sl.r_139 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_199 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_253 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 256 383 inb_S512x512_S64x256_320_256 inb_S512x512_S1x256_383_256) (s1_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y2_0 : k0_pay461 (kernelRun0_B.sl.r_235 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_298 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_350 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 0 191 inb_S512x512_S64x256_128_0 inb_S512x512_S1x256_191_0) (s2_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y2_1 : k0_pay465 (kernelRun0_B.sl.r_236 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_299 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_351 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 256 191 inb_S512x512_S64x256_128_256 inb_S512x512_S1x256_191_256) (s2_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y2_2 : k0_pay467 (kernelRun0_B.sl.r_237 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_300 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_353 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 0 447 inb_S512x512_S64x256_384_0 inb_S512x512_S1x256_447_0) (s2_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y2_3 : k0_pay470 (kernelRun0_B.sl.r_364 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 256 447 inb_S512x512_S64x256_384_256 inb_S512x512_S1x256_447_256) (s2_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y3_0 : k0_pay547 (kernelRun0_B.sl.r_338 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_400 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_408 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 0 255 inb_S512x512_S64x256_192_0 inb_S512x512_S1x256_255_0) (s3_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y3_1 : k0_pay549 (kernelRun0_B.sl.r_339 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_401 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_409 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 256 255 inb_S512x512_S64x256_192_256 inb_S512x512_S1x256_255_256) (s3_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y3_2 : k0_pay551 (kernelRun0_B.sl.r_340 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_402 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_410 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 0 511 inb_S512x512_S64x256_448_0 inb_S512x512_S1x256_511_0) (s3_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

theorem y3_3 : k0_pay552 (kernelRun0_B.sl.r_341 c z1 Z1 z2 Z2 z3 Z3 z4 Z4 z5 Z5 z6 Z6 z8 Z8 z9 Z9 z13 Z13 z14 Z14 z17 Z17 z18 z19 z21 z22 x0 x1 x2 x3 x4 x5 x7 x8 x12 x13 xs1) (kernelRun0_B.sl.r_403 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (kernelRun0_B.sl.r_411 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) =
    y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 256 511 inb_S512x512_S64x256_448_256 inb_S512x512_S1x256_511_256) (s3_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) := by exact rfl

/-- The rows stored, last store first. -/
theorem rows_eq : kernelRun0_B.sl.HS8_16 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1 = [⟨Rect.unit (s := S512x512) ![448, 256] S64x256.size inb_S512x512_S64x256_448_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 256 511 inb_S512x512_S64x256_448_256 inb_S512x512_S1x256_511_256) (s3_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![448, 0] S64x256.size inb_S512x512_S64x256_448_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 0 511 inb_S512x512_S64x256_448_0 inb_S512x512_S1x256_511_0) (s3_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![192, 256] S64x256.size inb_S512x512_S64x256_192_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 256 255 inb_S512x512_S64x256_192_256 inb_S512x512_S1x256_255_256) (s3_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![192, 0] S64x256.size inb_S512x512_S64x256_192_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 0 255 inb_S512x512_S64x256_192_0 inb_S512x512_S1x256_255_0) (s3_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![384, 256] S64x256.size inb_S512x512_S64x256_384_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 256 447 inb_S512x512_S64x256_384_256 inb_S512x512_S1x256_447_256) (s2_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![384, 0] S64x256.size inb_S512x512_S64x256_384_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 0 447 inb_S512x512_S64x256_384_0 inb_S512x512_S1x256_447_0) (s2_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![128, 256] S64x256.size inb_S512x512_S64x256_128_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 256 191 inb_S512x512_S64x256_128_256 inb_S512x512_S1x256_191_256) (s2_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![128, 0] S64x256.size inb_S512x512_S64x256_128_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 0 191 inb_S512x512_S64x256_128_0 inb_S512x512_S1x256_191_0) (s2_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![320, 256] S64x256.size inb_S512x512_S64x256_320_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 256 383 inb_S512x512_S64x256_320_256 inb_S512x512_S1x256_383_256) (s1_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![320, 0] S64x256.size inb_S512x512_S64x256_320_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 0 383 inb_S512x512_S64x256_320_0 inb_S512x512_S1x256_383_0) (s1_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![64, 256] S64x256.size inb_S512x512_S64x256_64_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 256 127 inb_S512x512_S64x256_64_256 inb_S512x512_S1x256_127_256) (s1_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![64, 0] S64x256.size inb_S512x512_S64x256_64_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 0 127 inb_S512x512_S64x256_64_0 inb_S512x512_S1x256_127_0) (s1_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩,
    ⟨Rect.unit (s := S512x512) ![256, 256] S64x256.size inb_S512x512_S64x256_256_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 256 319 inb_S512x512_S64x256_256_256 inb_S512x512_S1x256_319_256) (s0_3 z16 Z16 xs0)⟩,
    ⟨Rect.unit (s := S512x512) ![256, 0] S64x256.size inb_S512x512_S64x256_256_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 0 319 inb_S512x512_S64x256_256_0 inb_S512x512_S1x256_319_0) (s0_2 z16 Z16 xs0)⟩,
    ⟨Rect.unit (s := S512x512) ![0, 256] S64x256.size inb_S512x512_S64x256_0_256, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 256 63 inb_S512x512_S64x256_0_256 inb_S512x512_S1x256_63_256) (s0_1 z16 Z16 xs0)⟩,
    ⟨Rect.unit (s := S512x512) ![0, 0] S64x256.size inb_S512x512_S64x256_0_0, y (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 0 63 inb_S512x512_S64x256_0_0 inb_S512x512_S1x256_63_0) (s0_0 z16 Z16 xs0)⟩] := by
  unfold kernelRun0_B.sl.HS8_16
  rw [y0_0, y0_1, y0_2, y0_3, y1_0, y1_1, y1_2, y1_3, y2_0, y2_1, y2_2, y2_3, y3_0, y3_1, y3_2, y3_3]

end Cert.RwkvIdeal.Chunk.B
-- ==== Proof.RwkvStatesB.lean ====
/- The states between the chunks, and what each chunk loads, at a later grid point. -/
module

public import proofs.«01_k».proof.Proof.RwkvLoadsB
public import proofs.«01_k».proof.Proof.RwkvWritesB

@[expose] public section

set_option maxRecDepth 65536
set_option maxHeartbeats 4000000

noncomputable section

namespace Cert.RwkvIdeal.Chunk.B

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : ¬cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16) (xs0 : Vec Ideal S4x64x256 .f32) (xs1 : Vec Ideal S2x8x1920 .f32)

theorem x_eq (o l w : ℕ) (h : ∀ a, (![o, l] : Fin 2 → Nat) a + S64x256.size a ≤ S512x512.size a)
    (hw : ∀ a, (![w, l] : Fin 2 → Nat) a + S1x256.size a ≤ S512x512.size a) :
    x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 o l w h hw = ⟨z18.view.readCov (stored (Prep.at' (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.at' (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1))) (Rect.unit (s := S512x512) ![o, l] S64x256.size h).toLoadRect,
      z19.view.readCov (stored (Prep.rt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.rt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1))) (Rect.unit (s := S512x512) ![o, l] S64x256.size h).toLoadRect,
      z20.view.readCov (stored (Prep.bt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.bt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1))) (Rect.unit (s := S512x512) ![o, l] S64x256.size h).toLoadRect,
      z21.view.readCov (stored (Prep.kt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.kt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1))) (Rect.unit (s := S512x512) ![o, l] S64x256.size h).toLoadRect,
      z22.view.readCov (stored (Prep.vt (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.vt (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1))) (Rect.unit (s := S512x512) ![o, l] S64x256.size h).toLoadRect,
      z23.view.readCov (stored (Prep.wc (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)) (Prep.wc (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1))) (Rect.unit (s := S512x512) ![w, l] S1x256.size hw).toLoadRect⟩ := by
  unfold x
  rw [hs2_2, hs3_2, hs4_2, hs5_2, hs6_2, hs7_2]

theorem takes0_0 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 0 63 inb_S512x512_S64x256_0_0 inb_S512x512_S1x256_63_0) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 0 0 (by decide) (by decide) := by
  rw [x_eq]
  exact takes_lo z18 z19 z20 z21 z22 z23 _ _ 0 0 (by decide) (by decide) _ _

theorem takes0_1 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 0 256 63 inb_S512x512_S64x256_0_256 inb_S512x512_S1x256_63_256) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 0 1 (by decide) (by decide) := by
  rw [x_eq]
  exact takes_lo z18 z19 z20 z21 z22 z23 _ _ 0 1 (by decide) (by decide) _ _

theorem takes0_2 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 0 319 inb_S512x512_S64x256_256_0 inb_S512x512_S1x256_319_0) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 0 0 (by decide) (by decide) := by
  rw [x_eq]
  exact takes_hi z18 z19 z20 z21 z22 z23 _ _ 0 0 (by decide) (by decide) _ _

theorem takes0_3 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 256 256 319 inb_S512x512_S64x256_256_256 inb_S512x512_S1x256_319_256) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 0 1 (by decide) (by decide) := by
  rw [x_eq]
  exact takes_hi z18 z19 z20 z21 z22 z23 _ _ 0 1 (by decide) (by decide) _ _

theorem takes1_0 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 0 127 inb_S512x512_S64x256_64_0 inb_S512x512_S1x256_127_0) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 1 0 (by decide) (by decide) := by
  rw [x_eq]
  exact takes_lo z18 z19 z20 z21 z22 z23 _ _ 1 0 (by decide) (by decide) _ _

theorem takes1_1 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 64 256 127 inb_S512x512_S64x256_64_256 inb_S512x512_S1x256_127_256) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 1 1 (by decide) (by decide) := by
  rw [x_eq]
  exact takes_lo z18 z19 z20 z21 z22 z23 _ _ 1 1 (by decide) (by decide) _ _

theorem takes1_2 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 0 383 inb_S512x512_S64x256_320_0 inb_S512x512_S1x256_383_0) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 1 0 (by decide) (by decide) := by
  rw [x_eq]
  exact takes_hi z18 z19 z20 z21 z22 z23 _ _ 1 0 (by decide) (by decide) _ _

theorem takes1_3 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 320 256 383 inb_S512x512_S64x256_320_256 inb_S512x512_S1x256_383_256) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 1 1 (by decide) (by decide) := by
  rw [x_eq]
  exact takes_hi z18 z19 z20 z21 z22 z23 _ _ 1 1 (by decide) (by decide) _ _

theorem takes2_0 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 0 191 inb_S512x512_S64x256_128_0 inb_S512x512_S1x256_191_0) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 2 0 (by decide) (by decide) := by
  rw [x_eq]
  exact takes_lo z18 z19 z20 z21 z22 z23 _ _ 2 0 (by decide) (by decide) _ _

theorem takes2_1 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 128 256 191 inb_S512x512_S64x256_128_256 inb_S512x512_S1x256_191_256) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 2 1 (by decide) (by decide) := by
  rw [x_eq]
  exact takes_lo z18 z19 z20 z21 z22 z23 _ _ 2 1 (by decide) (by decide) _ _

theorem takes2_2 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 0 447 inb_S512x512_S64x256_384_0 inb_S512x512_S1x256_447_0) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 2 0 (by decide) (by decide) := by
  rw [x_eq]
  exact takes_hi z18 z19 z20 z21 z22 z23 _ _ 2 0 (by decide) (by decide) _ _

theorem takes2_3 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 384 256 447 inb_S512x512_S64x256_384_256 inb_S512x512_S1x256_447_256) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 2 1 (by decide) (by decide) := by
  rw [x_eq]
  exact takes_hi z18 z19 z20 z21 z22 z23 _ _ 2 1 (by decide) (by decide) _ _

theorem takes3_0 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 0 255 inb_S512x512_S64x256_192_0 inb_S512x512_S1x256_255_0) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 3 0 (by decide) (by decide) := by
  rw [x_eq]
  exact takes_lo z18 z19 z20 z21 z22 z23 _ _ 3 0 (by decide) (by decide) _ _

theorem takes3_1 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 192 256 255 inb_S512x512_S64x256_192_256 inb_S512x512_S1x256_255_256) (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 3 1 (by decide) (by decide) := by
  rw [x_eq]
  exact takes_lo z18 z19 z20 z21 z22 z23 _ _ 3 1 (by decide) (by decide) _ _

theorem takes3_2 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 0 511 inb_S512x512_S64x256_448_0 inb_S512x512_S1x256_511_0) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 3 0 (by decide) (by decide) := by
  rw [x_eq]
  exact takes_hi z18 z19 z20 z21 z22 z23 _ _ 3 0 (by decide) (by decide) _ _

theorem takes3_3 : Takes (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 256 511 inb_S512x512_S64x256_448_256 inb_S512x512_S1x256_511_256) (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) 3 1 (by decide) (by decide) := by
  rw [x_eq]
  exact takes_hi z18 z19 z20 z21 z22 z23 _ _ 3 1 (by decide) (by decide) _ _

theorem holds1_0 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_0 z16 Z16 xs0) P 0 t 0) : HoldsState (s1_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 1) 0 := by
  rw [step0_0]
  exact next_takes (c := 0) (takes0_0 ..) H S

theorem holds1_1 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_1 z16 Z16 xs0) P 0 t 1) : HoldsState (s1_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 1) 1 := by
  rw [step0_1]
  exact next_takes (c := 0) (takes0_1 ..) H S

theorem holds1_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_2 z16 Z16 xs0) P 1 t 0) : HoldsState (s1_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 1) 0 := by
  rw [step0_2]
  exact next_takes (c := 0) (takes0_2 ..) H S

theorem holds1_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_3 z16 Z16 xs0) P 1 t 1) : HoldsState (s1_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 1) 1 := by
  rw [step0_3]
  exact next_takes (c := 0) (takes0_3 ..) H S

theorem holds2_0 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_0 z16 Z16 xs0) P 0 t 0) : HoldsState (s2_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 2) 0 := by
  rw [step1_0]
  exact next_takes (c := 1) (takes1_0 ..) H (holds1_0 _ _ _ _ _ _ _ _ _ _ _ _ _ _ _ _ _ _ _ _ _ _ _ _ _ _ _ _ _ _ _ _ _ _ _ _ _ _ _ _ _ _ _ _ _ _ _ _ _ _ _ _ _ _ _ H S)

theorem holds2_1 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_1 z16 Z16 xs0) P 0 t 1) : HoldsState (s2_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 2) 1 := by
  rw [step1_1]
  exact next_takes (c := 1) (takes1_1 ..) H (holds1_1 _ _ _ _ _ _ _ _ _ _ _ _ _ _ _ _ _ _ _ _ _ _ _ _ _ _ _ _ _ _ _ _ _ _ _ _ _ _ _ _ _ _ _ _ _ _ _ _ _ _ _ _ _ _ _ H S)

theorem holds2_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_2 z16 Z16 xs0) P 1 t 0) : HoldsState (s2_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 2) 0 := by
  rw [step1_2]
  exact next_takes (c := 1) (takes1_2 ..) H (holds1_2 _ _ _ _ _ _ _ _ _ _ _ _ _ _ _ _ _ _ _ _ _ _ _ _ _ _ _ _ _ _ _ _ _ _ _ _ _ _ _ _ _ _ _ _ _ _ _ _ _ _ _ _ _ _ _ H S)

theorem holds2_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_3 z16 Z16 xs0) P 1 t 1) : HoldsState (s2_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 2) 1 := by
  rw [step1_3]
  exact next_takes (c := 1) (takes1_3 ..) H (holds1_3 _ _ _ _ _ _ _ _ _ _ _ _ _ _ _ _ _ _ _ _ _ _ _ _ _ _ _ _ _ _ _ _ _ _ _ _ _ _ _ _ _ _ _ _ _ _ _ _ _ _ _ _ _ _ _ H S)

theorem holds3_0 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_0 z16 Z16 xs0) P 0 t 0) : HoldsState (s3_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 3) 0 := by
  rw [step2_0]
  exact next_takes (c := 2) (takes2_0 ..) H (holds2_0 _ _ _ _ _ _ _ _ _ _ _ _ _ _ _ _ _ _ _ _ _ _ _ _ _ _ _ _ _ _ _ _ _ _ _ _ _ _ _ _ _ _ _ _ _ _ _ _ _ _ _ _ _ _ _ H S)

theorem holds3_1 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_1 z16 Z16 xs0) P 0 t 1) : HoldsState (s3_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 3) 1 := by
  rw [step2_1]
  exact next_takes (c := 2) (takes2_1 ..) H (holds2_1 _ _ _ _ _ _ _ _ _ _ _ _ _ _ _ _ _ _ _ _ _ _ _ _ _ _ _ _ _ _ _ _ _ _ _ _ _ _ _ _ _ _ _ _ _ _ _ _ _ _ _ _ _ _ _ H S)

theorem holds3_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_2 z16 Z16 xs0) P 1 t 0) : HoldsState (s3_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 3) 0 := by
  rw [step2_2]
  exact next_takes (c := 2) (takes2_2 ..) H (holds2_2 _ _ _ _ _ _ _ _ _ _ _ _ _ _ _ _ _ _ _ _ _ _ _ _ _ _ _ _ _ _ _ _ _ _ _ _ _ _ _ _ _ _ _ _ _ _ _ _ _ _ _ _ _ _ _ H S)

theorem holds3_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_3 z16 Z16 xs0) P 1 t 1) : HoldsState (s3_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 3) 1 := by
  rw [step2_3]
  exact next_takes (c := 2) (takes2_3 ..) H (holds2_3 _ _ _ _ _ _ _ _ _ _ _ _ _ _ _ _ _ _ _ _ _ _ _ _ _ _ _ _ _ _ _ _ _ _ _ _ _ _ _ _ _ _ _ _ _ _ _ _ _ _ _ _ _ _ _ H S)

theorem holds4_0 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_0 z16 Z16 xs0) P 0 t 0) : HoldsState (s4_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 4) 0 := by
  rw [step3_0]
  exact next_takes (c := 3) (takes3_0 ..) H (holds3_0 _ _ _ _ _ _ _ _ _ _ _ _ _ _ _ _ _ _ _ _ _ _ _ _ _ _ _ _ _ _ _ _ _ _ _ _ _ _ _ _ _ _ _ _ _ _ _ _ _ _ _ _ _ _ _ H S)

theorem holds4_1 {P : Args} {t : ℕ} (H : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (S : HoldsState (s0_1 z16 Z16 xs0) P 0 t 1) : HoldsState (s4_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 0 (t + 64 * 4) 1 := by
  rw [step3_1]
  exact next_takes (c := 3) (takes3_1 ..) H (holds3_1 _ _ _ _ _ _ _ _ _ _ _ _ _ _ _ _ _ _ _ _ _ _ _ _ _ _ _ _ _ _ _ _ _ _ _ _ _ _ _ _ _ _ _ _ _ _ _ _ _ _ _ _ _ _ _ H S)

theorem holds4_2 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_2 z16 Z16 xs0) P 1 t 0) : HoldsState (s4_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) P 1 (t + 64 * 4) 0 := by
  rw [step3_2]
  exact next_takes (c := 3) (takes3_2 ..) H (holds3_2 _ _ _ _ _ _ _ _ _ _ _ _ _ _ _ _ _ _ _ _ _ _ _ _ _ _ _ _ _ _ _ _ _ _ _ _ _ _ _ _ _ _ _ _ _ _ _ _ _ _ _ _ _ _ _ H S)

theorem holds4_3 {P : Args} {t : ℕ} (H : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t) (S : HoldsState (s0_3 z16 Z16 xs0) P 1 t 1) : HoldsState (next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 256 511 inb_S512x512_S64x256_448_256 inb_S512x512_S1x256_511_256) (s3_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)) P 1 (t + 64 * 4) 1 :=
  next_takes (c := 3) (takes3_3 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H (holds3_3 _ _ _ _ _ _ _ _ _ _ _ _ _ _ _ _ _ _ _ _ _ _ _ _ _ _ _ _ _ _ _ _ _ _ _ _ _ _ _ _ _ _ _ _ _ _ _ _ _ _ _ _ _ _ _ H S)

end Cert.RwkvIdeal.Chunk.B
-- ==== Proof.RwkvEndsB.lean ====
/- What a later grid point reads holds the arguments and the carried rows and states; what it leaves, its output block, the states and the last
   rows, as functions of what it reads. -/
module

public import proofs.«01_k».proof.Proof.RwkvOut
public import proofs.«01_k».proof.Proof.RwkvStatesB
public import proofs.«01_k».proof.Proof.RwkvWritesB

@[expose] public section

set_option maxRecDepth 65536
set_option maxHeartbeats 4000000

noncomputable section

namespace Cert.RwkvIdeal.Chunk.B

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : ¬cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16) (xs0 : Vec Ideal S4x64x256 .f32) (xs1 : Vec Ideal S2x8x1920 .f32)

/-- The rows the chunks store are the recurrence's. -/
theorem rows_yc {P : Args} {t : ℕ} (H0 : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t) (H1 : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t)
    (S0 : HoldsState (s0_0 z16 Z16 xs0) P 0 t 0) (S1 : HoldsState (s0_1 z16 Z16 xs0) P 0 t 1) (S2 : HoldsState (s0_2 z16 Z16 xs0) P 1 t 0) (S3 : HoldsState (s0_3 z16 Z16 xs0) P 1 t 1) (p j : Fin 512) :
    View.canon (kernelRun0_B.sl.HS8_16 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (ix2 p j) = rowsG P t (ix2 p j) := by
  have k3_3 := (y_takes (c := 3) (takes3_3 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 (holds3_3 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S3))
  have k3_2 := (y_takes (c := 3) (takes3_2 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 (holds3_2 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S2))
  have k3_1 := (y_takes (c := 3) (takes3_1 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 (holds3_1 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S1))
  have k3_0 := (y_takes (c := 3) (takes3_0 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 (holds3_0 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S0))
  have k2_3 := (y_takes (c := 2) (takes2_3 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 (holds2_3 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S3))
  have k2_2 := (y_takes (c := 2) (takes2_2 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 (holds2_2 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S2))
  have k2_1 := (y_takes (c := 2) (takes2_1 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 (holds2_1 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S1))
  have k2_0 := (y_takes (c := 2) (takes2_0 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 (holds2_0 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S0))
  have k1_3 := (y_takes (c := 1) (takes1_3 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 (holds1_3 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S3))
  have k1_2 := (y_takes (c := 1) (takes1_2 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 (holds1_2 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S2))
  have k1_1 := (y_takes (c := 1) (takes1_1 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 (holds1_1 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S1))
  have k1_0 := (y_takes (c := 1) (takes1_0 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 (holds1_0 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S0))
  have k0_3 := (y_takes (c := 0) (takes0_3 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 S3)
  have k0_2 := (y_takes (c := 0) (takes0_2 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H1 S2)
  have k0_1 := (y_takes (c := 0) (takes0_1 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 S1)
  have k0_0 := (y_takes (c := 0) (takes0_0 c z1 Z1 z2 Z2 z3 Z3 z4 Z4 z5 Z5 z6 Z6 z7 Z7 z8 Z8 z9 Z9 z10 Z10 z11 Z11 z12 Z12 z13 Z13 z14 Z14 z17 Z17 z18 z19 z20 z21 z22 z23 x0 x1 x2 x3 x4 x5 x6 x7 x8 x9 x10 x11 x12 x13 xs1) H0 S0)
  refine (congrArg (fun L => View.canon L (ix2 p j)) (rows_eq (F := Ideal) c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)).trans ?_
  exact rows_at k3_3 k3_2 k3_1 k3_0 k2_3 k2_2 k2_1 k2_0 k1_3 k1_2 k1_1 k1_0 k0_3 k0_2 k0_1 k0_0 p j

theorem has0 {P : Args} {t : ℕ} (R : Raw x0 x1 x2 x3 x4 x5 x6 x7 x8 x9 x10 x11 x12 x13 P t) (C : Carry xs0 xs1 P t) : Prep.Has (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 0 t where
  x := fun p j => (read_slab z1 Z1 x0 0 inb_S2x256x1920_S1x256x1920_0_0_0 (by decide) (by decide) (by decide) p j).trans (R.x 0 p j)
  pv := fun j => (read_slab z17 Z17 xs1 0 inb_S2x8x1920_S1x1x1920_0_0_0 (by decide) (by decide) (by decide) 0 j).trans (C.pv 0 j)
  mu := fun  j => (read_all z2 Z2 x1 inb_S1x1920_S1x1920_0_0 0 j).trans (R.mu j)
  w0 := fun  j => (read_all z3 Z3 x2 inb_S1x512_S1x512_0_0 0 j).trans (R.w0 j)
  w2 := fun i j => (read_all z4 Z4 x3 inb_S128x512_S128x512_0_0 i j).trans (R.w2 i j)
  a0 := fun  j => (read_all z5 Z5 x4 inb_S1x512_S1x512_0_0 0 j).trans (R.a0 j)
  a2 := fun i j => (read_all z6 Z6 x5 inb_S128x512_S128x512_0_0 i j).trans (R.a2 i j)
  g2 := fun i j => (read_all z7 Z7 x6 inb_S256x512_S256x512_0_0 i j).trans (R.g2 i j)
  kk := fun  j => (read_all z8 Z8 x7 inb_S1x512_S1x512_0_0 0 j).trans (R.kk j)
  ka := fun  j => (read_all z9 Z9 x8 inb_S1x512_S1x512_0_0 0 j).trans (R.ka j)
  rk := fun  j => (read_all z10 Z10 x9 inb_S1x512_S1x512_0_0 0 j).trans (R.rk j)
  lw := fun  j => (read_all z11 Z11 x10 inb_S1x512_S1x512_0_0 0 j).trans (R.lw j)
  lb := fun  j => (read_all z12 Z12 x11 inb_S1x512_S1x512_0_0 0 j).trans (R.lb j)
  gm := fun i j => (read_all z13 Z13 x12 inb_S512x512_S512x512_0_0 i j).trans (R.gm i j)
  lt := fun i j => (read_all z14 Z14 x13 inb_S256x256_S256x256_0_0 i j).trans (R.lt i j)

theorem has1 {P : Args} {t : ℕ} (R : Raw x0 x1 x2 x3 x4 x5 x6 x7 x8 x9 x10 x11 x12 x13 P t) (C : Carry xs0 xs1 P t) : Prep.Has (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) P 1 t where
  x := fun p j => (read_slab z1 Z1 x0 1 inb_S2x256x1920_S1x256x1920_1_0_0 (by decide) (by decide) (by decide) p j).trans (R.x 1 p j)
  pv := fun j => (read_slab z17 Z17 xs1 1 inb_S2x8x1920_S1x1x1920_1_0_0 (by decide) (by decide) (by decide) 0 j).trans (C.pv 1 j)
  mu := fun  j => (read_all z2 Z2 x1 inb_S1x1920_S1x1920_0_0 0 j).trans (R.mu j)
  w0 := fun  j => (read_all z3 Z3 x2 inb_S1x512_S1x512_0_0 0 j).trans (R.w0 j)
  w2 := fun i j => (read_all z4 Z4 x3 inb_S128x512_S128x512_0_0 i j).trans (R.w2 i j)
  a0 := fun  j => (read_all z5 Z5 x4 inb_S1x512_S1x512_0_0 0 j).trans (R.a0 j)
  a2 := fun i j => (read_all z6 Z6 x5 inb_S128x512_S128x512_0_0 i j).trans (R.a2 i j)
  g2 := fun i j => (read_all z7 Z7 x6 inb_S256x512_S256x512_0_0 i j).trans (R.g2 i j)
  kk := fun  j => (read_all z8 Z8 x7 inb_S1x512_S1x512_0_0 0 j).trans (R.kk j)
  ka := fun  j => (read_all z9 Z9 x8 inb_S1x512_S1x512_0_0 0 j).trans (R.ka j)
  rk := fun  j => (read_all z10 Z10 x9 inb_S1x512_S1x512_0_0 0 j).trans (R.rk j)
  lw := fun  j => (read_all z11 Z11 x10 inb_S1x512_S1x512_0_0 0 j).trans (R.lw j)
  lb := fun  j => (read_all z12 Z12 x11 inb_S1x512_S1x512_0_0 0 j).trans (R.lb j)
  gm := fun i j => (read_all z13 Z13 x12 inb_S512x512_S512x512_0_0 i j).trans (R.gm i j)
  lt := fun i j => (read_all z14 Z14 x13 inb_S256x256_S256x256_0_0 i j).trans (R.lt i j)

theorem start0 {P : Args} {t : ℕ} (C : Carry xs0 xs1 P t) : HoldsState (s0_0 z16 Z16 xs0) P 0 t 0 := fun h r l =>
  (down_at _ r (col h l)).trans ((read_slab z16 Z16 xs0 0 inb_S4x64x256_S1x64x256_0_0_0 (by decide) (by decide) (by decide) r (col h l)).trans (C.st 0 h r l))

theorem start1 {P : Args} {t : ℕ} (C : Carry xs0 xs1 P t) : HoldsState (s0_1 z16 Z16 xs0) P 0 t 1 := fun h r l =>
  (down_at _ r (col h l)).trans ((read_slab z16 Z16 xs0 1 inb_S4x64x256_S1x64x256_1_0_0 (by decide) (by decide) (by decide) r (col h l)).trans (C.st 1 h r l))

theorem start2 {P : Args} {t : ℕ} (C : Carry xs0 xs1 P t) : HoldsState (s0_2 z16 Z16 xs0) P 1 t 0 := fun h r l =>
  (down_at _ r (col h l)).trans ((read_slab z16 Z16 xs0 2 inb_S4x64x256_S1x64x256_2_0_0 (by decide) (by decide) (by decide) r (col h l)).trans (C.st 2 h r l))

theorem start3 {P : Args} {t : ℕ} (C : Carry xs0 xs1 P t) : HoldsState (s0_3 z16 Z16 xs0) P 1 t 1 := fun h r l =>
  (down_at _ r (col h l)).trans ((read_slab z16 Z16 xs0 3 inb_S4x64x256_S1x64x256_3_0_0 (by decide) (by decide) (by decide) r (col h l)).trans (C.st 3 h r l))

theorem out_eq : (kernelRun0_B (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).1 =
    [⟨Rect.unit (s := S2x256x512) ![1, 0, 0] S1x256x512.size inb_S2x256x512_S1x256x512_1_0_0, Prep.fin (L1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)
      (z24.view.readCov (kernelRun0_B.sl.HS8_16 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (Rect.unit (s := S512x512) ![256, 0] S256x512.size inb_S512x512_S256x512_256_0).toLoadRect)
      (z25.view.readCov (kernelRun0_B.sl.HS9_2 c z1 Z1 z2 Z2 z5 Z5 z6 Z6 z9 Z9 z10 Z10 z13 Z13 z17 Z17 x0 x1 x4 x5 x8 x9 x12 xs1) (Rect.unit (s := S512x512) ![256, 0] S256x512.size inb_S512x512_S256x512_256_0).toLoadRect)
      (z26.view.readCov (kernelRun0_B.sl.HS10_2 c z1 Z1 z2 Z2 z7 Z7 z17 Z17 x0 x1 x6 xs1) (Rect.unit (s := S512x512) ![256, 0] S256x512.size inb_S512x512_S256x512_256_0).toLoadRect)⟩,
     ⟨Rect.unit (s := S2x256x512) ![0, 0, 0] S1x256x512.size inb_S2x256x512_S1x256x512_0_0_0, Prep.fin (L0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1)
      (z24.view.readCov (kernelRun0_B.sl.HS8_16 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1) (Rect.unit (s := S512x512) ![0, 0] S256x512.size inb_S512x512_S256x512_0_0).toLoadRect)
      (z25.view.readCov (kernelRun0_B.sl.HS9_2 c z1 Z1 z2 Z2 z5 Z5 z6 Z6 z9 Z9 z10 Z10 z13 Z13 z17 Z17 x0 x1 x4 x5 x8 x9 x12 xs1) (Rect.unit (s := S512x512) ![0, 0] S256x512.size inb_S512x512_S256x512_0_0).toLoadRect)
      (z26.view.readCov (kernelRun0_B.sl.HS10_2 c z1 Z1 z2 Z2 z7 Z7 z17 Z17 x0 x1 x6 xs1) (Rect.unit (s := S512x512) ![0, 0] S256x512.size inb_S512x512_S256x512_0_0).toLoadRect)⟩] := by
  exact rfl

theorem states_eq : (kernelRun0_B (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).2.1 =
    ⟨Rect.unit (s := S4x64x256) ![3, 0, 0] S1x64x256.size inb_S4x64x256_S1x64x256_3_0_0, up (next (x c z1 Z1 z2 Z2 z3 Z3 z4 Z4 z5 Z5 z6 Z6 z8 Z8 z9 Z9 z13 Z13 z14 Z14 z17 Z17 z18 z19 z20 z21 z22 z23 x0 x1 x2 x3 x4 x5 x7 x8 x12 x13 xs1 448 256 511 inb_S512x512_S64x256_448_256 inb_S512x512_S1x256_511_256) (s3_3 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1))⟩ ::
    ⟨Rect.unit (s := S4x64x256) ![2, 0, 0] S1x64x256.size inb_S4x64x256_S1x64x256_2_0_0, up (s4_2 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩ ::
    ⟨Rect.unit (s := S4x64x256) ![1, 0, 0] S1x64x256.size inb_S4x64x256_S1x64x256_1_0_0, up (s4_1 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩ ::
    ⟨Rect.unit (s := S4x64x256) ![0, 0, 0] S1x64x256.size inb_S4x64x256_S1x64x256_0_0_0, up (s4_0 c z1 Z1 z2 Z2 z3 Z3 z4 Z4 z5 Z5 z6 Z6 z8 Z8 z9 Z9 z13 Z13 z14 Z14 z16 Z16 z17 Z17 z18 z19 z20 z21 z22 z23 x0 x1 x2 x3 x4 x5 x7 x8 x12 x13 xs0 xs1)⟩ :: [] := by
  exact rfl

theorem lasts_eq : (kernelRun0_B (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1).2.2.1 =
    ⟨Rect.unit (s := S2x8x1920) ![1, 0, 0] S1x1x1920.size inb_S2x8x1920_S1x1x1920_1_0_0, k0_pay6 (View.readAt (Elt Ideal) z1.view (Rect.unit (s := S2x256x1920) ![1, 0, 0] S1x256x1920.size inb_S2x256x1920_S1x256x1920_1_0_0).toLoadRect (Z1.unread x0))⟩ ::
    ⟨Rect.unit (s := S2x8x1920) ![0, 0, 0] S1x1x1920.size inb_S2x8x1920_S1x1x1920_0_0_0, k0_pay6 (View.readAt (Elt Ideal) z1.view (Rect.unit (s := S2x256x1920) ![0, 0, 0] S1x256x1920.size inb_S2x256x1920_S1x256x1920_0_0_0).toLoadRect (Z1.unread x0))⟩ :: [] := by
  exact rfl

end Cert.RwkvIdeal.Chunk.B
-- ==== Proof.RwkvPointB.lean ====
/- What a later grid point leaves at real arguments: the output rows, and the states and last rows of the next position. -/
module

public import proofs.«01_k».proof.Proof.RwkvEndsB
public import proofs.«01_k».proof.Proof.RwkvIdealFrame

@[expose] public section

set_option maxRecDepth 65536
set_option maxHeartbeats 4000000

noncomputable section

namespace Cert.RwkvIdeal.Chunk.B

open Idealize.ShloMosaic Idealize.SL.Sem Cert.RwkvIdeal.Gen Cert.RwkvSpec

variable (c : Dev nD) (i : grid0.Coords) (z1 : Mr S2x256x1920 .f32) (Z1 : z1.IsWhole) (z2 : Mr S1x1920 .f32) (Z2 : z2.IsWhole) (z3 : Mr S1x512 .f32) (Z3 : z3.IsWhole) (z4 : Mr S128x512 .bf16) (Z4 : z4.IsWhole) (z5 : Mr S1x512 .f32) (Z5 : z5.IsWhole) (z6 : Mr S128x512 .bf16) (Z6 : z6.IsWhole) (z7 : Mr S256x512 .bf16) (Z7 : z7.IsWhole) (z8 : Mr S1x512 .f32) (Z8 : z8.IsWhole) (z9 : Mr S1x512 .f32) (Z9 : z9.IsWhole) (z10 : Mr S1x512 .f32) (Z10 : z10.IsWhole) (z11 : Mr S1x512 .f32) (Z11 : z11.IsWhole) (z12 : Mr S1x512 .f32) (Z12 : z12.IsWhole) (z13 : Mr S512x512 .bf16) (Z13 : z13.IsWhole) (z14 : Mr S256x256 .bf16) (Z14 : z14.IsWhole) (z15 : Mr S2x256x512 .bf16) (Z15 : z15.IsWhole) (z16 : Mr S4x64x256 .f32) (Z16 : z16.IsWhole) (z17 : Mr S2x8x1920 .f32) (Z17 : z17.IsWhole) (z18 : Mr S512x512 .bf16) (Z18 : z18.IsWhole) (z19 : Mr S512x512 .bf16) (Z19 : z19.IsWhole) (z20 : Mr S512x512 .bf16) (Z20 : z20.IsWhole) (z21 : Mr S512x512 .bf16) (Z21 : z21.IsWhole) (z22 : Mr S512x512 .f32) (Z22 : z22.IsWhole) (z23 : Mr S512x512 .f32) (Z23 : z23.IsWhole) (z24 : Mr S512x512 .f32) (Z24 : z24.IsWhole) (z25 : Mr S512x512 .f32) (Z25 : z25.IsWhole) (z26 : Mr S512x512 .f32) (Z26 : z26.IsWhole) (hc0 : ¬cond0_0 i)     (x0 : Vec Ideal S2x256x1920 .f32) (x1 : Vec Ideal S1x1920 .f32) (x2 : Vec Ideal S1x512 .f32) (x3 : Vec Ideal S128x512 .bf16) (x4 : Vec Ideal S1x512 .f32) (x5 : Vec Ideal S128x512 .bf16) (x6 : Vec Ideal S256x512 .bf16) (x7 x8 x9 x10 x11 : Vec Ideal S1x512 .f32) (x12 : Vec Ideal S512x512 .bf16) (x13 : Vec Ideal S256x256 .bf16) (xs0 : Vec Ideal S4x64x256 .f32) (xs1 : Vec Ideal S2x8x1920 .f32)

theorem out_at {P : Args} {t : ℕ} (R : Raw x0 x1 x2 x3 x4 x5 x6 x7 x8 x9 x10 x11 x12 x13 P t) (C : Carry xs0 xs1 P t) (b : Fin 2) (p : Fin 256) (j : Fin 512) :
    (out0_B_14 (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1 (ix3 b p j) : EReal) = ((P.out b (t + p) j : ℝ) : EReal) := by
  have H0 := (has0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs0 xs1 R C)
  have H1 := (has1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs0 xs1 R C)
  have S0 := (start0 z16 Z16 xs0 xs1 C)
  have S1 := (start1 z16 Z16 xs0 xs1 C)
  have S2 := (start2 z16 Z16 xs0 xs1 C)
  have S3 := (start3 z16 Z16 xs0 xs1 C)
  have Y := rows_yc c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 H1 S0 S1 S2 S3
  have F0 := fun (p : Fin 256) (j : Fin 512) => Prep.fin_at H0 _ _ _ (window_lo z24 Y)
    (fun p j => (whole_lo z25 (hs9_2 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) p j).trans (Prep.bonus_at H0 p j)) (fun p j => (whole_lo z26 (hs10_2 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) p j).trans (Prep.g_at H0 p j)) p j
  have F1 := fun (p : Fin 256) (j : Fin 512) => Prep.fin_at H1 _ _ _ (window_hi z24 Y)
    (fun p j => (whole_hi z25 (hs9_2 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) p j).trans (Prep.bonus_at H1 p j)) (fun p j => (whole_hi z26 (hs10_2 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs1) p j).trans (Prep.g_at H1 p j)) p j
  unfold out0_B_14
  rw [View.read_writes_junk_eq_canon, out_eq]
  exact outs_canon F0 F1 b p j

theorem carry {P : Args} {t : ℕ} (R : Raw x0 x1 x2 x3 x4 x5 x6 x7 x8 x9 x10 x11 x12 x13 P t) (C : Carry xs0 xs1 P t) : Carry (sout0_B_0 (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1) (sout0_B_1 (F := Ideal) c i z1 Z1 z2 Z2 z3 Z3 z4 Z4 z5 Z5 z6 Z6 z7 Z7 z8 Z8 z9 Z9 z10 Z10 z11 Z11 z12 Z12 z13 Z13 z14 Z14 z15 Z15 z16 Z16 z17 Z17 z18 Z18 z19 Z19 z20 Z20 z21 Z21 z22 Z22 z23 Z23 z24 Z24 z25 Z25 z26 Z26 hc0 x0 x1 x2 x3 x4 x5 x6 x7 x8 x9 x10 x11 x12 x13 xs0 xs1) P (t + 256) := by
  have H0 := (has0 z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs0 xs1 R C)
  have H1 := (has1 c z1 Z1 z2 Z2 z3 Z3 z4 Z4 z5 Z5 z6 Z6 z7 Z7 z8 Z8 z9 Z9 z10 Z10 z11 Z11 z12 Z12 z13 Z13 z14 Z14 z17 Z17 x0 x1 x2 x3 x4 x5 x6 x7 x8 x9 x10 x11 x12 x13 xs0 xs1 R C)
  have S0 := (start0 z16 Z16 xs0 xs1 C)
  have S1 := (start1 z16 Z16 xs0 xs1 C)
  have S2 := (start2 z16 Z16 xs0 xs1 C)
  have S3 := (start3 z16 Z16 xs0 xs1 C)
  have T0 := (holds4_0 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S0)
  have T1 := (holds4_1 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H0 S1)
  have T2 := (holds4_2 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S2)
  have T3 := (holds4_3 c z1 Z1 z2 Z2 z3 Z3 z4 Z4 z5 Z5 z6 Z6 z7 Z7 z8 Z8 z9 Z9 z10 Z10 z11 Z11 z12 Z12 z13 Z13 z14 Z14 z16 Z16 z17 Z17 z18 z19 z20 z21 z22 z23 x0 x1 x2 x3 x4 x5 x6 x7 x8 x9 x10 x11 x12 x13 xs0 xs1 H1 S3)
  have X0 := fun j : Fin 1920 => (read_slab z1 Z1 x0 0 inb_S2x256x1920_S1x256x1920_0_0_0 (by decide) (by decide) (by decide) 255 j).trans (R.x 0 255 j)
  have X1 := fun j : Fin 1920 => (read_slab z1 Z1 x0 1 inb_S2x256x1920_S1x256x1920_1_0_0 (by decide) (by decide) (by decide) 255 j).trans (R.x 1 255 j)
  refine ⟨fun i h r l => ?_, fun b j => ?_⟩
  · unfold sout0_B_0
    rw [View.read_writes_junk_eq_canon, states_eq]
    exact states_canon T0 T1 T2 T3 _ i h r l
  · unfold sout0_B_1
    rw [lasts_eq]
    exact (View.read_writes_apply_eq_canon z17.view _ _ _ (lasts_mem _ _ b j)).trans (lasts_canon X0 X1 _ b j)

end Cert.RwkvIdeal.Chunk.B
-- ==== Proof.RwkvIdealValue.lean ====
module

public import proofs.«01_k».proof.Proof.RwkvIdealFrame
public import Idealize.ShloMosaic.Lib.Pipeline.Value

/-! The final result array of the rwkv call, block by block: after the run, entry `i` of the array is what grid point
`i₁ / 256` left in its output block at `i`'s place in the block. -/

@[expose] public section

noncomputable section

namespace Cert.RwkvIdeal.Value

open Cert.RwkvIdeal Cert.RwkvIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v52) = (dats m 0 c).arrAt 14 cfg0.N :=
  (h c).1 14

/-- After the run, each argument is as launched: no window stages it, and the region leaves its other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The outputs at equal point numbers are equal (the bound's proof does not enter). -/
theorem outs_congr (c : Dev nD) : ∀ (j : ℕ) (h : j < cfg0.N) (j' : ℕ) (h' : j' < cfg0.N), j = j' →
    outsAt0 m c j h = outsAt0 m c j' h' := by
  intro j h j' h' hj; subst hj; rfl

/-- The block of the array that holds index `i`, numbered in the order the points write the blocks back (one per point),
    `i`'s place in it, and the point that writes it back. -/
abbrev run14Of (i : S2x16384x512.Idx) : ℕ := 64 * ((i 0).val / 2 - 0) + 1 * ((i 1).val / 256 - 0) + 1 * ((i 2).val / 512 - 0)
set_option backward.proofsInPublic true in
abbrev loc14Of (i : S2x16384x512.Idx) : S2x256x512.Idx := fun a => match a with
  | ⟨0, _⟩ => ⟨(i 0).val % 2, Nat.mod_lt _ (by decide)⟩
  | ⟨1, _⟩ => ⟨(i 1).val % 256, Nat.mod_lt _ (by decide)⟩
  | ⟨2, _⟩ => ⟨(i 2).val % 512, Nat.mod_lt _ (by decide)⟩
abbrev pt14Of (i : S2x16384x512.Idx) : ℕ := run14Of i

/-- The array after the run: at index `i` inside the grid's range, the output block of the point that holds `i`. -/
def G14 (c : Dev nD) : Buf (Elt F) ((c : Thread nD τ).loc main_v52) := fun i =>
  if h : pt14Of i < cfg0.N then (outsAt0 m c (pt14Of i) h).1 (loc14Of i)
  else V m c (Pipeline.arrRef spec0 14) i

/-- The printed index map, decided over the grid: output window 14's block indices stay in the box, and the block number
    read off them is the point's (`t`). -/
theorem idx_facts14 : ∀ t : Fin cfg0.N, 0 ≤ win0_14.index t (0 : Fin 3) ∧ win0_14.index t (0 : Fin 3) ≤ 0
    ∧ 0 ≤ win0_14.index t (1 : Fin 3) ∧ win0_14.index t (1 : Fin 3) ≤ 63
    ∧ 0 ≤ win0_14.index t (2 : Fin 3) ∧ win0_14.index t (2 : Fin 3) ≤ 0
    ∧ 64 * (win0_14.index t (0 : Fin 3) - 0) + 1 * (win0_14.index t (1 : Fin 3) - 0) + 1 * (win0_14.index t (2 : Fin 3) - 0) = t.val :=
  (by decide +kernel : ∀ t : Fin grid0.N, _)

/-- Every block of the box is SOME flushing point's: `onto14Pt`, the point that writes back the block at place `q` of the box. -/
abbrev onto14Pt (q0 : Fin 1) (q1 : Fin 64) (q2 : Fin 1) : Fin grid0.N :=
  ⟨64 * q0.val + 1 * q1.val + 1 * q2.val, lt_of_lt_of_eq (by omega) N_0.symm⟩
theorem idx_onto14 : ∀ (q0 : Fin 1) (q1 : Fin 64) (q2 : Fin 1), ∃ t : Fin cfg0.N, (cfg0.win 14).flush t = true ∧ win0_14.index t = ![q0.val + 0, q1.val + 0, q2.val + 0] :=
  fun q0 q1 q2 => ⟨onto14Pt q0 q1 q2, (by decide +kernel : ∀ (q0 : Fin 1) (q1 : Fin 64) (q2 : Fin 1), win0_14.flush (onto14Pt q0 q1 q2) = true ∧ win0_14.index (onto14Pt q0 q1 q2) = ![q0.val + 0, q1.val + 0, q2.val + 0]) q0 q1 q2⟩

/-- WHAT A FLUSHING POINT `t` WRITES BACK is block `t` of `G14`: output 14's component of the fold up to `t`. -/
theorem flushed14_eq (c : Dev nD) (t : Fin cfg0.N) (hf : (cfg0.win 14).flush t = true) :
    (dats m 0 c).flushed 14 t = ((cfg0.win 14).blk t).view.read (Elt F) (G14 m c) := by
  show (cfg0.win 14).cut (grid0.coords t) ((dats m 0 c).after 14 t) = _
  rw [after0_14]
  obtain ⟨e0, e1, e2, e3⟩ := idx_facts14 t
  funext y
  have hy0 : (y 0).val < 2 := (y 0).isLt
  have hy1 : (y 1).val < 256 := (y 1).isLt
  have hy2 : (y 2).val < 512 := (y 2).isLt
  have hb0 : (((cfg0.win 14).blk t).view.emb y 0).val = win0_14.index t (0 : Fin 3) * 2 + 1 * (y 0).val := rfl
  have hb1 : (((cfg0.win 14).blk t).view.emb y 1).val = win0_14.index t (1 : Fin 3) * 256 + 1 * (y 1).val := rfl
  have hb2 : (((cfg0.win 14).blk t).view.emb y 2).val = win0_14.index t (2 : Fin 3) * 512 + 1 * (y 2).val := rfl
  have hr : run14Of (((cfg0.win 14).blk t).view.emb y) = t.val := by
    show 64 * ((((cfg0.win 14).blk t).view.emb y 0).val / 2 - 0) + 1 * ((((cfg0.win 14).blk t).view.emb y 1).val / 256 - 0) + 1 * ((((cfg0.win 14).blk t).view.emb y 2).val / 512 - 0) = _
    rw [hb0, hb1, hb2]
    rw [show (win0_14.index t (0 : Fin 3) * 2 + 1 * (y 0).val) / 2 = win0_14.index t (0 : Fin 3) from by omega]; rw [show (win0_14.index t (1 : Fin 3) * 256 + 1 * (y 1).val) / 256 = win0_14.index t (1 : Fin 3) from by omega]; rw [show (win0_14.index t (2 : Fin 3) * 512 + 1 * (y 2).val) / 512 = win0_14.index t (2 : Fin 3) from by omega]
    omega
  have hl : loc14Of (((cfg0.win 14).blk t).view.emb y) = (cfg0.win 14).xinj (grid0.coords t) y := by
    funext a; apply Fin.ext
    match a with
    | ⟨0, _⟩ => show (((cfg0.win 14).blk t).view.emb y 0).val % 2 = (y 0).val; rw [hb0]; omega
    | ⟨1, _⟩ => show (((cfg0.win 14).blk t).view.emb y 1).val % 256 = (y 1).val; rw [hb1]; omega
    | ⟨2, _⟩ => show (((cfg0.win 14).blk t).view.emb y 2).val % 512 = (y 2).val; rw [hb2]; omega
  have hp : pt14Of (((cfg0.win 14).blk t).view.emb y) = t.val := by
    exact hr
  show (outsAt0 m c t.val _).1 ((cfg0.win 14).xinj (grid0.coords t) y) = G14 m c (((cfg0.win 14).blk t).view.emb y)
  unfold G14
  rw [dif_pos (by rw [hp]; exact t.isLt), hl, outs_congr m c _ _ _ _ hp.symm]

/-- An index of the array is in point `t`'s block iff each coordinate is in the block's range on its axis. -/
theorem mem_blk14 (t : Fin cfg0.N) (i : S2x16384x512.Idx) :
    i ∈ ((cfg0.win 14).blk t).view.set ↔ ∀ a : Fin 3, win0_14.index t a * S2x256x512.size a ≤ (i a).val ∧ (i a).val < win0_14.index t a * S2x256x512.size a + S2x256x512.size a := by
  show i ∈ ((View.whole main_v52).slice (win0_14.rect t)).set ↔ _
  rw [View.set_slice_whole, Rect.mem_set_unit]
  exact Iff.rfl

/-- THE COVERED INDICES: in some flushing point's block iff inside the box those blocks fill. -/
theorem covered_iff14 (i : S2x16384x512.Idx) :
    (∃ t : Fin cfg0.N, (cfg0.win 14).flush t = true ∧ i ∈ ((cfg0.win 14).blk t).view.set) ↔ 0 ≤ (i 0).val ∧ (i 0).val < 2 ∧ 0 ≤ (i 1).val ∧ (i 1).val < 16384 ∧ 0 ≤ (i 2).val ∧ (i 2).val < 512 := by
  constructor
  · rintro ⟨t, -, hi⟩
    rw [mem_blk14] at hi
    have b0 : win0_14.index t (0 : Fin 3) * 2 ≤ (i 0).val ∧ (i 0).val < win0_14.index t (0 : Fin 3) * 2 + 2 := hi 0
    have b1 : win0_14.index t (1 : Fin 3) * 256 ≤ (i 1).val ∧ (i 1).val < win0_14.index t (1 : Fin 3) * 256 + 256 := hi 1
    have b2 : win0_14.index t (2 : Fin 3) * 512 ≤ (i 2).val ∧ (i 2).val < win0_14.index t (2 : Fin 3) * 512 + 512 := hi 2
    obtain ⟨e0, e1, e2, e3⟩ := idx_facts14 t
    omega
  · intro h
    have hi0 : (i 0).val < 2 := (i 0).isLt
    have hi1 : (i 1).val < 16384 := (i 1).isLt
    have hi2 : (i 2).val < 512 := (i 2).isLt
    obtain ⟨t, hft, ht⟩ := idx_onto14 ⟨(i 0).val / 2 - 0, by omega⟩ ⟨(i 1).val / 256 - 0, by omega⟩ ⟨(i 2).val / 512 - 0, by omega⟩
    have q0 : win0_14.index t (0 : Fin 3) = (i 0).val / 2 - 0 + 0 := congrFun ht 0
    have q1 : win0_14.index t (1 : Fin 3) = (i 1).val / 256 - 0 + 0 := congrFun ht 1
    have q2 : win0_14.index t (2 : Fin 3) = (i 2).val / 512 - 0 + 0 := congrFun ht 2
    refine ⟨t, hft, ?_⟩
    rw [mem_blk14]
    intro a
    match a with
    | ⟨0, _⟩ => show win0_14.index t (0 : Fin 3) * 2 ≤ (i 0).val ∧ (i 0).val < win0_14.index t (0 : Fin 3) * 2 + 2; omega
    | ⟨1, _⟩ => show win0_14.index t (1 : Fin 3) * 256 ≤ (i 1).val ∧ (i 1).val < win0_14.index t (1 : Fin 3) * 256 + 256; omega
    | ⟨2, _⟩ => show win0_14.index t (2 : Fin 3) * 512 ≤ (i 2).val ∧ (i 2).val < win0_14.index t (2 : Fin 3) * 512 + 512; omega

/-- THE ARRAY after the run: `G14` (the flushing blocks tile it). -/
theorem final14 (c : Dev nD) : (dats m 0 c).arrAt 14 cfg0.N = G14 m c :=
  (dats m 0 c).arrAt_eq_of_cover 14 _ (fun t hf => flushed14_eq m c t hf) (fun i => (covered_iff14 i).2 (by
    have h0 : (i 0).val < 2 := (i 0).isLt; have h1 : (i 1).val < 16384 := (i 1).isLt; have h2 : (i 2).val < 512 := (i 2).isLt; omega))

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v52) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(post14 m r h c).trans (final14 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.RwkvIdeal.Value

end
-- ==== Proof.RwkvResult.lean ====
module

public import proofs.«01_k».proof.Proof.RwkvEntry
public import proofs.«01_k».proof.Proof.RwkvPointA
public import proofs.«01_k».proof.Proof.RwkvPointB
public import proofs.«01_k».proof.Proof.RwkvIdealValue
/-! The RWKV program's result at real arguments: by induction on the grid points, each leaves its 256 output rows and, for the
next point, the states and the last row of the columns. -/

@[expose] public section

set_option maxRecDepth 65536
set_option maxHeartbeats 4000000

noncomputable section

namespace Cert.RwkvIdeal.Entry

open Cert.RwkvSpec Cert.RwkvIdeal Cert.RwkvIdeal.Gen Cert.RwkvIdeal.Chunk Idealize.ShloMosaic Idealize.ShloMosaic.TcCoe Idealize.SL.Sem

variable (m : (ℓ : Loc nD τ sig) → Buf (Elt Ideal) ℓ) (c : Dev nD)

/-- What the first point leaves. -/
theorem point_first (H : AllFin m c) (t : Fin cfg0.N) (h0 : t.val % 64 = 0) (ht : t.val = 0) :
    (∀ (b : Fin 2) (p : Fin 256) (j : Fin 512), ((outA m c t h0).1 (ix3 b p j) : EReal) = (((args m c).out b (0 + p) j : ℝ) : EReal))
      ∧ Carry (outA m c t h0).2.1 (outA m c t h0).2.2 (args m c) (0 + 256) := by
  have R := raw m c H t
  rw [show 256 * t.val = 0 by omega] at R
  unfold outA all0_A
  dsimp only
  exact ⟨fun b p j => A.out_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R b p j,
    A.carry _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R⟩

/-- What a later point leaves, over what it is left. -/
theorem point_next (H : AllFin m c) (t : Fin cfg0.N) (h0 : ¬t.val % 64 = 0) (xs0 : Vec Ideal S4x64x256 .f32) (xs1 : Vec Ideal S2x8x1920 .f32)
    (C : Carry xs0 xs1 (args m c) (256 * t.val)) :
    (∀ (b : Fin 2) (p : Fin 256) (j : Fin 512), ((outB m c t h0 xs0 xs1).1 (ix3 b p j) : EReal) = (((args m c).out b (256 * t.val + p) j : ℝ) : EReal))
      ∧ Carry (outB m c t h0 xs0 xs1).2.1 (outB m c t h0 xs0 xs1).2.2 (args m c) (256 * t.val + 256) := by
  have R := raw m c H t
  unfold outB all0_B
  dsimp only
  exact ⟨fun b p j => B.out_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ xs0 xs1 R C b p j,
    B.carry _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ xs0 xs1 R C⟩

theorem points (H : AllFin m c) (n : ℕ) : ∀ hn : n < cfg0.N,
    (∀ (b : Fin 2) (p : Fin 256) (j : Fin 512), ((outsAt0 m c n hn).1 (ix3 b p j) : EReal) = (((args m c).out b (256 * n + p) j : ℝ) : EReal))
      ∧ Carry (outsAt0 m c n hn).2.1 (outsAt0 m c n hn).2.2 (args m c) (256 * (n + 1)) := by
  induction n with
  | zero =>
    intro hn
    rw [show outsAt0 m c 0 hn = outA m c ⟨0, hn⟩ rfl from outsAt0_A m c ⟨0, hn⟩ rfl, show 256 * (0 + 1) = 0 + 256 from rfl, Nat.mul_zero]
    exact point_first m c H ⟨0, hn⟩ rfl rfl
  | succ n ih =>
    intro hn
    have h64 : n + 1 < 64 := lt_of_lt_of_eq hn N_0
    have h0 : ¬(⟨n + 1, hn⟩ : Fin cfg0.N).val % 64 = 0 := by show ¬(n + 1) % 64 = 0; omega
    rw [show outsAt0 m c (n + 1) hn = outB m c ⟨n + 1, hn⟩ h0 _ _ from outsAt0_B m c ⟨n + 1, hn⟩ h0, show 256 * (n + 1 + 1) = 256 * (n + 1) + 256 by omega]
    exact point_next m c H ⟨n + 1, hn⟩ h0 _ _ (ih _).2

/-- THE KERNEL'S RESULT: the layer's rows. -/
theorem result (H : AllFin m c) (b : Fin 2) (t : Fin 16384) (j : Fin 512) :
    ((Value.G14 m c : Vec Ideal S2x16384x512 .bf16) (ix3 b t j) : EReal) = (((args m c).out b t j : ℝ) : EReal) := by
  have ht : t.val / 256 < cfg0.N := by rw [show cfg0.N = 64 from N_0]; omega
  have key := (points m c H (t.val / 256) ht).1 b ⟨t.val % 256, by omega⟩ j
  rw [show 256 * (t.val / 256) + ((⟨t.val % 256, by omega⟩ : Fin 256) : ℕ) = t.val from Nat.div_add_mod t.val 256] at key
  rw [← key]
  have hp : Value.pt14Of (ix3 b t j) = t.val / 256 := by
    show 64 * (b.val / 2 - 0) + 1 * (t.val / 256 - 0) + 1 * (j.val / 512 - 0) = _; omega
  have hl : Value.loc14Of (ix3 b t j) = ix3 b ⟨t.val % 256, by omega⟩ j := by
    funext a; apply Fin.ext
    match a with
    | ⟨0, _⟩ => show b.val % 2 = b.val; omega
    | ⟨1, _⟩ => rfl
    | ⟨2, _⟩ => show j.val % 512 = j.val; omega
  unfold Value.G14
  rw [dif_pos (by rw [hp]; exact ht), hl, Value.outs_congr m c _ _ _ ht hp]

end Cert.RwkvIdeal.Entry
-- ==== Proof.RwkvFinite.lean ====
module

public import proofs.«01_k».proof.Proof.Gen.Pre_finite
public import proofs.«01_k».proof.Proof.RwkvArgs
public import Idealize.ShloMosaic.Lib.ReduceAll
public import Idealize.ShloMosaic.Lib.Pointwise
public import Idealize.ShloMosaic.Lib.IdealHost
/-! The precondition says that every entry of every argument is a real number. -/

@[expose] public section

set_option maxRecDepth 16384

noncomputable section

namespace Cert.RwkvSpec

open Idealize.ShloMosaic

theorem inf_word : (FloatOps.ofBits (F := Ideal) .f32 0x7F800000#32 : EReal) = ⊤ := by
  show Ideal.ofBits .f32 0x7F800000#32 = _
  simp [Ideal.ofBits, Ideal.ieee]

/-- A whole array tested below infinity. -/
theorem finite_of_test {S : Shape} {axes : List (Fin S.rank)} (x : Vec Ideal S .f32) (hb : (⟨0, ![]⟩ : Shape).BroadcastsInDim S (![] : Fin 0 → Fin S.rank))
    (h : S.ReducesTo axes ⟨0, ![]⟩) (hu : 0 < (⟨0, ![]⟩ : Shape).numel)
    (e : Host.reduce IntOp.andi (cmpf .olt (Host.absf x) (broadcastInDim S ![] hb (constant (F := Ideal) ⟨0, ![]⟩ .f32 0x7F800000#32))) (constantI ⟨0, ![]⟩ 1 1#1) h hu ix0 = 1#1) :
    Finite x := by
  intro i
  haveI : Subsingleton (⟨0, ![]⟩ : Shape).Idx := ⟨fun a b => funext fun k => k.elim0⟩
  have e1 := Host.reduce_andi_all _ _ h hu _ e i
  have e2 : Ideal.cmp .olt (max (x i : EReal) (-(x i : EReal))) (FloatOps.ofBits (F := Ideal) .f32 0x7F800000#32 : EReal) = 1#1 := e1
  rw [inf_word] at e2
  constructor
  · intro h; rw [h] at e2; revert e2; simp [Ideal.cmp]
  · intro h; rw [h] at e2; revert e2; simp [Ideal.cmp]

/-- A conjunction of two bits. -/
theorem both {a b : IVec ⟨0, ![]⟩ 1} (h : andi a b ix0 = 1#1) : a ix0 = 1#1 ∧ b ix0 = 1#1 := IntOp.andi_eq_one.1 h

theorem finite_of_pre (x0 : Vec Ideal ⟨3, ![2, 16384, 1824]⟩ .f32) (x1 : Vec Ideal ⟨2, ![1, 1824]⟩ .f32) (x2 : Vec Ideal ⟨2, ![1, 512]⟩ .f32)
    (x3 : Vec Ideal ⟨3, ![1, 64, 512]⟩ .f32) (x4 : Vec Ideal ⟨2, ![1, 512]⟩ .f32) (x5 : Vec Ideal ⟨3, ![1, 64, 512]⟩ .f32)
    (x6 : Vec Ideal ⟨3, ![1, 160, 512]⟩ .f32) (x7 x8 : Vec Ideal ⟨2, ![1, 512]⟩ .f32) (x9 : Vec Ideal ⟨3, ![1, 8, 64]⟩ .f32)
    (x10 x11 : Vec Ideal ⟨2, ![1, 512]⟩ .f32)
    (h : Cert.Pre_finite.fn (F := Ideal) x0 x1 x2 x3 x4 x5 x6 x7 x8 x9 x10 x11 = fun _ => 1#1) :
    AllFinite x0 x1 x2 x3 x4 x5 x6 x7 x8 x9 x10 x11 := by
  have e := congrFun h ix0
  unfold Cert.Pre_finite.fn at e
  dsimp only at e
  unfold Cert.Pre_finite.fn_part1 at e
  dsimp only at e
  unfold Cert.Pre_finite.fn_part2 at e
  dsimp only at e
  unfold Cert.Pre_finite.fn_part3 at e
  dsimp only at e
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨finite_of_test _ _ _ _ e0, finite_of_test _ _ _ _ e1, finite_of_test _ _ _ _ e2, finite_of_test _ _ _ _ e3, finite_of_test _ _ _ _ e4,
    finite_of_test _ _ _ _ e5, finite_of_test _ _ _ _ e6, finite_of_test _ _ _ _ e7, finite_of_test _ _ _ _ e8, finite_of_test _ _ _ _ e9,
    finite_of_test _ _ _ _ e10, finite_of_test _ _ _ _ e11⟩

end Cert.RwkvSpec
-- ==== Proof.RwkvRefSsa.lean ====
module

public import proofs.«01_k».proof.RwkvRefIdeal
public import Idealize.ShloMosaic.Lib.StableHlo.RunLoop
public import Idealize.ShloMosaic.PureOps.Ideal.Laws
/-! A straight line of host operations, each writing a buffer of its own: what a buffer holds after the line is its
operation's function of what the operands hold after the line, or held before it. -/

@[expose] public section

noncomputable section

namespace Cert.RwkvRefIdeal

open Cert.RwkvRefIdeal Idealize.ShloMosaic Idealize.ShloMosaic.TcCoe
open Idealize.ShloMosaic.StableHlo (after)

variable {ops : List (HloOp τ sig (Elt Ideal))} {W : List (Ref sig .tc)}

/-- A buffer the operations from place `k` on do not write holds after the line what it held before place `k`. -/
theorem from_ops (hW : ops.map HloOp.writes = W.map fun r => {Proc.devRef (τ := τ) .tc r}) (k : ℕ) {x : Ref sig .tc}
    (hx : x ∉ W.drop k) (V : Valuation τ sig (Elt Ideal)) :
    after (ops.take k) V (Proc.devRef .tc x) = after ops V (Proc.devRef .tc x) := by
  conv_rhs => rw [← List.take_append_drop k ops, StableHlo.after_append]
  refine (StableHlo.after_of_writes_sub (W := W.drop k) (ops.drop k) _ (StableHlo.forall_writes_sub_of_map ?_) hx).symm
  rw [List.map_drop, hW, List.map_drop]

/-- A buffer the first `k` operations do not write holds before place `k` what it held before the line. -/
theorem from_entry (hW : ops.map HloOp.writes = W.map fun r => {Proc.devRef (τ := τ) .tc r}) (k : ℕ) {x : Ref sig .tc}
    (hx : x ∉ W.take k) (V : Valuation τ sig (Elt Ideal)) :
    after (ops.take k) V (Proc.devRef .tc x) = V (Proc.devRef .tc x) := by
  refine StableHlo.after_of_writes_sub (W := W.take k) (ops.take k) _ (StableHlo.forall_writes_sub_of_map ?_) hx
  rw [List.map_take, hW, List.map_take]

/-- A buffer that a stretch of `n` operations from place `k` is the last to write holds after the line what that stretch leaves in it. -/
theorem at_stage (hW : ops.map HloOp.writes = W.map fun r => {Proc.devRef (τ := τ) .tc r}) (k n : ℕ)
    {st : List (HloOp τ sig (Elt Ideal))} (hst : (ops.drop k).take n = st) {y : Ref sig .tc} (hy : y ∉ W.drop (k + n))
    (V : Valuation τ sig (Elt Ideal)) :
    after ops V (Proc.devRef .tc y) = after st (after (ops.take k) V) (Proc.devRef .tc y) := by
  rw [← from_ops hW (k + n) hy V, List.take_add, StableHlo.after_append, hst]

end Cert.RwkvRefIdeal
-- ==== Proof.RwkvRefOps.lean ====
module

public import proofs.«01_k».proof.Proof.RwkvRefSsa
public import proofs.«01_k».proof.Proof.Gen.RwkvRefIdeal
/-! The reference's operations in stages: before its loop (`a`), one trip of the loop (`b`) and after it (`p`), with the
buffers each stretch writes. -/

@[expose] public section

set_option maxRecDepth 16384

noncomputable section

namespace Cert.RwkvRefIdeal

open Cert.RwkvRefIdeal Cert.RwkvRefIdeal.Gen Idealize.ShloMosaic Idealize.ShloMosaic.TcCoe Idealize.ShloMosaic.StableHlo

/-- A list of host operations. -/
abbrev HL (F : FTy → Type) := List (HloOp τ sig (Elt F))

abbrev T0i32 (F : FTy → Type) := Vec F S_ .i32
abbrev T2x16385x1824 (F : FTy → Type) := Vec F S2x16385x1824 .f32
abbrev T2x16384x1824 (F : FTy → Type) := Vec F S2x16384x1824 .f32
abbrev T1824 (F : FTy → Type) := Vec F S1824 .f32
abbrev T1x1x1824 (F : FTy → Type) := Vec F S1x1x1824 .f32
abbrev T2x16384x512 (F : FTy → Type) := Vec F S2x16384x512 .f32
abbrev T2x16384x64 (F : FTy → Type) := Vec F S2x16384x64 .f32
abbrev T2x16384x160 (F : FTy → Type) := Vec F S2x16384x160 .f32
abbrev T64x512 (F : FTy → Type) := Vec F S64x512 .f32
abbrev T512 (F : FTy → Type) := Vec F S512 .f32
abbrev T1x1x512 (F : FTy → Type) := Vec F S1x1x512 .f32
abbrev T0 (F : FTy → Type) := Vec F S_ .f32
abbrev T160x512 (F : FTy → Type) := Vec F S160x512 .f32
abbrev T2x16384x8x64 (F : FTy → Type) := Vec F S2x16384x8x64 .f32
abbrev T2x16384x8 (F : FTy → Type) := Vec F S2x16384x8 .f32
abbrev T2x16384x8x1 (F : FTy → Type) := Vec F S2x16384x8x1 .f32
abbrev T2x8x64x64 (F : FTy → Type) := Vec F S2x8x64x64 .f32
abbrev T16384x2x8x64 (F : FTy → Type) := Vec F S16384x2x8x64 .f32
abbrev T2x8x64 (F : FTy → Type) := Vec F S2x8x64 .f32
abbrev T2x8x1x64 (F : FTy → Type) := Vec F S2x8x1x64 .f32
abbrev T2x8x64x1 (F : FTy → Type) := Vec F S2x8x64x1 .f32
abbrev T8x64 (F : FTy → Type) := Vec F S8x64 .f32
abbrev T1x1x8x64 (F : FTy → Type) := Vec F S1x1x8x64 .f32
abbrev T2x16384x512bf16 (F : FTy → Type) := Vec F S2x16384x512 .bf16

variable {F : FTy → Type} [FloatOps F]

/-- The buffers of a step with one, two or no operands, and of a reshape, are among the core's. -/
abbrev uS := @unary_bufs_sub
@[inherit_doc uS] abbrev bS := @binary_bufs_sub
@[inherit_doc uS] abbrev nS := @nullary_bufs_sub
@[inherit_doc uS] abbrev rS := @reshape_bufs_sub

/-- A list of steps over the one core's buffers that allocates none. -/
abbrev Ok (l : HL F) : Prop := (l.Forall fun op => op.bufs ⊆ tcRefs τ sig) ∧ l.Forall fun op => op.fresh = ∅
def a0 : HL F := [
  reshape main_arg1 main_v0 rfl shapeCasts_S1x1824_S1824,
  reshape main_arg2 main_v1 rfl shapeCasts_S1x512_S512,
  reshape main_arg3 main_v2 rfl shapeCasts_S1x64x512_S64x512,
  reshape main_arg4 main_v3 rfl shapeCasts_S1x512_S512,
  reshape main_arg5 main_v4 rfl shapeCasts_S1x64x512_S64x512,
  reshape main_arg6 main_v5 rfl shapeCasts_S1x160x512_S160x512,
  reshape main_arg7 main_v6 rfl shapeCasts_S1x512_S512,
  reshape main_arg8 main_v7 rfl shapeCasts_S1x512_S512,
  reshape main_arg9 main_v8 rfl shapeCasts_S1x8x64_S8x64,
  reshape main_arg10 main_v9 rfl shapeCasts_S1x512_S512,
  reshape main_arg11 main_v10 rfl shapeCasts_S1x512_S512]
theorem a0_ok : Ok (a0 (F := F)) := ⟨⟨rS .., rS .., rS .., rS .., rS .., rS .., rS .., rS .., rS .., rS .., rS ..⟩, ⟨rfl, rfl, rfl, rfl, rfl, rfl, rfl, rfl, rfl, rfl, rfl⟩⟩
def a1 : HL F := [
  nullary  main_c ((constantI S_ 32 0#32) : T0i32 F),
  TRef.unary (.of (T := ⟨S_, .i32⟩) main_c) (.of (T := ⟨S_, .f32⟩) main_call0_v0) (sitofp .f32),
  TRef.binary (.of (T := ⟨S2x16384x1824, .f32⟩) main_arg0) (.of (T := ⟨S_, .f32⟩) main_call0_v0) (.of (T := ⟨S2x16385x1824, .f32⟩) main_v11) (fun x v => pad S2x16385x1824 ![0, 1, 0] ![0, 0, 0] ![0, 0, 0] x v pads_S2x16384x1824_S2x16385x1824_000_100_000 h_S_),
  unary main_v11 main_v12 (((extractStridedSlice S2x16384x1824 ![0, 0, 0] · slices_S2x16385x1824_S2x16384x1824_0_0_0)) : T2x16385x1824 F → T2x16384x1824 F),
  binary main_v12 main_arg0 main_v13 ((subf) : T2x16384x1824 F → T2x16384x1824 F → T2x16384x1824 F),
  unary main_v0 main_v14 ((broadcastInDim S1x1x1824 ![2] bcast_S1824_S1x1x1824_2) : T1824 F → T1x1x1824 F),
  unary main_v14 main_v15 ((broadcastInDim S2x16384x1824 ![0, 1, 2] bcast_S1x1x1824_S2x16384x1824_0_1_2) : T1x1x1824 F → T2x16384x1824 F),
  binary main_v13 main_v15 main_v16 ((mulf) : T2x16384x1824 F → T2x16384x1824 F → T2x16384x1824 F),
  binary main_arg0 main_v16 main_v17 ((addf) : T2x16384x1824 F → T2x16384x1824 F → T2x16384x1824 F)]
theorem a1_ok : Ok (a1 (F := F)) := ⟨⟨nS .., uS .., bS .., uS .., bS .., uS .., uS .., bS .., bS ..⟩, ⟨rfl, rfl, rfl, rfl, rfl, rfl, rfl, rfl, rfl⟩⟩
def a2 : HL F := [
  unary main_v17 main_v18 (((extractStridedSlice S2x16384x512 ![0, 0, 0] · slices_S2x16384x1824_S2x16384x512_0_0_0)) : T2x16384x1824 F → T2x16384x512 F),
  unary main_v17 main_v19 (((extractStridedSlice S2x16384x512 ![0, 0, 512] · slices_S2x16384x1824_S2x16384x512_0_0_512)) : T2x16384x1824 F → T2x16384x512 F),
  unary main_v17 main_v20 (((extractStridedSlice S2x16384x512 ![0, 0, 1024] · slices_S2x16384x1824_S2x16384x512_0_0_1024)) : T2x16384x1824 F → T2x16384x512 F),
  unary main_v17 main_v21 (((extractStridedSlice S2x16384x64 ![0, 0, 1536] · slices_S2x16384x1824_S2x16384x64_0_0_1536)) : T2x16384x1824 F → T2x16384x64 F),
  unary main_v17 main_v22 (((extractStridedSlice S2x16384x64 ![0, 0, 1600] · slices_S2x16384x1824_S2x16384x64_0_0_1600)) : T2x16384x1824 F → T2x16384x64 F),
  unary main_v17 main_v23 (((extractStridedSlice S2x16384x160 ![0, 0, 1664] · slices_S2x16384x1824_S2x16384x160_0_0_1664)) : T2x16384x1824 F → T2x16384x160 F)]
theorem a2_ok : Ok (a2 (F := F)) := ⟨⟨uS .., uS .., uS .., uS .., uS .., uS ..⟩, ⟨rfl, rfl, rfl, rfl, rfl, rfl⟩⟩
def a3 : HL F := [
  unary main_v21 main_v24 ((Host.tanh) : T2x16384x64 F → T2x16384x64 F),
  binary main_v24 main_v2 main_v25 (((fun l r => Host.dotGeneral dot_S2x16384x64_S64x512_S2x16384x512_2_0_01_1_n_n none l r)) : T2x16384x64 F → T64x512 F → T2x16384x512 F),
  unary main_v1 main_v26 ((broadcastInDim S1x1x512 ![2] bcast_S512_S1x1x512_2) : T512 F → T1x1x512 F),
  unary main_v26 main_v27 ((broadcastInDim S2x16384x512 ![0, 1, 2] bcast_S1x1x512_S2x16384x512_0_1_2) : T1x1x512 F → T2x16384x512 F),
  binary main_v27 main_v25 main_v28 ((addf) : T2x16384x512 F → T2x16384x512 F → T2x16384x512 F),
  unary main_v28 main_v29 ((Host.negf) : T2x16384x512 F → T2x16384x512 F)]
theorem a3_ok : Ok (a3 (F := F)) := ⟨⟨uS .., bS .., uS .., uS .., bS .., uS ..⟩, ⟨rfl, rfl, rfl, rfl, rfl, rfl⟩⟩
def a4 : HL F := [
  TRef.nullary (.of (T := ⟨S_, .f32⟩) main_call1_cst) (constant S_ .f32 0x00000000#32),
  TRef.unary (.of (T := ⟨S_, .f32⟩) main_call1_cst) (.of (T := ⟨S2x16384x512, .f32⟩) main_call1_v0) (broadcastInDim S2x16384x512 ![] bcast_S_S2x16384x512),
  TRef.binary (.of (T := ⟨S2x16384x512, .f32⟩) main_v29) (.of (T := ⟨S2x16384x512, .f32⟩) main_call1_v0) (.of (T := ⟨S2x16384x512, .f32⟩) main_call1_v1) maximumf,
  TRef.unary (.of (T := ⟨S_, .f32⟩) main_call1_cst) (.of (T := ⟨S2x16384x512, .f32⟩) main_call1_v2) (broadcastInDim S2x16384x512 ![] bcast_S_S2x16384x512),
  TRef.binary (.of (T := ⟨S2x16384x512, .f32⟩) main_v29) (.of (T := ⟨S2x16384x512, .f32⟩) main_call1_v2) (.of (T := ⟨S2x16384x512, .f32⟩) main_call1_v3) subf,
  TRef.binary (.of (T := ⟨S2x16384x512, .f32⟩) main_call1_v3) (.of (T := ⟨S2x16384x512, .f32⟩) main_call1_v3) (.of (T := ⟨S2x16384x512, .i1⟩) main_call1_v4) (cmpf .une),
  TRef.unary (.of (T := ⟨S_, .f32⟩) main_call1_cst) (.of (T := ⟨S2x16384x512, .f32⟩) main_call1_v5) (broadcastInDim S2x16384x512 ![] bcast_S_S2x16384x512),
  TRef.binary (.of (T := ⟨S2x16384x512, .f32⟩) main_v29) (.of (T := ⟨S2x16384x512, .f32⟩) main_call1_v5) (.of (T := ⟨S2x16384x512, .f32⟩) main_call1_v6) addf,
  TRef.unary (.of (T := ⟨S2x16384x512, .f32⟩) main_call1_v3) (.of (T := ⟨S2x16384x512, .f32⟩) main_call1_v7) Host.absf,
  TRef.unary (.of (T := ⟨S2x16384x512, .f32⟩) main_call1_v7) (.of (T := ⟨S2x16384x512, .f32⟩) main_call1_v8) Host.negf,
  TRef.unary (.of (T := ⟨S2x16384x512, .f32⟩) main_call1_v8) (.of (T := ⟨S2x16384x512, .f32⟩) main_call1_v9) Host.exp,
  TRef.unary (.of (T := ⟨S2x16384x512, .f32⟩) main_call1_v9) (.of (T := ⟨S2x16384x512, .f32⟩) main_call1_v10) Host.log1p,
  TRef.binary (.of (T := ⟨S2x16384x512, .f32⟩) main_call1_v1) (.of (T := ⟨S2x16384x512, .f32⟩) main_call1_v10) (.of (T := ⟨S2x16384x512, .f32⟩) main_call1_v11) addf,
  TRef.ternary (.of (T := ⟨S2x16384x512, .i1⟩) main_call1_v4) (.of (T := ⟨S2x16384x512, .f32⟩) main_call1_v6) (.of (T := ⟨S2x16384x512, .f32⟩) main_call1_v11) (.of (T := ⟨S2x16384x512, .f32⟩) main_v30) select]
theorem a4_ok : Ok (a4 (F := F)) := ⟨⟨nS .., uS .., bS .., uS .., bS .., bS .., uS .., bS .., uS .., uS .., uS .., uS .., bS .., ternary_bufs_sub ..⟩, ⟨rfl, rfl, rfl, rfl, rfl, rfl, rfl, rfl, rfl, rfl, rfl, rfl, rfl, rfl⟩⟩
def a5 : HL F := [
  unary main_v30 main_v31 ((Host.negf) : T2x16384x512 F → T2x16384x512 F),
  unary main_v31 main_v32 ((Host.exp) : T2x16384x512 F → T2x16384x512 F),
  nullary  main_cst ((constant S_ .f32 0x3F1B4598#32) : T0 F),
  unary main_cst main_v33 ((broadcastInDim S2x16384x512 ![] bcast_S_S2x16384x512) : T0 F → T2x16384x512 F),
  binary main_v33 main_v32 main_v34 ((mulf) : T2x16384x512 F → T2x16384x512 F → T2x16384x512 F),
  unary main_v34 main_v35 ((Host.negf) : T2x16384x512 F → T2x16384x512 F),
  unary main_v35 main_v36 ((Host.exp) : T2x16384x512 F → T2x16384x512 F)]
theorem a5_ok : Ok (a5 (F := F)) := ⟨⟨uS .., uS .., nS .., uS .., bS .., uS .., uS ..⟩, ⟨rfl, rfl, rfl, rfl, rfl, rfl, rfl⟩⟩
def a6 : HL F := [
  binary main_v22 main_v4 main_v37 (((fun l r => Host.dotGeneral dot_S2x16384x64_S64x512_S2x16384x512_2_0_01_1_n_n none l r)) : T2x16384x64 F → T64x512 F → T2x16384x512 F),
  unary main_v3 main_v38 ((broadcastInDim S1x1x512 ![2] bcast_S512_S1x1x512_2) : T512 F → T1x1x512 F),
  unary main_v38 main_v39 ((broadcastInDim S2x16384x512 ![0, 1, 2] bcast_S1x1x512_S2x16384x512_0_1_2) : T1x1x512 F → T2x16384x512 F),
  binary main_v39 main_v37 main_v40 ((addf) : T2x16384x512 F → T2x16384x512 F → T2x16384x512 F),
  unary main_v40 main_v41 ((Host.negf) : T2x16384x512 F → T2x16384x512 F),
  unary main_v41 main_v42 ((Host.exp) : T2x16384x512 F → T2x16384x512 F),
  nullary  main_cst_0 ((constant S_ .f32 0x3F800000#32) : T0 F),
  unary main_cst_0 main_v43 ((broadcastInDim S2x16384x512 ![] bcast_S_S2x16384x512) : T0 F → T2x16384x512 F),
  binary main_v43 main_v42 main_v44 ((addf) : T2x16384x512 F → T2x16384x512 F → T2x16384x512 F),
  nullary  main_cst_1 ((constant S_ .f32 0x3F800000#32) : T0 F),
  unary main_cst_1 main_v45 ((broadcastInDim S2x16384x512 ![] bcast_S_S2x16384x512) : T0 F → T2x16384x512 F),
  binary main_v45 main_v44 main_v46 ((Host.divf) : T2x16384x512 F → T2x16384x512 F → T2x16384x512 F)]
theorem a6_ok : Ok (a6 (F := F)) := ⟨⟨bS .., uS .., uS .., bS .., uS .., uS .., nS .., uS .., bS .., nS .., uS .., bS ..⟩, ⟨rfl, rfl, rfl, rfl, rfl, rfl, rfl, rfl, rfl, rfl, rfl, rfl⟩⟩
def a7 : HL F := [
  unary main_v23 main_v47 ((Host.negf) : T2x16384x160 F → T2x16384x160 F),
  unary main_v47 main_v48 ((Host.exp) : T2x16384x160 F → T2x16384x160 F),
  nullary  main_cst_2 ((constant S_ .f32 0x3F800000#32) : T0 F),
  unary main_cst_2 main_v49 ((broadcastInDim S2x16384x160 ![] bcast_S_S2x16384x160) : T0 F → T2x16384x160 F),
  binary main_v49 main_v48 main_v50 ((addf) : T2x16384x160 F → T2x16384x160 F → T2x16384x160 F),
  nullary  main_cst_3 ((constant S_ .f32 0x3F800000#32) : T0 F),
  unary main_cst_3 main_v51 ((broadcastInDim S2x16384x160 ![] bcast_S_S2x16384x160) : T0 F → T2x16384x160 F),
  binary main_v51 main_v50 main_v52 ((Host.divf) : T2x16384x160 F → T2x16384x160 F → T2x16384x160 F),
  binary main_v52 main_v5 main_v53 (((fun l r => Host.dotGeneral dot_S2x16384x160_S160x512_S2x16384x512_2_0_01_1_n_n none l r)) : T2x16384x160 F → T160x512 F → T2x16384x512 F)]
theorem a7_ok : Ok (a7 (F := F)) := ⟨⟨uS .., uS .., nS .., uS .., bS .., nS .., uS .., bS .., bS ..⟩, ⟨rfl, rfl, rfl, rfl, rfl, rfl, rfl, rfl, rfl⟩⟩
def a8 : HL F := [
  unary main_v6 main_v54 ((broadcastInDim S1x1x512 ![2] bcast_S512_S1x1x512_2) : T512 F → T1x1x512 F),
  unary main_v54 main_v55 ((broadcastInDim S2x16384x512 ![0, 1, 2] bcast_S1x1x512_S2x16384x512_0_1_2) : T1x1x512 F → T2x16384x512 F),
  binary main_v19 main_v55 main_v56 ((mulf) : T2x16384x512 F → T2x16384x512 F → T2x16384x512 F),
  nullary  main_cst_4 ((constant S_ .f32 0x3F800000#32) : T0 F),
  unary main_cst_4 main_v57 ((broadcastInDim S2x16384x512 ![] bcast_S_S2x16384x512) : T0 F → T2x16384x512 F),
  binary main_v46 main_v57 main_v58 ((subf) : T2x16384x512 F → T2x16384x512 F → T2x16384x512 F),
  unary main_v7 main_v59 ((broadcastInDim S1x1x512 ![2] bcast_S512_S1x1x512_2) : T512 F → T1x1x512 F),
  unary main_v59 main_v60 ((broadcastInDim S2x16384x512 ![0, 1, 2] bcast_S1x1x512_S2x16384x512_0_1_2) : T1x1x512 F → T2x16384x512 F),
  binary main_v58 main_v60 main_v61 ((mulf) : T2x16384x512 F → T2x16384x512 F → T2x16384x512 F),
  nullary  main_cst_5 ((constant S_ .f32 0x3F800000#32) : T0 F),
  unary main_cst_5 main_v62 ((broadcastInDim S2x16384x512 ![] bcast_S_S2x16384x512) : T0 F → T2x16384x512 F),
  binary main_v62 main_v61 main_v63 ((addf) : T2x16384x512 F → T2x16384x512 F → T2x16384x512 F),
  binary main_v19 main_v63 main_v64 ((mulf) : T2x16384x512 F → T2x16384x512 F → T2x16384x512 F)]
theorem a8_ok : Ok (a8 (F := F)) := ⟨⟨uS .., uS .., bS .., nS .., uS .., bS .., uS .., uS .., bS .., nS .., uS .., bS .., bS ..⟩, ⟨rfl, rfl, rfl, rfl, rfl, rfl, rfl, rfl, rfl, rfl, rfl, rfl, rfl⟩⟩
def a9 : HL F := [
  reshape main_v56 main_v65 rfl shapeCasts_S2x16384x512_S2x16384x8x64,
  binary main_v65 main_v65 main_v66 ((mulf) : T2x16384x8x64 F → T2x16384x8x64 F → T2x16384x8x64 F),
  nullary  main_cst_6 ((constant S_ .f32 0x00000000#32) : T0 F),
  binary main_v66 main_cst_6 main_v67 (((fun x v => Host.reduceAdd x v reducesTo_S2x16384x8x64_S2x16384x8_d3 h_S_)) : T2x16384x8x64 F → T0 F → T2x16384x8 F),
  unary main_v67 main_v68 ((broadcastInDim S2x16384x8x1 ![0, 1, 2] bcast_S2x16384x8_S2x16384x8x1_0_1_2) : T2x16384x8 F → T2x16384x8x1 F),
  unary main_v68 main_v69 ((Host.sqrt) : T2x16384x8x1 F → T2x16384x8x1 F),
  nullary  main_cst_7 ((constant S_ .f32 0x2B8CBCCC#32) : T0 F),
  unary main_cst_7 main_v70 ((broadcastInDim S2x16384x8x1 ![] bcast_S_S2x16384x8x1) : T0 F → T2x16384x8x1 F),
  binary main_v69 main_v70 main_v71 ((maximumf) : T2x16384x8x1 F → T2x16384x8x1 F → T2x16384x8x1 F),
  unary main_v71 main_v72 ((broadcastInDim S2x16384x8x64 ![0, 1, 2, 3] bcast_S2x16384x8x1_S2x16384x8x64_0_1_2_3) : T2x16384x8x1 F → T2x16384x8x64 F),
  binary main_v65 main_v72 main_v73 ((Host.divf) : T2x16384x8x64 F → T2x16384x8x64 F → T2x16384x8x64 F)]
theorem a9_ok : Ok (a9 (F := F)) := ⟨⟨rS .., bS .., nS .., bS .., uS .., uS .., nS .., uS .., bS .., uS .., bS ..⟩, ⟨rfl, rfl, rfl, rfl, rfl, rfl, rfl, rfl, rfl, rfl, rfl⟩⟩
def a10 : HL F := [
  reshape main_v18 main_v74 rfl shapeCasts_S2x16384x512_S2x16384x8x64,
  reshape main_v64 main_v75 rfl shapeCasts_S2x16384x512_S2x16384x8x64,
  reshape main_v20 main_v76 rfl shapeCasts_S2x16384x512_S2x16384x8x64,
  reshape main_v46 main_v77 rfl shapeCasts_S2x16384x512_S2x16384x8x64,
  reshape main_v36 main_v78 rfl shapeCasts_S2x16384x512_S2x16384x8x64,
  nullary  main_cst_8 ((constant S_ .f32 0x00000000#32) : T0 F),
  unary main_cst_8 main_v79 ((broadcastInDim S2x8x64x64 ![] bcast_S_S2x8x64x64) : T0 F → T2x8x64x64 F)]
theorem a10_ok : Ok (a10 (F := F)) := ⟨⟨rS .., rS .., rS .., rS .., rS .., nS .., uS ..⟩, ⟨rfl, rfl, rfl, rfl, rfl, rfl, rfl⟩⟩
def a11 : HL F := [
  unary main_v74 main_v80 (((transpose S16384x2x8x64 [1, 0, 2, 3] · transposes_S2x16384x8x64_S16384x2x8x64_1_0_2_3)) : T2x16384x8x64 F → T16384x2x8x64 F),
  unary main_v78 main_v81 (((transpose S16384x2x8x64 [1, 0, 2, 3] · transposes_S2x16384x8x64_S16384x2x8x64_1_0_2_3)) : T2x16384x8x64 F → T16384x2x8x64 F),
  unary main_v75 main_v82 (((transpose S16384x2x8x64 [1, 0, 2, 3] · transposes_S2x16384x8x64_S16384x2x8x64_1_0_2_3)) : T2x16384x8x64 F → T16384x2x8x64 F),
  unary main_v76 main_v83 (((transpose S16384x2x8x64 [1, 0, 2, 3] · transposes_S2x16384x8x64_S16384x2x8x64_1_0_2_3)) : T2x16384x8x64 F → T16384x2x8x64 F),
  unary main_v73 main_v84 ((Host.negf) : T2x16384x8x64 F → T2x16384x8x64 F),
  unary main_v84 main_v85 (((transpose S16384x2x8x64 [1, 0, 2, 3] · transposes_S2x16384x8x64_S16384x2x8x64_1_0_2_3)) : T2x16384x8x64 F → T16384x2x8x64 F),
  binary main_v73 main_v77 main_v86 ((mulf) : T2x16384x8x64 F → T2x16384x8x64 F → T2x16384x8x64 F),
  unary main_v86 main_v87 (((transpose S16384x2x8x64 [1, 0, 2, 3] · transposes_S2x16384x8x64_S16384x2x8x64_1_0_2_3)) : T2x16384x8x64 F → T16384x2x8x64 F),
  nullary  main_cst_9 ((constant S_ .f32 0x00000000#32) : T0 F),
  unary main_cst_9 main_v88 ((broadcastInDim S16384x2x8x64 ![] bcast_S_S16384x2x8x64) : T0 F → T16384x2x8x64 F),
  nullary  main_c_10 ((constantI S_ 32 0#32) : T0i32 F)]
theorem a11_ok : Ok (a11 (F := F)) := ⟨⟨uS .., uS .., uS .., uS .., uS .., uS .., bS .., uS .., nS .., uS .., nS ..⟩, ⟨rfl, rfl, rfl, rfl, rfl, rfl, rfl, rfl, rfl, rfl, rfl⟩⟩
def a12 : HL F := [
  unary main_v80 main_v89_0 (id : T16384x2x8x64 F → T16384x2x8x64 F),
  unary main_v81 main_v89_1 (id : T16384x2x8x64 F → T16384x2x8x64 F),
  unary main_v82 main_v89_2 (id : T16384x2x8x64 F → T16384x2x8x64 F),
  unary main_v83 main_v89_3 (id : T16384x2x8x64 F → T16384x2x8x64 F),
  unary main_v85 main_v89_4 (id : T16384x2x8x64 F → T16384x2x8x64 F),
  unary main_v87 main_v89_5 (id : T16384x2x8x64 F → T16384x2x8x64 F),
  unary main_c_10 main_v89_6 (id : T0i32 F → T0i32 F),
  unary main_v79 main_v89_7 (id : T2x8x64x64 F → T2x8x64x64 F),
  unary main_v88 main_v89_8 (id : T16384x2x8x64 F → T16384x2x8x64 F)]
theorem a12_ok : Ok (a12 (F := F)) := ⟨⟨uS .., uS .., uS .., uS .., uS .., uS .., uS .., uS .., uS ..⟩, ⟨rfl, rfl, rfl, rfl, rfl, rfl, rfl, rfl, rfl⟩⟩
def aOps : HL F := a0 ++ a1 ++ a2 ++ a3 ++ a4 ++ a5 ++ a6 ++ a7 ++ a8 ++ a9 ++ a10 ++ a11 ++ a12
def aW : List (Ref sig .tc) := [main_v0, main_v1, main_v2, main_v3, main_v4, main_v5, main_v6, main_v7, main_v8, main_v9, main_v10, main_c, main_call0_v0, main_v11, main_v12, main_v13, main_v14, main_v15, main_v16, main_v17, main_v18, main_v19, main_v20, main_v21, main_v22, main_v23, main_v24, main_v25, main_v26, main_v27, main_v28, main_v29, main_call1_cst, main_call1_v0, main_call1_v1, main_call1_v2, main_call1_v3, main_call1_v4, main_call1_v5, main_call1_v6, main_call1_v7, main_call1_v8, main_call1_v9, main_call1_v10, main_call1_v11, main_v30, main_v31, main_v32, main_cst, main_v33, main_v34, main_v35, main_v36, main_v37, main_v38, main_v39, main_v40, main_v41, main_v42, main_cst_0, main_v43, main_v44, main_cst_1, main_v45, main_v46, main_v47, main_v48, main_cst_2, main_v49, main_v50, main_cst_3, main_v51, main_v52, main_v53, main_v54, main_v55, main_v56, main_cst_4, main_v57, main_v58, main_v59, main_v60, main_v61, main_cst_5, main_v62, main_v63, main_v64, main_v65, main_v66, main_cst_6, main_v67, main_v68, main_v69, main_cst_7, main_v70, main_v71, main_v72, main_v73, main_v74, main_v75, main_v76, main_v77, main_v78, main_cst_8, main_v79, main_v80, main_v81, main_v82, main_v83, main_v84, main_v85, main_v86, main_v87, main_cst_9, main_v88, main_c_10, main_v89_0, main_v89_1, main_v89_2, main_v89_3, main_v89_4, main_v89_5, main_v89_6, main_v89_7, main_v89_8]
theorem a_writes : (aOps (F := F)).map HloOp.writes = aW.map fun r => {Proc.devRef (τ := τ) .tc r} := rfl
def b0 : HL F := [
  TRef.nullary (.of (T := ⟨S_, .i32⟩) main_while0b_call2_c) (constantI S_ 32 0#32),
  TRef.nullary (.of (T := ⟨S_, .i32⟩) main_while0b_call2_c_0) (constantI S_ 32 0#32),
  TRef.nullary (.of (T := ⟨S_, .i32⟩) main_while0b_call2_c_1) (constantI S_ 32 0#32),
  TRef.unaryIndexed (.of (T := ⟨S16384x2x8x64, .f32⟩) main_v89_0) ![(.of (T := ⟨S_, .i32⟩) main_v89_6), (.of (T := ⟨S_, .i32⟩) main_while0b_call2_c), (.of (T := ⟨S_, .i32⟩) main_while0b_call2_c_0), (.of (T := ⟨S_, .i32⟩) main_while0b_call2_c_1)] (.of (T := ⟨S1x2x8x64, .f32⟩) main_while0b_call2_v0) (fun x i => Host.dynamicSlice S1x2x8x64 x (fun k => (i k (Shape.Idx.first h_S_)).toInt) sliceFits_S16384x2x8x64_S1x2x8x64),
  TRef.reshape (.of (T := ⟨S1x2x8x64, .f32⟩) main_while0b_call2_v0) (.of (T := ⟨S2x8x64, .f32⟩) main_while0b_v128) rfl shapeCasts_S1x2x8x64_S2x8x64,
  TRef.nullary (.of (T := ⟨S_, .i32⟩) main_while0b_call3_c) (constantI S_ 32 0#32),
  TRef.nullary (.of (T := ⟨S_, .i32⟩) main_while0b_call3_c_0) (constantI S_ 32 0#32),
  TRef.nullary (.of (T := ⟨S_, .i32⟩) main_while0b_call3_c_1) (constantI S_ 32 0#32),
  TRef.unaryIndexed (.of (T := ⟨S16384x2x8x64, .f32⟩) main_v89_1) ![(.of (T := ⟨S_, .i32⟩) main_v89_6), (.of (T := ⟨S_, .i32⟩) main_while0b_call3_c), (.of (T := ⟨S_, .i32⟩) main_while0b_call3_c_0), (.of (T := ⟨S_, .i32⟩) main_while0b_call3_c_1)] (.of (T := ⟨S1x2x8x64, .f32⟩) main_while0b_call3_v0) (fun x i => Host.dynamicSlice S1x2x8x64 x (fun k => (i k (Shape.Idx.first h_S_)).toInt) sliceFits_S16384x2x8x64_S1x2x8x64),
  TRef.reshape (.of (T := ⟨S1x2x8x64, .f32⟩) main_while0b_call3_v0) (.of (T := ⟨S2x8x64, .f32⟩) main_while0b_v129) rfl shapeCasts_S1x2x8x64_S2x8x64,
  TRef.nullary (.of (T := ⟨S_, .i32⟩) main_while0b_call4_c) (constantI S_ 32 0#32),
  TRef.nullary (.of (T := ⟨S_, .i32⟩) main_while0b_call4_c_0) (constantI S_ 32 0#32),
  TRef.nullary (.of (T := ⟨S_, .i32⟩) main_while0b_call4_c_1) (constantI S_ 32 0#32),
  TRef.unaryIndexed (.of (T := ⟨S16384x2x8x64, .f32⟩) main_v89_2) ![(.of (T := ⟨S_, .i32⟩) main_v89_6), (.of (T := ⟨S_, .i32⟩) main_while0b_call4_c), (.of (T := ⟨S_, .i32⟩) main_while0b_call4_c_0), (.of (T := ⟨S_, .i32⟩) main_while0b_call4_c_1)] (.of (T := ⟨S1x2x8x64, .f32⟩) main_while0b_call4_v0) (fun x i => Host.dynamicSlice S1x2x8x64 x (fun k => (i k (Shape.Idx.first h_S_)).toInt) sliceFits_S16384x2x8x64_S1x2x8x64),
  TRef.reshape (.of (T := ⟨S1x2x8x64, .f32⟩) main_while0b_call4_v0) (.of (T := ⟨S2x8x64, .f32⟩) main_while0b_v130) rfl shapeCasts_S1x2x8x64_S2x8x64,
  TRef.nullary (.of (T := ⟨S_, .i32⟩) main_while0b_call5_c) (constantI S_ 32 0#32),
  TRef.nullary (.of (T := ⟨S_, .i32⟩) main_while0b_call5_c_0) (constantI S_ 32 0#32),
  TRef.nullary (.of (T := ⟨S_, .i32⟩) main_while0b_call5_c_1) (constantI S_ 32 0#32),
  TRef.unaryIndexed (.of (T := ⟨S16384x2x8x64, .f32⟩) main_v89_3) ![(.of (T := ⟨S_, .i32⟩) main_v89_6), (.of (T := ⟨S_, .i32⟩) main_while0b_call5_c), (.of (T := ⟨S_, .i32⟩) main_while0b_call5_c_0), (.of (T := ⟨S_, .i32⟩) main_while0b_call5_c_1)] (.of (T := ⟨S1x2x8x64, .f32⟩) main_while0b_call5_v0) (fun x i => Host.dynamicSlice S1x2x8x64 x (fun k => (i k (Shape.Idx.first h_S_)).toInt) sliceFits_S16384x2x8x64_S1x2x8x64),
  TRef.reshape (.of (T := ⟨S1x2x8x64, .f32⟩) main_while0b_call5_v0) (.of (T := ⟨S2x8x64, .f32⟩) main_while0b_v131) rfl shapeCasts_S1x2x8x64_S2x8x64,
  TRef.nullary (.of (T := ⟨S_, .i32⟩) main_while0b_call6_c) (constantI S_ 32 0#32),
  TRef.nullary (.of (T := ⟨S_, .i32⟩) main_while0b_call6_c_0) (constantI S_ 32 0#32),
  TRef.nullary (.of (T := ⟨S_, .i32⟩) main_while0b_call6_c_1) (constantI S_ 32 0#32),
  TRef.unaryIndexed (.of (T := ⟨S16384x2x8x64, .f32⟩) main_v89_4) ![(.of (T := ⟨S_, .i32⟩) main_v89_6), (.of (T := ⟨S_, .i32⟩) main_while0b_call6_c), (.of (T := ⟨S_, .i32⟩) main_while0b_call6_c_0), (.of (T := ⟨S_, .i32⟩) main_while0b_call6_c_1)] (.of (T := ⟨S1x2x8x64, .f32⟩) main_while0b_call6_v0) (fun x i => Host.dynamicSlice S1x2x8x64 x (fun k => (i k (Shape.Idx.first h_S_)).toInt) sliceFits_S16384x2x8x64_S1x2x8x64),
  TRef.reshape (.of (T := ⟨S1x2x8x64, .f32⟩) main_while0b_call6_v0) (.of (T := ⟨S2x8x64, .f32⟩) main_while0b_v132) rfl shapeCasts_S1x2x8x64_S2x8x64,
  TRef.nullary (.of (T := ⟨S_, .i32⟩) main_while0b_call7_c) (constantI S_ 32 0#32),
  TRef.nullary (.of (T := ⟨S_, .i32⟩) main_while0b_call7_c_0) (constantI S_ 32 0#32),
  TRef.nullary (.of (T := ⟨S_, .i32⟩) main_while0b_call7_c_1) (constantI S_ 32 0#32),
  TRef.unaryIndexed (.of (T := ⟨S16384x2x8x64, .f32⟩) main_v89_5) ![(.of (T := ⟨S_, .i32⟩) main_v89_6), (.of (T := ⟨S_, .i32⟩) main_while0b_call7_c), (.of (T := ⟨S_, .i32⟩) main_while0b_call7_c_0), (.of (T := ⟨S_, .i32⟩) main_while0b_call7_c_1)] (.of (T := ⟨S1x2x8x64, .f32⟩) main_while0b_call7_v0) (fun x i => Host.dynamicSlice S1x2x8x64 x (fun k => (i k (Shape.Idx.first h_S_)).toInt) sliceFits_S16384x2x8x64_S1x2x8x64),
  TRef.reshape (.of (T := ⟨S1x2x8x64, .f32⟩) main_while0b_call7_v0) (.of (T := ⟨S2x8x64, .f32⟩) main_while0b_v133) rfl shapeCasts_S1x2x8x64_S2x8x64]
theorem b0_ok : Ok (b0 (F := F)) := ⟨⟨nS .., nS .., nS .., unaryIndexed_bufs_sub .., rS .., nS .., nS .., nS .., unaryIndexed_bufs_sub .., rS .., nS .., nS .., nS .., unaryIndexed_bufs_sub .., rS .., nS .., nS .., nS .., unaryIndexed_bufs_sub .., rS .., nS .., nS .., nS .., unaryIndexed_bufs_sub .., rS .., nS .., nS .., nS .., unaryIndexed_bufs_sub .., rS ..⟩, ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩
def b1 : HL F := [
  binary main_v89_7 main_while0b_v132 main_while0b_v134 (((fun l r => Host.dotGeneral dot_S2x8x64x64_S2x8x64_S2x8x64_3_2_2_n_01_01 none l r)) : T2x8x64x64 F → T2x8x64 F → T2x8x64 F),
  unary main_while0b_v129 main_while0b_v135 ((broadcastInDim S2x8x1x64 ![0, 1, 3] bcast_S2x8x64_S2x8x1x64_0_1_3) : T2x8x64 F → T2x8x1x64 F),
  unary main_while0b_v135 main_while0b_v136 ((broadcastInDim S2x8x64x64 ![0, 1, 2, 3] bcast_S2x8x1x64_S2x8x64x64_0_1_2_3) : T2x8x1x64 F → T2x8x64x64 F),
  binary main_v89_7 main_while0b_v136 main_while0b_v137 ((mulf) : T2x8x64x64 F → T2x8x64x64 F → T2x8x64x64 F),
  unary main_while0b_v134 main_while0b_v138 ((broadcastInDim S2x8x64x1 ![0, 1, 2] bcast_S2x8x64_S2x8x64x1_0_1_2) : T2x8x64 F → T2x8x64x1 F),
  unary main_while0b_v133 main_while0b_v139 ((broadcastInDim S2x8x1x64 ![0, 1, 3] bcast_S2x8x64_S2x8x1x64_0_1_3) : T2x8x64 F → T2x8x1x64 F),
  unary main_while0b_v138 main_while0b_v140 ((broadcastInDim S2x8x64x64 ![0, 1, 2, 3] bcast_S2x8x64x1_S2x8x64x64_0_1_2_3) : T2x8x64x1 F → T2x8x64x64 F),
  unary main_while0b_v139 main_while0b_v141 ((broadcastInDim S2x8x64x64 ![0, 1, 2, 3] bcast_S2x8x1x64_S2x8x64x64_0_1_2_3) : T2x8x1x64 F → T2x8x64x64 F),
  binary main_while0b_v140 main_while0b_v141 main_while0b_v142 ((mulf) : T2x8x64x64 F → T2x8x64x64 F → T2x8x64x64 F),
  binary main_while0b_v137 main_while0b_v142 main_while0b_v143 ((addf) : T2x8x64x64 F → T2x8x64x64 F → T2x8x64x64 F),
  unary main_while0b_v131 main_while0b_v144 ((broadcastInDim S2x8x64x1 ![0, 1, 2] bcast_S2x8x64_S2x8x64x1_0_1_2) : T2x8x64 F → T2x8x64x1 F),
  unary main_while0b_v130 main_while0b_v145 ((broadcastInDim S2x8x1x64 ![0, 1, 3] bcast_S2x8x64_S2x8x1x64_0_1_3) : T2x8x64 F → T2x8x1x64 F),
  unary main_while0b_v144 main_while0b_v146 ((broadcastInDim S2x8x64x64 ![0, 1, 2, 3] bcast_S2x8x64x1_S2x8x64x64_0_1_2_3) : T2x8x64x1 F → T2x8x64x64 F),
  unary main_while0b_v145 main_while0b_v147 ((broadcastInDim S2x8x64x64 ![0, 1, 2, 3] bcast_S2x8x1x64_S2x8x64x64_0_1_2_3) : T2x8x1x64 F → T2x8x64x64 F),
  binary main_while0b_v146 main_while0b_v147 main_while0b_v148 ((mulf) : T2x8x64x64 F → T2x8x64x64 F → T2x8x64x64 F),
  binary main_while0b_v143 main_while0b_v148 main_while0b_v149 ((addf) : T2x8x64x64 F → T2x8x64x64 F → T2x8x64x64 F),
  binary main_while0b_v149 main_while0b_v128 main_while0b_v150 (((fun l r => Host.dotGeneral dot_S2x8x64x64_S2x8x64_S2x8x64_3_2_2_n_01_01 none l r)) : T2x8x64x64 F → T2x8x64 F → T2x8x64 F)]
theorem b1_ok : Ok (b1 (F := F)) := ⟨⟨bS .., uS .., uS .., bS .., uS .., uS .., uS .., uS .., bS .., bS .., uS .., uS .., uS .., uS .., bS .., bS .., bS ..⟩, ⟨rfl, rfl, rfl, rfl, rfl, rfl, rfl, rfl, rfl, rfl, rfl, rfl, rfl, rfl, rfl, rfl, rfl⟩⟩
def b2 : HL F := [
  TRef.unary (.of (T := ⟨S2x8x64, .f32⟩) main_while0b_v150) (.of (T := ⟨S1x2x8x64, .f32⟩) main_while0b_call8_v0) (broadcastInDim S1x2x8x64 ![1, 2, 3] bcast_S2x8x64_S1x2x8x64_1_2_3),
  TRef.nullary (.of (T := ⟨S_, .i32⟩) main_while0b_call8_c) (constantI S_ 32 0#32),
  TRef.nullary (.of (T := ⟨S_, .i32⟩) main_while0b_call8_c_0) (constantI S_ 32 0#32),
  TRef.nullary (.of (T := ⟨S_, .i32⟩) main_while0b_call8_c_1) (constantI S_ 32 0#32),
  TRef.binaryIndexed (.of (T := ⟨S16384x2x8x64, .f32⟩) main_v89_8) (.of (T := ⟨S1x2x8x64, .f32⟩) main_while0b_call8_v0) ![(.of (T := ⟨S_, .i32⟩) main_v89_6), (.of (T := ⟨S_, .i32⟩) main_while0b_call8_c), (.of (T := ⟨S_, .i32⟩) main_while0b_call8_c_0), (.of (T := ⟨S_, .i32⟩) main_while0b_call8_c_1)] (.of (T := ⟨S16384x2x8x64, .f32⟩) main_while0b_v151) (fun x u i => Host.dynamicUpdateSlice x u (fun k => (i k (Shape.Idx.first h_S_)).toInt) updateFits_S16384x2x8x64_S1x2x8x64),
  nullary  main_while0b_c_25 ((constantI S_ 32 1#32) : T0i32 F),
  binary main_v89_6 main_while0b_c_25 main_while0b_v152 ((addi) : T0i32 F → T0i32 F → T0i32 F),
  unary main_while0b_v152 main_v89_6 (id : T0i32 F → T0i32 F),
  unary main_while0b_v149 main_v89_7 (id : T2x8x64x64 F → T2x8x64x64 F),
  unary main_while0b_v151 main_v89_8 (id : T16384x2x8x64 F → T16384x2x8x64 F)]
theorem b2_ok : Ok (b2 (F := F)) := ⟨⟨uS .., nS .., nS .., nS .., binaryIndexed_bufs_sub .., nS .., bS .., uS .., uS .., uS ..⟩, ⟨rfl, rfl, rfl, rfl, rfl, rfl, rfl, rfl, rfl, rfl⟩⟩
def bOps : HL F := b0 ++ b1 ++ b2
def bW : List (Ref sig .tc) := [main_while0b_call2_c, main_while0b_call2_c_0, main_while0b_call2_c_1, main_while0b_call2_v0, main_while0b_v128, main_while0b_call3_c, main_while0b_call3_c_0, main_while0b_call3_c_1, main_while0b_call3_v0, main_while0b_v129, main_while0b_call4_c, main_while0b_call4_c_0, main_while0b_call4_c_1, main_while0b_call4_v0, main_while0b_v130, main_while0b_call5_c, main_while0b_call5_c_0, main_while0b_call5_c_1, main_while0b_call5_v0, main_while0b_v131, main_while0b_call6_c, main_while0b_call6_c_0, main_while0b_call6_c_1, main_while0b_call6_v0, main_while0b_v132, main_while0b_call7_c, main_while0b_call7_c_0, main_while0b_call7_c_1, main_while0b_call7_v0, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_v149, main_while0b_v150, main_while0b_call8_v0, main_while0b_call8_c, main_while0b_call8_c_0, main_while0b_call8_c_1, main_while0b_v151, main_while0b_c_25, main_while0b_v152, main_v89_6, main_v89_7, main_v89_8]
theorem b_writes : (bOps (F := F)).map HloOp.writes = bW.map fun r => {Proc.devRef (τ := τ) .tc r} := rfl
def p0 : HL F := [
  unary main_v89_8 main_v90 (((transpose S2x16384x8x64 [1, 0, 2, 3] · transposes_S16384x2x8x64_S2x16384x8x64_1_0_2_3)) : T16384x2x8x64 F → T2x16384x8x64 F),
  nullary  main_cst_11 ((constant S_ .f32 0x00000000#32) : T0 F),
  binary main_v90 main_cst_11 main_v91 (((fun x v => Host.reduceAdd x v reducesTo_S2x16384x8x64_S2x16384x8_d3 h_S_)) : T2x16384x8x64 F → T0 F → T2x16384x8 F),
  unary main_v91 main_v92 ((broadcastInDim S2x16384x8x1 ![0, 1, 2] bcast_S2x16384x8_S2x16384x8x1_0_1_2) : T2x16384x8 F → T2x16384x8x1 F),
  nullary  main_cst_12 ((constant S_ .f32 0x42800000#32) : T0 F),
  unary main_cst_12 main_v93 ((broadcastInDim S2x16384x8x1 ![] bcast_S_S2x16384x8x1) : T0 F → T2x16384x8x1 F),
  binary main_v92 main_v93 main_v94 ((Host.divf) : T2x16384x8x1 F → T2x16384x8x1 F → T2x16384x8x1 F),
  unary main_v94 main_v95 ((broadcastInDim S2x16384x8x64 ![0, 1, 2, 3] bcast_S2x16384x8x1_S2x16384x8x64_0_1_2_3) : T2x16384x8x1 F → T2x16384x8x64 F)]
theorem p0_ok : Ok (p0 (F := F)) := ⟨⟨uS .., nS .., bS .., uS .., nS .., uS .., bS .., uS ..⟩, ⟨rfl, rfl, rfl, rfl, rfl, rfl, rfl, rfl⟩⟩
def p1 : HL F := [
  binary main_v90 main_v95 main_v96 ((subf) : T2x16384x8x64 F → T2x16384x8x64 F → T2x16384x8x64 F),
  binary main_v96 main_v96 main_v97 ((mulf) : T2x16384x8x64 F → T2x16384x8x64 F → T2x16384x8x64 F),
  nullary  main_cst_13 ((constant S_ .f32 0x00000000#32) : T0 F),
  binary main_v97 main_cst_13 main_v98 (((fun x v => Host.reduceAdd x v reducesTo_S2x16384x8x64_S2x16384x8_d3 h_S_)) : T2x16384x8x64 F → T0 F → T2x16384x8 F),
  unary main_v98 main_v99 ((broadcastInDim S2x16384x8x1 ![0, 1, 2] bcast_S2x16384x8_S2x16384x8x1_0_1_2) : T2x16384x8 F → T2x16384x8x1 F),
  nullary  main_cst_14 ((constant S_ .f32 0x42800000#32) : T0 F),
  unary main_cst_14 main_v100 ((broadcastInDim S2x16384x8x1 ![] bcast_S_S2x16384x8x1) : T0 F → T2x16384x8x1 F),
  binary main_v99 main_v100 main_v101 ((Host.divf) : T2x16384x8x1 F → T2x16384x8x1 F → T2x16384x8x1 F)]
theorem p1_ok : Ok (p1 (F := F)) := ⟨⟨bS .., bS .., nS .., bS .., uS .., nS .., uS .., bS ..⟩, ⟨rfl, rfl, rfl, rfl, rfl, rfl, rfl, rfl⟩⟩
def p2 : HL F := [
  unary main_v94 main_v102 ((broadcastInDim S2x16384x8x64 ![0, 1, 2, 3] bcast_S2x16384x8x1_S2x16384x8x64_0_1_2_3) : T2x16384x8x1 F → T2x16384x8x64 F),
  binary main_v90 main_v102 main_v103 ((subf) : T2x16384x8x64 F → T2x16384x8x64 F → T2x16384x8x64 F),
  nullary  main_cst_15 ((constant S_ .f32 0x3A27C5AC#32) : T0 F),
  unary main_cst_15 main_v104 ((broadcastInDim S2x16384x8x1 ![] bcast_S_S2x16384x8x1) : T0 F → T2x16384x8x1 F),
  binary main_v101 main_v104 main_v105 ((addf) : T2x16384x8x1 F → T2x16384x8x1 F → T2x16384x8x1 F),
  unary main_v105 main_v106 ((Host.rsqrt) : T2x16384x8x1 F → T2x16384x8x1 F),
  unary main_v106 main_v107 ((broadcastInDim S2x16384x8x64 ![0, 1, 2, 3] bcast_S2x16384x8x1_S2x16384x8x64_0_1_2_3) : T2x16384x8x1 F → T2x16384x8x64 F),
  binary main_v103 main_v107 main_v108 ((mulf) : T2x16384x8x64 F → T2x16384x8x64 F → T2x16384x8x64 F),
  reshape main_v108 main_v109 rfl shapeCasts_S2x16384x8x64_S2x16384x512]
theorem p2_ok : Ok (p2 (F := F)) := ⟨⟨uS .., bS .., nS .., uS .., bS .., uS .., uS .., bS .., rS ..⟩, ⟨rfl, rfl, rfl, rfl, rfl, rfl, rfl, rfl, rfl⟩⟩
def p3 : HL F := [
  unary main_v9 main_v110 ((broadcastInDim S1x1x512 ![2] bcast_S512_S1x1x512_2) : T512 F → T1x1x512 F),
  unary main_v110 main_v111 ((broadcastInDim S2x16384x512 ![0, 1, 2] bcast_S1x1x512_S2x16384x512_0_1_2) : T1x1x512 F → T2x16384x512 F),
  binary main_v109 main_v111 main_v112 ((mulf) : T2x16384x512 F → T2x16384x512 F → T2x16384x512 F),
  unary main_v10 main_v113 ((broadcastInDim S1x1x512 ![2] bcast_S512_S1x1x512_2) : T512 F → T1x1x512 F),
  unary main_v113 main_v114 ((broadcastInDim S2x16384x512 ![0, 1, 2] bcast_S1x1x512_S2x16384x512_0_1_2) : T1x1x512 F → T2x16384x512 F),
  binary main_v112 main_v114 main_v115 ((addf) : T2x16384x512 F → T2x16384x512 F → T2x16384x512 F)]
theorem p3_ok : Ok (p3 (F := F)) := ⟨⟨uS .., uS .., bS .., uS .., uS .., bS ..⟩, ⟨rfl, rfl, rfl, rfl, rfl, rfl⟩⟩
def p4 : HL F := [
  binary main_v74 main_v75 main_v116 ((mulf) : T2x16384x8x64 F → T2x16384x8x64 F → T2x16384x8x64 F),
  unary main_v8 main_v117 ((broadcastInDim S1x1x8x64 ![2, 3] bcast_S8x64_S1x1x8x64_2_3) : T8x64 F → T1x1x8x64 F),
  unary main_v117 main_v118 ((broadcastInDim S2x16384x8x64 ![0, 1, 2, 3] bcast_S1x1x8x64_S2x16384x8x64_0_1_2_3) : T1x1x8x64 F → T2x16384x8x64 F),
  binary main_v116 main_v118 main_v119 ((mulf) : T2x16384x8x64 F → T2x16384x8x64 F → T2x16384x8x64 F),
  nullary  main_cst_16 ((constant S_ .f32 0x00000000#32) : T0 F),
  binary main_v119 main_cst_16 main_v120 (((fun x v => Host.reduceAdd x v reducesTo_S2x16384x8x64_S2x16384x8_d3 h_S_)) : T2x16384x8x64 F → T0 F → T2x16384x8 F),
  unary main_v120 main_v121 ((broadcastInDim S2x16384x8x1 ![0, 1, 2] bcast_S2x16384x8_S2x16384x8x1_0_1_2) : T2x16384x8 F → T2x16384x8x1 F),
  unary main_v121 main_v122 ((broadcastInDim S2x16384x8x64 ![0, 1, 2, 3] bcast_S2x16384x8x1_S2x16384x8x64_0_1_2_3) : T2x16384x8x1 F → T2x16384x8x64 F),
  binary main_v122 main_v76 main_v123 ((mulf) : T2x16384x8x64 F → T2x16384x8x64 F → T2x16384x8x64 F)]
theorem p4_ok : Ok (p4 (F := F)) := ⟨⟨bS .., uS .., uS .., bS .., nS .., bS .., uS .., uS .., bS ..⟩, ⟨rfl, rfl, rfl, rfl, rfl, rfl, rfl, rfl, rfl⟩⟩
def p5 : HL F := [
  reshape main_v123 main_v124 rfl shapeCasts_S2x16384x8x64_S2x16384x512,
  binary main_v115 main_v124 main_v125 ((addf) : T2x16384x512 F → T2x16384x512 F → T2x16384x512 F),
  binary main_v125 main_v53 main_v126 ((mulf) : T2x16384x512 F → T2x16384x512 F → T2x16384x512 F),
  unary main_v126 main_v127 (((truncf .bf16 · bitsLt_bf16_f32)) : T2x16384x512 F → T2x16384x512bf16 F)]
theorem p5_ok : Ok (p5 (F := F)) := ⟨⟨rS .., bS .., bS .., uS ..⟩, ⟨rfl, rfl, rfl, rfl⟩⟩
def pOps : HL F := p0 ++ p1 ++ p2 ++ p3 ++ p4 ++ p5
def pW : List (Ref sig .tc) := [main_v90, main_cst_11, main_v91, main_v92, main_cst_12, main_v93, main_v94, main_v95, main_v96, main_v97, main_cst_13, main_v98, main_v99, main_cst_14, main_v100, main_v101, main_v102, main_v103, main_cst_15, main_v104, main_v105, main_v106, main_v107, main_v108, main_v109, main_v110, main_v111, main_v112, main_v113, main_v114, main_v115, main_v116, main_v117, main_v118, main_v119, main_cst_16, main_v120, main_v121, main_v122, main_v123, main_v124, main_v125, main_v126, main_v127]
theorem p_writes : (pOps (F := F)).map HloOp.writes = pW.map fun r => {Proc.devRef (τ := τ) .tc r} := rfl

end Cert.RwkvRefIdeal
-- ==== Proof.RwkvRefRun.lean ====
module

public import proofs.«01_k».proof.Proof.RwkvRefOps
/-! The reference's run: what every buffer holds when it ends, from its operations before, in and after the loop. -/

@[expose] public section

set_option maxRecDepth 16384

noncomputable section

namespace Cert.RwkvRefIdeal

open Cert.RwkvRefIdeal Cert.RwkvRefIdeal.Gen Idealize.ShloMosaic Idealize.ShloMosaic.TcCoe Idealize.ShloMosaic.StableHlo
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem part0_eq (c : Dev nD) : main_part0 (F := F) c = seq (a0 ++ a1 ++ a2 ++ a3 ++ a4 ++ a5 ++ a6 ++ a7) := rfl

theorem part2_eq (c : Dev nD) : main_part2 (F := F) c = seq (p1 ++ p2 ++ p3 ++ p4 ++ p5) := rfl

theorem body_eq : main_while0_body (F := F) = seq (b0 ++ b1 ++ b2) := rfl

theorem part1_eq (c : Dev nD) : main_part1 (F := F) c = (seq (a8 ++ a9 ++ a10 ++ a11 ++ a12) >>= fun _ =>
    HostLoop.enter 0 >>= fun _ => seq p0) := rfl

/-- Two stretches run one after the other are their concatenation's run. -/
theorem okAppend {x y : HL F} (hx : (x.Forall fun op => op.bufs ⊆ tcRefs τ sig) ∧ x.Forall fun op => op.fresh = ∅)
    (hy : (y.Forall fun op => op.bufs ⊆ tcRefs τ sig) ∧ y.Forall fun op => op.fresh = ∅) :
    ((x ++ y).Forall fun op => op.bufs ⊆ tcRefs τ sig) ∧ (x ++ y).Forall fun op => op.fresh = ∅ := by
  simp only [List.forall_iff_forall_mem, List.mem_append] at *
  exact ⟨fun o h => h.elim (hx.1 o) (hy.1 o), fun o h => h.elim (hx.2 o) (hy.2 o)⟩

theorem plainCons {x : HL F} {l : List (HL F)} (hx : (x.Forall fun op => op.bufs ⊆ tcRefs τ sig) ∧ x.Forall fun op => op.fresh = ∅)
    (hl : Plain l) : Plain (x :: l) := by
  simp only [List.forall_iff_forall_mem] at hx
  intro o ho
  rcases List.mem_cons.mp ho with rfl | ho
  · exact hx
  · exact hl o ho

/-- The program before its loop, in its two parts. -/
def preI : List (HL F) := [a0 ++ a1 ++ a2 ++ a3 ++ a4 ++ a5 ++ a6 ++ a7, a8 ++ a9 ++ a10 ++ a11 ++ a12]
/-- One trip. -/
def bodyI : List (HL F) := [b0 ++ b1 ++ b2]
/-- The program after its loop. -/
def postI : List (HL F) := [p0, p1 ++ p2 ++ p3 ++ p4 ++ p5]
/-- The loop's test. -/
def condOps : HL F := [
  nullary main_while0c_c_25 ((constantI S_ 32 16384#32) : T0i32 F),
  binary main_v89_6 main_while0c_c_25 main_while0c_v128 (cmpi .slt : (⟨S_, .i32⟩ : BufTy).Contents (Elt F) → (⟨S_, .i32⟩ : BufTy).Contents (Elt F) → (⟨S_, .i1⟩ : BufTy).Contents (Elt F))]

theorem preI_plain : Plain (preI (F := F)) :=
  plainCons (okAppend (okAppend (okAppend (okAppend (okAppend (okAppend (okAppend a0_ok a1_ok) a2_ok) a3_ok) a4_ok) a5_ok) a6_ok) a7_ok)
    (plainCons (okAppend (okAppend (okAppend (okAppend a8_ok a9_ok) a10_ok) a11_ok) a12_ok) Plain.nil)
theorem bodyI_plain : Plain (bodyI (F := F)) := plainCons (okAppend (okAppend b0_ok b1_ok) b2_ok) Plain.nil
theorem postI_plain : Plain (postI (F := F)) :=
  plainCons p0_ok (plainCons (okAppend (okAppend (okAppend (okAppend p1_ok p2_ok) p3_ok) p4_ok) p5_ok) Plain.nil)

theorem main_eq (c : Dev nD) : main (F := F) c = Pipeline.chain ((preI.map fun ops => (seq ops : Prog _ PUnit)) ++ HostLoop.enter 0 :: postI.map fun ops => (seq ops : Prog _ PUnit)) := by
  show (main_part0 c >>= fun _ => main_part1 c >>= fun _ => main_part2 c) = _
  rw [part0_eq, part1_eq, part2_eq]
  simp only [preI, postI, List.map_cons, List.map_nil, List.cons_append, List.nil_append, Pipeline.chain_cons, Pipeline.chain_nil, bind_assoc]
  simp only [bind_pure_unit]

theorem body_chain : main_while0_body (F := F) = Pipeline.chain (bodyI.map fun ops => (seq ops : Prog _ PUnit)) := by
  rw [body_eq]
  simp only [bodyI, List.map_cons, List.map_nil, Pipeline.chain_cons, Pipeline.chain_nil]
  simp only [bind_pure_unit]

end Cert.RwkvRefIdeal
-- ==== Proof.RwkvRefA.lean ====
module

public import proofs.«01_k».proof.Proof.RwkvRefOps
public import proofs.«01_k».proof.Proof.RwkvSpec
public import Idealize.ShloMosaic.Lib.StableHlo.ReadAt
public import Idealize.ShloMosaic.Lib.Pointwise
public import Idealize.ShloMosaic.Lib.IdealHost
/-! The reference's stages before its loop, over the reals: what each writes when its operands hold the layer's arrays. -/

@[expose] public section

set_option maxRecDepth 16384
set_option maxHeartbeats 1000000

noncomputable section

namespace Cert.RwkvRefIdeal

open Cert.RwkvRefIdeal Cert.RwkvRefIdeal.Gen Idealize.ShloMosaic Idealize.ShloMosaic.TcCoe Idealize.ShloMosaic.StableHlo
open Idealize.ShloMosaic.Tactic Cert.RwkvSpec

/-- What the buffers hold. -/
abbrev Va := Valuation τ sig (Elt Ideal)

/-- An array holds a function's reals. -/
def Is1 {n : ℕ} (v : Vec Ideal ⟨1, ![n]⟩ .f32) (f : ℕ → ℝ) : Prop := ∀ i : Fin n, (v (ix1 i) : EReal) = ((f i : ℝ) : EReal)
def Is2 {n k : ℕ} (v : Vec Ideal ⟨2, ![n, k]⟩ .f32) (f : ℕ → ℕ → ℝ) : Prop :=
  ∀ (i : Fin n) (j : Fin k), (v (ix2 i j) : EReal) = ((f i j : ℝ) : EReal)
def Is3 {n k l : ℕ} (v : Vec Ideal ⟨3, ![n, k, l]⟩ .f32) (f : ℕ → ℕ → ℕ → ℝ) : Prop :=
  ∀ (i : Fin n) (j : Fin k) (r : Fin l), (v (ix3 i j r) : EReal) = ((f i j r : ℝ) : EReal)
def Is4 {n k l q : ℕ} (v : Vec Ideal ⟨4, ![n, k, l, q]⟩ .f32) (f : ℕ → ℕ → ℕ → ℕ → ℝ) : Prop :=
  ∀ (i : Fin n) (j : Fin k) (r : Fin l) (s : Fin q), (v (ix4 i j r s) : EReal) = ((f i j r s : ℝ) : EReal)

theorem log1p_coe (x : ℝ) (hx : 0 < 1 + x) : Ideal.log1p (x : EReal) = ((Real.log (1 + x) : ℝ) : EReal) := by
  show Ideal.log (1 + (x : EReal)) = _
  rw [one_coe, ← EReal.coe_add]
  exact if_neg (not_le.mpr hx)
theorem absf_coe (x : ℝ) : FloatOps.absf (F := Ideal) (φ := .f32) (x : EReal) = ((|x| : ℝ) : EReal) := by
  show max (x : EReal) (-(x : EReal)) = _
  rw [← EReal.coe_neg, max_coe]
  rfl
theorem zero_word : (FloatOps.sitofp (F := Ideal) .f32 0#32 : EReal) = ((0 : ℝ) : EReal) := by
  show ((((0#32 : BitVec 32).toInt : ℤ) : ℝ) : EReal) = _
  norm_num
theorem mul_sixtyfour (H l : ℕ) : H * 64 + l = 64 * H + l := by omega
theorem head_of (H : ℕ) (l : Fin 64) : (64 * H + (l : ℕ)) / 64 = H := by omega

variable (U : Va) (P : Args)

theorem a1_17 (hx : Is3 (U main_arg0 : Vec Ideal S2x16384x1824 .f32) P.cols) (hm : Is1 (U main_v0 : Vec Ideal S1824 .f32) P.mu) :
    Is3 (after (a1 (F := Ideal)) U main_v17 : Vec Ideal S2x16384x1824 .f32) P.xm := by
  intro b t j
  simp only [Is3, Is1] at hx hm
  unfold a1
  after_reads_at
  pointwise
  by_cases h : 1 ≤ (t : ℕ) ∧ (t : ℕ) - 1 < 16384
  · rw [dif_pos h]
    simp only [hx, hm, ← EReal.coe_sub, ← EReal.coe_mul, ← EReal.coe_add]
    rw [Args.xm, Args.prev, if_neg (by omega)]
  · rw [dif_neg h, zero_word]
    simp only [hx, hm, ← EReal.coe_sub, ← EReal.coe_mul, ← EReal.coe_add]
    rw [Args.xm, Args.prev, if_pos (by omega)]

theorem a2_18 (hx : Is3 (U main_v17 : Vec Ideal S2x16384x1824 .f32) P.xm) :
    Is3 (after (a2 (F := Ideal)) U main_v18 : Vec Ideal S2x16384x512 .f32) P.r := by
  intro b t j
  simp only [Is3] at hx
  unfold a2
  after_reads_at
  pointwise
  simp only [hx]
  rfl

theorem a2_19 (hx : Is3 (U main_v17 : Vec Ideal S2x16384x1824 .f32) P.xm) :
    Is3 (after (a2 (F := Ideal)) U main_v19 : Vec Ideal S2x16384x512 .f32) P.k := by
  intro b t j
  simp only [Is3] at hx
  unfold a2
  after_reads_at
  pointwise
  simp only [hx]
  rfl

theorem a2_20 (hx : Is3 (U main_v17 : Vec Ideal S2x16384x1824 .f32) P.xm) :
    Is3 (after (a2 (F := Ideal)) U main_v20 : Vec Ideal S2x16384x512 .f32) P.v := by
  intro b t j
  simp only [Is3] at hx
  unfold a2
  after_reads_at
  pointwise
  simp only [hx]
  rfl

theorem a2_21 (hx : Is3 (U main_v17 : Vec Ideal S2x16384x1824 .f32) P.xm) :
    Is3 (after (a2 (F := Ideal)) U main_v21 : Vec Ideal S2x16384x64 .f32) fun b t j => P.xm b t (1536 + j) := by
  intro b t j
  simp only [Is3] at hx
  unfold a2
  after_reads_at
  pointwise
  simp only [hx]

theorem a2_22 (hx : Is3 (U main_v17 : Vec Ideal S2x16384x1824 .f32) P.xm) :
    Is3 (after (a2 (F := Ideal)) U main_v22 : Vec Ideal S2x16384x64 .f32) fun b t j => P.xm b t (1600 + j) := by
  intro b t j
  simp only [Is3] at hx
  unfold a2
  after_reads_at
  pointwise
  simp only [hx]

theorem a2_23 (hx : Is3 (U main_v17 : Vec Ideal S2x16384x1824 .f32) P.xm) :
    Is3 (after (a2 (F := Ideal)) U main_v23 : Vec Ideal S2x16384x160 .f32) fun b t j => P.xm b t (1664 + j) := by
  intro b t j
  simp only [Is3] at hx
  unfold a2
  after_reads_at
  pointwise
  simp only [hx]

theorem a3_29 (hx : Is3 (U main_v21 : Vec Ideal S2x16384x64 .f32) fun b t j => P.xm b t (1536 + j)) (hw : Is1 (U main_v1 : Vec Ideal S512 .f32) P.w0)
    (hw2 : Is2 (U main_v2 : Vec Ideal S64x512 .f32) P.w2) :
    Is3 (after (a3 (F := Ideal)) U main_v29 : Vec Ideal S2x16384x512 .f32) fun b t j => - P.z b t j := by
  intro b t j
  simp only [Is3, Is2, Is1] at hx hw hw2
  unfold a3
  after_reads_at
  pointwise
  simp only [hx, hw, hw2, tanh_coe, ← EReal.coe_mul, coe_sum, ← EReal.coe_add, ← EReal.coe_neg]
  rfl

theorem a4_30 (hx : Is3 (U main_v29 : Vec Ideal S2x16384x512 .f32) fun b t j => -P.z b t j) :
    Is3 (after (a4 (F := Ideal)) U main_v30 : Vec Ideal S2x16384x512 .f32) fun b t j => max (-P.z b t j) 0 + Real.log (1 + Real.exp (-|P.z b t j|)) := by
  intro b t j
  simp only [Is3] at hx
  unfold a4
  after_reads_at
  pointwise
  rw [if_neg (fun h => h rfl)]
  simp only [hx, absf_coe, ← EReal.coe_neg, exp_coe, abs_neg]
  rw [log1p_coe _ (by positivity), zero_coe, max_coe, ← EReal.coe_add]

theorem a5_36 (hx : Is3 (U main_v30 : Vec Ideal S2x16384x512 .f32) fun b t j => max (-P.z b t j) 0 + Real.log (1 + Real.exp (-|P.z b t j|))) :
    Is3 (after (a5 (F := Ideal)) U main_v36 : Vec Ideal S2x16384x512 .f32) fun b t j => Real.exp (P.ld b t j) := by
  intro b t j
  simp only [Is3] at hx
  unfold a5
  after_reads_at
  pointwise
  simp only [hx, ofBits_decay, ← EReal.coe_neg, exp_coe, ← EReal.coe_mul, exp_neg_softplus]
  rw [Args.ld, neg_mul]

theorem a6_46 (hx : Is3 (U main_v22 : Vec Ideal S2x16384x64 .f32) fun b t j => P.xm b t (1600 + j)) (hw : Is1 (U main_v3 : Vec Ideal S512 .f32) P.a0)
    (hw2 : Is2 (U main_v4 : Vec Ideal S64x512 .f32) P.a2) :
    Is3 (after (a6 (F := Ideal)) U main_v46 : Vec Ideal S2x16384x512 .f32) P.al := by
  intro b t j
  simp only [Is3, Is2, Is1] at hx hw hw2
  unfold a6
  after_reads_at
  pointwise
  simp only [hx, hw, hw2, ← EReal.coe_mul, coe_sum, ← EReal.coe_add, ← EReal.coe_neg, exp_coe, one_coe]
  rw [div_coe _ _ (by positivity)]
  rfl

theorem a7_53 (hx : Is3 (U main_v23 : Vec Ideal S2x16384x160 .f32) fun b t j => P.xm b t (1664 + j))
    (hw2 : Is2 (U main_v5 : Vec Ideal S160x512 .f32) P.g2) :
    Is3 (after (a7 (F := Ideal)) U main_v53 : Vec Ideal S2x16384x512 .f32) P.g := by
  intro b t j
  simp only [Is3, Is2] at hx hw2
  have hs : ∀ x : ℝ, Ideal.div ((1 : ℝ) : EReal) ((1 + Real.exp (-x) : ℝ) : EReal) = ((sigma x : ℝ) : EReal) := fun x => div_coe _ _ (by positivity)
  unfold a7
  after_reads_at
  pointwise
  simp only [hx, hw2, one_coe, ← EReal.coe_neg, exp_coe, ← EReal.coe_add, hs, ← EReal.coe_mul, coe_sum]
  rfl

theorem a8_56 (hx : Is3 (U main_v19 : Vec Ideal S2x16384x512 .f32) P.k) (hk : Is1 (U main_v6 : Vec Ideal S512 .f32) P.kk) :
    Is3 (after (a8 (F := Ideal)) U main_v56 : Vec Ideal S2x16384x512 .f32) P.kkv := by
  intro b t j
  simp only [Is3, Is1] at hx hk
  unfold a8
  after_reads_at
  pointwise
  simp only [hx, hk, ← EReal.coe_mul]
  rfl

theorem a8_64 (hx : Is3 (U main_v19 : Vec Ideal S2x16384x512 .f32) P.k) (ha : Is3 (U main_v46 : Vec Ideal S2x16384x512 .f32) P.al)
    (hk : Is1 (U main_v7 : Vec Ideal S512 .f32) P.ka) :
    Is3 (after (a8 (F := Ideal)) U main_v64 : Vec Ideal S2x16384x512 .f32) P.km := by
  intro b t j
  simp only [Is3, Is1] at hx ha hk
  unfold a8
  after_reads_at
  pointwise
  simp only [hx, ha, hk, one_coe, ← EReal.coe_sub, ← EReal.coe_mul, ← EReal.coe_add]
  rfl

theorem a9_73 (hx : Is3 (U main_v56 : Vec Ideal S2x16384x512 .f32) P.kkv) :
    Is4 (after (a9 (F := Ideal)) U main_v73 : Vec Ideal S2x16384x8x64 .f32) fun b t H l => P.kkn b t (64 * H + l) := by
  intro b t j l
  simp only [Is3] at hx
  unfold a9
  after_reads_at
  pointwise
  simp only [hx, mul_sixtyfour, ← EReal.coe_mul, coe_sum, ofBits_tiny]
  rw [sqrt_coe _ (Finset.sum_nonneg fun _ _ => mul_self_nonneg _), max_coe, div_coe _ _ (lt_max_of_lt_right tiny_pos).ne']
  rw [Args.kkn, head_of]

theorem a10_74 (f : ℕ → ℕ → ℕ → ℝ) (hx : Is3 (U main_v18 : Vec Ideal S2x16384x512 .f32) f) :
    Is4 (after (a10 (F := Ideal)) U main_v74 : Vec Ideal S2x16384x8x64 .f32) fun b t H l => f b t (64 * H + l) := by
  intro b t j l
  simp only [Is3] at hx
  unfold a10
  after_reads_at
  pointwise
  simp only [hx, mul_sixtyfour]

theorem a10_75 (f : ℕ → ℕ → ℕ → ℝ) (hx : Is3 (U main_v64 : Vec Ideal S2x16384x512 .f32) f) :
    Is4 (after (a10 (F := Ideal)) U main_v75 : Vec Ideal S2x16384x8x64 .f32) fun b t H l => f b t (64 * H + l) := by
  intro b t j l
  simp only [Is3] at hx
  unfold a10
  after_reads_at
  pointwise
  simp only [hx, mul_sixtyfour]

theorem a10_76 (f : ℕ → ℕ → ℕ → ℝ) (hx : Is3 (U main_v20 : Vec Ideal S2x16384x512 .f32) f) :
    Is4 (after (a10 (F := Ideal)) U main_v76 : Vec Ideal S2x16384x8x64 .f32) fun b t H l => f b t (64 * H + l) := by
  intro b t j l
  simp only [Is3] at hx
  unfold a10
  after_reads_at
  pointwise
  simp only [hx, mul_sixtyfour]

theorem a10_77 (f : ℕ → ℕ → ℕ → ℝ) (hx : Is3 (U main_v46 : Vec Ideal S2x16384x512 .f32) f) :
    Is4 (after (a10 (F := Ideal)) U main_v77 : Vec Ideal S2x16384x8x64 .f32) fun b t H l => f b t (64 * H + l) := by
  intro b t j l
  simp only [Is3] at hx
  unfold a10
  after_reads_at
  pointwise
  simp only [hx, mul_sixtyfour]

theorem a10_78 (f : ℕ → ℕ → ℕ → ℝ) (hx : Is3 (U main_v36 : Vec Ideal S2x16384x512 .f32) f) :
    Is4 (after (a10 (F := Ideal)) U main_v78 : Vec Ideal S2x16384x8x64 .f32) fun b t H l => f b t (64 * H + l) := by
  intro b t j l
  simp only [Is3] at hx
  unfold a10
  after_reads_at
  pointwise
  simp only [hx, mul_sixtyfour]

theorem a10_79 : Is4 (after (a10 (F := Ideal)) U main_v79 : Vec Ideal S2x8x64x64 .f32) fun _ _ _ _ => 0 := by
  intro b t j l
  unfold a10
  after_reads_at
  pointwise
  rfl

end Cert.RwkvRefIdeal
-- ==== Proof.RwkvRefB.lean ====
module

public import proofs.«01_k».proof.Proof.RwkvRefA
public import Idealize.ShloMosaic.Lib.DynamicIndex
public import Idealize.ShloMosaic.Lib.Pipeline.Value
/-! The reference's loop over the reals: one trip's stages. -/

@[expose] public section

set_option maxRecDepth 16384
set_option maxHeartbeats 1000000

noncomputable section

namespace Cert.RwkvRefIdeal

open Cert.RwkvRefIdeal Cert.RwkvRefIdeal.Gen Idealize.ShloMosaic Idealize.ShloMosaic.TcCoe Idealize.ShloMosaic.StableHlo
open Idealize.ShloMosaic.Tactic Cert.RwkvSpec

variable (U : Va) (P : Args)

theorem a11_80 (f : ℕ → ℕ → ℕ → ℕ → ℝ) (hx : Is4 (U main_v74 : Vec Ideal S2x16384x8x64 .f32) f) :
    Is4 (after (a11 (F := Ideal)) U main_v80 : Vec Ideal S16384x2x8x64 .f32) fun t b => f b t := by
  intro b t j l
  simp only [Is4] at hx
  unfold a11
  after_reads_at
  pointwise
  simp only [hx]

theorem a11_85 (f : ℕ → ℕ → ℕ → ℕ → ℝ) (hx : Is4 (U main_v73 : Vec Ideal S2x16384x8x64 .f32) f) :
    Is4 (after (a11 (F := Ideal)) U main_v85 : Vec Ideal S16384x2x8x64 .f32) fun t b H l => -f b t H l := by
  intro b t j l
  simp only [Is4] at hx
  unfold a11
  after_reads_at
  pointwise
  simp only [hx, ← EReal.coe_neg]

theorem a11_87 (f g : ℕ → ℕ → ℕ → ℕ → ℝ) (hx : Is4 (U main_v73 : Vec Ideal S2x16384x8x64 .f32) f) (hy : Is4 (U main_v77 : Vec Ideal S2x16384x8x64 .f32) g) :
    Is4 (after (a11 (F := Ideal)) U main_v87 : Vec Ideal S16384x2x8x64 .f32) fun t b H l => f b t H l * g b t H l := by
  intro b t j l
  simp only [Is4] at hx hy
  unfold a11
  after_reads_at
  pointwise
  simp only [hx, hy, ← EReal.coe_mul]

theorem a12_0 : after (a12 (F := Ideal)) U main_v89_0 = U main_v80 := by
  unfold a12
  after_reads_simp
  rfl

theorem a11_81 (f : ℕ → ℕ → ℕ → ℕ → ℝ) (hx : Is4 (U main_v78 : Vec Ideal S2x16384x8x64 .f32) f) :
    Is4 (after (a11 (F := Ideal)) U main_v81 : Vec Ideal S16384x2x8x64 .f32) fun t b => f b t := by
  intro b t j l
  simp only [Is4] at hx
  unfold a11
  after_reads_at
  pointwise
  simp only [hx]

theorem a11_82 (f : ℕ → ℕ → ℕ → ℕ → ℝ) (hx : Is4 (U main_v75 : Vec Ideal S2x16384x8x64 .f32) f) :
    Is4 (after (a11 (F := Ideal)) U main_v82 : Vec Ideal S16384x2x8x64 .f32) fun t b => f b t := by
  intro b t j l
  simp only [Is4] at hx
  unfold a11
  after_reads_at
  pointwise
  simp only [hx]

theorem a11_83 (f : ℕ → ℕ → ℕ → ℕ → ℝ) (hx : Is4 (U main_v76 : Vec Ideal S2x16384x8x64 .f32) f) :
    Is4 (after (a11 (F := Ideal)) U main_v83 : Vec Ideal S16384x2x8x64 .f32) fun t b => f b t := by
  intro b t j l
  simp only [Is4] at hx
  unfold a11
  after_reads_at
  pointwise
  simp only [hx]

theorem a11_10 : (after (a11 (F := Ideal)) U main_c_10 : Vec Ideal S_ .i32) = fun _ => BitVec.ofNat 32 0 := by
  unfold a11
  after_reads_simp
  rfl

theorem a12_1 : after (a12 (F := Ideal)) U main_v89_1 = U main_v81 := by
  unfold a12
  after_reads_simp
  rfl

theorem a12_2 : after (a12 (F := Ideal)) U main_v89_2 = U main_v82 := by
  unfold a12
  after_reads_simp
  rfl

theorem a12_3 : after (a12 (F := Ideal)) U main_v89_3 = U main_v83 := by
  unfold a12
  after_reads_simp
  rfl

theorem a12_4 : after (a12 (F := Ideal)) U main_v89_4 = U main_v85 := by
  unfold a12
  after_reads_simp
  rfl

theorem a12_5 : after (a12 (F := Ideal)) U main_v89_5 = U main_v87 := by
  unfold a12
  after_reads_simp
  rfl

theorem a12_6 : after (a12 (F := Ideal)) U main_v89_6 = U main_c_10 := by
  unfold a12
  after_reads_simp
  rfl

theorem a12_7 : after (a12 (F := Ideal)) U main_v89_7 = U main_v79 := by
  unfold a12
  after_reads_simp
  rfl

theorem b2_6 (k : ℕ) (hc : (U main_v89_6 : Vec Ideal S_ .i32) = fun _ => BitVec.ofNat 32 k) :
    (after (b2 (F := Ideal)) U main_v89_6 : Vec Ideal S_ .i32) = fun _ => BitVec.ofNat 32 (k + 1) := by
  have h : (after (b2 (F := Ideal)) U main_v89_6 : Vec Ideal S_ .i32) = addi (U main_v89_6 : Vec Ideal S_ .i32) (constantI S_ 32 1#32) := by
    unfold b2
    after_reads_simp
    rfl
  rw [h, hc]
  funext i
  exact (BitVec.ofNat_add k 1).symm

theorem b2_7 : after (b2 (F := Ideal)) U main_v89_7 = U main_while0b_v149 := by
  unfold b2
  after_reads_simp
  rfl

theorem starts (v : Vec Ideal S_ .i32) (k : ℕ) (hk : k < 16384) (hv : v = fun _ => BitVec.ofNat 32 k) :
    ∀ a : Fin 4, BitVec.toInt ((![v, constantI S_ 32 0#32, constantI S_ 32 0#32, constantI S_ 32 0#32] : Fin 4 → IVec S_ 32) a (Shape.Idx.first h_S_))
      = ((![k, 0, 0, 0] : Fin 4 → ℕ) a : ℤ) := by
  subst hv
  intro a
  match a with
  | 0 => exact toInt_ofNat_of_lt (by omega)
  | 1 => rfl
  | 2 => rfl
  | 3 => rfl

theorem row_slices (k : ℕ) (hk : k < 16384) : S16384x2x8x64.Slices ![k, 0, 0, 0] S1x2x8x64 := by
  refine ⟨rfl, fun a => ?_⟩
  match a with
  | ⟨0, _⟩ => exact Nat.succ_le_of_lt hk
  | ⟨1, _⟩ => exact le_refl 2
  | ⟨2, _⟩ => exact le_refl 8
  | ⟨3, _⟩ => exact le_refl 64

theorem b0_128 (k : ℕ) (hk : k < 16384) (hc : (U main_v89_6 : Vec Ideal S_ .i32) = fun _ => BitVec.ofNat 32 k)
    (f : ℕ → ℕ → ℕ → ℕ → ℝ) (hx : Is4 (U main_v89_0 : Vec Ideal S16384x2x8x64 .f32) f) :
    Is3 (after (b0 (F := Ideal)) U main_while0b_v128 : Vec Ideal S2x8x64 .f32) (f k) := by
  intro b H i
  simp only [Is4] at hx
  unfold b0
  after_reads_simp [unaryIndexed_result_read, indexContents_tref_cons, indexContents_tref_empty]
  simp only [TRef.ofBuf, TRef.toBuf, cast_eq]
  rw [Host.dynamicSlice_eq_extractStridedSlice S1x2x8x64 _ _ ![k, 0, 0, 0] _ (row_slices k hk) (starts _ k hk hc)]
  pointwise
  simp only [hx]

theorem b0_129 (k : ℕ) (hk : k < 16384) (hc : (U main_v89_6 : Vec Ideal S_ .i32) = fun _ => BitVec.ofNat 32 k)
    (f : ℕ → ℕ → ℕ → ℕ → ℝ) (hx : Is4 (U main_v89_1 : Vec Ideal S16384x2x8x64 .f32) f) :
    Is3 (after (b0 (F := Ideal)) U main_while0b_v129 : Vec Ideal S2x8x64 .f32) (f k) := by
  intro b H i
  simp only [Is4] at hx
  unfold b0
  after_reads_simp [unaryIndexed_result_read, indexContents_tref_cons, indexContents_tref_empty]
  simp only [TRef.ofBuf, TRef.toBuf, cast_eq]
  rw [Host.dynamicSlice_eq_extractStridedSlice S1x2x8x64 _ _ ![k, 0, 0, 0] _ (row_slices k hk) (starts _ k hk hc)]
  pointwise
  simp only [hx]

theorem b0_130 (k : ℕ) (hk : k < 16384) (hc : (U main_v89_6 : Vec Ideal S_ .i32) = fun _ => BitVec.ofNat 32 k)
    (f : ℕ → ℕ → ℕ → ℕ → ℝ) (hx : Is4 (U main_v89_2 : Vec Ideal S16384x2x8x64 .f32) f) :
    Is3 (after (b0 (F := Ideal)) U main_while0b_v130 : Vec Ideal S2x8x64 .f32) (f k) := by
  intro b H i
  simp only [Is4] at hx
  unfold b0
  after_reads_simp [unaryIndexed_result_read, indexContents_tref_cons, indexContents_tref_empty]
  simp only [TRef.ofBuf, TRef.toBuf, cast_eq]
  rw [Host.dynamicSlice_eq_extractStridedSlice S1x2x8x64 _ _ ![k, 0, 0, 0] _ (row_slices k hk) (starts _ k hk hc)]
  pointwise
  simp only [hx]

theorem b0_131 (k : ℕ) (hk : k < 16384) (hc : (U main_v89_6 : Vec Ideal S_ .i32) = fun _ => BitVec.ofNat 32 k)
    (f : ℕ → ℕ → ℕ → ℕ → ℝ) (hx : Is4 (U main_v89_3 : Vec Ideal S16384x2x8x64 .f32) f) :
    Is3 (after (b0 (F := Ideal)) U main_while0b_v131 : Vec Ideal S2x8x64 .f32) (f k) := by
  intro b H i
  simp only [Is4] at hx
  unfold b0
  after_reads_simp [unaryIndexed_result_read, indexContents_tref_cons, indexContents_tref_empty]
  simp only [TRef.ofBuf, TRef.toBuf, cast_eq]
  rw [Host.dynamicSlice_eq_extractStridedSlice S1x2x8x64 _ _ ![k, 0, 0, 0] _ (row_slices k hk) (starts _ k hk hc)]
  pointwise
  simp only [hx]

theorem b0_132 (k : ℕ) (hk : k < 16384) (hc : (U main_v89_6 : Vec Ideal S_ .i32) = fun _ => BitVec.ofNat 32 k)
    (f : ℕ → ℕ → ℕ → ℕ → ℝ) (hx : Is4 (U main_v89_4 : Vec Ideal S16384x2x8x64 .f32) f) :
    Is3 (after (b0 (F := Ideal)) U main_while0b_v132 : Vec Ideal S2x8x64 .f32) (f k) := by
  intro b H i
  simp only [Is4] at hx
  unfold b0
  after_reads_simp [unaryIndexed_result_read, indexContents_tref_cons, indexContents_tref_empty]
  simp only [TRef.ofBuf, TRef.toBuf, cast_eq]
  rw [Host.dynamicSlice_eq_extractStridedSlice S1x2x8x64 _ _ ![k, 0, 0, 0] _ (row_slices k hk) (starts _ k hk hc)]
  pointwise
  simp only [hx]

theorem b0_133 (k : ℕ) (hk : k < 16384) (hc : (U main_v89_6 : Vec Ideal S_ .i32) = fun _ => BitVec.ofNat 32 k)
    (f : ℕ → ℕ → ℕ → ℕ → ℝ) (hx : Is4 (U main_v89_5 : Vec Ideal S16384x2x8x64 .f32) f) :
    Is3 (after (b0 (F := Ideal)) U main_while0b_v133 : Vec Ideal S2x8x64 .f32) (f k) := by
  intro b H i
  simp only [Is4] at hx
  unfold b0
  after_reads_simp [unaryIndexed_result_read, indexContents_tref_cons, indexContents_tref_empty]
  simp only [TRef.ofBuf, TRef.toBuf, cast_eq]
  rw [Host.dynamicSlice_eq_extractStridedSlice S1x2x8x64 _ _ ![k, 0, 0, 0] _ (row_slices k hk) (starts _ k hk hc)]
  pointwise
  simp only [hx]

theorem b1_149 (k : ℕ) (hS : ∀ (b : Fin 2) (H : Fin 8) (i l : Fin 64), ((U main_v89_7 : Vec Ideal S2x8x64x64 .f32) (ix4 b H i l) : EReal) = ((P.st b k H i l : ℝ) : EReal))
    (hw : Is3 (U main_while0b_v129 : Vec Ideal S2x8x64 .f32) fun b H l => Real.exp (P.ld b k (64 * H + l)))
    (hk : Is3 (U main_while0b_v130 : Vec Ideal S2x8x64 .f32) fun b H l => P.km b k (64 * H + l))
    (hv : Is3 (U main_while0b_v131 : Vec Ideal S2x8x64 .f32) fun b H l => P.v b k (64 * H + l))
    (ha : Is3 (U main_while0b_v132 : Vec Ideal S2x8x64 .f32) fun b H l => -P.kkn b k (64 * H + l))
    (hb : Is3 (U main_while0b_v133 : Vec Ideal S2x8x64 .f32) fun b H l => P.kkn b k (64 * H + l) * P.al b k (64 * H + l))
    (b : Fin 2) (H : Fin 8) (i l : Fin 64) : ((after (b1 (F := Ideal)) U main_while0b_v149 : Vec Ideal S2x8x64x64 .f32) (ix4 b H i l) : EReal) = ((P.st b (k + 1) H i l : ℝ) : EReal) := by
  simp only [Is3] at hw hk hv ha hb
  unfold b1
  after_reads_at
  pointwise
  simp only [hS, hw, hk, hv, ha, hb, ← EReal.coe_mul, coe_sum, ← EReal.coe_add]
  rfl

theorem b1_150 (k : ℕ) (hS : ∀ (b : Fin 2) (H : Fin 8) (i l : Fin 64), ((U main_v89_7 : Vec Ideal S2x8x64x64 .f32) (ix4 b H i l) : EReal) = ((P.st b k H i l : ℝ) : EReal))
    (hr : Is3 (U main_while0b_v128 : Vec Ideal S2x8x64 .f32) fun b H l => P.r b k (64 * H + l))
    (hw : Is3 (U main_while0b_v129 : Vec Ideal S2x8x64 .f32) fun b H l => Real.exp (P.ld b k (64 * H + l)))
    (hk : Is3 (U main_while0b_v130 : Vec Ideal S2x8x64 .f32) fun b H l => P.km b k (64 * H + l))
    (hv : Is3 (U main_while0b_v131 : Vec Ideal S2x8x64 .f32) fun b H l => P.v b k (64 * H + l))
    (ha : Is3 (U main_while0b_v132 : Vec Ideal S2x8x64 .f32) fun b H l => -P.kkn b k (64 * H + l))
    (hb : Is3 (U main_while0b_v133 : Vec Ideal S2x8x64 .f32) fun b H l => P.kkn b k (64 * H + l) * P.al b k (64 * H + l))
    (b : Fin 2) (H : Fin 8) (i : Fin 64) : ((after (b1 (F := Ideal)) U main_while0b_v150 : Vec Ideal S2x8x64 .f32) (ix3 b H i) : EReal) = ((P.y b k H i : ℝ) : EReal) := by
  simp only [Is3] at hr hw hk hv ha hb
  unfold b1
  after_reads_at
  pointwise
  simp only [hS, hr, hw, hk, hv, ha, hb, ← EReal.coe_mul, coe_sum, ← EReal.coe_add]
  rfl

theorem b2_8 (k : ℕ) (hk : k < 16384) (hc : (U main_v89_6 : Vec Ideal S_ .i32) = fun _ => BitVec.ofNat 32 k)
    (n : Fin 16384) (b : Fin 2) (H : Fin 8) (i : Fin 64) : (after (b2 (F := Ideal)) U main_v89_8 : Vec Ideal S16384x2x8x64 .f32) (ix4 n b H i) =
      if (n : ℕ) = k then (U main_while0b_v150 : Vec Ideal S2x8x64 .f32) (ix3 b H i) else (U main_v89_8 : Vec Ideal S16384x2x8x64 .f32) (ix4 n b H i) := by
  unfold b2
  after_reads_simp [binaryIndexed_result_read, indexContents_tref_cons, indexContents_tref_empty]
  simp only [TRef.ofBuf, TRef.toBuf, cast_eq, id]
  rw [Host.dynamicUpdateSlice_eq_updateSlice _ _ _ _ ![k, 0, 0, 0] (fun a => by rw [starts _ k hk hc a]; have := (row_slices k hk).2 a; omega) (row_slices k hk)]
  pointwise
  by_cases h : (n : ℕ) = k
  · rw [dif_pos ⟨by omega, by omega⟩, if_pos h]
  · rw [dif_neg (by omega), if_neg h]

end Cert.RwkvRefIdeal
-- ==== Proof.RwkvRefLoop.lean ====
module

public import proofs.«01_k».proof.Proof.RwkvRefRun
public import proofs.«01_k».proof.Proof.RwkvRefB
public import Idealize.ShloMosaic.Lib.Scf.ExitTest
public import Idealize.ShloMosaic.Lib.Tactic
/-! The reference's run: its loop's test read at each trip, and what every buffer holds at the end. -/

@[expose] public section

set_option maxRecDepth 16384
set_option maxHeartbeats 1000000

noncomputable section

namespace Cert.RwkvRefIdeal

open Cert.RwkvRefIdeal Cert.RwkvRefIdeal.Gen Idealize.ShloMosaic Idealize.ShloMosaic.TcCoe Idealize.ShloMosaic.StableHlo
open Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

theorem cond_writes : (condOps (F := Ideal)).map HloOp.writes = [main_while0c_c_25, main_while0c_v128].map fun r => {Proc.devRef (τ := τ) .tc r} := rfl

theorem cond_keep (V : Va) {r : Ref sig .tc} (h : r ∉ [main_while0c_c_25, main_while0c_v128]) : after (condOps (F := Ideal)) V r = V r :=
  from_entry cond_writes 2 h V

/-- A buffer a line does not write. -/
theorem unwritten {ops : HL Ideal} {W : List (Ref sig .tc)} (hW : ops.map HloOp.writes = W.map fun r => {Proc.devRef (τ := τ) .tc r})
    {x : Ref sig .tc} (hx : x ∉ W) (V : Va) : after ops V x = V x :=
  after_of_writes_sub (W := W) ops _ (forall_writes_sub_of_map hW) hx

/-- One trip: the test, then the body. -/
def trip (V : Va) : Va := after (bOps (F := Ideal)) (after (condOps (F := Ideal)) V)

theorem trip_keep (V : Va) {r : Ref sig .tc} (h : r ∉ [main_while0c_c_25, main_while0c_v128]) (hb : r ∉ bW) : trip V r = V r := by
  rw [trip, unwritten b_writes hb, cond_keep V h]

theorem trip_ctr (V : Va) (k : ℕ) (h : (V main_v89_6 : Vec Ideal S_ .i32) = fun _ => BitVec.ofNat 32 k) :
    (trip V main_v89_6 : Vec Ideal S_ .i32) = fun _ => BitVec.ofNat 32 (k + 1) := by
  rw [trip, at_stage b_writes 47 10 (st := b2) rfl (by decide)]
  refine b2_6 _ k ?_
  rw [from_entry b_writes 47 (by decide), cond_keep V (by decide)]
  exact h

theorem atTrip_eq (W₀ : Dev nD → Va) (k : ℕ) (c : Dev nD) :
    atTrip (condOps (F := Ideal)) (bodyI (F := Ideal)) W₀ (k + 1) c = trip (atTrip condOps bodyI W₀ k c) := rfl

theorem ctr (W₀ : Dev nD → Va) (hI : ∀ c, (W₀ c main_v89_6 : Vec Ideal S_ .i32) = fun _ => BitVec.ofNat 32 0) (c : Dev nD) (k : ℕ) :
    (atTrip (condOps (F := Ideal)) (bodyI (F := Ideal)) W₀ k c main_v89_6 : Vec Ideal S_ .i32) = fun _ => BitVec.ofNat 32 k := by
  induction k with
  | zero => exact hI c
  | succ k ih => rw [atTrip_eq]; exact trip_ctr _ k ih

theorem test_iff (k : ℕ) (hk : k ≤ 16384) : IntOp.cmpi .slt (BitVec.ofNat 32 k) 16384#32 = 1#1 ↔ k < 16384 := by
  have h1 : (BitVec.ofNat 32 k).toInt = k := toInt_ofNat_of_lt (by omega)
  have h2 : (16384#32 : BitVec 32).toInt = 16384 := rfl
  show BitVec.ofBool ((BitVec.ofNat 32 k).slt 16384#32) = 1#1 ↔ k < 16384
  rw [BitVec.slt_eq_decide, h1, h2]
  by_cases h : k < 16384
  · simp [h]
  · have : ¬ ((k : ℤ) < 16384) := by omega
    simp [h, this]

set_option backward.isDefEq.respectTransparency.types false in
theorem cond_spec (W₀ : Dev nD → Va) (hI : ∀ c, (W₀ c main_v89_6 : Vec Ideal S_ .i32) = fun _ => BitVec.ofNat 32 0) :
    CondSpec (pcfgs (F := Ideal)) defs₀ loops main_while0_cond (condOps (F := Ideal)) (bodyI (F := Ideal)) W₀ 16384 := by
  intro k hk c bd
  have hctr := ctr W₀ hI c k
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip (condOps (F := Ideal)) (bodyI (F := Ideal)) W₀ k c) main_v89_6 HostLoop.idx0)
        (HloOp.result _ (atTrip (condOps (F := Ideal)) (bodyI (F := Ideal)) W₀ k c) main_while0c_c_25 HostLoop.idx0) = 1#1) (k < 16384)
    rw [StableHlo.nullary_result_ne _ _ _ _ (by decide), StableHlo.nullary_result, hctr]
    exact test_iff k hk
  isplitl [Hb]; · iexact Hb
  unfold condOps
  rw [after_cons, after_cons, after_nil]; iexact Hh

theorem pre_eq (V : Va) : afterL (preI (F := Ideal)) V = after (aOps (F := Ideal)) V := by
  simp only [preI, aOps, afterL_cons, afterL_nil, after_append]

theorem post_eq (V : Va) : afterL (postI (F := Ideal)) V = after (pOps (F := Ideal)) V := by
  simp only [postI, pOps, afterL_cons, afterL_nil, after_append]

theorem entry_ctr (V : Va) : (after (aOps (F := Ideal)) V main_v89_6 : Vec Ideal S_ .i32) = fun _ => BitVec.ofNat 32 0 := by
  rw [at_stage a_writes 116 9 (st := a12) rfl (by decide), a12_6, from_ops a_writes 116 (by decide), at_stage a_writes 105 11 (st := a11) rfl (by decide)]
  exact a11_10 _

/-- What the buffers hold at the end, from what they hold at the start. -/
def final (V : Va) : Va := after (pOps (F := Ideal)) (after (condOps (F := Ideal)) (trip^[16384] (after (aOps (F := Ideal)) V)))

theorem atTrip_iter (W₀ : Dev nD → Va) (c : Dev nD) (k : ℕ) : atTrip (condOps (F := Ideal)) (bodyI (F := Ideal)) W₀ k c = trip^[k] (W₀ c) := by
  induction k with
  | zero => rfl
  | succ k ih => rw [atTrip_eq, ih, Function.iterate_succ_apply']

theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD) (b : Ref sig .tc), (Proc.devRef .tc b : DevRef τ sig).isScoped = false →
        r.2.mem ((c.tc : Thread nD τ).loc b) = final (launchContents m c) b) := by
  refine (θ_run defs _ _).mono (fun r h c b hb => (h c b hb).trans ?_)
    (run_loop pcfgs defs₀ loops main 0 main_while0_cond main_while0_body rfl preI bodyI postI condOps preI_plain bodyI_plain postI_plain
      main_eq body_chain 16384 m ρ (cond_spec _ fun c => by rw [entryContents, pre_eq]; exact entry_ctr _))
  rw [finalContents, post_eq, atTrip_iter, entryContents, pre_eq]
  rfl

theorem iter_keep (V : Va) {r : Ref sig .tc} (h : r ∉ [main_while0c_c_25, main_while0c_v128]) (hb : r ∉ bW) (k : ℕ) : trip^[k] V r = V r := by
  induction k with
  | zero => rfl
  | succ k ih => rw [Function.iterate_succ_apply', trip_keep _ h hb, ih]

theorem final_keep (V : Va) {r : Ref sig .tc} (ha : r ∉ aW) (h : r ∉ [main_while0c_c_25, main_while0c_v128]) (hb : r ∉ bW) (hp : r ∉ pW) :
    final V r = V r := by
  rw [final, unwritten p_writes hp, cond_keep _ h, iter_keep _ h hb, unwritten a_writes ha]

end Cert.RwkvRefIdeal
-- ==== Proof.RwkvRefP.lean ====
module

public import proofs.«01_k».proof.Proof.RwkvRefA
/-! The reference's stages after its loop, over the reals: the heads' normalisation, the bonus and the gate. -/

@[expose] public section

set_option maxRecDepth 16384
set_option maxHeartbeats 1000000

noncomputable section

namespace Cert.RwkvRefIdeal

open Cert.RwkvRefIdeal Cert.RwkvRefIdeal.Gen Idealize.ShloMosaic Idealize.ShloMosaic.TcCoe Idealize.ShloMosaic.StableHlo
open Idealize.ShloMosaic.Tactic Cert.RwkvSpec

variable (U : Va) (P : Args)

theorem p0_90 (hy : ∀ (t : Fin 16384) (b : Fin 2) (H : Fin 8) (i : Fin 64), ((U main_v89_8 : Vec Ideal S16384x2x8x64 .f32) (ix4 t b H i) : EReal) = ((P.y b t H i : ℝ) : EReal))
    (b : Fin 2) (t : Fin 16384) (H : Fin 8) (i : Fin 64) :
    ((after (p0 (F := Ideal)) U main_v90 : Vec Ideal S2x16384x8x64 .f32) (ix4 b t H i) : EReal) = ((P.y b t H i : ℝ) : EReal) := by
  unfold p0
  after_reads_at
  pointwise
  simp only [hy]

theorem mean_coe (b t H : ℕ) : Ideal.div ((∑ l : Fin 64, P.y b t H l : ℝ) : EReal) ((64 : ℝ) : EReal) = ((P.mean b t H : ℝ) : EReal) := by
  rw [div_coe _ _ (by norm_num), Args.mean, div_eq_mul_one_div]

theorem p0_94 (hy : ∀ (t : Fin 16384) (b : Fin 2) (H : Fin 8) (i : Fin 64), ((U main_v89_8 : Vec Ideal S16384x2x8x64 .f32) (ix4 t b H i) : EReal) = ((P.y b t H i : ℝ) : EReal)) :
    Is4 (after (p0 (F := Ideal)) U main_v94 : Vec Ideal S2x16384x8x1 .f32) fun b t H _ => P.mean b t H := by
  intro b t H i
  unfold p0
  after_reads_at
  pointwise
  simp only [hy, coe_sum, ofBits_sixtyfour, mean_coe]

theorem p0_95 (hy : ∀ (t : Fin 16384) (b : Fin 2) (H : Fin 8) (i : Fin 64), ((U main_v89_8 : Vec Ideal S16384x2x8x64 .f32) (ix4 t b H i) : EReal) = ((P.y b t H i : ℝ) : EReal)) :
    Is4 (after (p0 (F := Ideal)) U main_v95 : Vec Ideal S2x16384x8x64 .f32) fun b t H _ => P.mean b t H := by
  intro b t H i
  unfold p0
  after_reads_at
  pointwise
  simp only [hy, coe_sum, ofBits_sixtyfour, mean_coe]

theorem p1_101 (hy : ∀ (b : Fin 2) (t : Fin 16384) (H : Fin 8) (i : Fin 64), ((U main_v90 : Vec Ideal S2x16384x8x64 .f32) (ix4 b t H i) : EReal) = ((P.y b t H i : ℝ) : EReal))
    (hm : Is4 (U main_v95 : Vec Ideal S2x16384x8x64 .f32) fun b t H _ => P.mean b t H) :
    Is4 (after (p1 (F := Ideal)) U main_v101 : Vec Ideal S2x16384x8x1 .f32) fun b t H _ => P.var b t H := by
  intro b t H i
  simp only [Is4] at hm
  unfold p1
  after_reads_at
  pointwise
  simp only [hy, hm, ← EReal.coe_sub, ← EReal.coe_mul, coe_sum, ofBits_sixtyfour]
  rw [div_coe _ _ (by norm_num), Args.var, div_eq_mul_one_div]

theorem p2_109 (hy : ∀ (b : Fin 2) (t : Fin 16384) (H : Fin 8) (i : Fin 64), ((U main_v90 : Vec Ideal S2x16384x8x64 .f32) (ix4 b t H i) : EReal) = ((P.y b t H i : ℝ) : EReal))
    (hm : Is4 (U main_v94 : Vec Ideal S2x16384x8x1 .f32) fun b t H _ => P.mean b t H)
    (hv : Is4 (U main_v101 : Vec Ideal S2x16384x8x1 .f32) fun b t H _ => P.var b t H) :
    Is3 (after (p2 (F := Ideal)) U main_v109 : Vec Ideal S2x16384x512 .f32)
      fun b t j => (P.yc b t j - P.mean b t (j / 64)) * (Real.sqrt (P.var b t (j / 64) + eps))⁻¹ := by
  intro b t j
  simp only [Is4] at hm hv
  unfold p2
  after_reads_at
  pointwise
  simp only [hy, hm, hv, ofBits_eps', ← EReal.coe_sub, ← EReal.coe_add]
  rw [rsqrt_coe _ (add_pos_of_nonneg_of_pos (P.var_nonneg _ _ _) eps_pos), ← EReal.coe_mul]
  rfl

theorem p3_115 (f : ℕ → ℕ → ℕ → ℝ) (hx : Is3 (U main_v109 : Vec Ideal S2x16384x512 .f32) f)
    (hw : Is1 (U main_v9 : Vec Ideal S512 .f32) P.lw) (hb : Is1 (U main_v10 : Vec Ideal S512 .f32) P.lb) :
    Is3 (after (p3 (F := Ideal)) U main_v115 : Vec Ideal S2x16384x512 .f32) fun b t j => f b t j * P.lw j + P.lb j := by
  intro b t j
  simp only [Is3, Is1] at hx hw hb
  unfold p3
  after_reads_at
  pointwise
  simp only [hx, hw, hb, ← EReal.coe_mul, ← EReal.coe_add]

theorem p4_123 (hr : Is4 (U main_v74 : Vec Ideal S2x16384x8x64 .f32) fun b t H l => P.r b t (64 * H + l))
    (hk : Is4 (U main_v75 : Vec Ideal S2x16384x8x64 .f32) fun b t H l => P.km b t (64 * H + l))
    (hv : Is4 (U main_v76 : Vec Ideal S2x16384x8x64 .f32) fun b t H l => P.v b t (64 * H + l))
    (hw : Is2 (U main_v8 : Vec Ideal S8x64 .f32) fun H l => P.rk (64 * H + l)) :
    Is4 (after (p4 (F := Ideal)) U main_v123 : Vec Ideal S2x16384x8x64 .f32) fun b t H l => P.bonus b t (64 * H + l) := by
  intro b t H l
  simp only [Is4, Is2] at hr hk hv hw
  unfold p4
  after_reads_at
  pointwise
  simp only [hr, hk, hv, hw, ← EReal.coe_mul, coe_sum]
  rw [Args.bonus, head_of]

theorem p5_127 (f : ℕ → ℕ → ℕ → ℝ) (hx : Is3 (U main_v115 : Vec Ideal S2x16384x512 .f32) f)
    (hb : Is4 (U main_v123 : Vec Ideal S2x16384x8x64 .f32) fun b t H l => P.bonus b t (64 * H + l))
    (hg : Is3 (U main_v53 : Vec Ideal S2x16384x512 .f32) P.g) (b : Fin 2) (t : Fin 16384) (j : Fin 512) :
    ((after (p5 (F := Ideal)) U main_v127 : Vec Ideal S2x16384x512 .bf16) (ix3 b t j) : EReal) = (((f b t j + P.bonus b t j) * P.g b t j : ℝ) : EReal) := by
  simp only [Is3, Is4] at hx hb hg
  unfold p5
  after_reads_at
  pointwise
  simp only [hx, hb, hg, Nat.div_add_mod, ← EReal.coe_mul, ← EReal.coe_add]

end Cert.RwkvRefIdeal
-- ==== Proof.RwkvRefAll.lean ====
module

public import proofs.«01_k».proof.Proof.RwkvRefLoop
public import proofs.«01_k».proof.Proof.RwkvRefP
/-! The reference's result over the reals: the stages put together, its loop by induction on the trips. -/

@[expose] public section

set_option maxRecDepth 16384
set_option maxHeartbeats 1000000

noncomputable section

namespace Cert.RwkvRefIdeal

open Cert.RwkvRefIdeal Cert.RwkvRefIdeal.Gen Idealize.ShloMosaic Idealize.ShloMosaic.TcCoe Idealize.ShloMosaic.StableHlo
open Idealize.ShloMosaic.Tactic Cert.RwkvSpec

/-- The arguments hold the layer's arrays. -/
structure Inputs (V : Va) (P : Args) : Prop where
  cols : Is3 (V main_arg0 : Vec Ideal S2x16384x1824 .f32) P.cols
  mu : Is2 (V main_arg1 : Vec Ideal S1x1824 .f32) fun _ j => P.mu j
  w0 : Is2 (V main_arg2 : Vec Ideal S1x512 .f32) fun _ j => P.w0 j
  w2 : Is3 (V main_arg3 : Vec Ideal S1x64x512 .f32) fun _ l j => P.w2 l j
  a0 : Is2 (V main_arg4 : Vec Ideal S1x512 .f32) fun _ j => P.a0 j
  a2 : Is3 (V main_arg5 : Vec Ideal S1x64x512 .f32) fun _ l j => P.a2 l j
  g2 : Is3 (V main_arg6 : Vec Ideal S1x160x512 .f32) fun _ l j => P.g2 l j
  kk : Is2 (V main_arg7 : Vec Ideal S1x512 .f32) fun _ j => P.kk j
  ka : Is2 (V main_arg8 : Vec Ideal S1x512 .f32) fun _ j => P.ka j
  rk : Is3 (V main_arg9 : Vec Ideal S1x8x64 .f32) fun _ H l => P.rk (64 * H + l)
  lw : Is2 (V main_arg10 : Vec Ideal S1x512 .f32) fun _ j => P.lw j
  lb : Is2 (V main_arg11 : Vec Ideal S1x512 .f32) fun _ j => P.lb j

variable {V : Va} {P : Args}

theorem in_mu (I : Inputs V P) : Is1 (after (aOps (F := Ideal)) V main_v0 : Vec Ideal S1824 .f32) P.mu := by
  have h := I.mu
  simp only [Is2] at h
  rw [at_stage a_writes 0 11 (st := a0) rfl (by decide)]
  intro i
  show (after (a0 (F := Ideal)) V main_v0 : Vec Ideal S1824 .f32) _ = _
  unfold a0
  after_reads_at
  pointwise
  simp only [h]

theorem in_w0 (I : Inputs V P) : Is1 (after (aOps (F := Ideal)) V main_v1 : Vec Ideal S512 .f32) P.w0 := by
  have h := I.w0
  simp only [Is2] at h
  rw [at_stage a_writes 0 11 (st := a0) rfl (by decide)]
  intro i
  show (after (a0 (F := Ideal)) V main_v1 : Vec Ideal S512 .f32) _ = _
  unfold a0
  after_reads_at
  pointwise
  simp only [h]

theorem in_w2 (I : Inputs V P) : Is2 (after (aOps (F := Ideal)) V main_v2 : Vec Ideal S64x512 .f32) P.w2 := by
  have h := I.w2
  simp only [Is3] at h
  rw [at_stage a_writes 0 11 (st := a0) rfl (by decide)]
  intro i j
  show (after (a0 (F := Ideal)) V main_v2 : Vec Ideal S64x512 .f32) _ = _
  unfold a0
  after_reads_at
  pointwise
  simp only [h]

theorem in_a0 (I : Inputs V P) : Is1 (after (aOps (F := Ideal)) V main_v3 : Vec Ideal S512 .f32) P.a0 := by
  have h := I.a0
  simp only [Is2] at h
  rw [at_stage a_writes 0 11 (st := a0) rfl (by decide)]
  intro i
  show (after (a0 (F := Ideal)) V main_v3 : Vec Ideal S512 .f32) _ = _
  unfold a0
  after_reads_at
  pointwise
  simp only [h]

theorem in_a2 (I : Inputs V P) : Is2 (after (aOps (F := Ideal)) V main_v4 : Vec Ideal S64x512 .f32) P.a2 := by
  have h := I.a2
  simp only [Is3] at h
  rw [at_stage a_writes 0 11 (st := a0) rfl (by decide)]
  intro i j
  show (after (a0 (F := Ideal)) V main_v4 : Vec Ideal S64x512 .f32) _ = _
  unfold a0
  after_reads_at
  pointwise
  simp only [h]

theorem in_g2 (I : Inputs V P) : Is2 (after (aOps (F := Ideal)) V main_v5 : Vec Ideal S160x512 .f32) P.g2 := by
  have h := I.g2
  simp only [Is3] at h
  rw [at_stage a_writes 0 11 (st := a0) rfl (by decide)]
  intro i j
  show (after (a0 (F := Ideal)) V main_v5 : Vec Ideal S160x512 .f32) _ = _
  unfold a0
  after_reads_at
  pointwise
  simp only [h]

theorem in_kk (I : Inputs V P) : Is1 (after (aOps (F := Ideal)) V main_v6 : Vec Ideal S512 .f32) P.kk := by
  have h := I.kk
  simp only [Is2] at h
  rw [at_stage a_writes 0 11 (st := a0) rfl (by decide)]
  intro i
  show (after (a0 (F := Ideal)) V main_v6 : Vec Ideal S512 .f32) _ = _
  unfold a0
  after_reads_at
  pointwise
  simp only [h]

theorem in_ka (I : Inputs V P) : Is1 (after (aOps (F := Ideal)) V main_v7 : Vec Ideal S512 .f32) P.ka := by
  have h := I.ka
  simp only [Is2] at h
  rw [at_stage a_writes 0 11 (st := a0) rfl (by decide)]
  intro i
  show (after (a0 (F := Ideal)) V main_v7 : Vec Ideal S512 .f32) _ = _
  unfold a0
  after_reads_at
  pointwise
  simp only [h]

theorem in_rk (I : Inputs V P) : Is2 (after (aOps (F := Ideal)) V main_v8 : Vec Ideal S8x64 .f32) (fun H l => P.rk (64 * H + l)) := by
  have h := I.rk
  simp only [Is3] at h
  rw [at_stage a_writes 0 11 (st := a0) rfl (by decide)]
  intro i j
  show (after (a0 (F := Ideal)) V main_v8 : Vec Ideal S8x64 .f32) _ = _
  unfold a0
  after_reads_at
  pointwise
  simp only [h]

theorem in_lw (I : Inputs V P) : Is1 (after (aOps (F := Ideal)) V main_v9 : Vec Ideal S512 .f32) P.lw := by
  have h := I.lw
  simp only [Is2] at h
  rw [at_stage a_writes 0 11 (st := a0) rfl (by decide)]
  intro i
  show (after (a0 (F := Ideal)) V main_v9 : Vec Ideal S512 .f32) _ = _
  unfold a0
  after_reads_at
  pointwise
  simp only [h]

theorem in_lb (I : Inputs V P) : Is1 (after (aOps (F := Ideal)) V main_v10 : Vec Ideal S512 .f32) P.lb := by
  have h := I.lb
  simp only [Is2] at h
  rw [at_stage a_writes 0 11 (st := a0) rfl (by decide)]
  intro i
  show (after (a0 (F := Ideal)) V main_v10 : Vec Ideal S512 .f32) _ = _
  unfold a0
  after_reads_at
  pointwise
  simp only [h]

theorem v17 (I : Inputs V P) : Is3 (after (aOps (F := Ideal)) V main_v17 : Vec Ideal S2x16384x1824 .f32) P.xm := by
  rw [at_stage a_writes 11 9 (st := a1) rfl (by decide)]
  exact a1_17 _ P (by rw [from_entry a_writes 11 (by decide)]; exact I.cols) (by rw [from_ops a_writes 11 (by decide)]; exact in_mu I)

theorem v18 (I : Inputs V P) : Is3 (after (aOps (F := Ideal)) V main_v18 : Vec Ideal S2x16384x512 .f32) P.r := by
  rw [at_stage a_writes 20 6 (st := a2) rfl (by decide)]
  exact a2_18 _ P (by rw [from_ops a_writes 20 (by decide)]; exact v17 I)

theorem v19 (I : Inputs V P) : Is3 (after (aOps (F := Ideal)) V main_v19 : Vec Ideal S2x16384x512 .f32) P.k := by
  rw [at_stage a_writes 20 6 (st := a2) rfl (by decide)]
  exact a2_19 _ P (by rw [from_ops a_writes 20 (by decide)]; exact v17 I)

theorem v20 (I : Inputs V P) : Is3 (after (aOps (F := Ideal)) V main_v20 : Vec Ideal S2x16384x512 .f32) P.v := by
  rw [at_stage a_writes 20 6 (st := a2) rfl (by decide)]
  exact a2_20 _ P (by rw [from_ops a_writes 20 (by decide)]; exact v17 I)

theorem v21 (I : Inputs V P) : Is3 (after (aOps (F := Ideal)) V main_v21 : Vec Ideal S2x16384x64 .f32) (fun b t j => P.xm b t (1536 + j)) := by
  rw [at_stage a_writes 20 6 (st := a2) rfl (by decide)]
  exact a2_21 _ P (by rw [from_ops a_writes 20 (by decide)]; exact v17 I)

theorem v22 (I : Inputs V P) : Is3 (after (aOps (F := Ideal)) V main_v22 : Vec Ideal S2x16384x64 .f32) (fun b t j => P.xm b t (1600 + j)) := by
  rw [at_stage a_writes 20 6 (st := a2) rfl (by decide)]
  exact a2_22 _ P (by rw [from_ops a_writes 20 (by decide)]; exact v17 I)

theorem v23 (I : Inputs V P) : Is3 (after (aOps (F := Ideal)) V main_v23 : Vec Ideal S2x16384x160 .f32) (fun b t j => P.xm b t (1664 + j)) := by
  rw [at_stage a_writes 20 6 (st := a2) rfl (by decide)]
  exact a2_23 _ P (by rw [from_ops a_writes 20 (by decide)]; exact v17 I)

theorem v29 (I : Inputs V P) : Is3 (after (aOps (F := Ideal)) V main_v29 : Vec Ideal S2x16384x512 .f32) (fun b t j => -P.z b t j) := by
  rw [at_stage a_writes 26 6 (st := a3) rfl (by decide)]
  exact a3_29 _ P (by rw [from_ops a_writes 26 (by decide)]; exact v21 I) (by rw [from_ops a_writes 26 (by decide)]; exact in_w0 I) (by rw [from_ops a_writes 26 (by decide)]; exact in_w2 I)

theorem v30 (I : Inputs V P) : Is3 (after (aOps (F := Ideal)) V main_v30 : Vec Ideal S2x16384x512 .f32) (fun b t j => max (-P.z b t j) 0 + Real.log (1 + Real.exp (-|P.z b t j|))) := by
  rw [at_stage a_writes 32 14 (st := a4) rfl (by decide)]
  exact a4_30 _ P (by rw [from_ops a_writes 32 (by decide)]; exact v29 I)

theorem v36 (I : Inputs V P) : Is3 (after (aOps (F := Ideal)) V main_v36 : Vec Ideal S2x16384x512 .f32) (fun b t j => Real.exp (P.ld b t j)) := by
  rw [at_stage a_writes 46 7 (st := a5) rfl (by decide)]
  exact a5_36 _ P (by rw [from_ops a_writes 46 (by decide)]; exact v30 I)

theorem v46 (I : Inputs V P) : Is3 (after (aOps (F := Ideal)) V main_v46 : Vec Ideal S2x16384x512 .f32) P.al := by
  rw [at_stage a_writes 53 12 (st := a6) rfl (by decide)]
  exact a6_46 _ P (by rw [from_ops a_writes 53 (by decide)]; exact v22 I) (by rw [from_ops a_writes 53 (by decide)]; exact in_a0 I) (by rw [from_ops a_writes 53 (by decide)]; exact in_a2 I)

theorem v53 (I : Inputs V P) : Is3 (after (aOps (F := Ideal)) V main_v53 : Vec Ideal S2x16384x512 .f32) P.g := by
  rw [at_stage a_writes 65 9 (st := a7) rfl (by decide)]
  exact a7_53 _ P (by rw [from_ops a_writes 65 (by decide)]; exact v23 I) (by rw [from_ops a_writes 65 (by decide)]; exact in_g2 I)

theorem v56 (I : Inputs V P) : Is3 (after (aOps (F := Ideal)) V main_v56 : Vec Ideal S2x16384x512 .f32) P.kkv := by
  rw [at_stage a_writes 74 13 (st := a8) rfl (by decide)]
  exact a8_56 _ P (by rw [from_ops a_writes 74 (by decide)]; exact v19 I) (by rw [from_ops a_writes 74 (by decide)]; exact in_kk I)

theorem v64 (I : Inputs V P) : Is3 (after (aOps (F := Ideal)) V main_v64 : Vec Ideal S2x16384x512 .f32) P.km := by
  rw [at_stage a_writes 74 13 (st := a8) rfl (by decide)]
  exact a8_64 _ P (by rw [from_ops a_writes 74 (by decide)]; exact v19 I) (by rw [from_ops a_writes 74 (by decide)]; exact v46 I) (by rw [from_ops a_writes 74 (by decide)]; exact in_ka I)

theorem v73 (I : Inputs V P) : Is4 (after (aOps (F := Ideal)) V main_v73 : Vec Ideal S2x16384x8x64 .f32) (fun b t H l => P.kkn b t (64 * H + l)) := by
  rw [at_stage a_writes 87 11 (st := a9) rfl (by decide)]
  exact a9_73 _ P (by rw [from_ops a_writes 87 (by decide)]; exact v56 I)

theorem v74 (I : Inputs V P) : Is4 (after (aOps (F := Ideal)) V main_v74 : Vec Ideal S2x16384x8x64 .f32) (fun b t H l => P.r b t (64 * H + l)) := by
  rw [at_stage a_writes 98 7 (st := a10) rfl (by decide)]
  exact a10_74 _ P.r (by rw [from_ops a_writes 98 (by decide)]; exact v18 I)

theorem v75 (I : Inputs V P) : Is4 (after (aOps (F := Ideal)) V main_v75 : Vec Ideal S2x16384x8x64 .f32) (fun b t H l => P.km b t (64 * H + l)) := by
  rw [at_stage a_writes 98 7 (st := a10) rfl (by decide)]
  exact a10_75 _ P.km (by rw [from_ops a_writes 98 (by decide)]; exact v64 I)

theorem v76 (I : Inputs V P) : Is4 (after (aOps (F := Ideal)) V main_v76 : Vec Ideal S2x16384x8x64 .f32) (fun b t H l => P.v b t (64 * H + l)) := by
  rw [at_stage a_writes 98 7 (st := a10) rfl (by decide)]
  exact a10_76 _ P.v (by rw [from_ops a_writes 98 (by decide)]; exact v20 I)

theorem v77 (I : Inputs V P) : Is4 (after (aOps (F := Ideal)) V main_v77 : Vec Ideal S2x16384x8x64 .f32) (fun b t H l => P.al b t (64 * H + l)) := by
  rw [at_stage a_writes 98 7 (st := a10) rfl (by decide)]
  exact a10_77 _ P.al (by rw [from_ops a_writes 98 (by decide)]; exact v46 I)

theorem v78 (I : Inputs V P) : Is4 (after (aOps (F := Ideal)) V main_v78 : Vec Ideal S2x16384x8x64 .f32) (fun b t H l => Real.exp (P.ld b t (64 * H + l))) := by
  rw [at_stage a_writes 98 7 (st := a10) rfl (by decide)]
  exact a10_78 _ (fun b t j => Real.exp (P.ld b t j)) (by rw [from_ops a_writes 98 (by decide)]; exact v36 I)

theorem v80 (I : Inputs V P) : Is4 (after (aOps (F := Ideal)) V main_v80 : Vec Ideal S16384x2x8x64 .f32) (fun t b H l => P.r b t (64 * H + l)) := by
  rw [at_stage a_writes 105 11 (st := a11) rfl (by decide)]
  exact a11_80 _ (fun b t H l => P.r b t (64 * H + l)) (by rw [from_ops a_writes 105 (by decide)]; exact v74 I)

theorem v81 (I : Inputs V P) : Is4 (after (aOps (F := Ideal)) V main_v81 : Vec Ideal S16384x2x8x64 .f32) (fun t b H l => Real.exp (P.ld b t (64 * H + l))) := by
  rw [at_stage a_writes 105 11 (st := a11) rfl (by decide)]
  exact a11_81 _ (fun b t H l => Real.exp (P.ld b t (64 * H + l))) (by rw [from_ops a_writes 105 (by decide)]; exact v78 I)

theorem v82 (I : Inputs V P) : Is4 (after (aOps (F := Ideal)) V main_v82 : Vec Ideal S16384x2x8x64 .f32) (fun t b H l => P.km b t (64 * H + l)) := by
  rw [at_stage a_writes 105 11 (st := a11) rfl (by decide)]
  exact a11_82 _ (fun b t H l => P.km b t (64 * H + l)) (by rw [from_ops a_writes 105 (by decide)]; exact v75 I)

theorem v83 (I : Inputs V P) : Is4 (after (aOps (F := Ideal)) V main_v83 : Vec Ideal S16384x2x8x64 .f32) (fun t b H l => P.v b t (64 * H + l)) := by
  rw [at_stage a_writes 105 11 (st := a11) rfl (by decide)]
  exact a11_83 _ (fun b t H l => P.v b t (64 * H + l)) (by rw [from_ops a_writes 105 (by decide)]; exact v76 I)

theorem v85 (I : Inputs V P) : Is4 (after (aOps (F := Ideal)) V main_v85 : Vec Ideal S16384x2x8x64 .f32) (fun t b H l => -P.kkn b t (64 * H + l)) := by
  rw [at_stage a_writes 105 11 (st := a11) rfl (by decide)]
  exact a11_85 _ (fun b t H l => P.kkn b t (64 * H + l)) (by rw [from_ops a_writes 105 (by decide)]; exact v73 I)

theorem v87 (I : Inputs V P) : Is4 (after (aOps (F := Ideal)) V main_v87 : Vec Ideal S16384x2x8x64 .f32) (fun t b H l => P.kkn b t (64 * H + l) * P.al b t (64 * H + l)) := by
  rw [at_stage a_writes 105 11 (st := a11) rfl (by decide)]
  exact a11_87 _ (fun b t H l => P.kkn b t (64 * H + l)) (fun b t H l => P.al b t (64 * H + l)) (by rw [from_ops a_writes 105 (by decide)]; exact v73 I) (by rw [from_ops a_writes 105 (by decide)]; exact v77 I)

theorem v89_0 (I : Inputs V P) : Is4 (after (aOps (F := Ideal)) V main_v89_0 : Vec Ideal S16384x2x8x64 .f32) (fun t b H l => P.r b t (64 * H + l)) := by
  rw [at_stage a_writes 116 9 (st := a12) rfl (by decide), a12_0, from_ops a_writes 116 (by decide)]
  exact v80 I

theorem v89_1 (I : Inputs V P) : Is4 (after (aOps (F := Ideal)) V main_v89_1 : Vec Ideal S16384x2x8x64 .f32) (fun t b H l => Real.exp (P.ld b t (64 * H + l))) := by
  rw [at_stage a_writes 116 9 (st := a12) rfl (by decide), a12_1, from_ops a_writes 116 (by decide)]
  exact v81 I

theorem v89_2 (I : Inputs V P) : Is4 (after (aOps (F := Ideal)) V main_v89_2 : Vec Ideal S16384x2x8x64 .f32) (fun t b H l => P.km b t (64 * H + l)) := by
  rw [at_stage a_writes 116 9 (st := a12) rfl (by decide), a12_2, from_ops a_writes 116 (by decide)]
  exact v82 I

theorem v89_3 (I : Inputs V P) : Is4 (after (aOps (F := Ideal)) V main_v89_3 : Vec Ideal S16384x2x8x64 .f32) (fun t b H l => P.v b t (64 * H + l)) := by
  rw [at_stage a_writes 116 9 (st := a12) rfl (by decide), a12_3, from_ops a_writes 116 (by decide)]
  exact v83 I

theorem v89_4 (I : Inputs V P) : Is4 (after (aOps (F := Ideal)) V main_v89_4 : Vec Ideal S16384x2x8x64 .f32) (fun t b H l => -P.kkn b t (64 * H + l)) := by
  rw [at_stage a_writes 116 9 (st := a12) rfl (by decide), a12_4, from_ops a_writes 116 (by decide)]
  exact v85 I

theorem v89_5 (I : Inputs V P) : Is4 (after (aOps (F := Ideal)) V main_v89_5 : Vec Ideal S16384x2x8x64 .f32) (fun t b H l => P.kkn b t (64 * H + l) * P.al b t (64 * H + l)) := by
  rw [at_stage a_writes 116 9 (st := a12) rfl (by decide), a12_5, from_ops a_writes 116 (by decide)]
  exact v87 I

theorem v89_7 : Is4 (after (aOps (F := Ideal)) V main_v89_7 : Vec Ideal S2x8x64x64 .f32) fun _ _ _ _ => 0 := by
  rw [at_stage a_writes 116 9 (st := a12) rfl (by decide), a12_7, from_ops a_writes 116 (by decide),
    at_stage a_writes 98 7 (st := a10) rfl (by decide)]
  exact a10_79 _

/-- What holds before the loop's test is run for the `k`-th time. -/
structure Trip (P : Args) (n : ℕ) (Z : Va) : Prop where
  r : Is4 (Z main_v89_0 : Vec Ideal S16384x2x8x64 .f32) fun t b H l => P.r b t (64 * H + l)
  w : Is4 (Z main_v89_1 : Vec Ideal S16384x2x8x64 .f32) fun t b H l => Real.exp (P.ld b t (64 * H + l))
  k : Is4 (Z main_v89_2 : Vec Ideal S16384x2x8x64 .f32) fun t b H l => P.km b t (64 * H + l)
  v : Is4 (Z main_v89_3 : Vec Ideal S16384x2x8x64 .f32) fun t b H l => P.v b t (64 * H + l)
  a : Is4 (Z main_v89_4 : Vec Ideal S16384x2x8x64 .f32) fun t b H l => -P.kkn b t (64 * H + l)
  b : Is4 (Z main_v89_5 : Vec Ideal S16384x2x8x64 .f32) fun t b H l => P.kkn b t (64 * H + l) * P.al b t (64 * H + l)
  ctr : (Z main_v89_6 : Vec Ideal S_ .i32) = fun _ => BitVec.ofNat 32 n
  st : ∀ (b : Fin 2) (H : Fin 8) (i l : Fin 64), ((Z main_v89_7 : Vec Ideal S2x8x64x64 .f32) (ix4 b H i l) : EReal) = ((P.st b n H i l : ℝ) : EReal)
  y : ∀ (t : Fin 16384) (b : Fin 2) (H : Fin 8) (i : Fin 64), (t : ℕ) < n → ((Z main_v89_8 : Vec Ideal S16384x2x8x64 .f32) (ix4 t b H i) : EReal) = ((P.y b t H i : ℝ) : EReal)

theorem trip_zero (I : Inputs V P) : Trip P 0 (after (aOps (F := Ideal)) V) where
  r := v89_0 I
  w := v89_1 I
  k := v89_2 I
  v := v89_3 I
  a := v89_4 I
  b := v89_5 I
  ctr := entry_ctr V
  st b H i l := v89_7 b H i l
  y t b H i h := absurd h (Nat.not_lt_zero _)

theorem trip_succ {k : ℕ} (hk : k < 16384) {Z : Va} (T : Trip P k Z) : Trip P (k + 1) (trip Z) := by
  have hc : (after (condOps (F := Ideal)) Z main_v89_6 : Vec Ideal S_ .i32) = fun _ => BitVec.ofNat 32 k := by
    rw [cond_keep Z (by decide)]; exact T.ctr
  have h128 := b0_128 (after (condOps (F := Ideal)) Z) k hk hc _ (by rw [cond_keep Z (by decide)]; exact T.r)
  have h129 := b0_129 (after (condOps (F := Ideal)) Z) k hk hc _ (by rw [cond_keep Z (by decide)]; exact T.w)
  have h130 := b0_130 (after (condOps (F := Ideal)) Z) k hk hc _ (by rw [cond_keep Z (by decide)]; exact T.k)
  have h131 := b0_131 (after (condOps (F := Ideal)) Z) k hk hc _ (by rw [cond_keep Z (by decide)]; exact T.v)
  have h132 := b0_132 (after (condOps (F := Ideal)) Z) k hk hc _ (by rw [cond_keep Z (by decide)]; exact T.a)
  have h133 := b0_133 (after (condOps (F := Ideal)) Z) k hk hc _ (by rw [cond_keep Z (by decide)]; exact T.b)
  have e : (bOps (F := Ideal)).take 30 = b0 := rfl
  have hst : ∀ (b : Fin 2) (H : Fin 8) (i l : Fin 64), ((after (b0 (F := Ideal)) (after (condOps (F := Ideal)) Z) main_v89_7 : Vec Ideal S2x8x64x64 .f32) (ix4 b H i l) : EReal) = ((P.st b k H i l : ℝ) : EReal) := by
    rw [← e, from_entry b_writes 30 (by decide), cond_keep Z (by decide)]; exact T.st
  have h149 := b1_149 (after (b0 (F := Ideal)) (after (condOps (F := Ideal)) Z)) P k hst h129 h130 h131 h132 h133
  have h150 := b1_150 (after (b0 (F := Ideal)) (after (condOps (F := Ideal)) Z)) P k hst h128 h129 h130 h131 h132 h133
  have e2 : (bOps (F := Ideal)).take 47 = b0 ++ b1 := rfl
  constructor
  · rw [trip_keep Z (by decide) (by decide)]; exact T.r
  · rw [trip_keep Z (by decide) (by decide)]; exact T.w
  · rw [trip_keep Z (by decide) (by decide)]; exact T.k
  · rw [trip_keep Z (by decide) (by decide)]; exact T.v
  · rw [trip_keep Z (by decide) (by decide)]; exact T.a
  · rw [trip_keep Z (by decide) (by decide)]; exact T.b
  · exact trip_ctr Z k T.ctr
  · rw [trip, at_stage b_writes 47 10 (st := b2) rfl (by decide), b2_7, e2, after_append]
    exact h149
  · intro t b H i ht
    rw [trip, at_stage b_writes 47 10 (st := b2) rfl (by decide),
      b2_8 _ k hk (by rw [from_entry b_writes 47 (by decide)]; exact hc)]
    by_cases h : (t : ℕ) = k
    · rw [if_pos h, e2, after_append]
      rw [h]
      exact h150 b H i
    · rw [if_neg h, from_entry b_writes 47 (by decide), cond_keep Z (by decide)]
      exact T.y t b H i (by omega)

theorem trip_all (I : Inputs V P) (k : ℕ) (hk : k ≤ 16384) : Trip P k (trip^[k] (after (aOps (F := Ideal)) V)) := by
  induction k with
  | zero => exact trip_zero I
  | succ k ih => rw [Function.iterate_succ_apply']; exact trip_succ (by omega) (ih (by omega))

/-- The buffers after the loop. -/
abbrev left (V : Va) : Va := after (condOps (F := Ideal)) (trip^[16384] (after (aOps (F := Ideal)) V))

theorem left_keep (V : Va) {r : Ref sig .tc} (h : r ∉ [main_while0c_c_25, main_while0c_v128]) (hb : r ∉ bW) :
    left V r = after (aOps (F := Ideal)) V r := by rw [left, cond_keep _ h, iter_keep _ h hb]

theorem left_y (I : Inputs V P) (t : Fin 16384) (b : Fin 2) (H : Fin 8) (i : Fin 64) :
    ((left V main_v89_8 : Vec Ideal S16384x2x8x64 .f32) (ix4 t b H i) : EReal) = ((P.y b t H i : ℝ) : EReal) := by
  rw [left, cond_keep _ (by decide)]
  exact (trip_all I 16384 le_rfl).y t b H i t.2

theorem v90 (I : Inputs V P) (b : Fin 2) (t : Fin 16384) (H : Fin 8) (i : Fin 64) :
    ((after (pOps (F := Ideal)) (left V) main_v90 : Vec Ideal S2x16384x8x64 .f32) (ix4 b t H i) : EReal) = ((P.y b t H i : ℝ) : EReal) := by
  rw [at_stage p_writes 0 8 (st := p0) rfl (by decide)]
  exact p0_90 _ P (left_y I) b t H i

theorem v94 (I : Inputs V P) : Is4 (after (pOps (F := Ideal)) (left V) main_v94 : Vec Ideal S2x16384x8x1 .f32) fun b t H _ => P.mean b t H := by
  rw [at_stage p_writes 0 8 (st := p0) rfl (by decide)]
  exact p0_94 _ P (left_y I)

theorem v95 (I : Inputs V P) : Is4 (after (pOps (F := Ideal)) (left V) main_v95 : Vec Ideal S2x16384x8x64 .f32) fun b t H _ => P.mean b t H := by
  rw [at_stage p_writes 0 8 (st := p0) rfl (by decide)]
  exact p0_95 _ P (left_y I)

theorem v101 (I : Inputs V P) : Is4 (after (pOps (F := Ideal)) (left V) main_v101 : Vec Ideal S2x16384x8x1 .f32) fun b t H _ => P.var b t H := by
  rw [at_stage p_writes 8 8 (st := p1) rfl (by decide)]
  exact p1_101 _ P (by rw [from_ops p_writes 8 (by decide)]; exact v90 I) (by rw [from_ops p_writes 8 (by decide)]; exact v95 I)

theorem v109 (I : Inputs V P) : Is3 (after (pOps (F := Ideal)) (left V) main_v109 : Vec Ideal S2x16384x512 .f32)
    fun b t j => (P.yc b t j - P.mean b t (j / 64)) * (Real.sqrt (P.var b t (j / 64) + eps))⁻¹ := by
  rw [at_stage p_writes 16 9 (st := p2) rfl (by decide)]
  exact p2_109 _ P (by rw [from_ops p_writes 16 (by decide)]; exact v90 I) (by rw [from_ops p_writes 16 (by decide)]; exact v94 I)
    (by rw [from_ops p_writes 16 (by decide)]; exact v101 I)

theorem v115 (I : Inputs V P) : Is3 (after (pOps (F := Ideal)) (left V) main_v115 : Vec Ideal S2x16384x512 .f32)
    fun b t j => (P.yc b t j - P.mean b t (j / 64)) * (Real.sqrt (P.var b t (j / 64) + eps))⁻¹ * P.lw j + P.lb j := by
  rw [at_stage p_writes 25 6 (st := p3) rfl (by decide)]
  exact p3_115 _ P _ (by rw [from_ops p_writes 25 (by decide)]; exact v109 I)
    (by rw [from_entry p_writes 25 (by decide), left_keep V (by decide) (by decide)]; exact in_lw I)
    (by rw [from_entry p_writes 25 (by decide), left_keep V (by decide) (by decide)]; exact in_lb I)

theorem v123 (I : Inputs V P) : Is4 (after (pOps (F := Ideal)) (left V) main_v123 : Vec Ideal S2x16384x8x64 .f32)
    fun b t H l => P.bonus b t (64 * H + l) := by
  rw [at_stage p_writes 31 9 (st := p4) rfl (by decide)]
  exact p4_123 _ P (by rw [from_entry p_writes 31 (by decide), left_keep V (by decide) (by decide)]; exact v74 I)
    (by rw [from_entry p_writes 31 (by decide), left_keep V (by decide) (by decide)]; exact v75 I)
    (by rw [from_entry p_writes 31 (by decide), left_keep V (by decide) (by decide)]; exact v76 I)
    (by rw [from_entry p_writes 31 (by decide), left_keep V (by decide) (by decide)]; exact in_rk I)

/-- THE REFERENCE'S RESULT: the layer's rows. -/
theorem result (I : Inputs V P) (b : Fin 2) (t : Fin 16384) (j : Fin 512) :
    ((final V main_v127 : Vec Ideal S2x16384x512 .bf16) (ix3 b t j) : EReal) = ((P.out b t j : ℝ) : EReal) := by
  rw [final, at_stage p_writes 40 4 (st := p5) rfl (by decide)]
  refine p5_127 (after ((pOps (F := Ideal)).take 40) (left V)) P
    (fun b t j => (P.yc b t j - P.mean b t (j / 64)) * (Real.sqrt (P.var b t (j / 64) + eps))⁻¹ * P.lw j + P.lb j) ?_ ?_ ?_ b t j
  · rw [from_ops p_writes 40 (by decide)]; exact v115 I
  · rw [from_ops p_writes 40 (by decide)]; exact v123 I
  · rw [from_entry p_writes 40 (by decide), left_keep V (by decide) (by decide)]; exact v53 I

end Cert.RwkvRefIdeal
-- ==== Proof.RwkvRefFrame.lean ====
/- The reference's run: its result is the layer's rows of the arguments, and its arguments are unchanged. -/
module

public import proofs.«01_k».proof.Proof.RwkvRefAll
public import proofs.«01_k».proof.Proof.RwkvArgs
public import Idealize.ShloMosaic.Adequacy

@[expose] public section

set_option maxRecDepth 65536
set_option maxHeartbeats 4000000

noncomputable section

namespace Cert.RwkvRefIdeal

open Cert.RwkvSpec Idealize.ShloMosaic Idealize.ShloMosaic.StableHlo Idealize.SL.Sem

variable (m : (ℓ : Loc nD τ sig) → Buf (Elt Ideal) ℓ) (ρ : Dev nD → PrngReg)

/-- The arguments as the layer's arrays. -/
abbrev args (c : Dev nD) : Args := argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
abbrev AllFin (c : Dev nD) : Prop := AllFinite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The launched memory holds the arguments. -/
theorem inputs (c : Dev nD) (H : AllFin m c) : Inputs (launchContents m c) (args m c) where
  cols := fun b t j => cube_coe H.f0 b t j
  mu := fun i j => by rw [Subsingleton.elim i 0]; exact row_coe H.f1 j
  w0 := fun i j => by rw [Subsingleton.elim i 0]; exact row_coe H.f2 j
  w2 := fun i l j => by rw [Subsingleton.elim i 0]; exact mat_coe H.f3 l j
  a0 := fun i j => by rw [Subsingleton.elim i 0]; exact row_coe H.f4 j
  a2 := fun i l j => by rw [Subsingleton.elim i 0]; exact mat_coe H.f5 l j
  g2 := fun i l j => by rw [Subsingleton.elim i 0]; exact mat_coe H.f6 l j
  kk := fun i j => by rw [Subsingleton.elim i 0]; exact row_coe H.f7 j
  ka := fun i j => by rw [Subsingleton.elim i 0]; exact row_coe H.f8 j
  rk := fun i h l => by
    rw [Subsingleton.elim i 0]
    refine (mat_coe H.f9 h l).trans ?_
    show _ = ((mat _ ((64 * h.val + l.val) / 64) ((64 * h.val + l.val) % 64) : ℝ) : EReal)
    rw [show (64 * h.val + l.val) / 64 = h.val by omega, show (64 * h.val + l.val) % 64 = l.val by omega]
  lw := fun i j => by rw [Subsingleton.elim i 0]; exact row_coe H.f10 j
  lb := fun i j => by rw [Subsingleton.elim i 0]; exact row_coe H.f11 j

/-- An argument is the reference's at its end. -/
theorem kept {r : PUnit × MemSt nD τ sig (Elt Ideal)}
    (h : ∀ (c : Dev nD) (b : Ref sig .tc), (Proc.devRef .tc b : DevRef τ sig).isScoped = false → r.2.mem ((c.tc : Thread nD τ).loc b) = final (launchContents m c) (Proc.devRef .tc b))
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(h c main_arg0 rfl).trans (final_keep _ (by decide) (by decide) (by decide) (by decide)),
   (h c main_arg1 rfl).trans (final_keep _ (by decide) (by decide) (by decide) (by decide)),
   (h c main_arg2 rfl).trans (final_keep _ (by decide) (by decide) (by decide) (by decide)),
   (h c main_arg3 rfl).trans (final_keep _ (by decide) (by decide) (by decide) (by decide)),
   (h c main_arg4 rfl).trans (final_keep _ (by decide) (by decide) (by decide) (by decide)),
   (h c main_arg5 rfl).trans (final_keep _ (by decide) (by decide) (by decide) (by decide)),
   (h c main_arg6 rfl).trans (final_keep _ (by decide) (by decide) (by decide) (by decide)),
   (h c main_arg7 rfl).trans (final_keep _ (by decide) (by decide) (by decide) (by decide)),
   (h c main_arg8 rfl).trans (final_keep _ (by decide) (by decide) (by decide) (by decide)),
   (h c main_arg9 rfl).trans (final_keep _ (by decide) (by decide) (by decide) (by decide)),
   (h c main_arg10 rfl).trans (final_keep _ (by decide) (by decide) (by decide) (by decide)),
   (h c main_arg11 rfl).trans (final_keep _ (by decide) (by decide) (by decide) (by decide))⟩

/-- THE REFERENCE'S FRAME. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run defs _ _).mono (fun r h => ⟨kept m h, sem_eq_zero_of_no_sems (by decide) r.2⟩) (run m ρ)

end Cert.RwkvRefIdeal
-- ==== Proof.lean ====
/- The certificate: each program's frame is its generated one or the own one over two runs (a reference's is its run weakened; it declares
   no semaphore), and each pair's equation puts the kernel's result, read row by row, beside the reference's. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Pre_finite
public import proofs.«01_k».proof.Proof.FfnRef
public import proofs.«01_k».proof.Proof.FfnValue
public import proofs.«01_k».proof.Proof.RwkvFrame
public import proofs.«01_k».proof.Proof.RwkvResult
public import proofs.«01_k».proof.Proof.RwkvFinite
public import proofs.«01_k».proof.Proof.RwkvRefFrame
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem algebraic_RwkvIdeal_RwkvRefIdeal_pre_finite : algebraic_RwkvIdeal_RwkvRefIdeal_pre_finite := by
  intro m ρ m' ρ' hpre hagree
  refine ⟨_, Cert.RwkvIdeal.Value.run (F := Ideal) m ρ, ?_⟩
  refine (θ_run Cert.RwkvRefIdeal.defs _ _).mono (fun _ h c => ⟨?_, Cert.RwkvRefIdeal.kept m' h c⟩) (Cert.RwkvRefIdeal.run m' ρ')
  have H : Cert.RwkvIdeal.Entry.AllFin m c := Cert.RwkvSpec.finite_of_pre _ _ _ _ _ _ _ _ _ _ _ _ (hpre c)
  obtain ⟨h0, h1, h2, h3, h4, h5, h6, h7, h8, h9, h10, h11⟩ := hagree c
  have H' : Cert.RwkvRefIdeal.AllFin m' c := by
    unfold Cert.RwkvRefIdeal.AllFin
    rw [h0, h1, h2, h3, h4, h5, h6, h7, h8, h9, h10, h11]
    exact H
  have e : Cert.RwkvRefIdeal.args m' c = Cert.RwkvIdeal.Entry.args m c := by
    unfold Cert.RwkvRefIdeal.args
    rw [h0, h1, h2, h3, h4, h5, h6, h7, h8, h9, h10, h11]
  refine (h c Cert.RwkvRefIdeal.main_v127 rfl).trans ?_
  funext i
  rw [eq_ix3 i]
  refine (Cert.RwkvRefIdeal.result (Cert.RwkvRefIdeal.inputs m' c H') (i 0) (i 1) (i 2)).trans ?_
  rw [e]
  exact (Cert.RwkvIdeal.Entry.result m c H (i 0) (i 1) (i 2)).symm

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  obtain ⟨h0, h1, h2, h3, h4, h5, h6, h7, h8⟩ := hagree c
  rw [(h c).1, Cert.FfnRefIdeal.Read.val_main_v42_eq, h0, h1, h2, h3, h4, h5, h6, h7, h8]
  funext i
  rw [eq_ix2 i]
  exact (Cert.FfnRefIdeal.RefRow.row_apply _ _ _ _ _ _ _ _ _ (i 0) (i 1)).trans (Cert.FfnIdeal.Block.result_apply m c (i 0) (i 1)).symm

theorem claim : Cert.Claim := ⟨Cert.Rwkv.Gen.facts, Cert.RwkvIdeal.Gen.facts, Cert.RwkvRefIdeal.Gen.facts, Cert.Ffn.Gen.facts, Cert.FfnIdeal.Gen.facts,
  Cert.FfnRefIdeal.Gen.facts, Cert.Pre_finite.Gen.facts,
  fun m ρ _ => Cert.Rwkv.Gen.frame m ρ, fun m ρ _ => Cert.RwkvIdeal.Gen.frame m ρ, fun m ρ _ => Cert.RwkvIdeal.Gen.frame m ρ,
  fun m ρ _ => Cert.RwkvRefIdeal.frame m ρ, fun m ρ _ => Cert.RwkvRefIdeal.frame m ρ,
  fun m ρ _ => Cert.Ffn.Gen.frame m ρ, fun m ρ _ => Cert.FfnIdeal.Gen.frame m ρ, quiescent_FfnRefIdeal,
  (trivial : preserves_Rwkv_RwkvIdeal), algebraic_RwkvIdeal_RwkvRefIdeal_pre_finite, (trivial : preserves_Ffn_FfnIdeal), algebraic_FfnIdeal_FfnRefIdeal⟩

end Cert.Proof

end
